-- ==== Defs.lean ====
def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_gate_finite [hPre_ffn_gate_finite : Cert.Pre_ffn_gate_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_gate_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_gate_finite [hPre_ffn_gate_finite : Cert.Pre_ffn_gate_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_gate_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastIdeal_ffn_last_gate_finite [hPre_ffn_last_gate_finite : Cert.Pre_ffn_last_gate_finite.Facts] (m : (ℓ : Loc Cert.FfnLastIdeal.nD Cert.FfnLastIdeal.τ Cert.FfnLastIdeal.sig) → Buf (Elt Ideal) ℓ) : Prop :=
  ∀ c : Dev Cert.FfnLastIdeal.nD,
    (Cert.Pre_ffn_last_gate_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))) = (fun _ => 1#1)

def Pre_FfnLastRefIdeal (m : (ℓ : Loc Cert.FfnLastRefIdeal.nD Cert.FfnLastRefIdeal.τ Cert.FfnLastRefIdeal.sig) → Buf (Elt Ideal) ℓ) : Prop :=
  True

def Pre_FfnLastRefIdeal_ffn_last_gate_finite [hPre_ffn_last_gate_finite : Cert.Pre_ffn_last_gate_finite.Facts] (m : (ℓ : Loc Cert.FfnLastRefIdeal.nD Cert.FfnLastRefIdeal.τ Cert.FfnLastRefIdeal.sig) → Buf (Elt Ideal) ℓ) : Prop :=
  ∀ c : Dev Cert.FfnLastRefIdeal.nD,
    (Cert.Pre_ffn_last_gate_finite.fn (F := Ideal) (m ((c.tc : Thread Cert.FfnLastRefIdeal.nD Cert.FfnLastRefIdeal.τ).loc Cert.FfnLastRefIdeal.main_arg0)) (m ((c.tc : Thread Cert.FfnLastRefIdeal.nD Cert.FfnLastRefIdeal.τ).loc Cert.FfnLastRefIdeal.main_arg1)) (m ((c.tc : Thread Cert.FfnLastRefIdeal.nD Cert.FfnLastRefIdeal.τ).loc Cert.FfnLastRefIdeal.main_arg2)) (m ((c.tc : Thread Cert.FfnLastRefIdeal.nD Cert.FfnLastRefIdeal.τ).loc Cert.FfnLastRefIdeal.main_arg3)) (m ((c.tc : Thread Cert.FfnLastRefIdeal.nD Cert.FfnLastRefIdeal.τ).loc Cert.FfnLastRefIdeal.main_arg4)) (m ((c.tc : Thread Cert.FfnLastRefIdeal.nD Cert.FfnLastRefIdeal.τ).loc Cert.FfnLastRefIdeal.main_arg5))) = (fun _ => 1#1)

def Pre_FfnMix (m : (ℓ : Loc Cert.FfnMix.nD Cert.FfnMix.τ Cert.FfnMix.sig) → Buf (Elt Bits) ℓ) : Prop :=
  True

def Pre_FfnMixIdeal (m : (ℓ : Loc Cert.FfnMixIdeal.nD Cert.FfnMixIdeal.τ Cert.FfnMixIdeal.sig) → Buf (Elt Ideal) ℓ) : Prop :=
  True

def Pre_FfnMixIdeal_ffn_mix_gate_finite [hPre_ffn_mix_gate_finite : Cert.Pre_ffn_mix_gate_finite.Facts] (m : (ℓ : Loc Cert.FfnMixIdeal.nD Cert.FfnMixIdeal.τ Cert.FfnMixIdeal.sig) → Buf (Elt Ideal) ℓ) : Prop :=
  ∀ c : Dev Cert.FfnMixIdeal.nD,
    (Cert.Pre_ffn_mix_gate_finite.fn (F := Ideal) (m ((c.tc : Thread Cert.FfnMixIdeal.nD Cert.FfnMixIdeal.τ).loc Cert.FfnMixIdeal.main_arg0)) (m ((c.tc : Thread Cert.FfnMixIdeal.nD Cert.FfnMixIdeal.τ).loc Cert.FfnMixIdeal.main_arg1)) (m ((c.tc : Thread Cert.FfnMixIdeal.nD Cert.FfnMixIdeal.τ).loc Cert.FfnMixIdeal.main_arg2)) (m ((c.tc : Thread Cert.FfnMixIdeal.nD Cert.FfnMixIdeal.τ).loc Cert.FfnMixIdeal.main_arg3)) (m ((c.tc : Thread Cert.FfnMixIdeal.nD Cert.FfnMixIdeal.τ).loc Cert.FfnMixIdeal.main_arg4)) (m ((c.tc : Thread Cert.FfnMixIdeal.nD Cert.FfnMixIdeal.τ).loc Cert.FfnMixIdeal.main_arg5)) (m ((c.tc : Thread Cert.FfnMixIdeal.nD Cert.FfnMixIdeal.τ).loc Cert.FfnMixIdeal.main_arg6)) (m ((c.tc : Thread Cert.FfnMixIdeal.nD Cert.FfnMixIdeal.τ).loc Cert.FfnMixIdeal.main_arg7))) = (fun _ => 1#1)

def Pre_FfnMixRefIdeal (m : (ℓ : Loc Cert.FfnMixRefIdeal.nD Cert.FfnMixRefIdeal.τ Cert.FfnMixRefIdeal.sig) → Buf (Elt Ideal) ℓ) : Prop :=
  True

def Pre_FfnMixRefIdeal_ffn_mix_gate_finite [hPre_ffn_mix_gate_finite : Cert.Pre_ffn_mix_gate_finite.Facts] (m : (ℓ : Loc Cert.FfnMixRefIdeal.nD Cert.FfnMixRefIdeal.τ Cert.FfnMixRefIdeal.sig) → Buf (Elt Ideal) ℓ) : Prop :=
  ∀ c : Dev Cert.FfnMixRefIdeal.nD,
    (Cert.Pre_ffn_mix_gate_finite.fn (F := Ideal) (m ((c.tc : Thread Cert.FfnMixRefIdeal.nD Cert.FfnMixRefIdeal.τ).loc Cert.FfnMixRefIdeal.main_arg0)) (m ((c.tc : Thread Cert.FfnMixRefIdeal.nD Cert.FfnMixRefIdeal.τ).loc Cert.FfnMixRefIdeal.main_arg1)) (m ((c.tc : Thread Cert.FfnMixRefIdeal.nD Cert.FfnMixRefIdeal.τ).loc Cert.FfnMixRefIdeal.main_arg2)) (m ((c.tc : Thread Cert.FfnMixRefIdeal.nD Cert.FfnMixRefIdeal.τ).loc Cert.FfnMixRefIdeal.main_arg3)) (m ((c.tc : Thread Cert.FfnMixRefIdeal.nD Cert.FfnMixRefIdeal.τ).loc Cert.FfnMixRefIdeal.main_arg4)) (m ((c.tc : Thread Cert.FfnMixRefIdeal.nD Cert.FfnMixRefIdeal.τ).loc Cert.FfnMixRefIdeal.main_arg5)) (m ((c.tc : Thread Cert.FfnMixRefIdeal.nD Cert.FfnMixRefIdeal.τ).loc Cert.FfnMixRefIdeal.main_arg6)) (m ((c.tc : Thread Cert.FfnMixRefIdeal.nD Cert.FfnMixRefIdeal.τ).loc Cert.FfnMixRefIdeal.main_arg7))) = (fun _ => 1#1)

def Pre_Hyb (m : (ℓ : Loc Cert.Hyb.nD Cert.Hyb.τ Cert.Hyb.sig) → Buf (Elt Bits) ℓ) : Prop :=
  True

def Pre_HybIdeal (m : (ℓ : Loc Cert.HybIdeal.nD Cert.HybIdeal.τ Cert.HybIdeal.sig) → Buf (Elt Ideal) ℓ) : Prop :=
  True

def Pre_HybIdeal_hyb_finite [hPre_hyb_finite : Cert.Pre_hyb_finite.Facts] (m : (ℓ : Loc Cert.HybIdeal.nD Cert.HybIdeal.τ Cert.HybIdeal.sig) → Buf (Elt Ideal) ℓ) : Prop :=
  ∀ c : Dev Cert.HybIdeal.nD,
    (Cert.Pre_hyb_finite.fn (F := Ideal) (m ((c.tc : Thread Cert.HybIdeal.nD Cert.HybIdeal.τ).loc Cert.HybIdeal.main_arg0)) (m ((c.tc : Thread Cert.HybIdeal.nD Cert.HybIdeal.τ).loc Cert.HybIdeal.main_arg1)) (m ((c.tc : Thread Cert.HybIdeal.nD Cert.HybIdeal.τ).loc Cert.HybIdeal.main_arg2)) (m ((c.tc : Thread Cert.HybIdeal.nD Cert.HybIdeal.τ).loc Cert.HybIdeal.main_arg3)) (m ((c.tc : Thread Cert.HybIdeal.nD Cert.HybIdeal.τ).loc Cert.HybIdeal.main_arg4)) (m ((c.tc : Thread Cert.HybIdeal.nD Cert.HybIdeal.τ).loc Cert.HybIdeal.main_arg5)) (m ((c.tc : Thread Cert.HybIdeal.nD Cert.HybIdeal.τ).loc Cert.HybIdeal.main_arg6)) (m ((c.tc : Thread Cert.HybIdeal.nD Cert.HybIdeal.τ).loc Cert.HybIdeal.main_arg7)) (m ((c.tc : Thread Cert.HybIdeal.nD Cert.HybIdeal.τ).loc Cert.HybIdeal.main_arg8))) = (fun _ => 1#1)

def Pre_HybRefIdeal (m : (ℓ : Loc Cert.HybRefIdeal.nD Cert.HybRefIdeal.τ Cert.HybRefIdeal.sig) → Buf (Elt Ideal) ℓ) : Prop :=
  True

def Pre_HybRefIdeal_hyb_finite [hPre_hyb_finite : Cert.Pre_hyb_finite.Facts] (m : (ℓ : Loc Cert.HybRefIdeal.nD Cert.HybRefIdeal.τ Cert.HybRefIdeal.sig) → Buf (Elt Ideal) ℓ) : Prop :=
  ∀ c : Dev Cert.HybRefIdeal.nD,
    (Cert.Pre_hyb_finite.fn (F := Ideal) (m ((c.tc : Thread Cert.HybRefIdeal.nD Cert.HybRefIdeal.τ).loc Cert.HybRefIdeal.main_arg0)) (m ((c.tc : Thread Cert.HybRefIdeal.nD Cert.HybRefIdeal.τ).loc Cert.HybRefIdeal.main_arg1)) (m ((c.tc : Thread Cert.HybRefIdeal.nD Cert.HybRefIdeal.τ).loc Cert.HybRefIdeal.main_arg2)) (m ((c.tc : Thread Cert.HybRefIdeal.nD Cert.HybRefIdeal.τ).loc Cert.HybRefIdeal.main_arg3)) (m ((c.tc : Thread Cert.HybRefIdeal.nD Cert.HybRefIdeal.τ).loc Cert.HybRefIdeal.main_arg4)) (m ((c.tc : Thread Cert.HybRefIdeal.nD Cert.HybRefIdeal.τ).loc Cert.HybRefIdeal.main_arg5)) (m ((c.tc : Thread Cert.HybRefIdeal.nD Cert.HybRefIdeal.τ).loc Cert.HybRefIdeal.main_arg6)) (m ((c.tc : Thread Cert.HybRefIdeal.nD Cert.HybRefIdeal.τ).loc Cert.HybRefIdeal.main_arg7)) (m ((c.tc : Thread Cert.HybRefIdeal.nD Cert.HybRefIdeal.τ).loc Cert.HybRefIdeal.main_arg8))) = (fun _ => 1#1)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3)
      ∧ r.2.mem ((c.tc : Thread Cert.ShortConv.nD Cert.ShortConv.τ).loc Cert.ShortConv.main_arg4) = m ((c.tc : Thread Cert.ShortConv.nD Cert.ShortConv.τ).loc Cert.ShortConv.main_arg4))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
      ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2)
      ∧ r.2.mem ((c.tc : Thread Cert.ShortConvRefIdeal.nD Cert.ShortConvRefIdeal.τ).loc Cert.ShortConvRefIdeal.main_arg3) = m ((c.tc : Thread Cert.ShortConvRefIdeal.nD Cert.ShortConvRefIdeal.τ).loc Cert.ShortConvRefIdeal.main_arg3)
      ∧ r.2.mem ((c.tc : Thread Cert.ShortConvRefIdeal.nD Cert.ShortConvRefIdeal.τ).loc Cert.ShortConvRefIdeal.main_arg4) = m ((c.tc : Thread Cert.ShortConvRefIdeal.nD Cert.ShortConvRefIdeal.τ).loc Cert.ShortConvRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_gate_finite [hFfnIdeal : Cert.FfnIdeal.Facts] [hPre_ffn_gate_finite : Cert.Pre_ffn_gate_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_gate_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_gate_finite [hFfnRefIdeal : Cert.FfnRefIdeal.Facts] [hPre_ffn_gate_finite : Cert.Pre_ffn_gate_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_gate_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastIdeal_pre_ffn_last_gate_finite [hFfnLastIdeal : Cert.FfnLastIdeal.Facts] [hPre_ffn_last_gate_finite : Cert.Pre_ffn_last_gate_finite.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal_ffn_last_gate_finite m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_FfnLastRefIdeal_pre_ffn_last_gate_finite [hFfnLastRefIdeal : Cert.FfnLastRefIdeal.Facts] [hPre_ffn_last_gate_finite : Cert.Pre_ffn_last_gate_finite.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal_ffn_last_gate_finite m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_FfnMix [hFfnMix : Cert.FfnMix.Facts] : Prop :=
  ∀ (m : (ℓ : Loc Cert.FfnMix.nD Cert.FfnMix.τ Cert.FfnMix.sig) → Buf (Elt Bits) ℓ) (g : Dev Cert.FfnMix.nD → PrngReg), Pre_FfnMix m →
    θ_run (Cert.FfnMix.defs (F := Bits)) (onTc (τ := Cert.FfnMix.τ) (Cert.FfnMix.main (F := Bits))) ⟨m, fun _ => 0, g⟩ (fun r => (∀ c : Dev Cert.FfnMix.nD,
      r.2.mem ((c.tc : Thread Cert.FfnMix.nD Cert.FfnMix.τ).loc Cert.FfnMix.main_arg0) = m ((c.tc : Thread Cert.FfnMix.nD Cert.FfnMix.τ).loc Cert.FfnMix.main_arg0)
      ∧ r.2.mem ((c.tc : Thread Cert.FfnMix.nD Cert.FfnMix.τ).loc Cert.FfnMix.main_arg1) = m ((c.tc : Thread Cert.FfnMix.nD Cert.FfnMix.τ).loc Cert.FfnMix.main_arg1)
      ∧ r.2.mem ((c.tc : Thread Cert.FfnMix.nD Cert.FfnMix.τ).loc Cert.FfnMix.main_arg2) = m ((c.tc : Thread Cert.FfnMix.nD Cert.FfnMix.τ).loc Cert.FfnMix.main_arg2)
      ∧ r.2.mem ((c.tc : Thread Cert.FfnMix.nD Cert.FfnMix.τ).loc Cert.FfnMix.main_arg3) = m ((c.tc : Thread Cert.FfnMix.nD Cert.FfnMix.τ).loc Cert.FfnMix.main_arg3)
      ∧ r.2.mem ((c.tc : Thread Cert.FfnMix.nD Cert.FfnMix.τ).loc Cert.FfnMix.main_arg4) = m ((c.tc : Thread Cert.FfnMix.nD Cert.FfnMix.τ).loc Cert.FfnMix.main_arg4)
      ∧ r.2.mem ((c.tc : Thread Cert.FfnMix.nD Cert.FfnMix.τ).loc Cert.FfnMix.main_arg5) = m ((c.tc : Thread Cert.FfnMix.nD Cert.FfnMix.τ).loc Cert.FfnMix.main_arg5)
      ∧ r.2.mem ((c.tc : Thread Cert.FfnMix.nD Cert.FfnMix.τ).loc Cert.FfnMix.main_arg6) = m ((c.tc : Thread Cert.FfnMix.nD Cert.FfnMix.τ).loc Cert.FfnMix.main_arg6)
      ∧ r.2.mem ((c.tc : Thread Cert.FfnMix.nD Cert.FfnMix.τ).loc Cert.FfnMix.main_arg7) = m ((c.tc : Thread Cert.FfnMix.nD Cert.FfnMix.τ).loc Cert.FfnMix.main_arg7))
      ∧ r.2.sem = fun _ => 0)

def quiescent_FfnMixIdeal [hFfnMixIdeal : Cert.FfnMixIdeal.Facts] : Prop :=
  ∀ (m : (ℓ : Loc Cert.FfnMixIdeal.nD Cert.FfnMixIdeal.τ Cert.FfnMixIdeal.sig) → Buf (Elt Ideal) ℓ) (g : Dev Cert.FfnMixIdeal.nD → PrngReg), Pre_FfnMixIdeal m →
    θ_run (Cert.FfnMixIdeal.defs (F := Ideal)) (onTc (τ := Cert.FfnMixIdeal.τ) (Cert.FfnMixIdeal.main (F := Ideal))) ⟨m, fun _ => 0, g⟩ (fun r => (∀ c : Dev Cert.FfnMixIdeal.nD,
      r.2.mem ((c.tc : Thread Cert.FfnMixIdeal.nD Cert.FfnMixIdeal.τ).loc Cert.FfnMixIdeal.main_arg0) = m ((c.tc : Thread Cert.FfnMixIdeal.nD Cert.FfnMixIdeal.τ).loc Cert.FfnMixIdeal.main_arg0)
      ∧ r.2.mem ((c.tc : Thread Cert.FfnMixIdeal.nD Cert.FfnMixIdeal.τ).loc Cert.FfnMixIdeal.main_arg1) = m ((c.tc : Thread Cert.FfnMixIdeal.nD Cert.FfnMixIdeal.τ).loc Cert.FfnMixIdeal.main_arg1)
      ∧ r.2.mem ((c.tc : Thread Cert.FfnMixIdeal.nD Cert.FfnMixIdeal.τ).loc Cert.FfnMixIdeal.main_arg2) = m ((c.tc : Thread Cert.FfnMixIdeal.nD Cert.FfnMixIdeal.τ).loc Cert.FfnMixIdeal.main_arg2)
      ∧ r.2.mem ((c.tc : Thread Cert.FfnMixIdeal.nD Cert.FfnMixIdeal.τ).loc Cert.FfnMixIdeal.main_arg3) = m ((c.tc : Thread Cert.FfnMixIdeal.nD Cert.FfnMixIdeal.τ).loc Cert.FfnMixIdeal.main_arg3)
      ∧ r.2.mem ((c.tc : Thread Cert.FfnMixIdeal.nD Cert.FfnMixIdeal.τ).loc Cert.FfnMixIdeal.main_arg4) = m ((c.tc : Thread Cert.FfnMixIdeal.nD Cert.FfnMixIdeal.τ).loc Cert.FfnMixIdeal.main_arg4)
      ∧ r.2.mem ((c.tc : Thread Cert.FfnMixIdeal.nD Cert.FfnMixIdeal.τ).loc Cert.FfnMixIdeal.main_arg5) = m ((c.tc : Thread Cert.FfnMixIdeal.nD Cert.FfnMixIdeal.τ).loc Cert.FfnMixIdeal.main_arg5)
      ∧ r.2.mem ((c.tc : Thread Cert.FfnMixIdeal.nD Cert.FfnMixIdeal.τ).loc Cert.FfnMixIdeal.main_arg6) = m ((c.tc : Thread Cert.FfnMixIdeal.nD Cert.FfnMixIdeal.τ).loc Cert.FfnMixIdeal.main_arg6)
      ∧ r.2.mem ((c.tc : Thread Cert.FfnMixIdeal.nD Cert.FfnMixIdeal.τ).loc Cert.FfnMixIdeal.main_arg7) = m ((c.tc : Thread Cert.FfnMixIdeal.nD Cert.FfnMixIdeal.τ).loc Cert.FfnMixIdeal.main_arg7))
      ∧ r.2.sem = fun _ => 0)

def quiescent_FfnMixIdeal_pre_ffn_mix_gate_finite [hFfnMixIdeal : Cert.FfnMixIdeal.Facts] [hPre_ffn_mix_gate_finite : Cert.Pre_ffn_mix_gate_finite.Facts] : Prop :=
  ∀ (m : (ℓ : Loc Cert.FfnMixIdeal.nD Cert.FfnMixIdeal.τ Cert.FfnMixIdeal.sig) → Buf (Elt Ideal) ℓ) (g : Dev Cert.FfnMixIdeal.nD → PrngReg), Pre_FfnMixIdeal_ffn_mix_gate_finite m →
    θ_run (Cert.FfnMixIdeal.defs (F := Ideal)) (onTc (τ := Cert.FfnMixIdeal.τ) (Cert.FfnMixIdeal.main (F := Ideal))) ⟨m, fun _ => 0, g⟩ (fun r => (∀ c : Dev Cert.FfnMixIdeal.nD,
      r.2.mem ((c.tc : Thread Cert.FfnMixIdeal.nD Cert.FfnMixIdeal.τ).loc Cert.FfnMixIdeal.main_arg0) = m ((c.tc : Thread Cert.FfnMixIdeal.nD Cert.FfnMixIdeal.τ).loc Cert.FfnMixIdeal.main_arg0)
      ∧ r.2.mem ((c.tc : Thread Cert.FfnMixIdeal.nD Cert.FfnMixIdeal.τ).loc Cert.FfnMixIdeal.main_arg1) = m ((c.tc : Thread Cert.FfnMixIdeal.nD Cert.FfnMixIdeal.τ).loc Cert.FfnMixIdeal.main_arg1)
      ∧ r.2.mem ((c.tc : Thread Cert.FfnMixIdeal.nD Cert.FfnMixIdeal.τ).loc Cert.FfnMixIdeal.main_arg2) = m ((c.tc : Thread Cert.FfnMixIdeal.nD Cert.FfnMixIdeal.τ).loc Cert.FfnMixIdeal.main_arg2)
      ∧ r.2.mem ((c.tc : Thread Cert.FfnMixIdeal.nD Cert.FfnMixIdeal.τ).loc Cert.FfnMixIdeal.main_arg3) = m ((c.tc : Thread Cert.FfnMixIdeal.nD Cert.FfnMixIdeal.τ).loc Cert.FfnMixIdeal.main_arg3)
      ∧ r.2.mem ((c.tc : Thread Cert.FfnMixIdeal.nD Cert.FfnMixIdeal.τ).loc Cert.FfnMixIdeal.main_arg4) = m ((c.tc : Thread Cert.FfnMixIdeal.nD Cert.FfnMixIdeal.τ).loc Cert.FfnMixIdeal.main_arg4)
      ∧ r.2.mem ((c.tc : Thread Cert.FfnMixIdeal.nD Cert.FfnMixIdeal.τ).loc Cert.FfnMixIdeal.main_arg5) = m ((c.tc : Thread Cert.FfnMixIdeal.nD Cert.FfnMixIdeal.τ).loc Cert.FfnMixIdeal.main_arg5)
      ∧ r.2.mem ((c.tc : Thread Cert.FfnMixIdeal.nD Cert.FfnMixIdeal.τ).loc Cert.FfnMixIdeal.main_arg6) = m ((c.tc : Thread Cert.FfnMixIdeal.nD Cert.FfnMixIdeal.τ).loc Cert.FfnMixIdeal.main_arg6)
      ∧ r.2.mem ((c.tc : Thread Cert.FfnMixIdeal.nD Cert.FfnMixIdeal.τ).loc Cert.FfnMixIdeal.main_arg7) = m ((c.tc : Thread Cert.FfnMixIdeal.nD Cert.FfnMixIdeal.τ).loc Cert.FfnMixIdeal.main_arg7))
      ∧ r.2.sem = fun _ => 0)

def quiescent_FfnMixRefIdeal [hFfnMixRefIdeal : Cert.FfnMixRefIdeal.Facts] : Prop :=
  ∀ (m : (ℓ : Loc Cert.FfnMixRefIdeal.nD Cert.FfnMixRefIdeal.τ Cert.FfnMixRefIdeal.sig) → Buf (Elt Ideal) ℓ) (g : Dev Cert.FfnMixRefIdeal.nD → PrngReg), Pre_FfnMixRefIdeal m →
    θ_run (Cert.FfnMixRefIdeal.defs (F := Ideal)) (onTc (τ := Cert.FfnMixRefIdeal.τ) (Cert.FfnMixRefIdeal.main (F := Ideal))) ⟨m, fun _ => 0, g⟩ (fun r => (∀ c : Dev Cert.FfnMixRefIdeal.nD,
      r.2.mem ((c.tc : Thread Cert.FfnMixRefIdeal.nD Cert.FfnMixRefIdeal.τ).loc Cert.FfnMixRefIdeal.main_arg0) = m ((c.tc : Thread Cert.FfnMixRefIdeal.nD Cert.FfnMixRefIdeal.τ).loc Cert.FfnMixRefIdeal.main_arg0)
      ∧ r.2.mem ((c.tc : Thread Cert.FfnMixRefIdeal.nD Cert.FfnMixRefIdeal.τ).loc Cert.FfnMixRefIdeal.main_arg1) = m ((c.tc : Thread Cert.FfnMixRefIdeal.nD Cert.FfnMixRefIdeal.τ).loc Cert.FfnMixRefIdeal.main_arg1)
      ∧ r.2.mem ((c.tc : Thread Cert.FfnMixRefIdeal.nD Cert.FfnMixRefIdeal.τ).loc Cert.FfnMixRefIdeal.main_arg2) = m ((c.tc : Thread Cert.FfnMixRefIdeal.nD Cert.FfnMixRefIdeal.τ).loc Cert.FfnMixRefIdeal.main_arg2)
      ∧ r.2.mem ((c.tc : Thread Cert.FfnMixRefIdeal.nD Cert.FfnMixRefIdeal.τ).loc Cert.FfnMixRefIdeal.main_arg3) = m ((c.tc : Thread Cert.FfnMixRefIdeal.nD Cert.FfnMixRefIdeal.τ).loc Cert.FfnMixRefIdeal.main_arg3)
      ∧ r.2.mem ((c.tc : Thread Cert.FfnMixRefIdeal.nD Cert.FfnMixRefIdeal.τ).loc Cert.FfnMixRefIdeal.main_arg4) = m ((c.tc : Thread Cert.FfnMixRefIdeal.nD Cert.FfnMixRefIdeal.τ).loc Cert.FfnMixRefIdeal.main_arg4)
      ∧ r.2.mem ((c.tc : Thread Cert.FfnMixRefIdeal.nD Cert.FfnMixRefIdeal.τ).loc Cert.FfnMixRefIdeal.main_arg5) = m ((c.tc : Thread Cert.FfnMixRefIdeal.nD Cert.FfnMixRefIdeal.τ).loc Cert.FfnMixRefIdeal.main_arg5)
      ∧ r.2.mem ((c.tc : Thread Cert.FfnMixRefIdeal.nD Cert.FfnMixRefIdeal.τ).loc Cert.FfnMixRefIdeal.main_arg6) = m ((c.tc : Thread Cert.FfnMixRefIdeal.nD Cert.FfnMixRefIdeal.τ).loc Cert.FfnMixRefIdeal.main_arg6)
      ∧ r.2.mem ((c.tc : Thread Cert.FfnMixRefIdeal.nD Cert.FfnMixRefIdeal.τ).loc Cert.FfnMixRefIdeal.main_arg7) = m ((c.tc : Thread Cert.FfnMixRefIdeal.nD Cert.FfnMixRefIdeal.τ).loc Cert.FfnMixRefIdeal.main_arg7))
      ∧ r.2.sem = fun _ => 0)

def quiescent_FfnMixRefIdeal_pre_ffn_mix_gate_finite [hFfnMixRefIdeal : Cert.FfnMixRefIdeal.Facts] [hPre_ffn_mix_gate_finite : Cert.Pre_ffn_mix_gate_finite.Facts] : Prop :=
  ∀ (m : (ℓ : Loc Cert.FfnMixRefIdeal.nD Cert.FfnMixRefIdeal.τ Cert.FfnMixRefIdeal.sig) → Buf (Elt Ideal) ℓ) (g : Dev Cert.FfnMixRefIdeal.nD → PrngReg), Pre_FfnMixRefIdeal_ffn_mix_gate_finite m →
    θ_run (Cert.FfnMixRefIdeal.defs (F := Ideal)) (onTc (τ := Cert.FfnMixRefIdeal.τ) (Cert.FfnMixRefIdeal.main (F := Ideal))) ⟨m, fun _ => 0, g⟩ (fun r => (∀ c : Dev Cert.FfnMixRefIdeal.nD,
      r.2.mem ((c.tc : Thread Cert.FfnMixRefIdeal.nD Cert.FfnMixRefIdeal.τ).loc Cert.FfnMixRefIdeal.main_arg0) = m ((c.tc : Thread Cert.FfnMixRefIdeal.nD Cert.FfnMixRefIdeal.τ).loc Cert.FfnMixRefIdeal.main_arg0)
      ∧ r.2.mem ((c.tc : Thread Cert.FfnMixRefIdeal.nD Cert.FfnMixRefIdeal.τ).loc Cert.FfnMixRefIdeal.main_arg1) = m ((c.tc : Thread Cert.FfnMixRefIdeal.nD Cert.FfnMixRefIdeal.τ).loc Cert.FfnMixRefIdeal.main_arg1)
      ∧ r.2.mem ((c.tc : Thread Cert.FfnMixRefIdeal.nD Cert.FfnMixRefIdeal.τ).loc Cert.FfnMixRefIdeal.main_arg2) = m ((c.tc : Thread Cert.FfnMixRefIdeal.nD Cert.FfnMixRefIdeal.τ).loc Cert.FfnMixRefIdeal.main_arg2)
      ∧ r.2.mem ((c.tc : Thread Cert.FfnMixRefIdeal.nD Cert.FfnMixRefIdeal.τ).loc Cert.FfnMixRefIdeal.main_arg3) = m ((c.tc : Thread Cert.FfnMixRefIdeal.nD Cert.FfnMixRefIdeal.τ).loc Cert.FfnMixRefIdeal.main_arg3)
      ∧ r.2.mem ((c.tc : Thread Cert.FfnMixRefIdeal.nD Cert.FfnMixRefIdeal.τ).loc Cert.FfnMixRefIdeal.main_arg4) = m ((c.tc : Thread Cert.FfnMixRefIdeal.nD Cert.FfnMixRefIdeal.τ).loc Cert.FfnMixRefIdeal.main_arg4)
      ∧ r.2.mem ((c.tc : Thread Cert.FfnMixRefIdeal.nD Cert.FfnMixRefIdeal.τ).loc Cert.FfnMixRefIdeal.main_arg5) = m ((c.tc : Thread Cert.FfnMixRefIdeal.nD Cert.FfnMixRefIdeal.τ).loc Cert.FfnMixRefIdeal.main_arg5)
      ∧ r.2.mem ((c.tc : Thread Cert.FfnMixRefIdeal.nD Cert.FfnMixRefIdeal.τ).loc Cert.FfnMixRefIdeal.main_arg6) = m ((c.tc : Thread Cert.FfnMixRefIdeal.nD Cert.FfnMixRefIdeal.τ).loc Cert.FfnMixRefIdeal.main_arg6)
      ∧ r.2.mem ((c.tc : Thread Cert.FfnMixRefIdeal.nD Cert.FfnMixRefIdeal.τ).loc Cert.FfnMixRefIdeal.main_arg7) = m ((c.tc : Thread Cert.FfnMixRefIdeal.nD Cert.FfnMixRefIdeal.τ).loc Cert.FfnMixRefIdeal.main_arg7))
      ∧ r.2.sem = fun _ => 0)

def quiescent_Hyb [hHyb : Cert.Hyb.Facts] : Prop :=
  ∀ (m : (ℓ : Loc Cert.Hyb.nD Cert.Hyb.τ Cert.Hyb.sig) → Buf (Elt Bits) ℓ) (g : Dev Cert.Hyb.nD → PrngReg), Pre_Hyb m →
    θ_run (Cert.Hyb.defs (F := Bits)) (onTc (τ := Cert.Hyb.τ) (Cert.Hyb.main (F := Bits))) ⟨m, fun _ => 0, g⟩ (fun r => (∀ c : Dev Cert.Hyb.nD,
      r.2.mem ((c.tc : Thread Cert.Hyb.nD Cert.Hyb.τ).loc Cert.Hyb.main_arg0) = m ((c.tc : Thread Cert.Hyb.nD Cert.Hyb.τ).loc Cert.Hyb.main_arg0)
      ∧ r.2.mem ((c.tc : Thread Cert.Hyb.nD Cert.Hyb.τ).loc Cert.Hyb.main_arg1) = m ((c.tc : Thread Cert.Hyb.nD Cert.Hyb.τ).loc Cert.Hyb.main_arg1)
      ∧ r.2.mem ((c.tc : Thread Cert.Hyb.nD Cert.Hyb.τ).loc Cert.Hyb.main_arg2) = m ((c.tc : Thread Cert.Hyb.nD Cert.Hyb.τ).loc Cert.Hyb.main_arg2)
      ∧ r.2.mem ((c.tc : Thread Cert.Hyb.nD Cert.Hyb.τ).loc Cert.Hyb.main_arg3) = m ((c.tc : Thread Cert.Hyb.nD Cert.Hyb.τ).loc Cert.Hyb.main_arg3)
      ∧ r.2.mem ((c.tc : Thread Cert.Hyb.nD Cert.Hyb.τ).loc Cert.Hyb.main_arg4) = m ((c.tc : Thread Cert.Hyb.nD Cert.Hyb.τ).loc Cert.Hyb.main_arg4)
      ∧ r.2.mem ((c.tc : Thread Cert.Hyb.nD Cert.Hyb.τ).loc Cert.Hyb.main_arg5) = m ((c.tc : Thread Cert.Hyb.nD Cert.Hyb.τ).loc Cert.Hyb.main_arg5)
      ∧ r.2.mem ((c.tc : Thread Cert.Hyb.nD Cert.Hyb.τ).loc Cert.Hyb.main_arg6) = m ((c.tc : Thread Cert.Hyb.nD Cert.Hyb.τ).loc Cert.Hyb.main_arg6)
      ∧ r.2.mem ((c.tc : Thread Cert.Hyb.nD Cert.Hyb.τ).loc Cert.Hyb.main_arg7) = m ((c.tc : Thread Cert.Hyb.nD Cert.Hyb.τ).loc Cert.Hyb.main_arg7)
      ∧ r.2.mem ((c.tc : Thread Cert.Hyb.nD Cert.Hyb.τ).loc Cert.Hyb.main_arg8) = m ((c.tc : Thread Cert.Hyb.nD Cert.Hyb.τ).loc Cert.Hyb.main_arg8))
      ∧ r.2.sem = fun _ => 0)

def quiescent_HybIdeal [hHybIdeal : Cert.HybIdeal.Facts] : Prop :=
  ∀ (m : (ℓ : Loc Cert.HybIdeal.nD Cert.HybIdeal.τ Cert.HybIdeal.sig) → Buf (Elt Ideal) ℓ) (g : Dev Cert.HybIdeal.nD → PrngReg), Pre_HybIdeal m →
    θ_run (Cert.HybIdeal.defs (F := Ideal)) (onTc (τ := Cert.HybIdeal.τ) (Cert.HybIdeal.main (F := Ideal))) ⟨m, fun _ => 0, g⟩ (fun r => (∀ c : Dev Cert.HybIdeal.nD,
      r.2.mem ((c.tc : Thread Cert.HybIdeal.nD Cert.HybIdeal.τ).loc Cert.HybIdeal.main_arg0) = m ((c.tc : Thread Cert.HybIdeal.nD Cert.HybIdeal.τ).loc Cert.HybIdeal.main_arg0)
      ∧ r.2.mem ((c.tc : Thread Cert.HybIdeal.nD Cert.HybIdeal.τ).loc Cert.HybIdeal.main_arg1) = m ((c.tc : Thread Cert.HybIdeal.nD Cert.HybIdeal.τ).loc Cert.HybIdeal.main_arg1)
      ∧ r.2.mem ((c.tc : Thread Cert.HybIdeal.nD Cert.HybIdeal.τ).loc Cert.HybIdeal.main_arg2) = m ((c.tc : Thread Cert.HybIdeal.nD Cert.HybIdeal.τ).loc Cert.HybIdeal.main_arg2)
      ∧ r.2.mem ((c.tc : Thread Cert.HybIdeal.nD Cert.HybIdeal.τ).loc Cert.HybIdeal.main_arg3) = m ((c.tc : Thread Cert.HybIdeal.nD Cert.HybIdeal.τ).loc Cert.HybIdeal.main_arg3)
      ∧ r.2.mem ((c.tc : Thread Cert.HybIdeal.nD Cert.HybIdeal.τ).loc Cert.HybIdeal.main_arg4) = m ((c.tc : Thread Cert.HybIdeal.nD Cert.HybIdeal.τ).loc Cert.HybIdeal.main_arg4)
      ∧ r.2.mem ((c.tc : Thread Cert.HybIdeal.nD Cert.HybIdeal.τ).loc Cert.HybIdeal.main_arg5) = m ((c.tc : Thread Cert.HybIdeal.nD Cert.HybIdeal.τ).loc Cert.HybIdeal.main_arg5)
      ∧ r.2.mem ((c.tc : Thread Cert.HybIdeal.nD Cert.HybIdeal.τ).loc Cert.HybIdeal.main_arg6) = m ((c.tc : Thread Cert.HybIdeal.nD Cert.HybIdeal.τ).loc Cert.HybIdeal.main_arg6)
      ∧ r.2.mem ((c.tc : Thread Cert.HybIdeal.nD Cert.HybIdeal.τ).loc Cert.HybIdeal.main_arg7) = m ((c.tc : Thread Cert.HybIdeal.nD Cert.HybIdeal.τ).loc Cert.HybIdeal.main_arg7)
      ∧ r.2.mem ((c.tc : Thread Cert.HybIdeal.nD Cert.HybIdeal.τ).loc Cert.HybIdeal.main_arg8) = m ((c.tc : Thread Cert.HybIdeal.nD Cert.HybIdeal.τ).loc Cert.HybIdeal.main_arg8))
      ∧ r.2.sem = fun _ => 0)

def quiescent_HybIdeal_pre_hyb_finite [hHybIdeal : Cert.HybIdeal.Facts] [hPre_hyb_finite : Cert.Pre_hyb_finite.Facts] : Prop :=
  ∀ (m : (ℓ : Loc Cert.HybIdeal.nD Cert.HybIdeal.τ Cert.HybIdeal.sig) → Buf (Elt Ideal) ℓ) (g : Dev Cert.HybIdeal.nD → PrngReg), Pre_HybIdeal_hyb_finite m →
    θ_run (Cert.HybIdeal.defs (F := Ideal)) (onTc (τ := Cert.HybIdeal.τ) (Cert.HybIdeal.main (F := Ideal))) ⟨m, fun _ => 0, g⟩ (fun r => (∀ c : Dev Cert.HybIdeal.nD,
      r.2.mem ((c.tc : Thread Cert.HybIdeal.nD Cert.HybIdeal.τ).loc Cert.HybIdeal.main_arg0) = m ((c.tc : Thread Cert.HybIdeal.nD Cert.HybIdeal.τ).loc Cert.HybIdeal.main_arg0)
      ∧ r.2.mem ((c.tc : Thread Cert.HybIdeal.nD Cert.HybIdeal.τ).loc Cert.HybIdeal.main_arg1) = m ((c.tc : Thread Cert.HybIdeal.nD Cert.HybIdeal.τ).loc Cert.HybIdeal.main_arg1)
      ∧ r.2.mem ((c.tc : Thread Cert.HybIdeal.nD Cert.HybIdeal.τ).loc Cert.HybIdeal.main_arg2) = m ((c.tc : Thread Cert.HybIdeal.nD Cert.HybIdeal.τ).loc Cert.HybIdeal.main_arg2)
      ∧ r.2.mem ((c.tc : Thread Cert.HybIdeal.nD Cert.HybIdeal.τ).loc Cert.HybIdeal.main_arg3) = m ((c.tc : Thread Cert.HybIdeal.nD Cert.HybIdeal.τ).loc Cert.HybIdeal.main_arg3)
      ∧ r.2.mem ((c.tc : Thread Cert.HybIdeal.nD Cert.HybIdeal.τ).loc Cert.HybIdeal.main_arg4) = m ((c.tc : Thread Cert.HybIdeal.nD Cert.HybIdeal.τ).loc Cert.HybIdeal.main_arg4)
      ∧ r.2.mem ((c.tc : Thread Cert.HybIdeal.nD Cert.HybIdeal.τ).loc Cert.HybIdeal.main_arg5) = m ((c.tc : Thread Cert.HybIdeal.nD Cert.HybIdeal.τ).loc Cert.HybIdeal.main_arg5)
      ∧ r.2.mem ((c.tc : Thread Cert.HybIdeal.nD Cert.HybIdeal.τ).loc Cert.HybIdeal.main_arg6) = m ((c.tc : Thread Cert.HybIdeal.nD Cert.HybIdeal.τ).loc Cert.HybIdeal.main_arg6)
      ∧ r.2.mem ((c.tc : Thread Cert.HybIdeal.nD Cert.HybIdeal.τ).loc Cert.HybIdeal.main_arg7) = m ((c.tc : Thread Cert.HybIdeal.nD Cert.HybIdeal.τ).loc Cert.HybIdeal.main_arg7)
      ∧ r.2.mem ((c.tc : Thread Cert.HybIdeal.nD Cert.HybIdeal.τ).loc Cert.HybIdeal.main_arg8) = m ((c.tc : Thread Cert.HybIdeal.nD Cert.HybIdeal.τ).loc Cert.HybIdeal.main_arg8))
      ∧ r.2.sem = fun _ => 0)

def quiescent_HybRefIdeal [hHybRefIdeal : Cert.HybRefIdeal.Facts] : Prop :=
  ∀ (m : (ℓ : Loc Cert.HybRefIdeal.nD Cert.HybRefIdeal.τ Cert.HybRefIdeal.sig) → Buf (Elt Ideal) ℓ) (g : Dev Cert.HybRefIdeal.nD → PrngReg), Pre_HybRefIdeal m →
    θ_run (Cert.HybRefIdeal.defs (F := Ideal)) (onTc (τ := Cert.HybRefIdeal.τ) (Cert.HybRefIdeal.main (F := Ideal))) ⟨m, fun _ => 0, g⟩ (fun r => (∀ c : Dev Cert.HybRefIdeal.nD,
      r.2.mem ((c.tc : Thread Cert.HybRefIdeal.nD Cert.HybRefIdeal.τ).loc Cert.HybRefIdeal.main_arg0) = m ((c.tc : Thread Cert.HybRefIdeal.nD Cert.HybRefIdeal.τ).loc Cert.HybRefIdeal.main_arg0)
      ∧ r.2.mem ((c.tc : Thread Cert.HybRefIdeal.nD Cert.HybRefIdeal.τ).loc Cert.HybRefIdeal.main_arg1) = m ((c.tc : Thread Cert.HybRefIdeal.nD Cert.HybRefIdeal.τ).loc Cert.HybRefIdeal.main_arg1)
      ∧ r.2.mem ((c.tc : Thread Cert.HybRefIdeal.nD Cert.HybRefIdeal.τ).loc Cert.HybRefIdeal.main_arg2) = m ((c.tc : Thread Cert.HybRefIdeal.nD Cert.HybRefIdeal.τ).loc Cert.HybRefIdeal.main_arg2)
      ∧ r.2.mem ((c.tc : Thread Cert.HybRefIdeal.nD Cert.HybRefIdeal.τ).loc Cert.HybRefIdeal.main_arg3) = m ((c.tc : Thread Cert.HybRefIdeal.nD Cert.HybRefIdeal.τ).loc Cert.HybRefIdeal.main_arg3)
      ∧ r.2.mem ((c.tc : Thread Cert.HybRefIdeal.nD Cert.HybRefIdeal.τ).loc Cert.HybRefIdeal.main_arg4) = m ((c.tc : Thread Cert.HybRefIdeal.nD Cert.HybRefIdeal.τ).loc Cert.HybRefIdeal.main_arg4)
      ∧ r.2.mem ((c.tc : Thread Cert.HybRefIdeal.nD Cert.HybRefIdeal.τ).loc Cert.HybRefIdeal.main_arg5) = m ((c.tc : Thread Cert.HybRefIdeal.nD Cert.HybRefIdeal.τ).loc Cert.HybRefIdeal.main_arg5)
      ∧ r.2.mem ((c.tc : Thread Cert.HybRefIdeal.nD Cert.HybRefIdeal.τ).loc Cert.HybRefIdeal.main_arg6) = m ((c.tc : Thread Cert.HybRefIdeal.nD Cert.HybRefIdeal.τ).loc Cert.HybRefIdeal.main_arg6)
      ∧ r.2.mem ((c.tc : Thread Cert.HybRefIdeal.nD Cert.HybRefIdeal.τ).loc Cert.HybRefIdeal.main_arg7) = m ((c.tc : Thread Cert.HybRefIdeal.nD Cert.HybRefIdeal.τ).loc Cert.HybRefIdeal.main_arg7)
      ∧ r.2.mem ((c.tc : Thread Cert.HybRefIdeal.nD Cert.HybRefIdeal.τ).loc Cert.HybRefIdeal.main_arg8) = m ((c.tc : Thread Cert.HybRefIdeal.nD Cert.HybRefIdeal.τ).loc Cert.HybRefIdeal.main_arg8))
      ∧ r.2.sem = fun _ => 0)

def quiescent_HybRefIdeal_pre_hyb_finite [hHybRefIdeal : Cert.HybRefIdeal.Facts] [hPre_hyb_finite : Cert.Pre_hyb_finite.Facts] : Prop :=
  ∀ (m : (ℓ : Loc Cert.HybRefIdeal.nD Cert.HybRefIdeal.τ Cert.HybRefIdeal.sig) → Buf (Elt Ideal) ℓ) (g : Dev Cert.HybRefIdeal.nD → PrngReg), Pre_HybRefIdeal_hyb_finite m →
    θ_run (Cert.HybRefIdeal.defs (F := Ideal)) (onTc (τ := Cert.HybRefIdeal.τ) (Cert.HybRefIdeal.main (F := Ideal))) ⟨m, fun _ => 0, g⟩ (fun r => (∀ c : Dev Cert.HybRefIdeal.nD,
      r.2.mem ((c.tc : Thread Cert.HybRefIdeal.nD Cert.HybRefIdeal.τ).loc Cert.HybRefIdeal.main_arg0) = m ((c.tc : Thread Cert.HybRefIdeal.nD Cert.HybRefIdeal.τ).loc Cert.HybRefIdeal.main_arg0)
      ∧ r.2.mem ((c.tc : Thread Cert.HybRefIdeal.nD Cert.HybRefIdeal.τ).loc Cert.HybRefIdeal.main_arg1) = m ((c.tc : Thread Cert.HybRefIdeal.nD Cert.HybRefIdeal.τ).loc Cert.HybRefIdeal.main_arg1)
      ∧ r.2.mem ((c.tc : Thread Cert.HybRefIdeal.nD Cert.HybRefIdeal.τ).loc Cert.HybRefIdeal.main_arg2) = m ((c.tc : Thread Cert.HybRefIdeal.nD Cert.HybRefIdeal.τ).loc Cert.HybRefIdeal.main_arg2)
      ∧ r.2.mem ((c.tc : Thread Cert.HybRefIdeal.nD Cert.HybRefIdeal.τ).loc Cert.HybRefIdeal.main_arg3) = m ((c.tc : Thread Cert.HybRefIdeal.nD Cert.HybRefIdeal.τ).loc Cert.HybRefIdeal.main_arg3)
      ∧ r.2.mem ((c.tc : Thread Cert.HybRefIdeal.nD Cert.HybRefIdeal.τ).loc Cert.HybRefIdeal.main_arg4) = m ((c.tc : Thread Cert.HybRefIdeal.nD Cert.HybRefIdeal.τ).loc Cert.HybRefIdeal.main_arg4)
      ∧ r.2.mem ((c.tc : Thread Cert.HybRefIdeal.nD Cert.HybRefIdeal.τ).loc Cert.HybRefIdeal.main_arg5) = m ((c.tc : Thread Cert.HybRefIdeal.nD Cert.HybRefIdeal.τ).loc Cert.HybRefIdeal.main_arg5)
      ∧ r.2.mem ((c.tc : Thread Cert.HybRefIdeal.nD Cert.HybRefIdeal.τ).loc Cert.HybRefIdeal.main_arg6) = m ((c.tc : Thread Cert.HybRefIdeal.nD Cert.HybRefIdeal.τ).loc Cert.HybRefIdeal.main_arg6)
      ∧ r.2.mem ((c.tc : Thread Cert.HybRefIdeal.nD Cert.HybRefIdeal.τ).loc Cert.HybRefIdeal.main_arg7) = m ((c.tc : Thread Cert.HybRefIdeal.nD Cert.HybRefIdeal.τ).loc Cert.HybRefIdeal.main_arg7)
      ∧ r.2.mem ((c.tc : Thread Cert.HybRefIdeal.nD Cert.HybRefIdeal.τ).loc Cert.HybRefIdeal.main_arg8) = m ((c.tc : Thread Cert.HybRefIdeal.nD Cert.HybRefIdeal.τ).loc Cert.HybRefIdeal.main_arg8))
      ∧ r.2.sem = fun _ => 0)

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)
      ∧ m' ((c.tc : Thread Cert.ShortConvRefIdeal.nD Cert.ShortConvRefIdeal.τ).loc Cert.ShortConvRefIdeal.main_arg3) = m ((c.tc : Thread Cert.ShortConvIdeal.nD Cert.ShortConvIdeal.τ).loc Cert.ShortConvIdeal.main_arg3)
      ∧ m' ((c.tc : Thread Cert.ShortConvRefIdeal.nD Cert.ShortConvRefIdeal.τ).loc Cert.ShortConvRefIdeal.main_arg4) = m ((c.tc : Thread Cert.ShortConvIdeal.nD Cert.ShortConvIdeal.τ).loc Cert.ShortConvIdeal.main_arg4)) →
    ∃ (v0 : (c : Dev Cert.ShortConvIdeal.nD) → Buf (Elt Ideal) ((c.tc : Thread Cert.ShortConvIdeal.nD Cert.ShortConvIdeal.τ).loc Cert.ShortConvIdeal.main_v10)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v10) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
          ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v51) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2)
          ∧ r.2.mem ((c.tc : Thread Cert.ShortConvRefIdeal.nD Cert.ShortConvRefIdeal.τ).loc Cert.ShortConvRefIdeal.main_arg3) = m' ((c.tc : Thread Cert.ShortConvRefIdeal.nD Cert.ShortConvRefIdeal.τ).loc Cert.ShortConvRefIdeal.main_arg3)
          ∧ r.2.mem ((c.tc : Thread Cert.ShortConvRefIdeal.nD Cert.ShortConvRefIdeal.τ).loc Cert.ShortConvRefIdeal.main_arg4) = m' ((c.tc : Thread Cert.ShortConvRefIdeal.nD Cert.ShortConvRefIdeal.τ).loc Cert.ShortConvRefIdeal.main_arg4))

def preserves_Ffn_FfnIdeal : Prop :=
  True

def algebraic_FfnIdeal_FfnRefIdeal_pre_ffn_gate_finite [hFfnIdeal : Cert.FfnIdeal.Facts] [hFfnRefIdeal : Cert.FfnRefIdeal.Facts] [hPre_ffn_gate_finite : Cert.Pre_ffn_gate_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_gate_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnLast_FfnLastIdeal : Prop :=
  True

def algebraic_FfnLastIdeal_FfnLastRefIdeal_pre_ffn_last_gate_finite [hFfnLastIdeal : Cert.FfnLastIdeal.Facts] [hFfnLastRefIdeal : Cert.FfnLastRefIdeal.Facts] [hPre_ffn_last_gate_finite : Cert.Pre_ffn_last_gate_finite.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal_ffn_last_gate_finite m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v5)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v5) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v42) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_FfnMix_FfnMixIdeal : Prop :=
  True

def algebraic_FfnMixIdeal_FfnMixRefIdeal_pre_ffn_mix_gate_finite [hFfnMixIdeal : Cert.FfnMixIdeal.Facts] [hFfnMixRefIdeal : Cert.FfnMixRefIdeal.Facts] [hPre_ffn_mix_gate_finite : Cert.Pre_ffn_mix_gate_finite.Facts] : Prop :=
  ∀ (m : (ℓ : Loc Cert.FfnMixIdeal.nD Cert.FfnMixIdeal.τ Cert.FfnMixIdeal.sig) → Buf (Elt Ideal) ℓ) (g : Dev Cert.FfnMixIdeal.nD → PrngReg)
    (m' : (ℓ : Loc Cert.FfnMixRefIdeal.nD Cert.FfnMixRefIdeal.τ Cert.FfnMixRefIdeal.sig) → Buf (Elt Ideal) ℓ) (g' : Dev Cert.FfnMixRefIdeal.nD → PrngReg), Pre_FfnMixIdeal_ffn_mix_gate_finite m →
    (∀ c : Dev Cert.FfnMixIdeal.nD,
      m' ((c.tc : Thread Cert.FfnMixRefIdeal.nD Cert.FfnMixRefIdeal.τ).loc Cert.FfnMixRefIdeal.main_arg0) = m ((c.tc : Thread Cert.FfnMixIdeal.nD Cert.FfnMixIdeal.τ).loc Cert.FfnMixIdeal.main_arg0)
      ∧ m' ((c.tc : Thread Cert.FfnMixRefIdeal.nD Cert.FfnMixRefIdeal.τ).loc Cert.FfnMixRefIdeal.main_arg1) = m ((c.tc : Thread Cert.FfnMixIdeal.nD Cert.FfnMixIdeal.τ).loc Cert.FfnMixIdeal.main_arg1)
      ∧ m' ((c.tc : Thread Cert.FfnMixRefIdeal.nD Cert.FfnMixRefIdeal.τ).loc Cert.FfnMixRefIdeal.main_arg2) = m ((c.tc : Thread Cert.FfnMixIdeal.nD Cert.FfnMixIdeal.τ).loc Cert.FfnMixIdeal.main_arg2)
      ∧ m' ((c.tc : Thread Cert.FfnMixRefIdeal.nD Cert.FfnMixRefIdeal.τ).loc Cert.FfnMixRefIdeal.main_arg3) = m ((c.tc : Thread Cert.FfnMixIdeal.nD Cert.FfnMixIdeal.τ).loc Cert.FfnMixIdeal.main_arg3)
      ∧ m' ((c.tc : Thread Cert.FfnMixRefIdeal.nD Cert.FfnMixRefIdeal.τ).loc Cert.FfnMixRefIdeal.main_arg4) = m ((c.tc : Thread Cert.FfnMixIdeal.nD Cert.FfnMixIdeal.τ).loc Cert.FfnMixIdeal.main_arg4)
      ∧ m' ((c.tc : Thread Cert.FfnMixRefIdeal.nD Cert.FfnMixRefIdeal.τ).loc Cert.FfnMixRefIdeal.main_arg5) = m ((c.tc : Thread Cert.FfnMixIdeal.nD Cert.FfnMixIdeal.τ).loc Cert.FfnMixIdeal.main_arg5)
      ∧ m' ((c.tc : Thread Cert.FfnMixRefIdeal.nD Cert.FfnMixRefIdeal.τ).loc Cert.FfnMixRefIdeal.main_arg6) = m ((c.tc : Thread Cert.FfnMixIdeal.nD Cert.FfnMixIdeal.τ).loc Cert.FfnMixIdeal.main_arg6)
      ∧ m' ((c.tc : Thread Cert.FfnMixRefIdeal.nD Cert.FfnMixRefIdeal.τ).loc Cert.FfnMixRefIdeal.main_arg7) = m ((c.tc : Thread Cert.FfnMixIdeal.nD Cert.FfnMixIdeal.τ).loc Cert.FfnMixIdeal.main_arg7)) →
    ∃ (v0 : (c : Dev Cert.FfnMixIdeal.nD) → Buf (Elt Ideal) ((c.tc : Thread Cert.FfnMixIdeal.nD Cert.FfnMixIdeal.τ).loc Cert.FfnMixIdeal.main_v6)),
      θ_run (Cert.FfnMixIdeal.defs (F := Ideal)) (onTc (τ := Cert.FfnMixIdeal.τ) (Cert.FfnMixIdeal.main (F := Ideal))) ⟨m, fun _ => 0, g⟩ (fun r => ∀ c : Dev Cert.FfnMixIdeal.nD,
          r.2.mem ((c.tc : Thread Cert.FfnMixIdeal.nD Cert.FfnMixIdeal.τ).loc Cert.FfnMixIdeal.main_v6) = v0 c
          ∧ r.2.mem ((c.tc : Thread Cert.FfnMixIdeal.nD Cert.FfnMixIdeal.τ).loc Cert.FfnMixIdeal.main_arg0) = m ((c.tc : Thread Cert.FfnMixIdeal.nD Cert.FfnMixIdeal.τ).loc Cert.FfnMixIdeal.main_arg0)
          ∧ r.2.mem ((c.tc : Thread Cert.FfnMixIdeal.nD Cert.FfnMixIdeal.τ).loc Cert.FfnMixIdeal.main_arg1) = m ((c.tc : Thread Cert.FfnMixIdeal.nD Cert.FfnMixIdeal.τ).loc Cert.FfnMixIdeal.main_arg1)
          ∧ r.2.mem ((c.tc : Thread Cert.FfnMixIdeal.nD Cert.FfnMixIdeal.τ).loc Cert.FfnMixIdeal.main_arg2) = m ((c.tc : Thread Cert.FfnMixIdeal.nD Cert.FfnMixIdeal.τ).loc Cert.FfnMixIdeal.main_arg2)
          ∧ r.2.mem ((c.tc : Thread Cert.FfnMixIdeal.nD Cert.FfnMixIdeal.τ).loc Cert.FfnMixIdeal.main_arg3) = m ((c.tc : Thread Cert.FfnMixIdeal.nD Cert.FfnMixIdeal.τ).loc Cert.FfnMixIdeal.main_arg3)
          ∧ r.2.mem ((c.tc : Thread Cert.FfnMixIdeal.nD Cert.FfnMixIdeal.τ).loc Cert.FfnMixIdeal.main_arg4) = m ((c.tc : Thread Cert.FfnMixIdeal.nD Cert.FfnMixIdeal.τ).loc Cert.FfnMixIdeal.main_arg4)
          ∧ r.2.mem ((c.tc : Thread Cert.FfnMixIdeal.nD Cert.FfnMixIdeal.τ).loc Cert.FfnMixIdeal.main_arg5) = m ((c.tc : Thread Cert.FfnMixIdeal.nD Cert.FfnMixIdeal.τ).loc Cert.FfnMixIdeal.main_arg5)
          ∧ r.2.mem ((c.tc : Thread Cert.FfnMixIdeal.nD Cert.FfnMixIdeal.τ).loc Cert.FfnMixIdeal.main_arg6) = m ((c.tc : Thread Cert.FfnMixIdeal.nD Cert.FfnMixIdeal.τ).loc Cert.FfnMixIdeal.main_arg6)
          ∧ r.2.mem ((c.tc : Thread Cert.FfnMixIdeal.nD Cert.FfnMixIdeal.τ).loc Cert.FfnMixIdeal.main_arg7) = m ((c.tc : Thread Cert.FfnMixIdeal.nD Cert.FfnMixIdeal.τ).loc Cert.FfnMixIdeal.main_arg7))
      ∧ θ_run (Cert.FfnMixRefIdeal.defs (F := Ideal)) (onTc (τ := Cert.FfnMixRefIdeal.τ) (Cert.FfnMixRefIdeal.main (F := Ideal))) ⟨m', fun _ => 0, g'⟩ (fun r => ∀ c : Dev Cert.FfnMixRefIdeal.nD,
          r.2.mem ((c.tc : Thread Cert.FfnMixRefIdeal.nD Cert.FfnMixRefIdeal.τ).loc Cert.FfnMixRefIdeal.main_v36) = v0 c
          ∧ r.2.mem ((c.tc : Thread Cert.FfnMixRefIdeal.nD Cert.FfnMixRefIdeal.τ).loc Cert.FfnMixRefIdeal.main_arg0) = m' ((c.tc : Thread Cert.FfnMixRefIdeal.nD Cert.FfnMixRefIdeal.τ).loc Cert.FfnMixRefIdeal.main_arg0)
          ∧ r.2.mem ((c.tc : Thread Cert.FfnMixRefIdeal.nD Cert.FfnMixRefIdeal.τ).loc Cert.FfnMixRefIdeal.main_arg1) = m' ((c.tc : Thread Cert.FfnMixRefIdeal.nD Cert.FfnMixRefIdeal.τ).loc Cert.FfnMixRefIdeal.main_arg1)
          ∧ r.2.mem ((c.tc : Thread Cert.FfnMixRefIdeal.nD Cert.FfnMixRefIdeal.τ).loc Cert.FfnMixRefIdeal.main_arg2) = m' ((c.tc : Thread Cert.FfnMixRefIdeal.nD Cert.FfnMixRefIdeal.τ).loc Cert.FfnMixRefIdeal.main_arg2)
          ∧ r.2.mem ((c.tc : Thread Cert.FfnMixRefIdeal.nD Cert.FfnMixRefIdeal.τ).loc Cert.FfnMixRefIdeal.main_arg3) = m' ((c.tc : Thread Cert.FfnMixRefIdeal.nD Cert.FfnMixRefIdeal.τ).loc Cert.FfnMixRefIdeal.main_arg3)
          ∧ r.2.mem ((c.tc : Thread Cert.FfnMixRefIdeal.nD Cert.FfnMixRefIdeal.τ).loc Cert.FfnMixRefIdeal.main_arg4) = m' ((c.tc : Thread Cert.FfnMixRefIdeal.nD Cert.FfnMixRefIdeal.τ).loc Cert.FfnMixRefIdeal.main_arg4)
          ∧ r.2.mem ((c.tc : Thread Cert.FfnMixRefIdeal.nD Cert.FfnMixRefIdeal.τ).loc Cert.FfnMixRefIdeal.main_arg5) = m' ((c.tc : Thread Cert.FfnMixRefIdeal.nD Cert.FfnMixRefIdeal.τ).loc Cert.FfnMixRefIdeal.main_arg5)
          ∧ r.2.mem ((c.tc : Thread Cert.FfnMixRefIdeal.nD Cert.FfnMixRefIdeal.τ).loc Cert.FfnMixRefIdeal.main_arg6) = m' ((c.tc : Thread Cert.FfnMixRefIdeal.nD Cert.FfnMixRefIdeal.τ).loc Cert.FfnMixRefIdeal.main_arg6)
          ∧ r.2.mem ((c.tc : Thread Cert.FfnMixRefIdeal.nD Cert.FfnMixRefIdeal.τ).loc Cert.FfnMixRefIdeal.main_arg7) = m' ((c.tc : Thread Cert.FfnMixRefIdeal.nD Cert.FfnMixRefIdeal.τ).loc Cert.FfnMixRefIdeal.main_arg7))

def preserves_Hyb_HybIdeal : Prop :=
  IdealRules.named_const.Statement Cert.HybIdeal.κ "mask" .f32 0xF149F2CA#32 ⊥

def algebraic_HybIdeal_HybRefIdeal_pre_hyb_finite [hHybIdeal : Cert.HybIdeal.Facts] [hHybRefIdeal : Cert.HybRefIdeal.Facts] [hPre_hyb_finite : Cert.Pre_hyb_finite.Facts] : Prop :=
  ∀ (m : (ℓ : Loc Cert.HybIdeal.nD Cert.HybIdeal.τ Cert.HybIdeal.sig) → Buf (Elt Ideal) ℓ) (g : Dev Cert.HybIdeal.nD → PrngReg)
    (m' : (ℓ : Loc Cert.HybRefIdeal.nD Cert.HybRefIdeal.τ Cert.HybRefIdeal.sig) → Buf (Elt Ideal) ℓ) (g' : Dev Cert.HybRefIdeal.nD → PrngReg), Pre_HybIdeal_hyb_finite m →
    (∀ c : Dev Cert.HybIdeal.nD,
      m' ((c.tc : Thread Cert.HybRefIdeal.nD Cert.HybRefIdeal.τ).loc Cert.HybRefIdeal.main_arg0) = m ((c.tc : Thread Cert.HybIdeal.nD Cert.HybIdeal.τ).loc Cert.HybIdeal.main_arg0)
      ∧ m' ((c.tc : Thread Cert.HybRefIdeal.nD Cert.HybRefIdeal.τ).loc Cert.HybRefIdeal.main_arg1) = m ((c.tc : Thread Cert.HybIdeal.nD Cert.HybIdeal.τ).loc Cert.HybIdeal.main_arg1)
      ∧ m' ((c.tc : Thread Cert.HybRefIdeal.nD Cert.HybRefIdeal.τ).loc Cert.HybRefIdeal.main_arg2) = m ((c.tc : Thread Cert.HybIdeal.nD Cert.HybIdeal.τ).loc Cert.HybIdeal.main_arg2)
      ∧ m' ((c.tc : Thread Cert.HybRefIdeal.nD Cert.HybRefIdeal.τ).loc Cert.HybRefIdeal.main_arg3) = m ((c.tc : Thread Cert.HybIdeal.nD Cert.HybIdeal.τ).loc Cert.HybIdeal.main_arg3)
      ∧ m' ((c.tc : Thread Cert.HybRefIdeal.nD Cert.HybRefIdeal.τ).loc Cert.HybRefIdeal.main_arg4) = m ((c.tc : Thread Cert.HybIdeal.nD Cert.HybIdeal.τ).loc Cert.HybIdeal.main_arg4)
      ∧ m' ((c.tc : Thread Cert.HybRefIdeal.nD Cert.HybRefIdeal.τ).loc Cert.HybRefIdeal.main_arg5) = m ((c.tc : Thread Cert.HybIdeal.nD Cert.HybIdeal.τ).loc Cert.HybIdeal.main_arg5)
      ∧ m' ((c.tc : Thread Cert.HybRefIdeal.nD Cert.HybRefIdeal.τ).loc Cert.HybRefIdeal.main_arg6) = m ((c.tc : Thread Cert.HybIdeal.nD Cert.HybIdeal.τ).loc Cert.HybIdeal.main_arg6)
      ∧ m' ((c.tc : Thread Cert.HybRefIdeal.nD Cert.HybRefIdeal.τ).loc Cert.HybRefIdeal.main_arg7) = m ((c.tc : Thread Cert.HybIdeal.nD Cert.HybIdeal.τ).loc Cert.HybIdeal.main_arg7)
      ∧ m' ((c.tc : Thread Cert.HybRefIdeal.nD Cert.HybRefIdeal.τ).loc Cert.HybRefIdeal.main_arg8) = m ((c.tc : Thread Cert.HybIdeal.nD Cert.HybIdeal.τ).loc Cert.HybIdeal.main_arg8)) →
    ∃ (v0 : (c : Dev Cert.HybIdeal.nD) → Buf (Elt Ideal) ((c.tc : Thread Cert.HybIdeal.nD Cert.HybIdeal.τ).loc Cert.HybIdeal.main_v34_0)) (v1 : (c : Dev Cert.HybIdeal.nD) → Buf (Elt Ideal) ((c.tc : Thread Cert.HybIdeal.nD Cert.HybIdeal.τ).loc Cert.HybIdeal.main_v34_1)) (v2 : (c : Dev Cert.HybIdeal.nD) → Buf (Elt Ideal) ((c.tc : Thread Cert.HybIdeal.nD Cert.HybIdeal.τ).loc Cert.HybIdeal.main_v34_2)) (v3 : (c : Dev Cert.HybIdeal.nD) → Buf (Elt Ideal) ((c.tc : Thread Cert.HybIdeal.nD Cert.HybIdeal.τ).loc Cert.HybIdeal.main_v34_3)),
      θ_run (Cert.HybIdeal.defs (F := Ideal)) (onTc (τ := Cert.HybIdeal.τ) (Cert.HybIdeal.main (F := Ideal))) ⟨m, fun _ => 0, g⟩ (fun r => ∀ c : Dev Cert.HybIdeal.nD,
          r.2.mem ((c.tc : Thread Cert.HybIdeal.nD Cert.HybIdeal.τ).loc Cert.HybIdeal.main_v34_0) = v0 c
          ∧ r.2.mem ((c.tc : Thread Cert.HybIdeal.nD Cert.HybIdeal.τ).loc Cert.HybIdeal.main_v34_1) = v1 c
          ∧ r.2.mem ((c.tc : Thread Cert.HybIdeal.nD Cert.HybIdeal.τ).loc Cert.HybIdeal.main_v34_2) = v2 c
          ∧ r.2.mem ((c.tc : Thread Cert.HybIdeal.nD Cert.HybIdeal.τ).loc Cert.HybIdeal.main_v34_3) = v3 c
          ∧ r.2.mem ((c.tc : Thread Cert.HybIdeal.nD Cert.HybIdeal.τ).loc Cert.HybIdeal.main_arg0) = m ((c.tc : Thread Cert.HybIdeal.nD Cert.HybIdeal.τ).loc Cert.HybIdeal.main_arg0)
          ∧ r.2.mem ((c.tc : Thread Cert.HybIdeal.nD Cert.HybIdeal.τ).loc Cert.HybIdeal.main_arg1) = m ((c.tc : Thread Cert.HybIdeal.nD Cert.HybIdeal.τ).loc Cert.HybIdeal.main_arg1)
          ∧ r.2.mem ((c.tc : Thread Cert.HybIdeal.nD Cert.HybIdeal.τ).loc Cert.HybIdeal.main_arg2) = m ((c.tc : Thread Cert.HybIdeal.nD Cert.HybIdeal.τ).loc Cert.HybIdeal.main_arg2)
          ∧ r.2.mem ((c.tc : Thread Cert.HybIdeal.nD Cert.HybIdeal.τ).loc Cert.HybIdeal.main_arg3) = m ((c.tc : Thread Cert.HybIdeal.nD Cert.HybIdeal.τ).loc Cert.HybIdeal.main_arg3)
          ∧ r.2.mem ((c.tc : Thread Cert.HybIdeal.nD Cert.HybIdeal.τ).loc Cert.HybIdeal.main_arg4) = m ((c.tc : Thread Cert.HybIdeal.nD Cert.HybIdeal.τ).loc Cert.HybIdeal.main_arg4)
          ∧ r.2.mem ((c.tc : Thread Cert.HybIdeal.nD Cert.HybIdeal.τ).loc Cert.HybIdeal.main_arg5) = m ((c.tc : Thread Cert.HybIdeal.nD Cert.HybIdeal.τ).loc Cert.HybIdeal.main_arg5)
          ∧ r.2.mem ((c.tc : Thread Cert.HybIdeal.nD Cert.HybIdeal.τ).loc Cert.HybIdeal.main_arg6) = m ((c.tc : Thread Cert.HybIdeal.nD Cert.HybIdeal.τ).loc Cert.HybIdeal.main_arg6)
          ∧ r.2.mem ((c.tc : Thread Cert.HybIdeal.nD Cert.HybIdeal.τ).loc Cert.HybIdeal.main_arg7) = m ((c.tc : Thread Cert.HybIdeal.nD Cert.HybIdeal.τ).loc Cert.HybIdeal.main_arg7)
          ∧ r.2.mem ((c.tc : Thread Cert.HybIdeal.nD Cert.HybIdeal.τ).loc Cert.HybIdeal.main_arg8) = m ((c.tc : Thread Cert.HybIdeal.nD Cert.HybIdeal.τ).loc Cert.HybIdeal.main_arg8))
      ∧ θ_run (Cert.HybRefIdeal.defs (F := Ideal)) (onTc (τ := Cert.HybRefIdeal.τ) (Cert.HybRefIdeal.main (F := Ideal))) ⟨m', fun _ => 0, g'⟩ (fun r => ∀ c : Dev Cert.HybRefIdeal.nD,
          r.2.mem ((c.tc : Thread Cert.HybRefIdeal.nD Cert.HybRefIdeal.τ).loc Cert.HybRefIdeal.main_v175) = v0 c
          ∧ r.2.mem ((c.tc : Thread Cert.HybRefIdeal.nD Cert.HybRefIdeal.τ).loc Cert.HybRefIdeal.main_v177) = v1 c
          ∧ r.2.mem ((c.tc : Thread Cert.HybRefIdeal.nD Cert.HybRefIdeal.τ).loc Cert.HybRefIdeal.main_v180) = v2 c
          ∧ r.2.mem ((c.tc : Thread Cert.HybRefIdeal.nD Cert.HybRefIdeal.τ).loc Cert.HybRefIdeal.main_v182) = v3 c
          ∧ r.2.mem ((c.tc : Thread Cert.HybRefIdeal.nD Cert.HybRefIdeal.τ).loc Cert.HybRefIdeal.main_arg0) = m' ((c.tc : Thread Cert.HybRefIdeal.nD Cert.HybRefIdeal.τ).loc Cert.HybRefIdeal.main_arg0)
          ∧ r.2.mem ((c.tc : Thread Cert.HybRefIdeal.nD Cert.HybRefIdeal.τ).loc Cert.HybRefIdeal.main_arg1) = m' ((c.tc : Thread Cert.HybRefIdeal.nD Cert.HybRefIdeal.τ).loc Cert.HybRefIdeal.main_arg1)
          ∧ r.2.mem ((c.tc : Thread Cert.HybRefIdeal.nD Cert.HybRefIdeal.τ).loc Cert.HybRefIdeal.main_arg2) = m' ((c.tc : Thread Cert.HybRefIdeal.nD Cert.HybRefIdeal.τ).loc Cert.HybRefIdeal.main_arg2)
          ∧ r.2.mem ((c.tc : Thread Cert.HybRefIdeal.nD Cert.HybRefIdeal.τ).loc Cert.HybRefIdeal.main_arg3) = m' ((c.tc : Thread Cert.HybRefIdeal.nD Cert.HybRefIdeal.τ).loc Cert.HybRefIdeal.main_arg3)
          ∧ r.2.mem ((c.tc : Thread Cert.HybRefIdeal.nD Cert.HybRefIdeal.τ).loc Cert.HybRefIdeal.main_arg4) = m' ((c.tc : Thread Cert.HybRefIdeal.nD Cert.HybRefIdeal.τ).loc Cert.HybRefIdeal.main_arg4)
          ∧ r.2.mem ((c.tc : Thread Cert.HybRefIdeal.nD Cert.HybRefIdeal.τ).loc Cert.HybRefIdeal.main_arg5) = m' ((c.tc : Thread Cert.HybRefIdeal.nD Cert.HybRefIdeal.τ).loc Cert.HybRefIdeal.main_arg5)
          ∧ r.2.mem ((c.tc : Thread Cert.HybRefIdeal.nD Cert.HybRefIdeal.τ).loc Cert.HybRefIdeal.main_arg6) = m' ((c.tc : Thread Cert.HybRefIdeal.nD Cert.HybRefIdeal.τ).loc Cert.HybRefIdeal.main_arg6)
          ∧ r.2.mem ((c.tc : Thread Cert.HybRefIdeal.nD Cert.HybRefIdeal.τ).loc Cert.HybRefIdeal.main_arg7) = m' ((c.tc : Thread Cert.HybRefIdeal.nD Cert.HybRefIdeal.τ).loc Cert.HybRefIdeal.main_arg7)
          ∧ r.2.mem ((c.tc : Thread Cert.HybRefIdeal.nD Cert.HybRefIdeal.τ).loc Cert.HybRefIdeal.main_arg8) = m' ((c.tc : Thread Cert.HybRefIdeal.nD Cert.HybRefIdeal.τ).loc Cert.HybRefIdeal.main_arg8))

def Claim : Prop :=
  ∃ (hShortConv : Cert.ShortConv.Facts) (hShortConvIdeal : Cert.ShortConvIdeal.Facts) (hShortConvRefIdeal : Cert.ShortConvRefIdeal.Facts) (hFfn : Cert.Ffn.Facts) (hFfnIdeal : Cert.FfnIdeal.Facts) (hFfnRefIdeal : Cert.FfnRefIdeal.Facts) (hFfnLast : Cert.FfnLast.Facts) (hFfnLastIdeal : Cert.FfnLastIdeal.Facts) (hFfnLastRefIdeal : Cert.FfnLastRefIdeal.Facts) (hFfnMix : Cert.FfnMix.Facts) (hFfnMixIdeal : Cert.FfnMixIdeal.Facts) (hFfnMixRefIdeal : Cert.FfnMixRefIdeal.Facts) (hHyb : Cert.Hyb.Facts) (hHybIdeal : Cert.HybIdeal.Facts) (hHybRefIdeal : Cert.HybRefIdeal.Facts) (hPre_ffn_gate_finite : Cert.Pre_ffn_gate_finite.Facts) (hPre_ffn_last_gate_finite : Cert.Pre_ffn_last_gate_finite.Facts) (hPre_ffn_mix_gate_finite : Cert.Pre_ffn_mix_gate_finite.Facts) (hPre_hyb_finite : Cert.Pre_hyb_finite.Facts),
    quiescent_ShortConv (hShortConv := hShortConv)
    ∧ quiescent_ShortConvIdeal (hShortConvIdeal := hShortConvIdeal)
    ∧ quiescent_ShortConvRefIdeal (hShortConvRefIdeal := hShortConvRefIdeal)
    ∧ quiescent_Ffn (hFfn := hFfn)
    ∧ quiescent_FfnIdeal (hFfnIdeal := hFfnIdeal)
    ∧ quiescent_FfnIdeal_pre_ffn_gate_finite (hFfnIdeal := hFfnIdeal) (hPre_ffn_gate_finite := hPre_ffn_gate_finite)
    ∧ quiescent_FfnRefIdeal (hFfnRefIdeal := hFfnRefIdeal)
    ∧ quiescent_FfnRefIdeal_pre_ffn_gate_finite (hFfnRefIdeal := hFfnRefIdeal) (hPre_ffn_gate_finite := hPre_ffn_gate_finite)
    ∧ quiescent_FfnLast (hFfnLast := hFfnLast)
    ∧ quiescent_FfnLastIdeal (hFfnLastIdeal := hFfnLastIdeal)
    ∧ quiescent_FfnLastIdeal_pre_ffn_last_gate_finite (hFfnLastIdeal := hFfnLastIdeal) (hPre_ffn_last_gate_finite := hPre_ffn_last_gate_finite)
    ∧ quiescent_FfnLastRefIdeal (hFfnLastRefIdeal := hFfnLastRefIdeal)
    ∧ quiescent_FfnLastRefIdeal_pre_ffn_last_gate_finite (hFfnLastRefIdeal := hFfnLastRefIdeal) (hPre_ffn_last_gate_finite := hPre_ffn_last_gate_finite)
    ∧ quiescent_FfnMix (hFfnMix := hFfnMix)
    ∧ quiescent_FfnMixIdeal (hFfnMixIdeal := hFfnMixIdeal)
    ∧ quiescent_FfnMixIdeal_pre_ffn_mix_gate_finite (hFfnMixIdeal := hFfnMixIdeal) (hPre_ffn_mix_gate_finite := hPre_ffn_mix_gate_finite)
    ∧ quiescent_FfnMixRefIdeal (hFfnMixRefIdeal := hFfnMixRefIdeal)
    ∧ quiescent_FfnMixRefIdeal_pre_ffn_mix_gate_finite (hFfnMixRefIdeal := hFfnMixRefIdeal) (hPre_ffn_mix_gate_finite := hPre_ffn_mix_gate_finite)
    ∧ quiescent_Hyb (hHyb := hHyb)
    ∧ quiescent_HybIdeal (hHybIdeal := hHybIdeal)
    ∧ quiescent_HybIdeal_pre_hyb_finite (hHybIdeal := hHybIdeal) (hPre_hyb_finite := hPre_hyb_finite)
    ∧ quiescent_HybRefIdeal (hHybRefIdeal := hHybRefIdeal)
    ∧ quiescent_HybRefIdeal_pre_hyb_finite (hHybRefIdeal := hHybRefIdeal) (hPre_hyb_finite := hPre_hyb_finite)
    ∧ preserves_ShortConv_ShortConvIdeal
    ∧ algebraic_ShortConvIdeal_ShortConvRefIdeal (hShortConvIdeal := hShortConvIdeal) (hShortConvRefIdeal := hShortConvRefIdeal)
    ∧ preserves_Ffn_FfnIdeal
    ∧ algebraic_FfnIdeal_FfnRefIdeal_pre_ffn_gate_finite (hFfnIdeal := hFfnIdeal) (hFfnRefIdeal := hFfnRefIdeal) (hPre_ffn_gate_finite := hPre_ffn_gate_finite)
    ∧ preserves_FfnLast_FfnLastIdeal
    ∧ algebraic_FfnLastIdeal_FfnLastRefIdeal_pre_ffn_last_gate_finite (hFfnLastIdeal := hFfnLastIdeal) (hFfnLastRefIdeal := hFfnLastRefIdeal) (hPre_ffn_last_gate_finite := hPre_ffn_last_gate_finite)
    ∧ preserves_FfnMix_FfnMixIdeal
    ∧ algebraic_FfnMixIdeal_FfnMixRefIdeal_pre_ffn_mix_gate_finite (hFfnMixIdeal := hFfnMixIdeal) (hFfnMixRefIdeal := hFfnMixRefIdeal) (hPre_ffn_mix_gate_finite := hPre_ffn_mix_gate_finite)
    ∧ preserves_Hyb_HybIdeal
    ∧ algebraic_HybIdeal_HybRefIdeal_pre_hyb_finite (hHybIdeal := hHybIdeal) (hHybRefIdeal := hHybRefIdeal) (hPre_hyb_finite := hPre_hyb_finite)
-- ==== Pre_ffn_gate_finite.lean ====
abbrev S4x8192x1024 : Shape := ⟨3, ![4, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S1024x1 : Shape := ⟨2, ![1024, 1]⟩
abbrev S_ : Shape := ⟨0, ![]⟩
abbrev S1x1024x2816 : Shape := ⟨3, ![1, 1024, 2816]⟩
abbrev S1024x2816 : Shape := ⟨2, ![1024, 2816]⟩

class Facts : Prop where
  slices_S4x1024_S1x1024_0_0 : S4x1024.Slices ![0, 0] S1x1024
  shapeCasts_S1x1024_S1024 : S1x1024.ShapeCasts S1024
  bcast_S1024_S1024x1_0 : S1024.BroadcastsInDim S1024x1 (![0] : Fin 1 → Fin S1024x1.rank)
  bcast_S_S1024x1 : S_.BroadcastsInDim S1024x1 (![] : Fin 0 → Fin S1024x1.rank)
  slices_S4x1024x2816_S1x1024x2816_0_0_0 : S4x1024x2816.Slices ![0, 0, 0] S1x1024x2816
  shapeCasts_S1x1024x2816_S1024x2816 : S1x1024x2816.ShapeCasts S1024x2816
  bcast_S_S1024x2816 : S_.BroadcastsInDim S1024x2816 (![] : Fin 0 → Fin S1024x2816.rank)
  bcast_S1024x1_S1024x2816_0_1 : S1024x1.BroadcastsInDim S1024x2816 (![0, 1] : Fin 2 → Fin S1024x2816.rank)

variable [Facts]

def fn {F : FTy → Type} [FloatOps F] (main_arg0 : FVec F S4x8192x1024 .f32) (main_arg1 : FVec F S4x1024 .f32) (main_arg2 : FVec F S4x1024x2816 .f32) (main_arg3 : FVec F S4x1024x2816 .f32) (main_arg4 : FVec F S4x2816x1024 .f32) : IVec S1024x2816 1 :=
  let main_v0 : FVec F S1x1024 .f32 := (extractStridedSlice S1x1024 ![0, 0] · slices_S4x1024_S1x1024_0_0) main_arg1
  let main_v1 : FVec F S1024 .f32 := shapeCast S1024 main_v0 shapeCasts_S1x1024_S1024
  let main_v2 : FVec F S1024 .f32 := Host.absf main_v1
  let main_v3 : FVec F S1024x1 .f32 := broadcastInDim S1024x1 ![0] bcast_S1024_S1024x1_0 main_v2
  let main_cst : FVec F S_ .f32 := constant S_ .f32 0x7F800000#32
  let main_v4 : FVec F S1024x1 .f32 := broadcastInDim S1024x1 ![] bcast_S_S1024x1 main_cst
  let main_v5 : IVec S1024x1 1 := cmpf .olt main_v3 main_v4
  let main_v6 : FVec F S1x1024x2816 .f32 := (extractStridedSlice S1x1024x2816 ![0, 0, 0] · slices_S4x1024x2816_S1x1024x2816_0_0_0) main_arg2
  let main_v7 : FVec F S1024x2816 .f32 := shapeCast S1024x2816 main_v6 shapeCasts_S1x1024x2816_S1024x2816
  let main_v8 : FVec F S1024x2816 .f32 := Host.absf main_v7
  let main_cst_0 : FVec F S_ .f32 := constant S_ .f32 0x7F800000#32
  let main_v9 : FVec F S1024x2816 .f32 := broadcastInDim S1024x2816 ![] bcast_S_S1024x2816 main_cst_0
  let main_v10 : IVec S1024x2816 1 := cmpf .olt main_v8 main_v9
  let main_v11 : IVec S1024x2816 1 := broadcastInDim S1024x2816 ![0, 1] bcast_S1024x1_S1024x2816_0_1 main_v5
  let main_v12 : IVec S1024x2816 1 := andi main_v11 main_v10
  main_v12
-- ==== Pre_ffn_last_gate_finite.lean ====
abbrev S4x8192x1024 : Shape := ⟨3, ![4, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S1024x1 : Shape := ⟨2, ![1024, 1]⟩
abbrev S_ : Shape := ⟨0, ![]⟩
abbrev S1x1024x2816 : Shape := ⟨3, ![1, 1024, 2816]⟩
abbrev S1024x2816 : Shape := ⟨2, ![1024, 2816]⟩

class Facts : Prop where
  slices_S4x1024_S1x1024_3_0 : S4x1024.Slices ![3, 0] S1x1024
  shapeCasts_S1x1024_S1024 : S1x1024.ShapeCasts S1024
  bcast_S1024_S1024x1_0 : S1024.BroadcastsInDim S1024x1 (![0] : Fin 1 → Fin S1024x1.rank)
  bcast_S_S1024x1 : S_.BroadcastsInDim S1024x1 (![] : Fin 0 → Fin S1024x1.rank)
  slices_S4x1024x2816_S1x1024x2816_3_0_0 : S4x1024x2816.Slices ![3, 0, 0] S1x1024x2816
  shapeCasts_S1x1024x2816_S1024x2816 : S1x1024x2816.ShapeCasts S1024x2816
  bcast_S_S1024x2816 : S_.BroadcastsInDim S1024x2816 (![] : Fin 0 → Fin S1024x2816.rank)
  bcast_S1024x1_S1024x2816_0_1 : S1024x1.BroadcastsInDim S1024x2816 (![0, 1] : Fin 2 → Fin S1024x2816.rank)

variable [Facts]

def fn {F : FTy → Type} [FloatOps F] (main_arg0 : FVec F S4x8192x1024 .f32) (main_arg1 : FVec F S4x1024 .f32) (main_arg2 : FVec F S4x1024x2816 .f32) (main_arg3 : FVec F S4x1024x2816 .f32) (main_arg4 : FVec F S4x2816x1024 .f32) (main_arg5 : FVec F S1024 .f32) : IVec S1024x2816 1 :=
  let main_v0 : FVec F S1x1024 .f32 := (extractStridedSlice S1x1024 ![3, 0] · slices_S4x1024_S1x1024_3_0) main_arg1
  let main_v1 : FVec F S1024 .f32 := shapeCast S1024 main_v0 shapeCasts_S1x1024_S1024
  let main_v2 : FVec F S1024 .f32 := Host.absf main_v1
  let main_v3 : FVec F S1024x1 .f32 := broadcastInDim S1024x1 ![0] bcast_S1024_S1024x1_0 main_v2
  let main_cst : FVec F S_ .f32 := constant S_ .f32 0x7F800000#32
  let main_v4 : FVec F S1024x1 .f32 := broadcastInDim S1024x1 ![] bcast_S_S1024x1 main_cst
  let main_v5 : IVec S1024x1 1 := cmpf .olt main_v3 main_v4
  let main_v6 : FVec F S1x1024x2816 .f32 := (extractStridedSlice S1x1024x2816 ![3, 0, 0] · slices_S4x1024x2816_S1x1024x2816_3_0_0) main_arg2
  let main_v7 : FVec F S1024x2816 .f32 := shapeCast S1024x2816 main_v6 shapeCasts_S1x1024x2816_S1024x2816
  let main_v8 : FVec F S1024x2816 .f32 := Host.absf main_v7
  let main_cst_0 : FVec F S_ .f32 := constant S_ .f32 0x7F800000#32
  let main_v9 : FVec F S1024x2816 .f32 := broadcastInDim S1024x2816 ![] bcast_S_S1024x2816 main_cst_0
  let main_v10 : IVec S1024x2816 1 := cmpf .olt main_v8 main_v9
  let main_v11 : IVec S1024x2816 1 := broadcastInDim S1024x2816 ![0, 1] bcast_S1024x1_S1024x2816_0_1 main_v5
  let main_v12 : IVec S1024x2816 1 := andi main_v11 main_v10
  main_v12
-- ==== Pre_ffn_mix_gate_finite.lean ====
abbrev S4x8192x1024 : Shape := ⟨3, ![4, 8192, 1024]⟩
abbrev S4x8192x512 : Shape := ⟨3, ![4, 8192, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S1024x1 : Shape := ⟨2, ![1024, 1]⟩
abbrev S_ : Shape := ⟨0, ![]⟩
abbrev S1x1024x2816 : Shape := ⟨3, ![1, 1024, 2816]⟩
abbrev S1024x2816 : Shape := ⟨2, ![1024, 2816]⟩

class Facts : Prop where
  slices_S4x1024_S1x1024_0_0 : S4x1024.Slices ![0, 0] S1x1024
  shapeCasts_S1x1024_S1024 : S1x1024.ShapeCasts S1024
  bcast_S1024_S1024x1_0 : S1024.BroadcastsInDim S1024x1 (![0] : Fin 1 → Fin S1024x1.rank)
  bcast_S_S1024x1 : S_.BroadcastsInDim S1024x1 (![] : Fin 0 → Fin S1024x1.rank)
  slices_S4x1024x2816_S1x1024x2816_0_0_0 : S4x1024x2816.Slices ![0, 0, 0] S1x1024x2816
  shapeCasts_S1x1024x2816_S1024x2816 : S1x1024x2816.ShapeCasts S1024x2816
  bcast_S_S1024x2816 : S_.BroadcastsInDim S1024x2816 (![] : Fin 0 → Fin S1024x2816.rank)
  bcast_S1024x1_S1024x2816_0_1 : S1024x1.BroadcastsInDim S1024x2816 (![0, 1] : Fin 2 → Fin S1024x2816.rank)

variable [Facts]

def fn {F : FTy → Type} [FloatOps F] (main_arg0 : FVec F S4x8192x1024 .f32) (main_arg1 : FVec F S4x8192x512 .bf16) (main_arg2 : FVec F S4x8192x512 .bf16) (main_arg3 : FVec F S2x1024x1024 .f32) (main_arg4 : FVec F S4x1024 .f32) (main_arg5 : FVec F S4x1024x2816 .f32) (main_arg6 : FVec F S4x1024x2816 .f32) (main_arg7 : FVec F S4x2816x1024 .f32) : IVec S1024x2816 1 :=
  let main_v0 : FVec F S1x1024 .f32 := (extractStridedSlice S1x1024 ![0, 0] · slices_S4x1024_S1x1024_0_0) main_arg4
  let main_v1 : FVec F S1024 .f32 := shapeCast S1024 main_v0 shapeCasts_S1x1024_S1024
  let main_v2 : FVec F S1024 .f32 := Host.absf main_v1
  let main_v3 : FVec F S1024x1 .f32 := broadcastInDim S1024x1 ![0] bcast_S1024_S1024x1_0 main_v2
  let main_cst : FVec F S_ .f32 := constant S_ .f32 0x7F800000#32
  let main_v4 : FVec F S1024x1 .f32 := broadcastInDim S1024x1 ![] bcast_S_S1024x1 main_cst
  let main_v5 : IVec S1024x1 1 := cmpf .olt main_v3 main_v4
  let main_v6 : FVec F S1x1024x2816 .f32 := (extractStridedSlice S1x1024x2816 ![0, 0, 0] · slices_S4x1024x2816_S1x1024x2816_0_0_0) main_arg5
  let main_v7 : FVec F S1024x2816 .f32 := shapeCast S1024x2816 main_v6 shapeCasts_S1x1024x2816_S1024x2816
  let main_v8 : FVec F S1024x2816 .f32 := Host.absf main_v7
  let main_cst_0 : FVec F S_ .f32 := constant S_ .f32 0x7F800000#32
  let main_v9 : FVec F S1024x2816 .f32 := broadcastInDim S1024x2816 ![] bcast_S_S1024x2816 main_cst_0
  let main_v10 : IVec S1024x2816 1 := cmpf .olt main_v8 main_v9
  let main_v11 : IVec S1024x2816 1 := broadcastInDim S1024x2816 ![0, 1] bcast_S1024x1_S1024x2816_0_1 main_v5
  let main_v12 : IVec S1024x2816 1 := andi main_v11 main_v10
  main_v12
-- ==== Pre_hyb_finite.lean ====
abbrev S4x8192x1024 : Shape := ⟨3, ![4, 8192, 1024]⟩
abbrev S4x1024 : Shape := ⟨2, ![4, 1024]⟩
abbrev S2x1024x3080 : Shape := ⟨3, ![2, 1024, 3080]⟩
abbrev S2x4x1024 : Shape := ⟨3, ![2, 4, 1024]⟩
abbrev S2x1024 : Shape := ⟨2, ![2, 1024]⟩
abbrev S2x8 : Shape := ⟨2, ![2, 8]⟩
abbrev S2x512 : Shape := ⟨2, ![2, 512]⟩
abbrev S1x1024x3080 : Shape := ⟨3, ![1, 1024, 3080]⟩
abbrev S1024x3080 : Shape := ⟨2, ![1024, 3080]⟩
abbrev S1024x1544 : Shape := ⟨2, ![1024, 1544]⟩
abbrev S1x1024 : Shape := ⟨2, ![1, 1024]⟩
abbrev S1024 : Shape := ⟨1, ![1024]⟩
abbrev S1024x1 : Shape := ⟨2, ![1024, 1]⟩
abbrev S1x4x1024 : Shape := ⟨3, ![1, 4, 1024]⟩
abbrev S1024x4 : Shape := ⟨2, ![1024, 4]⟩
abbrev S1x8 : Shape := ⟨2, ![1, 8]⟩
abbrev S8 : Shape := ⟨1, ![8]⟩
abbrev S1024x8 : Shape := ⟨2, ![1024, 8]⟩
abbrev S1024x1566 : Shape := ⟨2, ![1024, 1566]⟩
abbrev S_ : Shape := ⟨0, ![]⟩

class Facts : Prop where
  slices_S2x1024x3080_S1x1024x3080_0_0_0 : S2x1024x3080.Slices ![0, 0, 0] S1x1024x3080
  shapeCasts_S1x1024x3080_S1024x3080 : S1x1024x3080.ShapeCasts S1024x3080
  slices_S1024x3080_S1024x1544_0_1536 : S1024x3080.Slices ![0, 1536] S1024x1544
  slices_S4x1024_S1x1024_0_0 : S4x1024.Slices ![0, 0] S1x1024
  shapeCasts_S1x1024_S1024 : S1x1024.ShapeCasts S1024
  bcast_S1024_S1024x1_0 : S1024.BroadcastsInDim S1024x1 (![0] : Fin 1 → Fin S1024x1.rank)
  slices_S2x4x1024_S1x4x1024_0_0_0 : S2x4x1024.Slices ![0, 0, 0] S1x4x1024
  shapeCasts_S1x4x1024_S4x1024 : S1x4x1024.ShapeCasts S4x1024
  transposes_S4x1024_S1024x4_1_0 : S4x1024.Transposes [1, 0] S1024x4
  slices_S2x1024_S1x1024_0_0 : S2x1024.Slices ![0, 0] S1x1024
  slices_S2x8_S1x8_0_0 : S2x8.Slices ![0, 0] S1x8
  shapeCasts_S1x8_S8 : S1x8.ShapeCasts S8
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  concatenates_S1024x1544_S1024x1_S1024x4_S1024x1_S1024x8_S1024x8_S1024x1566_d1 : Shape.Concatenates [S1024x1544, S1024x1, S1024x4, S1024x1, S1024x8, S1024x8] S1024x1566 1
  bcast_S_S1024x1566 : S_.BroadcastsInDim S1024x1566 (![] : Fin 0 → Fin S1024x1566.rank)

variable [Facts]

def fn_part1 {F : FTy → Type} [FloatOps F] (main_v21 : FVec F S1024x1566 .f32) (main_v22 : FVec F S1024x1566 .f32) : IVec S1024x1566 1 :=
  let main_v23 : IVec S1024x1566 1 := cmpf .olt main_v21 main_v22
  main_v23

def fn {F : FTy → Type} [FloatOps F] (main_arg0 : FVec F S4x8192x1024 .f32) (main_arg1 : FVec F S4x1024 .f32) (main_arg2 : FVec F S2x1024x3080 .f32) (main_arg3 : FVec F S2x4x1024 .f32) (main_arg4 : FVec F S2x1024 .f32) (main_arg5 : FVec F S2x8 .f32) (main_arg6 : FVec F S2x8 .f32) (main_arg7 : FVec F S2x8 .f32) (main_arg8 : FVec F S2x512 .f32) : IVec S1024x1566 1 :=
  let main_v0 : FVec F S1x1024x3080 .f32 := (extractStridedSlice S1x1024x3080 ![0, 0, 0] · slices_S2x1024x3080_S1x1024x3080_0_0_0) main_arg2
  let main_v1 : FVec F S1024x3080 .f32 := shapeCast S1024x3080 main_v0 shapeCasts_S1x1024x3080_S1024x3080
  let main_v2 : FVec F S1024x1544 .f32 := (extractStridedSlice S1024x1544 ![0, 1536] · slices_S1024x3080_S1024x1544_0_1536) main_v1
  let main_v3 : FVec F S1x1024 .f32 := (extractStridedSlice S1x1024 ![0, 0] · slices_S4x1024_S1x1024_0_0) main_arg1
  let main_v4 : FVec F S1024 .f32 := shapeCast S1024 main_v3 shapeCasts_S1x1024_S1024
  let main_v5 : FVec F S1024x1 .f32 := broadcastInDim S1024x1 ![0] bcast_S1024_S1024x1_0 main_v4
  let main_v6 : FVec F S1x4x1024 .f32 := (extractStridedSlice S1x4x1024 ![0, 0, 0] · slices_S2x4x1024_S1x4x1024_0_0_0) main_arg3
  let main_v7 : FVec F S4x1024 .f32 := shapeCast S4x1024 main_v6 shapeCasts_S1x4x1024_S4x1024
  let main_v8 : FVec F S1024x4 .f32 := (transpose S1024x4 [1, 0] · transposes_S4x1024_S1024x4_1_0) main_v7
  let main_v9 : FVec F S1x1024 .f32 := (extractStridedSlice S1x1024 ![0, 0] · slices_S2x1024_S1x1024_0_0) main_arg4
  let main_v10 : FVec F S1024 .f32 := shapeCast S1024 main_v9 shapeCasts_S1x1024_S1024
  let main_v11 : FVec F S1024x1 .f32 := broadcastInDim S1024x1 ![0] bcast_S1024_S1024x1_0 main_v10
  let main_v12 : FVec F S1x8 .f32 := (extractStridedSlice S1x8 ![0, 0] · slices_S2x8_S1x8_0_0) main_arg5
  let main_v13 : FVec F S8 .f32 := shapeCast S8 main_v12 shapeCasts_S1x8_S8
  let main_v14 : FVec F S1x8 .f32 := broadcastInDim S1x8 ![1] bcast_S8_S1x8_1 main_v13
  let main_v15 : FVec F S1024x8 .f32 := broadcastInDim S1024x8 ![0, 1] bcast_S1x8_S1024x8_0_1 main_v14
  let main_v16 : FVec F S1x8 .f32 := (extractStridedSlice S1x8 ![0, 0] · slices_S2x8_S1x8_0_0) main_arg6
  let main_v17 : FVec F S8 .f32 := shapeCast S8 main_v16 shapeCasts_S1x8_S8
  let main_v18 : FVec F S1x8 .f32 := broadcastInDim S1x8 ![1] bcast_S8_S1x8_1 main_v17
  let main_v19 : FVec F S1024x8 .f32 := broadcastInDim S1024x8 ![0, 1] bcast_S1x8_S1024x8_0_1 main_v18
  let main_v20 : FVec F S1024x1566 .f32 := concatenate S1024x1566 1 [⟨S1024x1544, main_v2⟩, ⟨S1024x1, main_v5⟩, ⟨S1024x4, main_v8⟩, ⟨S1024x1, main_v11⟩, ⟨S1024x8, main_v15⟩, ⟨S1024x8, main_v19⟩] concatenates_S1024x1544_S1024x1_S1024x4_S1024x1_S1024x8_S1024x8_S1024x1566_d1
  let main_v21 : FVec F S1024x1566 .f32 := Host.absf main_v20
  let main_cst : FVec F S_ .f32 := constant S_ .f32 0x7F800000#32
  let main_v22 : FVec F S1024x1566 .f32 := broadcastInDim S1024x1566 ![] bcast_S_S1024x1566 main_cst
  fn_part1 (F := F) main_v21 main_v22
-- ==== ShortConv.lean ====
abbrev S4x8192x1024 : Shape := ⟨3, ![4, 8192, 1024]⟩
abbrev S4x1024 : Shape := ⟨2, ![4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S32768x1024 : Shape := ⟨2, ![32768, 1024]⟩
abbrev S1x1024 : Shape := ⟨2, ![1, 1024]⟩
abbrev S1024 : Shape := ⟨1, ![1024]⟩
abbrev S1x3x1024 : Shape := ⟨3, ![1, 3, 1024]⟩
abbrev S3x1024 : Shape := ⟨2, ![3, 1024]⟩
abbrev S1x1024x3072 : Shape := ⟨3, ![1, 1024, 3072]⟩
abbrev S1024x3072 : Shape := ⟨2, ![1024, 3072]⟩
abbrev S1x1024x1024 : Shape := ⟨3, ![1, 1024, 1024]⟩
abbrev S1024x1024 : Shape := ⟨2, ![1024, 1024]⟩
abbrev S512x1024 : Shape := ⟨2, ![512, 1024]⟩
abbrev S2x520x1024 : Shape := ⟨3, ![2, 520, 1024]⟩
abbrev S2x512x1024 : Shape := ⟨3, ![2, 512, 1024]⟩
abbrev S512 : Shape := ⟨1, ![512]⟩
abbrev S512x1 : Shape := ⟨2, ![512, 1]⟩
abbrev S1x256 : Shape := ⟨2, ![1, 256]⟩
abbrev S1x512x256 : Shape := ⟨3, ![1, 512, 256]⟩
abbrev S512x256 : Shape := ⟨2, ![512, 256]⟩
abbrev S1x256x1024 : Shape := ⟨3, ![1, 256, 1024]⟩
abbrev S256x1024 : Shape := ⟨2, ![256, 1024]⟩
abbrev S1x8x1024 : Shape := ⟨3, ![1, 8, 1024]⟩
abbrev S8x1024 : Shape := ⟨2, ![8, 1024]⟩
abbrev S1x512x1024 : Shape := ⟨3, ![1, 512, 1024]⟩

abbrev nBuf : Space → Nat
  | .hbm => 16
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x3x1024, .f32⟩
  | .hbm, ⟨9, _⟩ => ⟨S3x1024, .f32⟩
  | .hbm, ⟨10, _⟩ => ⟨S1x1024x3072, .f32⟩
  | .hbm, ⟨11, _⟩ => ⟨S1024x3072, .f32⟩
  | .hbm, ⟨12, _⟩ => ⟨S1x1024x1024, .f32⟩
  | .hbm, ⟨13, _⟩ => ⟨S1024x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024x3072, .f32⟩
  | .local _ .vmem, ⟨6, _⟩ => ⟨S3x1024, .f32⟩
  | .local _ .vmem, ⟨7, _⟩ => ⟨S1x1024x1024, .f32⟩
  | .local _ .vmem, ⟨8, _⟩ => ⟨S512x1024, .f32⟩
  | .local _ .vmem, ⟨9, _⟩ => ⟨S512x1024, .f32⟩
  | .local _ .vmem, ⟨10, _⟩ => ⟨S2x520x1024, .f32⟩
  | .local _ .vmem, ⟨11, _⟩ => ⟨S2x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ShortConvRefIdeal.lean ====
abbrev S4x8192x1024 : Shape := ⟨3, ![4, 8192, 1024]⟩
abbrev S4x1024 : Shape := ⟨2, ![4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S4x8192x3072 : Shape := ⟨3, ![4, 8192, 3072]⟩
abbrev S4x2x1024 : Shape := ⟨3, ![4, 2, 1024]⟩
abbrev S4x8194x1024 : Shape := ⟨3, ![4, 8194, 1024]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1x1024x3072, .f32⟩
  | .hbm, ⟨24, _⟩ => ⟨S1024x3072, .f32⟩
  | .hbm, ⟨25, _⟩ => ⟨S1x3x1024, .f32⟩
  | .hbm, ⟨26, _⟩ => ⟨S3x1024, .f32⟩
  | .hbm, ⟨27, _⟩ => ⟨S1x1024x1024, .f32⟩
  | .hbm, ⟨28, _⟩ => ⟨S1024x1024, .f32⟩
  | .hbm, ⟨29, _⟩ => ⟨S4x8192x3072, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x2x1024, .f32⟩
  | .hbm, ⟨36, _⟩ => ⟨S4x8194x1024, .f32⟩
  | .hbm, ⟨37, _⟩ => ⟨S1x1024, .f32⟩
  | .hbm, ⟨38, _⟩ => ⟨S1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S1x1024, .f32⟩
  | .hbm, ⟨44, _⟩ => ⟨S1024, .f32⟩
  | .hbm, ⟨45, _⟩ => ⟨S4x8192x1024, .f32⟩
  | .hbm, ⟨46, _⟩ => ⟨S1x1x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S1x1024, .f32⟩
  | .hbm, ⟨51, _⟩ => ⟨S1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Ffn.lean ====
abbrev S4x8192x1024 : Shape := ⟨3, ![4, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S1x1024 : Shape := ⟨2, ![1, 1024]⟩
abbrev S1024 : Shape := ⟨1, ![1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .f32⟩
  | .local _ .vmem, ⟨4, _⟩ => ⟨S1x1024x2816, .f32⟩
  | .local _ .vmem, ⟨5, _⟩ => ⟨S1x2816x1024, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S4x8192x1024 : Shape := ⟨3, ![4, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S_, .f32⟩
  | .hbm, ⟨33, _⟩ => ⟨S4x8192x2816, .f32⟩
  | .hbm, ⟨34, _⟩ => ⟨S4x8192x2816, .f32⟩
  | .hbm, ⟨35, _⟩ => ⟨S_, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x1024, .f32⟩
  | .hbm, ⟨42, _⟩ => ⟨S_, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== FfnLast.lean ====
abbrev S4x8192x1024 : Shape := ⟨3, ![4, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .f32⟩
  | .local _ .vmem, ⟨4, _⟩ => ⟨S1x1024x2816, .f32⟩
  | .local _ .vmem, ⟨5, _⟩ => ⟨S1x2816x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLastRefIdeal.lean ====
abbrev S4x8192x1024 : Shape := ⟨3, ![4, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S_, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S4x8192x1024, .f32⟩
  | .hbm, ⟨43, _⟩ => ⟨S_, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== FfnMix.lean ====
abbrev S4x8192x1024 : Shape := ⟨3, ![4, 8192, 1024]⟩
abbrev S4x8192x512 : Shape := ⟨3, ![4, 8192, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S1x1024 : Shape := ⟨2, ![1, 1024]⟩
abbrev S1024 : Shape := ⟨1, ![1024]⟩
abbrev S32768x512 : Shape := ⟨2, ![32768, 512]⟩
abbrev S512x1024 : Shape := ⟨2, ![512, 1024]⟩
abbrev S512x512 : Shape := ⟨2, ![512, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S32768x1024, .f32⟩
  | .hbm, ⟨9, _⟩ => ⟨S1x1024, .f32⟩
  | .hbm, ⟨10, _⟩ => ⟨S1024, .f32⟩
  | .hbm, ⟨11, _⟩ => ⟨S32768x512, .bf16⟩
  | .hbm, ⟨12, _⟩ => ⟨S32768x512, .bf16⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024x1024, .f32⟩
  | .local _ .vmem, ⟨7, _⟩ => ⟨S1x1024, .f32⟩
  | .local _ .vmem, ⟨8, _⟩ => ⟨S1x1024x2816, .f32⟩
  | .local _ .vmem, ⟨9, _⟩ => ⟨S1x1024x2816, .f32⟩
  | .local _ .vmem, ⟨10, _⟩ => ⟨S1x2816x1024, .f32⟩
  | .local _ .vmem, ⟨11, _⟩ => ⟨S512x1024, .f32⟩
  | .local _ .vmem, ⟨12, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnMixRefIdeal.lean ====
abbrev S4x8192x1024 : Shape := ⟨3, ![4, 8192, 1024]⟩
abbrev S4x8192x512 : Shape := ⟨3, ![4, 8192, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x8192x512, .f32⟩
  | .hbm, ⟨9, _⟩ => ⟨S4x8192x512, .f32⟩
  | .hbm, ⟨10, _⟩ => ⟨S4x8192x1024, .f32⟩
  | .hbm, ⟨11, _⟩ => ⟨S1x1024x1024, .f32⟩
  | .hbm, ⟨12, _⟩ => ⟨S1024x1024, .f32⟩
  | .hbm, ⟨13, _⟩ => ⟨S4x8192x1024, .f32⟩
  | .hbm, ⟨14, _⟩ => ⟨S4x8192x1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S1x1024x2816, .f32⟩
  | .hbm, ⟨34, _⟩ => ⟨S1024x2816, .f32⟩
  | .hbm, ⟨35, _⟩ => ⟨S1x1024x2816, .f32⟩
  | .hbm, ⟨36, _⟩ => ⟨S1024x2816, .f32⟩
  | .hbm, ⟨37, _⟩ => ⟨S1x2816x1024, .f32⟩
  | .hbm, ⟨38, _⟩ => ⟨S2816x1024, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S_, .f32⟩
  | .hbm, ⟨43, _⟩ => ⟨S4x8192x2816, .f32⟩
  | .hbm, ⟨44, _⟩ => ⟨S4x8192x2816, .f32⟩
  | .hbm, ⟨45, _⟩ => ⟨S_, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x1024, .f32⟩
  | .hbm, ⟨52, _⟩ => ⟨S_, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Hyb.lean ====
abbrev S4x8192x1024 : Shape := ⟨3, ![4, 8192, 1024]⟩
abbrev S4x1024 : Shape := ⟨2, ![4, 1024]⟩
abbrev S2x1024x3080 : Shape := ⟨3, ![2, 1024, 3080]⟩
abbrev S2x4x1024 : Shape := ⟨3, ![2, 4, 1024]⟩
abbrev S2x1024 : Shape := ⟨2, ![2, 1024]⟩
abbrev S2x8 : Shape := ⟨2, ![2, 8]⟩
abbrev S2x512 : Shape := ⟨2, ![2, 512]⟩
abbrev S1x1024x3080 : Shape := ⟨3, ![1, 1024, 3080]⟩
abbrev S1024x3080 : Shape := ⟨2, ![1024, 3080]⟩
abbrev S_ : Shape := ⟨0, ![]⟩
abbrev S1024x3200 : Shape := ⟨2, ![1024, 3200]⟩
abbrev S1024x512 : Shape := ⟨2, ![1024, 512]⟩
abbrev S1024x1024 : Shape := ⟨2, ![1024, 1024]⟩
abbrev S32768x1024 : Shape := ⟨2, ![32768, 1024]⟩
abbrev S1x1024 : Shape := ⟨2, ![1, 1024]⟩
abbrev S1024 : Shape := ⟨1, ![1024]⟩
abbrev S1x4x1024 : Shape := ⟨3, ![1, 4, 1024]⟩
abbrev S1x8 : Shape := ⟨2, ![1, 8]⟩
abbrev S8 : Shape := ⟨1, ![8]⟩
abbrev S1x512 : Shape := ⟨2, ![1, 512]⟩
abbrev S512 : Shape := ⟨1, ![512]⟩
abbrev S8x64 : Shape := ⟨2, ![8, 64]⟩
abbrev S128 : Shape := ⟨1, ![128]⟩
abbrev S1x128 : Shape := ⟨2, ![1, 128]⟩
abbrev S512x32768 : Shape := ⟨2, ![512, 32768]⟩
abbrev S32768x512 : Shape := ⟨2, ![32768, 512]⟩
abbrev S512x1024 : Shape := ⟨2, ![512, 1024]⟩
abbrev S512x512 : Shape := ⟨2, ![512, 512]⟩
abbrev S2x520x1024 : Shape := ⟨3, ![2, 520, 1024]⟩
abbrev S2x512x512 : Shape := ⟨3, ![2, 512, 512]⟩
abbrev S2x512x128 : Shape := ⟨3, ![2, 512, 128]⟩
abbrev S2x128x256 : Shape := ⟨3, ![2, 128, 256]⟩
abbrev S128x128 : Shape := ⟨2, ![128, 128]⟩
abbrev S128x256 : Shape := ⟨2, ![128, 256]⟩
abbrev S512x1 : Shape := ⟨2, ![512, 1]⟩
abbrev S1x128x128 : Shape := ⟨3, ![1, 128, 128]⟩
abbrev S1x128x1024 : Shape := ⟨3, ![1, 128, 1024]⟩
abbrev S128x1024 : Shape := ⟨2, ![128, 1024]⟩
abbrev S128x512 : Shape := ⟨2, ![128, 512]⟩
abbrev S256x1024 : Shape := ⟨2, ![256, 1024]⟩
abbrev S256x512 : Shape := ⟨2, ![256, 512]⟩
abbrev S128x1 : Shape := ⟨2, ![128, 1]⟩
abbrev S1x256 : Shape := ⟨2, ![1, 256]⟩
abbrev S1024x256 : Shape := ⟨2, ![1024, 256]⟩
abbrev S512x256 : Shape := ⟨2, ![512, 256]⟩
abbrev S1x128x256 : Shape := ⟨3, ![1, 128, 256]⟩
abbrev S1x128x512 : Shape := ⟨3, ![1, 128, 512]⟩
abbrev S1x512x256 : Shape := ⟨3, ![1, 512, 256]⟩
abbrev S1024x128 : Shape := ⟨2, ![1024, 128]⟩
abbrev S512x128 : Shape := ⟨2, ![512, 128]⟩
abbrev S1x512x128 : Shape := ⟨3, ![1, 512, 128]⟩
abbrev S1x8x1024 : Shape := ⟨3, ![1, 8, 1024]⟩
abbrev S8x1024 : Shape := ⟨2, ![8, 1024]⟩

abbrev nBuf : Space → Nat
  | .hbm => 53
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S2x1024x3080, .f32⟩
  | .hbm, ⟨3, _⟩ => ⟨S2x4x1024, .f32⟩
  | .hbm, ⟨4, _⟩ => ⟨S2x1024, .f32⟩
  | .hbm, ⟨5, _⟩ => ⟨S2x8, .f32⟩
  | .hbm, ⟨6, _⟩ => ⟨S2x8, .f32⟩
  | .hbm, ⟨7, _⟩ => ⟨S2x8, .f32⟩
  | .hbm, ⟨8, _⟩ => ⟨S2x512, .f32⟩
  | .hbm, ⟨9, _⟩ => ⟨S1x1024x3080, .f32⟩
  | .hbm, ⟨10, _⟩ => ⟨S1024x3080, .f32⟩
  | .hbm, ⟨11, _⟩ => ⟨S_, .i32⟩
  | .hbm, ⟨12, _⟩ => ⟨S_, .f32⟩
  | .hbm, ⟨13, _⟩ => ⟨S1024x3200, .f32⟩
  | .hbm, ⟨14, _⟩ => ⟨S1024x3200, .bf16⟩
  | .hbm, ⟨15, _⟩ => ⟨S1024x512, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S32768x1024, .f32⟩
  | .hbm, ⟨21, _⟩ => ⟨S1x1024, .f32⟩
  | .hbm, ⟨22, _⟩ => ⟨S1024, .f32⟩
  | .hbm, ⟨23, _⟩ => ⟨S1x4x1024, .f32⟩
  | .hbm, ⟨24, _⟩ => ⟨S4x1024, .f32⟩
  | .hbm, ⟨25, _⟩ => ⟨S1x1024, .f32⟩
  | .hbm, ⟨26, _⟩ => ⟨S1024, .f32⟩
  | .hbm, ⟨27, _⟩ => ⟨S1x8, .f32⟩
  | .hbm, ⟨28, _⟩ => ⟨S8, .f32⟩
  | .hbm, ⟨29, _⟩ => ⟨S1x8, .f32⟩
  | .hbm, ⟨30, _⟩ => ⟨S8, .f32⟩
  | .hbm, ⟨31, _⟩ => ⟨S1x8, .f32⟩
  | .hbm, ⟨32, _⟩ => ⟨S8, .f32⟩
  | .hbm, ⟨33, _⟩ => ⟨S1x512, .f32⟩
  | .hbm, ⟨34, _⟩ => ⟨S512, .f32⟩
  | .hbm, ⟨35, _⟩ => ⟨S8x64, .f32⟩
  | .hbm, ⟨36, _⟩ => ⟨S512, .f32⟩
  | .hbm, ⟨37, _⟩ => ⟨S1x512, .f32⟩
  | .hbm, ⟨38, _⟩ => ⟨S1x1024, .f32⟩
  | .hbm, ⟨39, _⟩ => ⟨S1x1024, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S1x512, .f32⟩
  | .hbm, ⟨49, _⟩ => ⟨S512x32768, .bf16⟩
  | .hbm, ⟨50, _⟩ => ⟨S32768x512, .bf16⟩
  | .hbm, ⟨51, _⟩ => ⟨S512x32768, .bf16⟩
  | .hbm, ⟨52, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S1024x1024, .bf16⟩
  | .local _ .vmem, ⟨5, _⟩ => ⟨S4x1024, .f32⟩
  | .local _ .vmem, ⟨6, _⟩ => ⟨S1x1024, .f32⟩
  | .local _ .vmem, ⟨7, _⟩ => ⟨S1x128, .f32⟩
  | .local _ .vmem, ⟨8, _⟩ => ⟨S1x128, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S2x520x1024, .f32⟩
  | .local _ .vmem, ⟨20, _⟩ => ⟨S2x512x512, .f32⟩
  | .local _ .vmem, ⟨21, _⟩ => ⟨S2x512x128, .f32⟩
  | .local _ .vmem, ⟨22, _⟩ => ⟨S2x128x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_0 : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_c_1 : Ref sig .tc := ⟨.hbm, 44, rfl⟩
abbrev main_call2_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== HybIdeal.lean ====
variable {F : FTy → Type} [FloatOps F] [Named F]
def κ : String → Option EReal := fun
  | "mask" => some ⊥
  | _ => none
-- ==== HybRefIdeal.lean ====
abbrev S4x8192x1024 : Shape := ⟨3, ![4, 8192, 1024]⟩
abbrev S4x1024 : Shape := ⟨2, ![4, 1024]⟩
abbrev S2x1024x3080 : Shape := ⟨3, ![2, 1024, 3080]⟩
abbrev S2x4x1024 : Shape := ⟨3, ![2, 4, 1024]⟩
abbrev S2x1024 : Shape := ⟨2, ![2, 1024]⟩
abbrev S2x8 : Shape := ⟨2, ![2, 8]⟩
abbrev S2x512 : Shape := ⟨2, ![2, 512]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x3080 : Shape := ⟨3, ![1, 1024, 3080]⟩
abbrev S1024x3080 : Shape := ⟨2, ![1024, 3080]⟩
abbrev S4x8192x3080 : Shape := ⟨3, ![4, 8192, 3080]⟩
abbrev S4x8192x512 : Shape := ⟨3, ![4, 8192, 512]⟩
abbrev S4x8192x8 : Shape := ⟨3, ![4, 8192, 8]⟩
abbrev S1x4x1024 : Shape := ⟨3, ![1, 4, 1024]⟩
abbrev S4x3x1024 : Shape := ⟨3, ![4, 3, 1024]⟩
abbrev S4x8195x1024 : Shape := ⟨3, ![4, 8195, 1024]⟩
abbrev S4x8192x256 : Shape := ⟨3, ![4, 8192, 256]⟩
abbrev S4x8192x8x64 : Shape := ⟨4, ![4, 8192, 8, 64]⟩
abbrev S4x8192x2x128 : Shape := ⟨4, ![4, 8192, 2, 128]⟩
abbrev S4x8192x2x4x128 : Shape := ⟨5, ![4, 8192, 2, 4, 128]⟩
abbrev S4x8192x8x128 : Shape := ⟨4, ![4, 8192, 8, 128]⟩
abbrev S1x8 : Shape := ⟨2, ![1, 8]⟩
abbrev S8 : Shape := ⟨1, ![8]⟩
abbrev S1x1x8 : Shape := ⟨3, ![1, 1, 8]⟩
abbrev S4x8192x8x1 : Shape := ⟨4, ![4, 8192, 8, 1]⟩
abbrev S4x64x128x8x64 : Shape := ⟨5, ![4, 64, 128, 8, 64]⟩
abbrev S4x64x128x8x128 : Shape := ⟨5, ![4, 64, 128, 8, 128]⟩
abbrev S4x64x128x8 : Shape := ⟨4, ![4, 64, 128, 8]⟩
abbrev S4x8x64x128 : Shape := ⟨4, ![4, 8, 64, 128]⟩
abbrev S4x8x64x128x1 : Shape := ⟨5, ![4, 8, 64, 128, 1]⟩
abbrev S4x8x64x1x128 : Shape := ⟨5, ![4, 8, 64, 1, 128]⟩
abbrev S4x8x64x128x128 : Shape := ⟨5, ![4, 8, 64, 128, 128]⟩
abbrev S128x128 : Shape := ⟨2, ![128, 128]⟩
abbrev S4x64x8x64x128 : Shape := ⟨5, ![4, 64, 8, 64, 128]⟩
abbrev S4x8x64x1 : Shape := ⟨4, ![4, 8, 64, 1]⟩
abbrev S4x64x128x8x1 : Shape := ⟨5, ![4, 64, 128, 8, 1]⟩
abbrev S4x1x8x64x128 : Shape := ⟨5, ![4, 1, 8, 64, 128]⟩
abbrev S4x65x8x64x128 : Shape := ⟨5, ![4, 65, 8, 64, 128]⟩
abbrev S4x8x64 : Shape := ⟨3, ![4, 8, 64]⟩
abbrev S4x8x65 : Shape := ⟨3, ![4, 8, 65]⟩
abbrev S4x8x65x1 : Shape := ⟨4, ![4, 8, 65, 1]⟩
abbrev S4x8x1x65 : Shape := ⟨4, ![4, 8, 1, 65]⟩
abbrev S4x8x65x65 : Shape := ⟨4, ![4, 8, 65, 65]⟩
abbrev S65x65 : Shape := ⟨2, ![65, 65]⟩
abbrev S4x8x64x128x65 : Shape := ⟨5, ![4, 8, 64, 128, 65]⟩
abbrev S8x1 : Shape := ⟨2, ![8, 1]⟩
abbrev S1x1x8x1 : Shape := ⟨4, ![1, 1, 8, 1]⟩
abbrev S1x512 : Shape := ⟨2, ![1, 512]⟩
abbrev S512 : Shape := ⟨1, ![512]⟩
abbrev S4x8192x2x256 : Shape := ⟨4, ![4, 8192, 2, 256]⟩
abbrev S4x8192x2 : Shape := ⟨3, ![4, 8192, 2]⟩
abbrev S4x8192x2x1 : Shape := ⟨4, ![4, 8192, 2, 1]⟩
abbrev S1x1x512 : Shape := ⟨3, ![1, 1, 512]⟩
abbrev S32768x512 : Shape := ⟨2, ![32768, 512]⟩
abbrev S512x32768 : Shape := ⟨2, ![512, 32768]⟩

abbrev nBuf : Space → Nat
  | .hbm => 264
  | .vmem => 0
  | .smem => 0
  | _ => 0

abbrev hbmTy0_0 (i : Nat) : BufTy := match i % 128 with
  | 0 => ⟨S4x8192x1024, .f32⟩
  | 1 => ⟨S4x1024, .f32⟩
  | 2 => ⟨S2x1024x3080, .f32⟩
  | 3 => ⟨S2x4x1024, .f32⟩
  | 4 => ⟨S2x1024, .f32⟩
  | 5 => ⟨S2x8, .f32⟩
  | 6 => ⟨S2x8, .f32⟩
  | 7 => ⟨S2x8, .f32⟩
  | 8 => ⟨S2x512, .f32⟩
  | 9 => ⟨S1x1024, .f32⟩
  | 10 => ⟨S1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | 27 => ⟨S1x1024x3080, .f32⟩
  | 28 => ⟨S1024x3080, .f32⟩
  | 29 => ⟨S4x8192x3080, .f32⟩
  | 30 => ⟨S4x8192x512, .f32⟩
  | 31 => ⟨S4x8192x512, .f32⟩
  | 32 => ⟨S4x8192x512, .f32⟩
  | 33 => ⟨S4x8192x512, .f32⟩
  | 34 => ⟨S4x8192x1024, .f32⟩
  | 35 => ⟨S4x8192x8, .f32⟩
  | 36 => ⟨S1x4x1024, .f32⟩
  | 37 => ⟨S4x1024, .f32⟩
  | 38 => ⟨S_, .f32⟩
  | 39 => ⟨S4x3x1024, .f32⟩
  | 40 => ⟨S4x8195x1024, .f32⟩
  | 41 => ⟨S1x1024, .f32⟩
  | 42 => ⟨S1024, .f32⟩
  | 43 => ⟨S4x8192x1024, .f32⟩
  | 44 => ⟨S1x1x1024, .f32⟩
  | 45 => ⟨S4x8192x1024, .f32⟩
  | 46 => ⟨S4x8192x1024, .f32⟩
  | 47 => ⟨S1x1024, .f32⟩
  | 48 => ⟨S1024, .f32⟩
  | 49 => ⟨S4x8192x1024, .f32⟩
  | 50 => ⟨S1x1x1024, .f32⟩
  | 51 => ⟨S4x8192x1024, .f32⟩
  | 52 => ⟨S4x8192x1024, .f32⟩
  | 53 => ⟨S4x8192x1024, .f32⟩
  | 54 => ⟨S1x1024, .f32⟩
  | 55 => ⟨S1024, .f32⟩
  | 56 => ⟨S4x8192x1024, .f32⟩
  | 57 => ⟨S1x1x1024, .f32⟩
  | 58 => ⟨S4x8192x1024, .f32⟩
  | 59 => ⟨S4x8192x1024, .f32⟩
  | 60 => ⟨S4x8192x1024, .f32⟩
  | 61 => ⟨S1x1024, .f32⟩
  | 62 => ⟨S1024, .f32⟩
  | 63 => ⟨S4x8192x1024, .f32⟩
  | 64 => ⟨S1x1x1024, .f32⟩
  | 65 => ⟨S4x8192x1024, .f32⟩
  | 66 => ⟨S4x8192x1024, .f32⟩
  | 67 => ⟨S4x8192x1024, .f32⟩
  | 68 => ⟨S1x1024, .f32⟩
  | 69 => ⟨S1024, .f32⟩
  | 70 => ⟨S1x1x1024, .f32⟩
  | 71 => ⟨S4x8192x1024, .f32⟩
  | 72 => ⟨S4x8192x1024, .f32⟩
  | 73 => ⟨S4x8192x1024, .f32⟩
  | 74 => ⟨S4x8192x1024, .f32⟩
  | 75 => ⟨S_, .f32⟩
  | 76 => ⟨S4x8192x1024, .f32⟩
  | 77 => ⟨S4x8192x1024, .f32⟩
  | 78 => ⟨S_, .f32⟩
  | 79 => ⟨S4x8192x1024, .f32⟩
  | 80 => ⟨S4x8192x1024, .f32⟩
  | 81 => ⟨S4x8192x1024, .f32⟩
  | 82 => ⟨S4x8192x512, .f32⟩
  | 83 => ⟨S4x8192x256, .f32⟩
  | 84 => ⟨S4x8192x256, .f32⟩
  | 85 => ⟨S4x8192x8x64, .f32⟩
  | 86 => ⟨S4x8192x2x128, .f32⟩
  | 87 => ⟨S4x8192x2x4x128, .f32⟩
  | 88 => ⟨S4x8192x8x128, .f32⟩
  | 89 => ⟨S4x8192x2x128, .f32⟩
  | 90 => ⟨S4x8192x2x4x128, .f32⟩
  | 91 => ⟨S4x8192x8x128, .f32⟩
  | 92 => ⟨S1x8, .f32⟩
  | 93 => ⟨S8, .f32⟩
  | 94 => ⟨S1x1x8, .f32⟩
  | 95 => ⟨S4x8192x8, .f32⟩
  | 96 => ⟨S4x8192x8, .f32⟩
  | 97 => ⟨S_, .f32⟩
  | 98 => ⟨S4x8192x8, .f32⟩
  | 99 => ⟨S4x8192x8, .f32⟩
  | 100 => ⟨S4x8192x8, .f32⟩
  | 101 => ⟨S4x8192x8, .f32⟩
  | 102 => ⟨S4x8192x8, .i1⟩
  | 103 => ⟨S4x8192x8, .f32⟩
  | 104 => ⟨S4x8192x8, .f32⟩
  | 105 => ⟨S4x8192x8, .f32⟩
  | 106 => ⟨S4x8192x8, .f32⟩
  | 107 => ⟨S4x8192x8, .f32⟩
  | 108 => ⟨S4x8192x8, .f32⟩
  | 109 => ⟨S4x8192x8, .f32⟩
  | 110 => ⟨S4x8192x8, .f32⟩
  | 111 => ⟨S1x8, .f32⟩
  | 112 => ⟨S8, .f32⟩
  | 113 => ⟨S8, .f32⟩
  | 114 => ⟨S8, .f32⟩
  | 115 => ⟨S4x8192x8x1, .f32⟩
  | 116 => ⟨S4x8192x8x64, .f32⟩
  | 117 => ⟨S4x8192x8x64, .f32⟩
  | 118 => ⟨S1x1x8, .f32⟩
  | 119 => ⟨S4x8192x8, .f32⟩
  | 120 => ⟨S4x8192x8, .f32⟩
  | 121 => ⟨S4x64x128x8x64, .f32⟩
  | 122 => ⟨S4x64x128x8x128, .f32⟩
  | 123 => ⟨S4x64x128x8x128, .f32⟩
  | 124 => ⟨S4x64x128x8, .f32⟩
  | 125 => ⟨S4x8x64x128, .f32⟩
  | 126 => ⟨S_, .f32⟩
  | 127 => ⟨S_, .f32⟩
  | _ => ⟨S4x8192x1024, .f32⟩

abbrev hbmTy0_1 (i : Nat) : BufTy := match i % 128 with
  | 0 => ⟨S4x8x64x128, .f32⟩
  | 1 => ⟨S_, .f32⟩
  | 2 => ⟨S_, .f32⟩
  | 3 => ⟨S4x8x64x128, .f32⟩
  | 4 => ⟨S4x8x64x128x1, .f32⟩
  | 5 => ⟨S4x8x64x1x128, .f32⟩
  | 6 => ⟨S4x8x64x128x128, .f32⟩
  | 7 => ⟨S4x8x64x128x128, .f32⟩
  | 8 => ⟨S4x8x64x128x128, .f32⟩
  | 9 => ⟨S_, .i1⟩
  | 10 => ⟨S128x128, .i1⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .i1⟩
  | 18 => ⟨S128x128, .i1⟩
  | 19 => ⟨S128x128, .i1⟩
  | 20 => ⟨S_, .f32⟩
  | 21 => ⟨S_, .f32⟩
  | 22 => ⟨S4x8x64x128x128, .i1⟩
  | 23 => ⟨S4x8x64x128x128, .f32⟩
  | 24 => ⟨S4x8x64x128x128, .f32⟩
  | 25 => ⟨S4x8x64x128x128, .f32⟩
  | 26 => ⟨S4x8x64x128x128, .f32⟩
  | 27 => ⟨S4x8x64x128x128, .f32⟩
  | 28 => ⟨S4x64x8x64x128, .f32⟩
  | 29 => ⟨S4x64x128x8x64, .f32⟩
  | 30 => ⟨S4x8x64x1, .f32⟩
  | 31 => ⟨S4x8x64x128, .f32⟩
  | 32 => ⟨S4x8x64x128, .f32⟩
  | 33 => ⟨S4x8x64x128, .f32⟩
  | 34 => ⟨S4x64x128x8, .f32⟩
  | 35 => ⟨S4x64x128x8x1, .f32⟩
  | 36 => ⟨S4x64x128x8x128, .f32⟩
  | 37 => ⟨S4x64x128x8x128, .f32⟩
  | 38 => ⟨S4x64x8x64x128, .f32⟩
  | 39 => ⟨S4x1x8x64x128, .f32⟩
  | 40 => ⟨S_, .f32⟩
  | 41 => ⟨S4x1x8x64x128, .f32⟩
  | 42 => ⟨S4x65x8x64x128, .f32⟩
  | 43 => ⟨S4x8x64x1, .f32⟩
  | 44 => ⟨S4x8x64, .f32⟩
  | 45 => ⟨S_, .i32⟩
  | 46 => ⟨S_, .f32⟩
  | 47 => ⟨S4x8x65, .f32⟩
  | 48 => ⟨S_, .f32⟩
  | 49 => ⟨S_, .f32⟩
  | 50 => ⟨S4x8x65, .f32⟩
  | 51 => ⟨S4x8x65x1, .f32⟩
  | 52 => ⟨S4x8x1x65, .f32⟩
  | 53 => ⟨S4x8x65x65, .f32⟩
  | 54 => ⟨S4x8x65x65, .f32⟩
  | 55 => ⟨S4x8x65x65, .f32⟩
  | 56 => ⟨S_, .i1⟩
  | 57 => ⟨S65x65, .i1⟩
  | 58 => ⟨S65x65, .i32⟩
  | 59 => ⟨S_, .i32⟩
  | 60 => ⟨S65x65, .i32⟩
  | 61 => ⟨S65x65, .i32⟩
  | 62 => ⟨S65x65, .i32⟩
  | 63 => ⟨S65x65, .i1⟩
  | 64 => ⟨S_, .i1⟩
  | 65 => ⟨S65x65, .i1⟩
  | 66 => ⟨S65x65, .i1⟩
  | 67 => ⟨S_, .f32⟩
  | 68 => ⟨S_, .f32⟩
  | 69 => ⟨S4x8x65x65, .i1⟩
  | 70 => ⟨S4x8x65x65, .f32⟩
  | 71 => ⟨S4x8x65x65, .f32⟩
  | 72 => ⟨S4x8x65x65, .f32⟩
  | 73 => ⟨S4x8x64x128x65, .f32⟩
  | 74 => ⟨S4x65x8x64x128, .f32⟩
  | 75 => ⟨S4x64x8x64x128, .f32⟩
  | 76 => ⟨S4x64x8x64x128, .f32⟩
  | 77 => ⟨S4x64x128x8x64, .f32⟩
  | 78 => ⟨S4x8x64x128, .f32⟩
  | 79 => ⟨S4x64x128x8, .f32⟩
  | 80 => ⟨S4x64x128x8x1, .f32⟩
  | 81 => ⟨S4x64x128x8x64, .f32⟩
  | 82 => ⟨S4x64x128x8x64, .f32⟩
  | 83 => ⟨S4x64x128x8x64, .f32⟩
  | 84 => ⟨S4x8192x8x64, .f32⟩
  | 85 => ⟨S1x8, .f32⟩
  | 86 => ⟨S8, .f32⟩
  | 87 => ⟨S8x1, .f32⟩
  | 88 => ⟨S1x1x8x1, .f32⟩
  | 89 => ⟨S4x8192x8x64, .f32⟩
  | 90 => ⟨S4x8192x8x64, .f32⟩
  | 91 => ⟨S4x8192x8x64, .f32⟩
  | 92 => ⟨S4x8192x512, .f32⟩
  | 93 => ⟨S1x512, .f32⟩
  | 94 => ⟨S512, .f32⟩
  | 95 => ⟨S4x8192x512, .f32⟩
  | 96 => ⟨S4x8192x512, .f32⟩
  | 97 => ⟨S_, .f32⟩
  | 98 => ⟨S4x8192x512, .f32⟩
  | 99 => ⟨S4x8192x512, .f32⟩
  | 100 => ⟨S_, .f32⟩
  | 101 => ⟨S4x8192x512, .f32⟩
  | 102 => ⟨S4x8192x512, .f32⟩
  | 103 => ⟨S4x8192x512, .f32⟩
  | 104 => ⟨S4x8192x512, .f32⟩
  | 105 => ⟨S4x8192x2x256, .f32⟩
  | 106 => ⟨S4x8192x2x256, .f32⟩
  | 107 => ⟨S_, .f32⟩
  | 108 => ⟨S4x8192x2, .f32⟩
  | 109 => ⟨S4x8192x2x1, .f32⟩
  | 110 => ⟨S_, .f32⟩
  | 111 => ⟨S4x8192x2x1, .f32⟩
  | 112 => ⟨S4x8192x2x1, .f32⟩
  | 113 => ⟨S_, .f32⟩
  | 114 => ⟨S4x8192x2x1, .f32⟩
  | 115 => ⟨S4x8192x2x1, .f32⟩
  | 116 => ⟨S4x8192x2x1, .f32⟩
  | 117 => ⟨S4x8192x2x256, .f32⟩
  | 118 => ⟨S4x8192x2x256, .f32⟩
  | 119 => ⟨S4x8192x512, .f32⟩
  | 120 => ⟨S1x1x512, .f32⟩
  | 121 => ⟨S4x8192x512, .f32⟩
  | 122 => ⟨S4x8192x512, .f32⟩
  | 123 => ⟨S32768x512, .f32⟩
  | 124 => ⟨S_, .f32⟩
  | 125 => ⟨S32768x512, .f32⟩
  | 126 => ⟨S32768x512, .f32⟩
  | 127 => ⟨S512x32768, .f32⟩
  | _ => ⟨S4x8192x1024, .f32⟩

abbrev hbmTy0_2 (i : Nat) : BufTy := match i % 128 with
  | 0 => ⟨S512x32768, .bf16⟩
  | 1 => ⟨S32768x512, .f32⟩
  | 2 => ⟨S32768x512, .bf16⟩
  | 3 => ⟨S32768x512, .f32⟩
  | 4 => ⟨S512x32768, .f32⟩
  | 5 => ⟨S512x32768, .bf16⟩
  | 6 => ⟨S32768x512, .f32⟩
  | 7 => ⟨S32768x512, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_call2_call0_cst : Ref sig .tc := ⟨.hbm, 126, rfl⟩
abbrev main_call2_call0_v0 : Ref sig .tc := ⟨.hbm, 127, rfl⟩
abbrev main_v92 : Ref sig .tc := ⟨.hbm, 128, rfl⟩
abbrev main_call3_call0_cst : Ref sig .tc := ⟨.hbm, 129, rfl⟩
abbrev main_call3_call0_v0 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c : Ref sig .tc := ⟨.hbm, 137, rfl⟩
abbrev main_v99 : Ref sig .tc := ⟨.hbm, 138, rfl⟩
abbrev main_call4_v0 : Ref sig .tc := ⟨.hbm, 139, rfl⟩
abbrev main_call4_c : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_c_0 : Ref sig .tc := ⟨.hbm, 145, rfl⟩
abbrev main_call4_v5 : Ref sig .tc := ⟨.hbm, 146, rfl⟩
abbrev main_v100 : Ref sig .tc := ⟨.hbm, 147, rfl⟩
abbrev main_cst_3 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_4 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_5 : Ref sig .tc := ⟨.hbm, 173, rfl⟩
abbrev main_call6_v0 : Ref sig .tc := ⟨.hbm, 174, rfl⟩
abbrev main_v121 : Ref sig .tc := ⟨.hbm, 175, rfl⟩
abbrev main_call7_call0_cst : Ref sig .tc := ⟨.hbm, 176, rfl⟩
abbrev main_call7_call0_v0 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_c_6 : Ref sig .tc := ⟨.hbm, 184, rfl⟩
abbrev main_v128 : Ref sig .tc := ⟨.hbm, 185, rfl⟩
abbrev main_call8_v0 : Ref sig .tc := ⟨.hbm, 186, rfl⟩
abbrev main_call8_c : Ref sig .tc := ⟨.hbm, 187, rfl⟩
abbrev main_call8_v1 : Ref sig .tc := ⟨.hbm, 188, rfl⟩
abbrev main_call8_v2 : Ref sig .tc := ⟨.hbm, 189, rfl⟩
abbrev main_call8_v3 : Ref sig .tc := ⟨.hbm, 190, rfl⟩
abbrev main_call8_v4 : Ref sig .tc := ⟨.hbm, 191, rfl⟩
abbrev main_call8_c_0 : Ref sig .tc := ⟨.hbm, 192, rfl⟩
abbrev main_call8_v5 : Ref sig .tc := ⟨.hbm, 193, rfl⟩
abbrev main_v129 : Ref sig .tc := ⟨.hbm, 194, rfl⟩
abbrev main_cst_7 : Ref sig .tc := ⟨.hbm, 195, rfl⟩
abbrev main_call9_v0 : Ref sig .tc := ⟨.hbm, 196, rfl⟩
abbrev main_call9_v1 : Ref sig .tc := ⟨.hbm, 197, rfl⟩
abbrev main_call9_v2 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_call10_v0 : Ref sig .tc := ⟨.hbm, 223, rfl⟩
abbrev main_call10_v1 : Ref sig .tc := ⟨.hbm, 224, rfl⟩
abbrev main_call10_cst : Ref sig .tc := ⟨.hbm, 225, rfl⟩
abbrev main_call10_v2 : Ref sig .tc := ⟨.hbm, 226, rfl⟩
abbrev main_call10_v3 : Ref sig .tc := ⟨.hbm, 227, rfl⟩
abbrev main_call10_cst_0 : Ref sig .tc := ⟨.hbm, 228, rfl⟩
abbrev main_call10_v4 : Ref sig .tc := ⟨.hbm, 229, rfl⟩
abbrev main_call10_v5 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_8 : Ref sig .tc := ⟨.hbm, 235, rfl⟩
abbrev main_v158 : Ref sig .tc := ⟨.hbm, 236, rfl⟩
abbrev main_v159 : Ref sig .tc := ⟨.hbm, 237, rfl⟩
abbrev main_cst_9 : Ref sig .tc := ⟨.hbm, 238, rfl⟩
abbrev main_v160 : Ref sig .tc := ⟨.hbm, 239, rfl⟩
abbrev main_v161 : Ref sig .tc := ⟨.hbm, 240, rfl⟩
abbrev main_cst_10 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_cst_11 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩

abbrev nD : Nat := 1
abbrev τ : Topo := Topo.v7x

variable {F : FTy → Type} [FloatOps F]
-- ==== Proof.ShortConvPay.lean ====
/- What the stored values of the short-convolution call are at an index, over arbitrary block contents:
   the two projections that are kept in scratch, the gate, and the output tile assembled from four column chunks. -/
module

public import proofs.«01_k».proof.Proof.Gen.ShortConvIdeal.Value
public import Idealize.ShloMosaic.Lib.Pipeline.ValueKit

@[expose] public section

noncomputable section

open Idealize.ShloMosaic Idealize.ShloMosaic.TcCoe Idealize.SL.Sem

namespace Cert.ShortConvIdeal.Pay

open Cert.ShortConvIdeal Cert.ShortConvIdeal.Gen

/-! The two parities store the same terms; the text for odd points repeats the text for even ones. -/

theorem odd4 : @k0_pay4 = @k0_pay3 := rfl
theorem odd23 : @k0_pay23 = @k0_pay5 := rfl
theorem odd24 : @k0_pay24 = @k0_pay6 := rfl
theorem odd25 : @k0_pay25 = @k0_pay7 := rfl
theorem odd26 : @k0_pay26 = @k0_pay8 := rfl
theorem odd27 : @k0_pay27 = @k0_pay9 := rfl
theorem odd28 : @k0_pay28 = @k0_pay10 := rfl
theorem odd29 : @k0_pay29 = @k0_pay11 := rfl
theorem odd30 : @k0_pay30 = @k0_pay12 := rfl
theorem odd31 : @k0_pay31 = @k0_pay13 := rfl
theorem odd32 : @k0_pay32 = @k0_pay14 := rfl
theorem odd33 : @k0_pay33 = @k0_pay15 := rfl
theorem odd34 : @k0_pay34 = @k0_pay16 := rfl
theorem odd35 : @k0_pay35 = @k0_pay17 := rfl
theorem odd36 : @k0_pay36 = @k0_pay18 := rfl
theorem odd37 : @k0_pay37 = @k0_pay19 := rfl
theorem odd38 : @k0_pay38 = @k0_pay20 := rfl
theorem odd39 : @k0_pay39 = @k0_pay21 := rfl
theorem odd40 : @k0_pay40 = @k0_pay22 := rfl

/-- Row `r` of the normalised tile: `x · rsqrt(mean x² + eps) · w` at column `k`. -/
def normed (x : Vec Ideal S512x1024 .f32) (w : Vec Ideal S1x1024 .f32) (r : Fin 512) (k : Fin 1024) : EReal :=
  x (ix2 r k) * Ideal.rsqrt (Ideal.div (∑ l : Fin 1024, x (ix2 r l) * x (ix2 r l)) (Ideal.ofBits FTy.f32 1149239296#32)
    + Ideal.ofBits FTy.f32 897988541#32) * w (ix2 0 k)

/-- Column `j` of the input projection of the normalised tile. -/
def proj (x : Vec Ideal S512x1024 .f32) (w : Vec Ideal S1x1024 .f32) (v : Vec Ideal S1x1024x3072 .f32) (r : Fin 512)
    (j : Fin 3072) : EReal :=
  ∑ k : Fin 1024, normed x w r k * v (ix3 0 k j)

/-- The output gate of the tile. -/
def gate (x : Vec Ideal S512x1024 .f32) (w : Vec Ideal S1x1024 .f32) (v : Vec Ideal S1x1024x3072 .f32) (r : Fin 512)
    (d : Fin 1024) : EReal := proj x w v r ⟨d.val, by omega⟩

/-- What the convolution runs over: the input gate times the value, two thirds of the projection. -/
def fed (x : Vec Ideal S512x1024 .f32) (w : Vec Ideal S1x1024 .f32) (v : Vec Ideal S1x1024x3072 .f32) (r : Fin 512)
    (d : Fin 1024) : EReal := proj x w v r ⟨1024 + d.val, by omega⟩ * proj x w v r ⟨2048 + d.val, by omega⟩

/-- The gate as the kernel stores it. -/
theorem gate_eq (x w) (v : Vec Ideal S1x1024x3072 .f32) (inb) (r : Fin 512) (d : Fin 1024) :
    k0_pay3 (k0_pay6 x w (View.ld v (Rect.unit ![0, 0, 0] ![1, 1024, 1024] inb))) (ix3 0 r d) = gate x w v r d := by
  unfold k0_pay3 k0_pay6 k0_pay5
  pointwise
  unfold gate proj normed
  rfl

/-- The product that is convolved, as the kernel stores it. -/
theorem fed_eq (x w) (v : Vec Ideal S1x1024x3072 .f32) (inb inb') (r : Fin 512) (d : Fin 1024) :
    k0_pay22 (k0_pay10 (k0_pay5 x w) (View.ld v (Rect.unit ![0, 0, 1024] ![1, 1024, 1024] inb)))
      (k0_pay14 (k0_pay5 x w) (View.ld v (Rect.unit ![0, 0, 2048] ![1, 1024, 1024] inb'))) (ix3 0 r d)
      = fed x w v r d := by
  unfold k0_pay22 k0_pay10 k0_pay14 k0_pay5
  pointwise
  unfold fed proj normed
  rfl

/-- One term of the output projection: the gate times the three-tap convolution, times a weight. The scratch slot is `p`;
    the tile's row `r` sits eight rows down, the two rows before it at six and seven. -/
def term (p : Fin 2) (S0 : Vec Ideal S2x520x1024 .f32) (S1 : Vec Ideal S2x512x1024 .f32) (W : Vec Ideal S3x1024 .f32)
    (V : Vec Ideal S1x1024x1024 .f32) (r : Fin 512) (d k : Fin 1024) : EReal :=
  S1 (ix3 p r k) * (W (ix2 2 k) * S0 (ix3 p ⟨8 + r.val, by omega⟩ k) + W (ix2 0 k) * S0 (ix3 p ⟨6 + r.val, by omega⟩ k)
    + W (ix2 1 k) * S0 (ix3 p ⟨7 + r.val, by omega⟩ k)) * V (ix3 0 k d)

/-- One column chunk's product is the sum of the terms over its 256 columns. -/
theorem chunk_eq (p : Fin 2) (c : ℕ) (hc : c ≤ 768) (S0 : Vec Ideal S2x520x1024 .f32) (S1 : Vec Ideal S2x512x1024 .f32)
    (W : Vec Ideal S3x1024 .f32) (V : Vec Ideal S1x1024x1024 .f32) (i1 i2 i3 i4 i5 i6 i7 i8) (r : Fin 512) (d : Fin 1024) :
    k0_pay9 (k0_pay7 (View.ld W (Rect.unit ![2, c] ![1, 256] i1)) (View.ld S0 (Rect.unit ![p.val, 8, c] ![1, 512, 256] i2))
        (View.ld W (Rect.unit ![0, c] ![1, 256] i3)) (View.ld S0 (Rect.unit ![p.val, 6, c] ![1, 512, 256] i4)))
      (k0_pay8 (View.ld W (Rect.unit ![1, c] ![1, 256] i5))) (View.ld S0 (Rect.unit ![p.val, 7, c] ![1, 512, 256] i6))
      (View.ld S1 (Rect.unit ![p.val, 0, c] ![1, 512, 256] i7)) (View.ld V (Rect.unit ![0, c, 0] ![1, 256, 1024] i8)) (ix2 r d)
      = ∑ k : Fin 256, term p S0 S1 W V r d ⟨c + k.val, by omega⟩ := by
  unfold k0_pay9 k0_pay7 k0_pay8
  pointwise
  unfold term
  rfl

/-- A sum over 1024 columns, four chunks of 256. -/
theorem sum_chunks (f : Fin 1024 → EReal) :
    ∑ k, f k = ∑ k : Fin 256, f ⟨0 + k.val, by omega⟩ + ∑ k : Fin 256, f ⟨256 + k.val, by omega⟩
      + ∑ k : Fin 256, f ⟨512 + k.val, by omega⟩ + ∑ k : Fin 256, f ⟨768 + k.val, by omega⟩ := by
  have h := Fin.sum_univ_add (a := 768) (b := 256) f
  have h2 := Fin.sum_univ_add (a := 512) (b := 256) fun i => f (Fin.castAdd 256 i)
  have h3 := Fin.sum_univ_add (a := 256) (b := 256) fun i => f (Fin.castAdd 256 (Fin.castAdd 256 i))
  refine h.trans ?_
  rw [h2, h3]
  refine congrArg₂ _ (congrArg₂ _ (congrArg₂ _ ?_ ?_) ?_) ?_ <;> refine Finset.sum_congr rfl fun k _ => congrArg f (Fin.ext ?_) <;> simp <;> omega

/-- The output tile: the layer's input plus the gated convolution sent through the output projection. -/
theorem out_eq (p : Fin 2) (S0 : Vec Ideal S2x520x1024 .f32) (S1 : Vec Ideal S2x512x1024 .f32)
    (W : Vec Ideal S3x1024 .f32) (V : Vec Ideal S1x1024x1024 .f32) (X : Vec Ideal S512x1024 .f32)
    (a1 a2 a3 a4 a5 a6 a7 a8 b1 b2 b3 b4 b5 b6 b7 b8 c1 c2 c3 c4 c5 c6 c7 c8 d1 d2 d3 d4 d5 d6 d7 d8) (r : Fin 512)
    (d : Fin 1024) :
    k0_pay20
      (k0_pay17
        (k0_pay13
          (k0_pay9
            (k0_pay7 (View.ld W (Rect.unit ![2, 0] ![1, 256] a1)) (View.ld S0 (Rect.unit ![p.val, 8, 0] ![1, 512, 256] a2))
              (View.ld W (Rect.unit ![0, 0] ![1, 256] a3)) (View.ld S0 (Rect.unit ![p.val, 6, 0] ![1, 512, 256] a4)))
            (k0_pay8 (View.ld W (Rect.unit ![1, 0] ![1, 256] a5)))
            (View.ld S0 (Rect.unit ![p.val, 7, 0] ![1, 512, 256] a6))
            (View.ld S1 (Rect.unit ![p.val, 0, 0] ![1, 512, 256] a7))
            (View.ld V (Rect.unit ![0, 0, 0] ![1, 256, 1024] a8)))
          (k0_pay11 (View.ld W (Rect.unit ![2, 256] ![1, 256] b1))
            (View.ld S0 (Rect.unit ![p.val, 8, 256] ![1, 512, 256] b2)) (View.ld W (Rect.unit ![0, 256] ![1, 256] b3))
            (View.ld S0 (Rect.unit ![p.val, 6, 256] ![1, 512, 256] b4)))
          (k0_pay12 (View.ld W (Rect.unit ![1, 256] ![1, 256] b5)))
          (View.ld S0 (Rect.unit ![p.val, 7, 256] ![1, 512, 256] b6))
          (View.ld S1 (Rect.unit ![p.val, 0, 256] ![1, 512, 256] b7))
          (View.ld V (Rect.unit ![0, 256, 0] ![1, 256, 1024] b8)))
        (k0_pay15 (View.ld W (Rect.unit ![2, 512] ![1, 256] c1))
          (View.ld S0 (Rect.unit ![p.val, 8, 512] ![1, 512, 256] c2)) (View.ld W (Rect.unit ![0, 512] ![1, 256] c3))
          (View.ld S0 (Rect.unit ![p.val, 6, 512] ![1, 512, 256] c4)))
        (k0_pay16 (View.ld W (Rect.unit ![1, 512] ![1, 256] c5)))
        (View.ld S0 (Rect.unit ![p.val, 7, 512] ![1, 512, 256] c6))
        (View.ld S1 (Rect.unit ![p.val, 0, 512] ![1, 512, 256] c7))
        (View.ld V (Rect.unit ![0, 512, 0] ![1, 256, 1024] c8)))
      (k0_pay18 (View.ld W (Rect.unit ![2, 768] ![1, 256] d1))
        (View.ld S0 (Rect.unit ![p.val, 8, 768] ![1, 512, 256] d2)) (View.ld W (Rect.unit ![0, 768] ![1, 256] d3))
        (View.ld S0 (Rect.unit ![p.val, 6, 768] ![1, 512, 256] d4)) (View.ld W (Rect.unit ![1, 768] ![1, 256] d5))
        (View.ld S0 (Rect.unit ![p.val, 7, 768] ![1, 512, 256] d6)))
      (k0_pay19 (View.ld S1 (Rect.unit ![p.val, 0, 768] ![1, 512, 256] d7)))
      (View.ld V (Rect.unit ![0, 768, 0] ![1, 256, 1024] d8)) X (ix2 r d)
      = X (ix2 r d) + ∑ k, term p S0 S1 W V r d k := by
  rw [sum_chunks]
  unfold k0_pay20 k0_pay17 k0_pay13
  unfold k0_pay9 k0_pay7 k0_pay8 k0_pay11 k0_pay12 k0_pay15 k0_pay16 k0_pay18 k0_pay19
  pointwise
  rfl

/-- The eight rows kept from the tile before: zero at the start of a sequence. -/
theorem halo_eq (n : ℕ) (hn : n < 65) (z : Vec Ideal S1x8x1024 .f32) (r : Fin 8) (d : Fin 1024) :
    k0_pay21 (BitVec.ofNat 32 n) z (ix3 0 r d) = if n % 16 = 0 then 0 else z (ix3 0 r d) := by
  unfold k0_pay21
  pointwise
  have h : ∀ n : Fin 65, (Scalar.cmpi CmpIPredicate.eq
        (Scalar.select
          (Scalar.andi
            (Scalar.xori
              (Scalar.cmpi CmpIPredicate.slt
                (Scalar.remsi (BitVec.ofNat 32 n.val) (Scalar.select (Scalar.cmpi CmpIPredicate.eq 16#32 0#32) 1#32 16#32)) 0#32)
              (Scalar.cmpi CmpIPredicate.slt (Scalar.select (Scalar.cmpi CmpIPredicate.eq 16#32 0#32) 1#32 16#32) 0#32))
            (Scalar.cmpi CmpIPredicate.ne
              (Scalar.remsi (BitVec.ofNat 32 n.val) (Scalar.select (Scalar.cmpi CmpIPredicate.eq 16#32 0#32) 1#32 16#32)) 0#32))
          (Scalar.addi (Scalar.remsi (BitVec.ofNat 32 n.val) (Scalar.select (Scalar.cmpi CmpIPredicate.eq 16#32 0#32) 1#32 16#32))
            (Scalar.select (Scalar.cmpi CmpIPredicate.eq 16#32 0#32) 1#32 16#32))
          (Scalar.remsi (BitVec.ofNat 32 n.val) (Scalar.select (Scalar.cmpi CmpIPredicate.eq 16#32 0#32) 1#32 16#32)))
        0#32) = if n.val % 16 = 0 then 1#1 else 0#1 := by decide +kernel
  rw [h ⟨n, hn⟩]
  dsimp only
  split <;> simp [Scalar.select]

end Cert.ShortConvIdeal.Pay

end
-- ==== Proof.ShortConvPoint.lean ====
/- What one grid point of the short-convolution call leaves in the two scratch buffers and in the output tile. Point `t`
   projects tile `t` into slot `t % 2` and finishes tile `t − 1` out of the other slot. -/
module

public import proofs.«01_k».proof.Proof.ShortConvPay
public import Idealize.ShloMosaic.Lib.Pipeline.ReadBack
public import Idealize.ShloMosaic.Lib.WritesUnit

@[expose] public section

noncomputable section

open Idealize.ShloMosaic Idealize.ShloMosaic.TcCoe Idealize.SL.Sem

namespace Cert.ShortConvIdeal.Point

open Cert.ShortConvIdeal Cert.ShortConvIdeal.Gen Cert.ShortConvIdeal.Pay

variable (m : (ℓ : Loc nD τ sig) → Buf (Elt Ideal) ℓ)

theorem lt65 (t : Fin cfg0.N) : t.val < 65 := lt_of_lt_of_eq t.isLt (show cfg0.N = 65 from N_0)

/-- The grid has one axis, so a point's coordinate is its number. -/
theorem coord : ∀ t : Fin cfg0.N, (grid0.coords t 0).val = t.val := by decide +kernel

/-- The layer's input on tile `t − 1`, which point `t` adds its result to. -/
abbrev before (c : Dev nD) (t : Fin cfg0.N) : Vec Ideal S512x1024 .f32 := iblk m c 1 t

/-- The slot point `n` writes. -/
def slot (n : ℕ) : Fin 2 := ⟨n % 2, Nat.mod_lt _ (by decide)⟩

theorem slot_even {n : ℕ} (h : n % 2 = 0) : slot n = 0 := Fin.ext h
theorem slot_odd {n : ℕ} (h : n % 2 = 1) : slot n = 1 := Fin.ext h

/-- The first scratch after point `t`: its slot holds the tile's product below the eight kept rows. -/
theorem fed_kept (c : Dev nD) (t : Fin cfg0.N) (r : Fin 512) (d : Fin 1024) :
    (outsAt0 m c t.val t.isLt).2.1 (ix3 (slot t.val) ⟨8 + r.val, by omega⟩ d)
      = fed (iblk m c 0 t) (iblk m c 2 t) (iblk m c 3 t) r d := by
  have ht := lt65 t
  rcases Nat.mod_two_eq_zero_or_one t.val with h | h
  · rw [slot_even h]
    by_cases h0 : t.val = 0
    · rw [outsAt0_A m c t (by omega) h (by omega)]
      frame_open
      simp (disch := decide) only [↓ View.readCov_skip, ↓ View.readCov_cons_toLoadRect, ↓ View.readCov_fill]
      frame_out
      rw [show (ix3 (0 : Fin 2) (⟨8 + r.val, by omega⟩ : Fin 520) d : S2x520x1024.Idx)
        = (Rect.unit (s := S2x520x1024) ![0, 8, 0] ![1, 512, 1024] inb_S2x520x1024_S1x512x1024_0_8_0).emb (ix3 0 r d) from
        funext fun a => Fin.ext (by
          rw [ValueKit.rect_emb_unit_val]
          match a with | ⟨0, _⟩ => rfl | ⟨1, _⟩ => rfl | ⟨2, _⟩ => exact (Nat.zero_add _).symm)]
      exact (View.canon_cons_emb _ _ _ _).trans (fed_eq ..)
    · rw [outsAt0_C m c t (by omega) h (by omega)]
      frame_out
      refine (View.read_writes_cons_unit_of_mem _ _ _ _ _ _ (ix3 0 r d) rfl
        (fun a => match a with | ⟨0, _⟩ => rfl | ⟨1, _⟩ => rfl | ⟨2, _⟩ => (Nat.zero_add _).symm)).trans ?_
      exact fed_eq ..
  · rw [slot_odd h, outsAt0_B m c t (by omega) (by omega) h]
    frame_out
    simp only [odd4, odd23, odd24, odd25, odd26, odd27, odd28, odd29, odd30, odd31, odd32, odd33, odd34, odd35, odd36, odd37, odd38, odd39, odd40]
    refine (View.read_writes_cons_unit_of_mem _ _ _ _ _ _ (ix3 0 r d) rfl
        (fun a => match a with | ⟨0, _⟩ => rfl | ⟨1, _⟩ => rfl | ⟨2, _⟩ => (Nat.zero_add _).symm)).trans ?_
    exact fed_eq ..

/-- The eight kept rows after point `t`: zero at the start of a sequence, the last rows of the tile before otherwise. -/
theorem halo_kept (c : Dev nD) (t : Fin cfg0.N) (r : Fin 8) (d : Fin 1024) :
    (outsAt0 m c t.val t.isLt).2.1 (ix3 (slot t.val) ⟨r.val, by omega⟩ d)
      = if t.val % 16 = 0 then 0 else
        (outsAt0 m c (t.val - 1) (Nat.lt_of_le_of_lt (Nat.sub_le _ _) t.isLt)).2.1
          (ix3 (slot (t.val - 1)) ⟨512 + r.val, by omega⟩ d) := by
  have ht := lt65 t
  have hi : (grid0.coords t 0).val = t.val := coord t
  rcases Nat.mod_two_eq_zero_or_one t.val with h | h
  · rw [slot_even h]
    by_cases h0 : t.val = 0
    · rw [outsAt0_A m c t (by omega) h (by omega)]
      frame_open
      simp (disch := decide) only [↓ View.readCov_skip, ↓ View.readCov_cons_toLoadRect, ↓ View.readCov_fill]
      frame_out
      rw [hi]
      rw [View.canon_cons_of_not_mem _ _ (by
        rw [Rect.mem_set_unit]; intro hall; have := (hall 1).1; exact absurd this (by show ¬(8 ≤ r.val); omega))]
      rw [show (ix3 (0 : Fin 2) (⟨r.val, by omega⟩ : Fin 520) d : S2x520x1024.Idx)
        = (Rect.unit (s := S2x520x1024) ![0, 0, 0] S1x8x1024.size inb_S2x520x1024_S1x8x1024_0_0_0).emb (ix3 0 r d) from
        funext fun a => Fin.ext (by
          rw [ValueKit.rect_emb_unit_val]
          match a with | ⟨0, _⟩ => rfl | ⟨1, _⟩ => exact (Nat.zero_add _).symm | ⟨2, _⟩ => exact (Nat.zero_add _).symm)]
      refine (View.canon_cons_emb _ _ _ _).trans ?_
      rw [halo_eq _ ht, if_pos (by omega), if_pos (by omega)]
    · rw [slot_odd (n := t.val - 1) (by omega), outsAt0_C m c t (by omega) h (by omega)]
      frame_out
      rw [hi, View.read_writes_cons_unit_of_not_mem _ _ _ _ _ _ rfl (1 : Fin 3) (Or.inl (by simp))]
      refine (View.read_writes_cons_unit_of_mem _ _ _ _ _ _ (ix3 0 r d) rfl
        (fun a => match a with | ⟨0, _⟩ => rfl | ⟨1, _⟩ => (Nat.zero_add _).symm | ⟨2, _⟩ => (Nat.zero_add _).symm)).trans ?_
      rw [halo_eq _ ht]
      simp only [read_unread_whole]
      refine if_congr Iff.rfl rfl ?_
      exact View.ld_unit_apply_of _ _ _ _ _ _ fun a =>
        match a with | ⟨0, _⟩ => rfl | ⟨1, _⟩ => rfl | ⟨2, _⟩ => (Nat.zero_add _).symm
  · rw [slot_odd h, slot_even (n := t.val - 1) (by omega), outsAt0_B m c t (by omega) (by omega) h]
    frame_out
    simp only [odd39]
    rw [hi, View.read_writes_cons_unit_of_not_mem _ _ _ _ _ _ rfl (1 : Fin 3) (Or.inl (by simp))]
    refine (View.read_writes_cons_unit_of_mem _ _ _ _ _ _ (ix3 0 r d) rfl
      (fun a => match a with | ⟨0, _⟩ => rfl | ⟨1, _⟩ => (Nat.zero_add _).symm | ⟨2, _⟩ => (Nat.zero_add _).symm)).trans ?_
    rw [halo_eq _ ht]
    simp only [read_unread_whole]
    refine if_congr Iff.rfl rfl ?_
    exact View.ld_unit_apply_of _ _ _ _ _ _ fun a =>
      match a with | ⟨0, _⟩ => rfl | ⟨1, _⟩ => rfl | ⟨2, _⟩ => (Nat.zero_add _).symm

/-- The second scratch after point `t`: its slot holds the tile's output gate. -/
theorem gate_kept (c : Dev nD) (t : Fin cfg0.N) (r : Fin 512) (d : Fin 1024) :
    (outsAt0 m c t.val t.isLt).2.2 (ix3 (slot t.val) r d)
      = gate (iblk m c 0 t) (iblk m c 2 t) (iblk m c 3 t) r d := by
  have ht := lt65 t
  rcases Nat.mod_two_eq_zero_or_one t.val with h | h
  · rw [slot_even h]
    by_cases h0 : t.val = 0
    · rw [outsAt0_A m c t (by omega) h (by omega)]
      frame_open
      simp (disch := decide) only [↓ View.readCov_skip, ↓ View.readCov_cons_toLoadRect, ↓ View.readCov_fill]
      frame_out
      rw [show (ix3 (0 : Fin 2) r d : S2x512x1024.Idx)
        = (Rect.unit (s := S2x512x1024) ![0, 0, 0] ![1, 512, 1024] inb_S2x512x1024_S1x512x1024_0_0_0).emb (ix3 0 r d) from
        funext fun a => Fin.ext (by
          rw [ValueKit.rect_emb_unit_val]
          match a with | ⟨0, _⟩ => rfl | ⟨1, _⟩ => exact (Nat.zero_add _).symm | ⟨2, _⟩ => exact (Nat.zero_add _).symm)]
      exact (View.canon_cons_emb _ _ _ _).trans (gate_eq ..)
    · rw [outsAt0_C m c t (by omega) h (by omega)]
      frame_out
      refine (View.read_writes_cons_unit_of_mem _ _ _ _ _ _ (ix3 0 r d) rfl
        (fun a => match a with | ⟨0, _⟩ => rfl | ⟨1, _⟩ => (Nat.zero_add _).symm | ⟨2, _⟩ => (Nat.zero_add _).symm)).trans ?_
      exact gate_eq ..
  · rw [slot_odd h, outsAt0_B m c t (by omega) (by omega) h]
    frame_out
    simp only [odd4, odd23, odd24, odd25, odd26, odd27, odd28, odd29, odd30, odd31, odd32, odd33, odd34, odd35, odd36, odd37, odd38, odd39, odd40]
    refine (View.read_writes_cons_unit_of_mem _ _ _ _ _ _ (ix3 0 r d) rfl
        (fun a => match a with | ⟨0, _⟩ => rfl | ⟨1, _⟩ => (Nat.zero_add _).symm | ⟨2, _⟩ => (Nat.zero_add _).symm)).trans ?_
    exact gate_eq ..

/-- The output tile after a point past the first: tile `t − 1` finished out of the slot the point before wrote. -/
theorem out_at (c : Dev nD) (t : Fin cfg0.N) (h0 : t.val ≠ 0) (r : Fin 512) (d : Fin 1024) :
    (outsAt0 m c t.val t.isLt).1 (ix2 r d)
      = before m c t (ix2 r d) + ∑ k, term (slot (t.val - 1))
          (outsAt0 m c (t.val - 1) (Nat.lt_of_le_of_lt (Nat.sub_le _ _) t.isLt)).2.1
          (outsAt0 m c (t.val - 1) (Nat.lt_of_le_of_lt (Nat.sub_le _ _) t.isLt)).2.2 (iblk m c 4 t) (iblk m c 5 t) r d k := by
  have ht := lt65 t
  rcases Nat.mod_two_eq_zero_or_one t.val with h | h
  · rw [slot_odd (n := t.val - 1) (by omega), outsAt0_C m c t (by omega) h (by omega)]
    frame_out
    simp only [read_unread_whole]
    exact out_eq 1 _ _ (iblk m c 4 t) (iblk m c 5 t) (iblk m c 1 t) ..
  · rw [slot_even (n := t.val - 1) (by omega), outsAt0_B m c t (by omega) (by omega) h]
    frame_out
    simp only [odd4, odd23, odd24, odd25, odd26, odd27, odd28, odd29, odd30, odd31, odd32, odd33, odd34, odd35, odd36, odd37, odd38, odd39, odd40]
    simp only [read_unread_whole]
    exact out_eq 0 _ _ (iblk m c 4 t) (iblk m c 5 t) (iblk m c 1 t) ..

end Cert.ShortConvIdeal.Point

end
-- ==== Proof.ShortConvSpec.lean ====
/-
  What the short-convolution layer computes, on the arrays the model hands it, and the proof that the reference program
  leaves exactly that. Every function here takes a sequence number `b`, a position `s` in it, and a channel.
-/
module

public import proofs.«01_k».proof.Proof.Gen.ShortConvRefIdeal.Read
public import Idealize.ShloMosaic.Lib.Pipeline.ValueKit
public import Idealize.ShloMosaic.Lib.Claim

@[expose] public section

noncomputable section

open Idealize.ShloMosaic Idealize.ShloMosaic.TcCoe Idealize.SL.Sem

namespace Cert.ShortConvSpec

open Cert.ShortConvRefIdeal Cert.ShortConvRefIdeal.Read

variable (x : Vec Ideal S4x8192x1024 .f32) (nw : Vec Ideal S4x1024 .f32) (win : Vec Ideal S2x1024x3072 .f32)
  (wc : Vec Ideal S2x3x1024 .f32) (wout : Vec Ideal S2x1024x1024 .f32)

/-- The rms norm of the residual stream, with the layer's own weights (row 3). -/
def norm (b : Fin 4) (s : Fin 8192) (k : Fin 1024) : EReal :=
  x (ix3 b s k)
      * Ideal.rsqrt (Ideal.div (∑ j : Fin 1024, x (ix3 b s j) * x (ix3 b s j)) (Ideal.ofBits FTy.f32 1149239296#32)
        + Ideal.ofBits FTy.f32 897988541#32)
    * nw (ix2 3 k)

/-- The input projection of the normed row. -/
def lin (b : Fin 4) (s : Fin 8192) (j : Fin 3072) : EReal :=
  ∑ k : Fin 1024, norm x nw b s k * win (ix3 1 k j)

/-- The output gate: the first third of the projection. -/
def gate (b : Fin 4) (s : Fin 8192) (d : Fin 1024) : EReal :=
  lin x nw win b s ⟨d.val, by omega⟩

/-- What the convolution runs over: the second third times the last. -/
def fed (b : Fin 4) (s : Fin 8192) (d : Fin 1024) : EReal :=
  lin x nw win b s ⟨1024 + d.val, by omega⟩ * lin x nw win b s ⟨2048 + d.val, by omega⟩

/-- The same `n` positions earlier; zero before the sequence begins. -/
def back (n : ℕ) (b : Fin 4) (s : Fin 8192) (d : Fin 1024) : EReal :=
  if n ≤ s.val then fed x nw win b ⟨s.val - n, by omega⟩ d else 0

/-- The causal depthwise convolution of width three. -/
def conv (b : Fin 4) (s : Fin 8192) (d : Fin 1024) : EReal :=
  wc (ix3 1 0 d) * back x nw win 2 b s d + wc (ix3 1 1 d) * back x nw win 1 b s d
    + wc (ix3 1 2 d) * fed x nw win b s d

/-- The layer: the residual stream plus the gated convolution, projected out. -/
def layer (b : Fin 4) (s : Fin 8192) (d : Fin 1024) : EReal :=
  x (ix3 b s d) + ∑ k : Fin 1024, gate x nw win b s k * conv x nw win wc b s k * wout (ix3 1 k d)

/-! ## The reference, stage by stage -/

theorem ref_norm (b : Fin 4) (s : Fin 8192) (k : Fin 1024) :
    val_main_v14 (F := Ideal) x nw (ix3 b s k) = norm x nw b s k := by
  unfold val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1
  pointwise
  rfl

theorem ref_lin (b : Fin 4) (s : Fin 8192) (j : Fin 3072) :
    val_main_v21 (F := Ideal) x nw win (ix3 b s j) = lin x nw win b s j := by
  unfold val_main_v21 val_main_v16 val_main_v15
  pointwise
  simp only [ref_norm]
  rfl

theorem ref_gate (b : Fin 4) (s : Fin 8192) (d : Fin 1024) :
    val_main_v22 (F := Ideal) x nw win (ix3 b s d) = gate x nw win b s d := by
  unfold val_main_v22
  pointwise
  exact ref_lin x nw win b s _

theorem ref_fed (b : Fin 4) (s : Fin 8192) (d : Fin 1024) :
    val_main_v25 (F := Ideal) x nw win (ix3 b s d) = fed x nw win b s d := by
  unfold val_main_v25 val_main_v23 val_main_v24
  pointwise
  simp only [ref_lin]
  rfl

theorem ref_padded (b : Fin 4) (s : Fin 8194) (d : Fin 1024) :
    val_main_v27 (F := Ideal) x nw win (ix3 b s d)
      = if h : s.val < 2 then 0 else fed x nw win b ⟨s.val - 2, by omega⟩ d := by
  unfold val_main_v27 val_main_v26 val_main_cst_2
  pointwise
  simp only [ref_fed]

theorem ref_conv (b : Fin 4) (s : Fin 8192) (d : Fin 1024) :
    val_main_v47 (F := Ideal) x nw win wc (ix3 b s d) = conv x nw win wc b s d := by
  unfold val_main_v47 val_main_v46 val_main_v45 val_main_v44 val_main_v43 val_main_v42 val_main_v41 val_main_v40
    val_main_v39 val_main_v38 val_main_v37 val_main_v36 val_main_v35 val_main_v34 val_main_v33 val_main_v32
    val_main_v31 val_main_v30 val_main_v29 val_main_v28 val_main_v18 val_main_v17
  pointwise
  simp only [ref_padded, conv, back]
  congr 1
  · congr 1
    · congr 1
      by_cases h : s.val < 2
      · rw [dif_pos (by omega), if_neg (by omega)]
      · rw [dif_neg (by omega), if_pos (by omega)]
    · congr 1
      by_cases h : s.val < 1
      · rw [dif_pos (by show _ + _ < 2; omega), if_neg (by omega)]
      · rw [dif_neg (by show ¬ _ + _ < 2; omega), if_pos (by omega)]
        exact congrArg (fun z => fed x nw win b z d) (Fin.ext (by show 1 + s.val - 2 = s.val - 1; omega))
  · congr 1
    rw [dif_neg (by show ¬ _ + _ < 2; omega)]
    exact congrArg (fun z => fed x nw win b z d) (Fin.ext (by show 2 + s.val - 2 = s.val; omega))

/-- The reference's result, at a row of the flattened stream. -/
theorem ref_layer (g : Fin 32768) (d : Fin 1024) :
    val_main_v51 (F := Ideal) x nw win wc wout (ix2 g d)
      = layer x nw win wc wout ⟨g.val / 8192, by omega⟩ ⟨g.val % 8192, by omega⟩ d := by
  unfold val_main_v51 val_main_v50 val_main_v49 val_main_v48 val_main_v20 val_main_v19
  pointwise
  simp only [ref_gate, ref_conv]
  rfl

end Cert.ShortConvSpec
-- ==== Proof.ShortConvValue.lean ====
/-
  The short-convolution kernel's result array, whole: every row of it is the layer's value at that row.
-/
module

public import proofs.«01_k».proof.Proof.ShortConvPoint
public import proofs.«01_k».proof.Proof.ShortConvSpec

@[expose] public section

noncomputable section

open Idealize.ShloMosaic Idealize.ShloMosaic.TcCoe Idealize.SL.Sem

namespace Cert.ShortConvIdeal.Whole

open Cert.ShortConvIdeal.Gen Cert.ShortConvIdeal.Point
open Cert.ShortConvIdeal.Pay (term)

variable (m : (ℓ : Loc nD τ sig) → Buf (Elt Ideal) ℓ)

/-- The five arguments, as the host hands them in. -/
abbrev xs (c : Dev nD) : Vec Ideal S4x8192x1024 .f32 := m ((c : Thread nD τ).loc main_arg0)
abbrev nws (c : Dev nD) : Vec Ideal S4x1024 .f32 := m ((c : Thread nD τ).loc main_arg1)
abbrev wins (c : Dev nD) : Vec Ideal S2x1024x3072 .f32 := m ((c : Thread nD τ).loc main_arg2)
abbrev wcs (c : Dev nD) : Vec Ideal S2x3x1024 .f32 := m ((c : Thread nD τ).loc main_arg3)
abbrev wouts (c : Dev nD) : Vec Ideal S2x1024x1024 .f32 := m ((c : Thread nD τ).loc main_arg4)

/-! ## Where each window's block lies -/

theorem index0 : ∀ t : Fin cfg0.N, win0_0.index t = ![min t.val 63, 0] :=
  (by decide +kernel : ∀ t : Fin grid0.N, _)
theorem index1 : ∀ t : Fin cfg0.N, win0_1.index t = ![t.val - 1, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![1, 0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![1, 0, 0] :=
  (by decide +kernel : ∀ t : Fin grid0.N, _)
theorem index6 : ∀ t : Fin cfg0.N, win0_6.index t = ![t.val - 1, 0] :=
  (by decide +kernel : ∀ t : Fin grid0.N, _)

theorem read0 (c : Dev nD) (t : Fin cfg0.N) (r : Fin 512) (k : Fin 1024) (b : Fin 4) (s : Fin 8192)
    (h : 512 * min t.val 63 + r.val = 8192 * b.val + s.val) :
    iblk m c 0 t (ix2 r k) = xs m c (ix3 b s k) := by
  blk_simp [iblk]
  entry_read
  pointwise
  congr 1
  blk_ext [index0 t]

theorem read1 (c : Dev nD) (t : Fin cfg0.N) (r : Fin 512) (k : Fin 1024) (b : Fin 4) (s : Fin 8192)
    (h : 512 * (t.val - 1) + r.val = 8192 * b.val + s.val) :
    iblk m c 1 t (ix2 r k) = xs m c (ix3 b s k) := by
  blk_simp [iblk]
  entry_read
  pointwise
  congr 1
  blk_ext [index1 t]

theorem read2 (c : Dev nD) (t : Fin cfg0.N) (k : Fin 1024) :
    iblk m c 2 t (ix2 0 k) = nws m c (ix2 3 k) := by
  blk_simp [iblk]
  entry_read
  pointwise
  congr 1
  blk_ext [index2 t]

theorem read3 (c : Dev nD) (t : Fin cfg0.N) (k : Fin 1024) (j : Fin 3072) :
    iblk m c 3 t (ix3 0 k j) = wins m c (ix3 1 k j) := by
  blk_simp [iblk]
  entry_read
  congr 1
  blk_ext [index3 t]

theorem read4 (c : Dev nD) (t : Fin cfg0.N) (k : Fin 3) (j : Fin 1024) :
    iblk m c 4 t (ix2 k j) = wcs m c (ix3 1 k j) := by
  blk_simp [iblk]
  entry_read
  pointwise
  congr 1
  blk_ext [index4 t]

theorem read5 (c : Dev nD) (t : Fin cfg0.N) (k : Fin 1024) (j : Fin 1024) :
    iblk m c 5 t (ix3 0 k j) = wouts m c (ix3 1 k j) := by
  blk_simp [iblk]
  entry_read
  congr 1
  blk_ext [index5 t]

/-! ## A tile's quantities are the layer's, at the tile's rows -/

theorem proj_eq (c : Dev nD) (t : Fin cfg0.N) (r : Fin 512) (j : Fin 3072) (b : Fin 4) (s : Fin 8192)
    (h : 512 * min t.val 63 + r.val = 8192 * b.val + s.val) :
    Pay.proj (iblk m c 0 t) (iblk m c 2 t) (iblk m c 3 t) r j
      = ShortConvSpec.lin (xs m c) (nws m c) (wins m c) b s j := by
  unfold Pay.proj Pay.normed ShortConvSpec.lin ShortConvSpec.norm
  simp only [read0 m c t r _ b s h, read2 m c t, read3 m c t]

theorem gate_eq (c : Dev nD) (t : Fin cfg0.N) (r : Fin 512) (d : Fin 1024) (b : Fin 4) (s : Fin 8192)
    (h : 512 * min t.val 63 + r.val = 8192 * b.val + s.val) :
    Pay.gate (iblk m c 0 t) (iblk m c 2 t) (iblk m c 3 t) r d
      = ShortConvSpec.gate (xs m c) (nws m c) (wins m c) b s d :=
  proj_eq m c t r _ b s h

theorem fed_eq (c : Dev nD) (t : Fin cfg0.N) (r : Fin 512) (d : Fin 1024) (b : Fin 4) (s : Fin 8192)
    (h : 512 * min t.val 63 + r.val = 8192 * b.val + s.val) :
    Pay.fed (iblk m c 0 t) (iblk m c 2 t) (iblk m c 3 t) r d
      = ShortConvSpec.fed (xs m c) (nws m c) (wins m c) b s d :=
  congrArg₂ (· * ·) (proj_eq m c t r _ b s h) (proj_eq m c t r _ b s h)

/-- The kept rows of the first scratch, `n ≤ 8` rows above row `r` of the tile: what the convolution runs over, `n`
    positions earlier in the sequence. The rows of the tile itself were written by this point, the eight rows above
    it are the last of the tile before, or zero where a sequence begins. -/
theorem back_kept (c : Dev nD) (t : Fin cfg0.N) (ht : t.val < 64) (n : ℕ) (hn : n ≤ 8) (r : Fin 512) (q : Fin 520)
    (hq : q.val + n = 8 + r.val) (b : Fin 4) (s : Fin 8192) (h : 512 * t.val + r.val = 8192 * b.val + s.val)
    (d : Fin 1024) :
    (outsAt0 m c t.val t.isLt).2.1 (ix3 (slot t.val) q d)
      = ShortConvSpec.back (xs m c) (nws m c) (wins m c) n b s d := by
  unfold ShortConvSpec.back
  have hm : min t.val 63 = t.val := by omega
  by_cases h8 : 8 ≤ q.val
  · have e := fed_kept m c t ⟨q.val - 8, by omega⟩ d
    have hq' : (⟨8 + (q.val - 8), by omega⟩ : Fin 520) = q := Fin.ext (by show 8 + (q.val - 8) = _; omega)
    rw [hq'] at e
    rw [e, if_pos (by omega)]
    exact fed_eq m c t _ d b ⟨s.val - n, by omega⟩ (by show 512 * min t.val 63 + (q.val - 8) = 8192 * b.val + (s.val - n); omega)
  · have e := halo_kept m c t ⟨q.val, by omega⟩ d
    rw [show (⟨(⟨q.val, by omega⟩ : Fin 8).val, by omega⟩ : Fin 520) = q from Fin.ext rfl] at e
    rw [e]
    by_cases h16 : t.val % 16 = 0
    · rw [if_pos h16, if_neg (by omega)]
    · rw [if_neg h16, if_pos (by omega)]
      have lt : t.val - 1 < cfg0.N := Nat.lt_of_le_of_lt (Nat.sub_le _ _) t.isLt
      have e' := fed_kept m c ⟨t.val - 1, lt⟩ ⟨504 + q.val, by omega⟩ d
      rw [show (⟨8 + (⟨504 + q.val, by omega⟩ : Fin 512).val, by omega⟩ : Fin 520) = ⟨512 + q.val, by omega⟩ from
        Fin.ext (by show 8 + (504 + q.val) = 512 + q.val; omega)] at e'
      refine e'.trans ?_
      exact fed_eq m c ⟨t.val - 1, lt⟩ _ d b ⟨s.val - n, by omega⟩
        (by show 512 * min (t.val - 1) 63 + (504 + q.val) = 8192 * b.val + (s.val - n); omega)

/-- What point `t ≥ 1` leaves in the output block: the layer's rows of tile `t − 1`. -/
theorem out_row (c : Dev nD) (t : Fin cfg0.N) (h0 : t.val ≠ 0) (r : Fin 512) (d : Fin 1024) (b : Fin 4) (s : Fin 8192)
    (h : 512 * (t.val - 1) + r.val = 8192 * b.val + s.val) :
    (outsAt0 m c t.val t.isLt).1 (ix2 r d)
      = ShortConvSpec.layer (xs m c) (nws m c) (wins m c) (wcs m c) (wouts m c) b s d := by
  have ht := lt65 t
  have lt : t.val - 1 < cfg0.N := Nat.lt_of_le_of_lt (Nat.sub_le _ _) t.isLt
  rw [out_at m c t h0 r d]
  unfold ShortConvSpec.layer
  refine congrArg₂ (· + ·) (read1 m c t r d b s h) (Finset.sum_congr rfl fun k _ => ?_)
  unfold term ShortConvSpec.conv
  have e2 := back_kept m c ⟨t.val - 1, lt⟩ (by show t.val - 1 < 64; omega) 2 (by omega) r ⟨6 + r.val, by omega⟩
    (by show 6 + r.val + 2 = _; omega) b s h k
  have e1 := back_kept m c ⟨t.val - 1, lt⟩ (by show t.val - 1 < 64; omega) 1 (by omega) r ⟨7 + r.val, by omega⟩
    (by show 7 + r.val + 1 = _; omega) b s h k
  have e0 := (fed_kept m c ⟨t.val - 1, lt⟩ r k).trans
    (fed_eq m c ⟨t.val - 1, lt⟩ r k b s (by show 512 * min (t.val - 1) 63 + r.val = _; omega))
  have eg := (gate_kept m c ⟨t.val - 1, lt⟩ r k).trans
    (gate_eq m c ⟨t.val - 1, lt⟩ r k b s (by show 512 * min (t.val - 1) 63 + r.val = _; omega))
  simp only [read4 m c t, read5 m c t]
  refine congrArg₂ (· * ·) (congrArg₂ (· * ·) eg ?_) rfl
  rw [show ∀ p q u : EReal, p + q + u = q + u + p from fun p q u => by rw [add_assoc, add_comm]]
  exact congrArg₂ (· + ·) (congrArg₂ (· + ·) (congrArg₂ (· * ·) rfl e2) (congrArg₂ (· * ·) rfl e1))
    (congrArg₂ (· * ·) rfl e0)

theorem flush_pos : ∀ t : Fin cfg0.N, (cfg0.win 6).flush t = true → t.val ≠ 0 :=
  (by decide +kernel : ∀ t : Fin grid0.N, win0_6.flush t = true → t.val ≠ 0)

/-- The result array after the run. -/
theorem final (c : Dev nD) : (dats m 0 c).arrAt 6 cfg0.N
    = fun i : S32768x1024.Idx => ShortConvSpec.layer (xs m c) (nws m c) (wins m c) (wcs m c) (wouts m c)
        ⟨(i 0).val / 8192, by have h : (i 0).val < 32768 := (i 0).isLt; omega⟩ ⟨(i 0).val % 8192, Nat.mod_lt _ (by decide)⟩ (i 1) := by
  refine (dats m 0 c).arrAt_eq_of_covers 6 _ (by decide +kernel) fun t hf y => ?_
  have h0 := flush_pos t hf
  blk_simp
  rw [after0_6]
  have ey : ix2 (n0 := 512) (n1 := 1024) (y 0) (y 1) = y := funext fun a => match a with | ⟨0, _⟩ => rfl | ⟨1, _⟩ => rfl
  have ei : win0_6.index t 0 = t.val - 1 := by rw [index6 t]; rfl
  have ec : (win0_6.blk t).view.emb y 1 = (y 1 : Fin 1024) := by
    apply Fin.ext; blk_simp [index6 t]
  rw [ec]
  conv_lhs => rw [← ey]
  refine out_row m c t h0 (y 0) (y 1) _ _ ?_
  show 512 * (t.val - 1) + (y 0).val = 8192 * ((win0_6.index t 0 * 512 + (y 0).val) / 8192)
    + (win0_6.index t 0 * 512 + (y 0).val) % 8192
  rw [ei]; omega

end Cert.ShortConvIdeal.Whole
-- ==== Proof.ShortConvClaim.lean ====
/-
  The short-convolution kernel and its reference leave the same array: both hold the layer's value at every row.
-/
module

public import proofs.«01_k».proof.Defs
public import proofs.«01_k».proof.Proof.Gen.ShortConvIdeal.Value
public import proofs.«01_k».proof.Proof.Gen.ShortConvRefIdeal.Run
public import proofs.«01_k».proof.Proof.ShortConvValue

@[expose] public section

open Idealize.ShloMosaic Idealize.ShloMosaic.TcCoe Idealize.SL.Sem

namespace Cert.ShortConvClaim

/-- The reference's array, on the same arguments, is the kernel's. -/
theorem same (m : (ℓ : Loc Cert.ShortConvIdeal.nD Cert.ShortConvIdeal.τ Cert.ShortConvIdeal.sig) → Buf (Elt Ideal) ℓ)
    (m' : (ℓ : Loc Cert.ShortConvRefIdeal.nD Cert.ShortConvRefIdeal.τ Cert.ShortConvRefIdeal.sig) → Buf (Elt Ideal) ℓ)
    (c : Dev Cert.ShortConvIdeal.nD)
    (h0 : m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0))
    (h1 : m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1))
    (h2 : m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2))
    (h3 : m' ((c.tc : Thread Cert.ShortConvRefIdeal.nD Cert.ShortConvRefIdeal.τ).loc Cert.ShortConvRefIdeal.main_arg3) = m ((c.tc : Thread Cert.ShortConvIdeal.nD Cert.ShortConvIdeal.τ).loc Cert.ShortConvIdeal.main_arg3))
    (h4 : m' ((c.tc : Thread Cert.ShortConvRefIdeal.nD Cert.ShortConvRefIdeal.τ).loc Cert.ShortConvRefIdeal.main_arg4) = m ((c.tc : Thread Cert.ShortConvIdeal.nD Cert.ShortConvIdeal.τ).loc Cert.ShortConvIdeal.main_arg4)) :
    Cert.ShortConvRefIdeal.Value.res_main_v51 m' c
      = (Cert.ShortConvIdeal.Gen.dats m 0 c).arrAt 6 Cert.ShortConvIdeal.cfg0.N := by
  rw [Cert.ShortConvRefIdeal.Read.val_main_v51_eq, Cert.ShortConvIdeal.Whole.final m c, h0, h1, h2, h3, h4]
  funext i
  have ei : ix2 (n0 := 32768) (n1 := 1024) (i 0) (i 1) = i := funext fun a => match a with | ⟨0, _⟩ => rfl | ⟨1, _⟩ => rfl
  conv_lhs => rw [← ei]
  exact ShortConvSpec.ref_layer _ _ _ _ _ (i 0) (i 1)

/-- The reference runs to its end, leaves its arguments alone, and has no semaphore to leave set. -/
theorem frame_ref [Cert.ShortConvRefIdeal.Facts] : quiescent_ShortConvRefIdeal := fun m g _ =>
  (θ_run Cert.ShortConvRefIdeal.defs _ _).mono
    (fun r h => ⟨fun c => (h c).2, sem_eq_zero_of_no_sems (by decide) r.2⟩)
    (Cert.ShortConvRefIdeal.Value.run m g)

/-- Both run, from the same arguments, to the same array. -/
theorem algebraic [Cert.ShortConvIdeal.Facts] [Cert.ShortConvRefIdeal.Facts] :
    algebraic_ShortConvIdeal_ShortConvRefIdeal := by
  intro m g m' g' _ e
  refine ⟨fun c => (Cert.ShortConvIdeal.Gen.dats m 0 c).arrAt 6 Cert.ShortConvIdeal.cfg0.N,
    Cert.ShortConvIdeal.Value.run_blocks m g, ?_⟩
  refine (θ_run Cert.ShortConvRefIdeal.defs _ _).mono (fun r h c => ?_) (Cert.ShortConvRefIdeal.Value.run m' g')
  obtain ⟨e0, e1, e2, e3, e4⟩ := e c
  exact ⟨(h c).1.trans (same m m' c e0 e1 e2 e3 e4), (h c).2⟩

end Cert.ShortConvClaim
-- ==== Proof.FfnMath.lean ====
/-
  The arithmetic of one row of a gated feed-forward half step, over the extended reals: the row is rms-normed, two
  projections of it are taken, and `silu` of the first times the second is projected back.

  The kernel leaves the row's `rsqrt` factor out of the two products and multiplies by it afterwards, and writes
  `silu g` as `g/2 + g/2 · tanh (g/2)`. The factor is never negative and never infinite, so it distributes over any sum.
  The two forms of `silu` agree everywhere but at `-∞`, which finite norm weights and gate weights exclude.
-/
module

public import Idealize.ShloMosaic.PureOps
public import Idealize.ShloMosaic.PureOps.Ideal
public import Idealize.ShloMosaic.Lib.Pipeline.ValueKit
public import Mathlib.Data.EReal.Operations
public import Mathlib.Analysis.Complex.Trigonometric
public import Mathlib.Tactic.FieldSimp
public import Mathlib.Tactic.Positivity
public import Mathlib.Tactic.Linarith

@[expose] public section

noncomputable section

open Idealize.ShloMosaic Idealize.ShloMosaic.TcCoe
open scoped BigOperators

namespace Cert.FfnMath

/-! ## The three constants -/

abbrev cN : EReal := Ideal.ofBits FTy.f32 1149239296#32
abbrev cEps : EReal := Ideal.ofBits FTy.f32 897988541#32
abbrev cHalf : EReal := Ideal.ofBits FTy.f32 1056964608#32

theorem cN_eq : cN = ((1024 : ℝ) : EReal) := by
  simp [cN, Ideal.ofBits, Ideal.ieee, -EReal.coe_mul]; norm_num

theorem cHalf_eq : cHalf = (((1 : ℝ) / 2 : ℝ) : EReal) := by
  simp [cHalf, Ideal.ofBits, Ideal.ieee, -EReal.coe_mul]; norm_num

theorem cEps_eq : ∃ e : ℝ, 0 < e ∧ cEps = (e : EReal) := by
  refine ⟨8796093 / 8796093022208, by norm_num, ?_⟩
  simp [cEps, Ideal.ofBits, Ideal.ieee, -EReal.coe_mul]; norm_num

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## A row and its norm -/

/-- The factor an rms norm scales its row by. -/
def rinv (x : Fin 1024 → EReal) : EReal := Ideal.rsqrt (Ideal.div (∑ k, x k * x k) cN + cEps)

/-- One column of a projection of the normed row. -/
def lin (x w v : Fin 1024 → EReal) : EReal := ∑ k, x k * rinv x * w k * v k

/-- `silu g = g / (1 + e^(-g))`. -/
def silu (g : EReal) : EReal := g * Ideal.div 1 (1 + Ideal.exp (-g))

/-- One hidden unit. -/
def act (x w vg vu : Fin 1024 → EReal) : EReal := silu (lin x w vg) * lin x w vu

/-- The half step, at one channel: the row's own value plus half of the hidden units projected back. -/
def half (x w : Fin 1024 → EReal) (vg vu : Fin 1024 → Fin 2816 → EReal) (vd : Fin 2816 → EReal) (xd : EReal) : EReal :=
  xd + cHalf * ∑ j, act x w (fun k => vg k j) (fun k => vu k j) * vd j

/-- `silu` written with `tanh`, as the kernel writes it. -/
def tsilu (g : EReal) : EReal := cHalf * g + cHalf * g * Ideal.tanh (cHalf * g)

/-- One hidden unit in the kernel's order: `h` the row times the norm weights, `r` the factor left out of it. -/
def kact (h : Fin 1024 → EReal) (r : EReal) (vg vu : Fin 1024 → EReal) : EReal :=
  tsilu ((∑ k, h k * vg k) * r) * ((∑ k, h k * vu k) * r)

theorem mul_self_nonneg (x : EReal) : 0 ≤ x * x := by
  induction x with
  | bot => simp
  | top => simp
  | coe r => rw [← EReal.coe_mul]; exact_mod_cast _root_.mul_self_nonneg r

theorem div_cN (s : EReal) : Ideal.div s cN = s * (((1024 : ℝ)⁻¹ : ℝ) : EReal) := by
  rw [cN_eq]
  unfold Ideal.div
  rw [if_neg (by norm_num)]
  rfl

theorem mean_nonneg (x : Fin 1024 → EReal) : 0 ≤ Ideal.div (∑ k, x k * x k) cN := by
  rw [div_cN]
  exact mul_nonneg (Finset.sum_nonneg fun k _ => mul_self_nonneg (x k)) (by exact_mod_cast (by positivity : (0:ℝ) ≤ (1024:ℝ)⁻¹))

/-- The factor is a nonnegative real. -/
theorem rinv_real (x : Fin 1024 → EReal) : ∃ r : ℝ, 0 ≤ r ∧ rinv x = (r : EReal) := by
  unfold rinv
  obtain ⟨e, he, hE⟩ := cEps_eq
  have h0 := mean_nonneg x
  rw [hE]
  generalize Ideal.div (∑ k, x k * x k) cN = s at h0
  induction s with
  | bot => exact absurd h0 (by simp)
  | top => exact ⟨0, le_rfl, by rw [EReal.top_add_coe]; rfl⟩
  | coe q =>
    have hq : (0 : ℝ) ≤ q := by exact_mod_cast h0
    refine ⟨(Real.sqrt (q + e))⁻¹, by positivity, ?_⟩
    rw [← EReal.coe_add]
    show (if q + e < 0 then (⊥ : EReal) else if q + e = 0 then ⊤ else _) = _
    rw [if_neg (by linarith), if_neg (by linarith)]

/-- A nonnegative real factor comes out of a sum, whatever the terms. -/
theorem sum_mul_real {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The projection with the factor multiplied on afterwards is the projection of the normed row. -/
theorem lin_eq (x w v : Fin 1024 → EReal) : (∑ k, x k * w k * v k) * rinv x = lin x w v := by
  obtain ⟨r, hr, e⟩ := rinv_real x
  unfold lin
  rw [e, sum_mul_real _ _ r hr]
  refine Finset.sum_congr rfl fun k _ => ?_
  rw [mul_assoc (x k * w k), mul_comm (v k), ← mul_assoc, mul_assoc (x k), mul_comm (w k), ← mul_assoc]

/-- A row with an infinite entry has the factor zero. -/
theorem rinv_inf (x : Fin 1024 → EReal) (k : Fin 1024) (h : x k = ⊤ ∨ x k = ⊥) : rinv x = 0 := by
  have hk : x k * x k = ⊤ := by rcases h with h | h <;> rw [h] <;> rfl
  have hs : ∑ k, x k * x k = ⊤ := by
    rw [← Finset.add_sum_erase _ _ (Finset.mem_univ k), hk]
    exact EReal.top_add_of_ne_bot
      (ne_of_gt (lt_of_lt_of_le EReal.bot_lt_zero (Finset.sum_nonneg fun k _ => mul_self_nonneg (x k))))
  obtain ⟨e, he, hE⟩ := cEps_eq
  unfold rinv
  rw [hs, div_cN, EReal.top_mul_coe_of_pos (by positivity), hE, EReal.top_add_coe]
  rfl

/-- With finite norm weights and finite gate weights the gate's projection is real. -/
theorem lin_real (x w v : Fin 1024 → EReal) (hw : ∀ k, w k ≠ ⊤ ∧ w k ≠ ⊥) (hv : ∀ k, v k ≠ ⊤ ∧ v k ≠ ⊥) :
    ∃ g : ℝ, lin x w v = (g : EReal) := by
  by_cases hx : ∃ k, x k = ⊤ ∨ x k = ⊥
  · obtain ⟨k, hk⟩ := hx
    refine ⟨0, ?_⟩
    unfold lin
    rw [rinv_inf x k hk]
    simp
  · have hx' : ∀ k, x k = ((x k).toReal : EReal) := fun k =>
      (EReal.coe_toReal (fun h => hx ⟨k, .inl h⟩) (fun h => hx ⟨k, .inr h⟩)).symm
    have hw' : ∀ k, w k = ((w k).toReal : EReal) := fun k => (EReal.coe_toReal (hw k).1 (hw k).2).symm
    have hv' : ∀ k, v k = ((v k).toReal : EReal) := fun k => (EReal.coe_toReal (hv k).1 (hv k).2).symm
    obtain ⟨r, hr, e⟩ := rinv_real x
    refine ⟨∑ k, (x k).toReal * r * (w k).toReal * (v k).toReal, ?_⟩
    unfold lin
    rw [e, coe_sum]
    refine Finset.sum_congr rfl fun k _ => ?_
    rw [EReal.coe_mul, EReal.coe_mul, EReal.coe_mul, ← hx' k, ← hw' k, ← hv' k]

/-- The two forms of `silu` agree on the reals. -/
theorem tsilu_eq (g : ℝ) : tsilu (g : EReal) = silu (g : EReal) := by
  have hE : 0 < Real.exp (g / 2) := Real.exp_pos _
  have hF : 0 < Real.exp (-(g / 2)) := Real.exp_pos _
  unfold tsilu silu
  rw [cHalf_eq, ← EReal.coe_mul, ← EReal.coe_neg]
  show _ + _ * ((Real.tanh (1 / 2 * g) : ℝ) : EReal) = _ * Ideal.div 1 (1 + ((Real.exp (-g) : ℝ) : EReal))
  rw [show (1 : EReal) = ((1 : ℝ) : EReal) from rfl, ← EReal.coe_add]
  unfold Ideal.div
  rw [if_neg (by have := Real.exp_pos (-g); exact_mod_cast (by positivity : (1 + Real.exp (-g) : ℝ) ≠ 0)), ← EReal.coe_inv]
  rw [← EReal.coe_mul, ← EReal.coe_add, ← EReal.coe_mul, ← EReal.coe_mul]
  congr 1
  have e1 : Real.exp (-g) = Real.exp (-(g/2)) * Real.exp (-(g/2)) := by rw [← Real.exp_add]; congr 1; ring
  have e2 : Real.exp (g/2) * Real.exp (-(g/2)) = 1 := by rw [← Real.exp_add]; simp
  rw [Real.tanh_eq_sinh_div_cosh, Real.sinh_eq, Real.cosh_eq, e1, show 1 / 2 * g = g / 2 by ring]
  generalize Real.exp (g/2) = a at *
  generalize Real.exp (-(g/2)) = b at *
  have hb : a = b⁻¹ := eq_inv_of_mul_eq_one_left e2
  subst hb
  field_simp
  ring

/-- A hidden unit in the kernel's order is the reference's. -/
theorem kact_eq (x w vg vu : Fin 1024 → EReal) (hw : ∀ k, w k ≠ ⊤ ∧ w k ≠ ⊥) (hv : ∀ k, vg k ≠ ⊤ ∧ vg k ≠ ⊥) :
    kact (fun k => x k * w k) (rinv x) vg vu = act x w vg vu := by
  unfold kact act
  rw [lin_eq, lin_eq]
  obtain ⟨g, hg⟩ := lin_real x w vg hw hv
  rw [hg, tsilu_eq]

/-- What finiteness means in the preconditions: the absolute value is below `+∞`. -/
theorem finite_of_abs_lt (x : EReal) (h : max x (-x) < ⊤) : x ≠ ⊤ ∧ x ≠ ⊥ := by
  refine ⟨fun e => ?_, fun e => ?_⟩ <;> subst e <;> simp at h

theorem cTop_eq : Ideal.ofBits FTy.f32 2139095040#32 = (⊤ : EReal) := by
  simp [Ideal.ofBits, Ideal.ieee]

/-- Two comparisons against `+∞`, joined by `and`, both hold. -/
theorem finite_of_and (a b : EReal)
    (h : IntOp.andi (BitVec.ofBool (decide (max a (-a) < Ideal.ofBits FTy.f32 2139095040#32)))
      (BitVec.ofBool (decide (max b (-b) < Ideal.ofBits FTy.f32 2139095040#32))) = 1#1) :
    (a ≠ ⊤ ∧ a ≠ ⊥) ∧ (b ≠ ⊤ ∧ b ≠ ⊥) := by
  rw [cTop_eq] at h
  by_cases ha : max a (-a) < (⊤ : EReal)
  · by_cases hb : max b (-b) < (⊤ : EReal)
    · exact ⟨finite_of_abs_lt a ha, finite_of_abs_lt b hb⟩
    · exfalso; revert h; rw [decide_eq_true ha, decide_eq_false hb]; decide
  · exfalso; revert h; rw [decide_eq_false ha]; cases decide (max b (-b) < (⊤ : EReal)) <;> decide

/-- The half step of row `(b, s)` of the stream, with the weights of layer `l`. -/
def ffn (x : Vec Ideal ⟨3, ![4, 8192, 1024]⟩ .f32) (nw : Vec Ideal ⟨2, ![4, 1024]⟩ .f32)
    (wg wu : Vec Ideal ⟨3, ![4, 1024, 2816]⟩ .f32) (wd : Vec Ideal ⟨3, ![4, 2816, 1024]⟩ .f32) (l : Fin 4)
    (b : Fin 4) (s : Fin 8192) (d : Fin 1024) : EReal :=
  half (fun k => x (ix3 b s k)) (fun k => nw (ix2 l k)) (fun k j => wg (ix3 l k j)) (fun k j => wu (ix3 l k j))
    (fun j => wd (ix3 l j d)) (x (ix3 b s d))

/-- An entry of the stream after the projection of two half rows, laid side by side, is added to it. -/
def mixed (x : EReal) (o y : Fin 512 → EReal) (w : Fin 1024 → EReal) : EReal :=
  x + (∑ i : Fin 512, o i * w ⟨i.val, by omega⟩ + ∑ i : Fin 512, y i * w ⟨512 + i.val, by omega⟩)

/-- A row scaled to unit mean square and weighted, entry `d`. -/
def normed (y w : Fin 1024 → EReal) (d : Fin 1024) : EReal := y d * rinv y * w d

/-- The row `(b, s)` of the stream with the mixer's output `(o, y)` projected and added to it. -/
def mixRow (x : Vec Ideal ⟨3, ![4, 8192, 1024]⟩ .f32) (o y : Vec Ideal ⟨3, ![4, 8192, 512]⟩ .bf16)
    (wo : Vec Ideal ⟨3, ![2, 1024, 1024]⟩ .f32) (b : Fin 4) (s : Fin 8192) (d : Fin 1024) : EReal :=
  mixed (x (ix3 b s d)) (fun i => o (ix3 b s i)) (fun i => y (ix3 b s i)) (fun i => wo (ix3 0 i d))

/-- The half step of that row, with the weights of layer 0. -/
def ffnMix (x : Vec Ideal ⟨3, ![4, 8192, 1024]⟩ .f32) (o y : Vec Ideal ⟨3, ![4, 8192, 512]⟩ .bf16)
    (wo : Vec Ideal ⟨3, ![2, 1024, 1024]⟩ .f32) (nw : Vec Ideal ⟨2, ![4, 1024]⟩ .f32)
    (wg wu : Vec Ideal ⟨3, ![4, 1024, 2816]⟩ .f32) (wd : Vec Ideal ⟨3, ![4, 2816, 1024]⟩ .f32)
    (b : Fin 4) (s : Fin 8192) (d : Fin 1024) : EReal :=
  half (fun k => mixRow x o y wo b s k) (fun k => nw (ix2 0 k)) (fun k j => wg (ix3 0 k j))
    (fun k j => wu (ix3 0 k j)) (fun j => wd (ix3 0 j d)) (mixRow x o y wo b s d)

end Cert.FfnMath
-- ==== Proof.FfnPay.lean ====
/-
  What the feed-forward call stores for a tile of 512 rows, at an index, over arbitrary block contents.
  The hidden units come in eleven chunks of 256 columns, laid side by side before the last product.
-/
module

public import proofs.«01_k».proof.Proof.Gen.FfnIdeal.Value
public import Idealize.ShloMosaic.Lib.Pipeline.ValueKit
public import proofs.«01_k».proof.Proof.FfnMath

@[expose] public section

noncomputable section

open Idealize.ShloMosaic Idealize.ShloMosaic.TcCoe Idealize.SL.Sem

namespace Cert.FfnIdeal.Pay

open Cert.FfnIdeal Cert.FfnIdeal.Gen Cert.FfnMath

variable (x0 : Vec Ideal S512x1024 .f32) (x1 : Vec Ideal S1x1024 .f32) (x2 x3 : Vec Ideal S1x1024x2816 .f32)
  (x4 : Vec Ideal S1x2816x1024 .f32)
variable (h : FVec Ideal S512x1024 .bf16) (s : FVec Ideal S512x1 .f32)

/-- Column `d` of chunk `c` of the hidden units; a chunk is 256 wide. -/
def at_ (c : Fin 11) (d : Fin 256) : Fin 2816 := ⟨256 * c.val + d.val, by omega⟩

/-! ## The eleven chunks of hidden units, one by one

    `h` is the row times the norm weights and `s` its scale factor. The first ones compute both from the tile again. -/

theorem chunk0 (r : Fin 512) (d : Fin 256) :
    k0_pay6 x0 x1 (View.ld x2 r0_2) (View.ld x3 r0_2) (ix2 r d)
      = kact (fun k => (k0_pay4 x0 x1) (ix2 r k)) ((k0_pay5 x0) (ix2 r 0)) (fun k => x2 (ix3 0 k (at_ 0 d))) (fun k => x3 (ix3 0 k (at_ 0 d))) := by
  unfold k0_pay6
  pointwise
  rw [show at_ 0 d = ⟨d.val, by omega⟩ from Fin.ext (by simp [at_])]
  rfl

theorem chunk1 (r : Fin 512) (d : Fin 256) :
    k0_pay9 (k0_pay4 x0 x1) (k0_pay5 x0) (k0_pay7 x0 x1 (View.ld x2 r0_3)) (k0_pay8 x0) (View.ld x3 r0_3) (ix2 r d)
      = kact (fun k => (k0_pay4 x0 x1) (ix2 r k)) ((k0_pay5 x0) (ix2 r 0)) (fun k => x2 (ix3 0 k (at_ 1 d))) (fun k => x3 (ix3 0 k (at_ 1 d))) := by
  unfold k0_pay9 k0_pay7 k0_pay8
  pointwise
  simp only [at_]
  rfl

theorem chunk2 (r : Fin 512) (d : Fin 256) :
    k0_pay10 h s (View.ld x2 r0_4) (View.ld x3 r0_4) (ix2 r d)
      = kact (fun k => h (ix2 r k)) (s (ix2 r 0)) (fun k => x2 (ix3 0 k (at_ 2 d))) (fun k => x3 (ix3 0 k (at_ 2 d))) := by
  unfold k0_pay10
  pointwise
  simp only [at_]
  rfl

theorem chunk3 (r : Fin 512) (d : Fin 256) :
    k0_pay12 h s (k0_pay11 h s (View.ld x2 r0_5)) (View.ld x3 r0_5) (ix2 r d)
      = kact (fun k => h (ix2 r k)) (s (ix2 r 0)) (fun k => x2 (ix3 0 k (at_ 3 d))) (fun k => x3 (ix3 0 k (at_ 3 d))) := by
  unfold k0_pay12 k0_pay11
  pointwise
  simp only [at_]
  rfl

theorem chunk4 (r : Fin 512) (d : Fin 256) :
    k0_pay13 h s (View.ld x2 r0_6) (View.ld x3 r0_6) (ix2 r d)
      = kact (fun k => h (ix2 r k)) (s (ix2 r 0)) (fun k => x2 (ix3 0 k (at_ 4 d))) (fun k => x3 (ix3 0 k (at_ 4 d))) := by
  unfold k0_pay13
  pointwise
  simp only [at_]
  rfl

theorem chunk5 (r : Fin 512) (d : Fin 256) :
    k0_pay16 h s (k0_pay14 h s (View.ld x2 r0_7)) (k0_pay15 (View.ld x3 r0_7)) (constant S512x256 .f32 0x00000000#32) (ix2 r d)
      = kact (fun k => h (ix2 r k)) (s (ix2 r 0)) (fun k => x2 (ix3 0 k (at_ 5 d))) (fun k => x3 (ix3 0 k (at_ 5 d))) := by
  unfold k0_pay16 k0_pay14 k0_pay15
  pointwise
  simp only [at_]
  rfl

theorem chunk6 (r : Fin 512) (d : Fin 256) :
    k0_pay17 h s (View.ld x2 r0_8) (View.ld x3 r0_8) (ix2 r d)
      = kact (fun k => h (ix2 r k)) (s (ix2 r 0)) (fun k => x2 (ix3 0 k (at_ 6 d))) (fun k => x3 (ix3 0 k (at_ 6 d))) := by
  unfold k0_pay17
  pointwise
  simp only [at_]
  rfl

theorem chunk7 (r : Fin 512) (d : Fin 256) :
    k0_pay20 (k0_pay18 h s (View.ld x2 r0_9)) (k0_pay19 h s (View.ld x3 r0_9)) (FloatOps.ofBits .f32 0x3F000000#32) (ix2 r d)
      = kact (fun k => h (ix2 r k)) (s (ix2 r 0)) (fun k => x2 (ix3 0 k (at_ 7 d))) (fun k => x3 (ix3 0 k (at_ 7 d))) := by
  unfold k0_pay20 k0_pay18 k0_pay19
  pointwise
  simp only [at_]
  rfl

theorem chunk8 (r : Fin 512) (d : Fin 256) :
    k0_pay21 h s (View.ld x2 r0_10) (View.ld x3 r0_10) (ix2 r d)
      = kact (fun k => h (ix2 r k)) (s (ix2 r 0)) (fun k => x2 (ix3 0 k (at_ 8 d))) (fun k => x3 (ix3 0 k (at_ 8 d))) := by
  unfold k0_pay21
  pointwise
  simp only [at_]
  rfl

theorem chunk9 (r : Fin 512) (d : Fin 256) :
    (k0_pay23 h s (View.ld x2 r0_11) (ix2 r d) + k0_pay24 h s (View.ld x2 r0_11) (ix2 r d)) * k0_pay22 h s (View.ld x3 r0_11) (ix2 r d)
      = kact (fun k => h (ix2 r k)) (s (ix2 r 0)) (fun k => x2 (ix3 0 k (at_ 9 d))) (fun k => x3 (ix3 0 k (at_ 9 d))) := by
  unfold k0_pay24 k0_pay23 k0_pay22
  pointwise
  simp only [at_]
  rfl

theorem chunk10 (r : Fin 512) (d : Fin 256) :
    k0_pay1 h s (View.ld x2 r0_12) (View.ld x3 r0_12) (ix2 r d)
      = kact (fun k => h (ix2 r k)) (s (ix2 r 0)) (fun k => x2 (ix3 0 k (at_ 10 d))) (fun k => x3 (ix3 0 k (at_ 10 d))) := by
  unfold k0_pay1
  pointwise
  simp only [at_]
  rfl

/-! ## The tile -/

/-- The row times the norm weights, before it is scaled. -/
theorem row_eq (r : Fin 512) (k : Fin 1024) : k0_pay4 x0 x1 (ix2 r k) = x0 (ix2 r k) * x1 (ix2 0 k) := by
  unfold k0_pay4 k0_pay3
  pointwise

/-- The factor the row is scaled by. -/
theorem scale_eq (r : Fin 512) : k0_pay5 x0 (ix2 r 0) = rinv fun k => x0 (ix2 r k) := by
  unfold k0_pay5 k0_pay3
  pointwise
  rfl

/-- The eleven chunks laid side by side and multiplied by the down weights: one sum over all hidden units. -/
theorem joined (f : Fin 2816 → EReal) (v1 : FVec Ideal S512x1024 .f32)
    (v33 v52 v71 v90 v109 v128 v147 v166 v185 : FVec Ideal S512x256 .bf16)
    (v197 v199 v201 v222 : FVec Ideal S512x256 .f32) (r : Fin 512) (d : Fin 1024)
    (h0 : ∀ e, v33 (ix2 r e) = f (at_ 0 e)) (h1 : ∀ e, v52 (ix2 r e) = f (at_ 1 e))
    (h2 : ∀ e, v71 (ix2 r e) = f (at_ 2 e)) (h3 : ∀ e, v90 (ix2 r e) = f (at_ 3 e))
    (h4 : ∀ e, v109 (ix2 r e) = f (at_ 4 e)) (h5 : ∀ e, v128 (ix2 r e) = f (at_ 5 e))
    (h6 : ∀ e, v147 (ix2 r e) = f (at_ 6 e)) (h7 : ∀ e, v166 (ix2 r e) = f (at_ 7 e))
    (h8 : ∀ e, v185 (ix2 r e) = f (at_ 8 e))
    (h9 : ∀ e, (v199 (ix2 r e) + v201 (ix2 r e)) * v197 (ix2 r e) = f (at_ 9 e))
    (h10 : ∀ e, v222 (ix2 r e) = f (at_ 10 e)) :
    k0_pay2 v1 v33 v52 v71 v90 v109 v128 v147 v166 v185 v197 v199 v201 v222 x4 (ix2 r d)
      = v1 (ix2 r d) + cHalf * ∑ j : Fin 2816, f j * x4 (ix3 0 j d) := by
  unfold k0_pay2
  pointwise
  refine congrArg₂ (· + ·) rfl (congrArg₂ (· * ·) rfl (Finset.sum_congr rfl fun j _ => congrArg₂ (· * ·) ?_ rfl))
  have hj := j.isLt
  by_cases c0 : j.val < 256
  · exact (dif_pos c0).trans ((h0 _).trans (congrArg f (Fin.ext (by show 256 * 0 + (j.val) = j.val; omega))))
  refine (dif_neg c0).trans ?_
  by_cases c1 : j.val - 256 < 256
  · exact (dif_pos c1).trans ((h1 _).trans (congrArg f (Fin.ext (by show 256 * 1 + (j.val - 256) = j.val; omega))))
  refine (dif_neg c1).trans ?_
  by_cases c2 : j.val - 256 - 256 < 256
  · exact (dif_pos c2).trans ((h2 _).trans (congrArg f (Fin.ext (by show 256 * 2 + (j.val - 256 - 256) = j.val; omega))))
  refine (dif_neg c2).trans ?_
  by_cases c3 : j.val - 256 - 256 - 256 < 256
  · exact (dif_pos c3).trans ((h3 _).trans (congrArg f (Fin.ext (by show 256 * 3 + (j.val - 256 - 256 - 256) = j.val; omega))))
  refine (dif_neg c3).trans ?_
  by_cases c4 : j.val - 256 - 256 - 256 - 256 < 256
  · exact (dif_pos c4).trans ((h4 _).trans (congrArg f (Fin.ext (by show 256 * 4 + (j.val - 256 - 256 - 256 - 256) = j.val; omega))))
  refine (dif_neg c4).trans ?_
  by_cases c5 : j.val - 256 - 256 - 256 - 256 - 256 < 256
  · exact (dif_pos c5).trans ((h5 _).trans (congrArg f (Fin.ext (by show 256 * 5 + (j.val - 256 - 256 - 256 - 256 - 256) = j.val; omega))))
  refine (dif_neg c5).trans ?_
  by_cases c6 : j.val - 256 - 256 - 256 - 256 - 256 - 256 < 256
  · exact (dif_pos c6).trans ((h6 _).trans (congrArg f (Fin.ext (by show 256 * 6 + (j.val - 256 - 256 - 256 - 256 - 256 - 256) = j.val; omega))))
  refine (dif_neg c6).trans ?_
  by_cases c7 : j.val - 256 - 256 - 256 - 256 - 256 - 256 - 256 < 256
  · exact (dif_pos c7).trans ((h7 _).trans (congrArg f (Fin.ext (by show 256 * 7 + (j.val - 256 - 256 - 256 - 256 - 256 - 256 - 256) = j.val; omega))))
  refine (dif_neg c7).trans ?_
  by_cases c8 : j.val - 256 - 256 - 256 - 256 - 256 - 256 - 256 - 256 < 256
  · exact (dif_pos c8).trans ((h8 _).trans (congrArg f (Fin.ext (by show 256 * 8 + (j.val - 256 - 256 - 256 - 256 - 256 - 256 - 256 - 256) = j.val; omega))))
  refine (dif_neg c8).trans ?_
  by_cases c9 : j.val - 256 - 256 - 256 - 256 - 256 - 256 - 256 - 256 - 256 < 256
  · exact (dif_pos c9).trans ((h9 _).trans (congrArg f (Fin.ext (by show 256 * 9 + (j.val - 256 - 256 - 256 - 256 - 256 - 256 - 256 - 256 - 256) = j.val; omega))))
  refine (dif_neg c9).trans ?_
  exact ((h10 _).trans (congrArg f (Fin.ext (by show 256 * 10 + (j.val - 256 - 256 - 256 - 256 - 256 - 256 - 256 - 256 - 256 - 256) = j.val; omega))))

/-- The tile after the call. -/
theorem tile (r : Fin 512) (d : Fin 1024) :
    out0_5 x0 x1 x2 x3 x4 (ix2 r d)
      = x0 (ix2 r d) + cHalf * ∑ j : Fin 2816,
          kact (fun k => x0 (ix2 r k) * x1 (ix2 0 k)) (rinv fun k => x0 (ix2 r k))
            (fun k => x2 (ix3 0 k j)) (fun k => x3 (ix3 0 k j)) * x4 (ix3 0 j d) := by
  unfold out0_5 k0_pay25 k0_pay26
  frame_out
  have own : ∀ vg vu, kact (fun k => k0_pay4 x0 x1 (ix2 r k))
      (k0_pay5 x0 (ix2 r 0)) vg vu
      = kact (fun k => x0 (ix2 r k) * x1 (ix2 0 k)) (rinv fun k => x0 (ix2 r k)) vg vu := fun vg vu => by
    rw [scale_eq]; simp only [row_eq]
  rw [joined x4 (fun j => kact (fun k => x0 (ix2 r k) * x1 (ix2 0 k)) (rinv fun k => x0 (ix2 r k))
            (fun k => x2 (ix3 0 k j)) (fun k => x3 (ix3 0 k j))) _ _ _ _ _ _ _ _ _ _ _ _ _ _ r d
    (fun e => (chunk0 x0 x1 x2 x3 r e).trans (own _ _)) (fun e => (chunk1 x0 x1 x2 x3 r e).trans (own _ _))
    (fun e => (chunk2 x2 x3 _ _ r e).trans (own _ _)) (fun e => (chunk3 x2 x3 _ _ r e).trans (own _ _))
    (fun e => (chunk4 x2 x3 _ _ r e).trans (own _ _)) (fun e => (chunk5 x2 x3 _ _ r e).trans (own _ _))
    (fun e => (chunk6 x2 x3 _ _ r e).trans (own _ _)) (fun e => (chunk7 x2 x3 _ _ r e).trans (own _ _))
    (fun e => (chunk8 x2 x3 _ _ r e).trans (own _ _)) (fun e => (chunk9 x2 x3 _ _ r e).trans (own _ _))
    (fun e => (chunk10 x2 x3 _ _ r e).trans (own _ _))]
  congr 1
  unfold k0_pay3
  pointwise

end Cert.FfnIdeal.Pay
-- ==== Proof.FfnValue.lean ====
/-
  The feed-forward kernel's result array, whole: every row of it is the half step of that row.
-/
module

public import proofs.«01_k».proof.Proof.FfnPay

@[expose] public section

noncomputable section

open Idealize.ShloMosaic Idealize.ShloMosaic.TcCoe Idealize.SL.Sem

namespace Cert.FfnIdeal.Whole

open Cert.FfnIdeal.Gen Cert.FfnMath

variable (m : (ℓ : Loc nD τ sig) → Buf (Elt Ideal) ℓ)

/-- The five arguments, as the host hands them in. -/
abbrev xs (c : Dev nD) : Vec Ideal S4x8192x1024 .f32 := m ((c : Thread nD τ).loc main_arg0)
abbrev nws (c : Dev nD) : Vec Ideal S4x1024 .f32 := m ((c : Thread nD τ).loc main_arg1)
abbrev wgs (c : Dev nD) : Vec Ideal S4x1024x2816 .f32 := m ((c : Thread nD τ).loc main_arg2)
abbrev wus (c : Dev nD) : Vec Ideal S4x1024x2816 .f32 := m ((c : Thread nD τ).loc main_arg3)
abbrev wds (c : Dev nD) : Vec Ideal S4x2816x1024 .f32 := m ((c : Thread nD τ).loc main_arg4)

/-! ## Where each window's block lies -/

theorem index0 : ∀ t : Fin cfg0.N, win0_0.index t = ![t.val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, 0, 0] :=
  (by decide +kernel : ∀ t : Fin grid0.N, _)
theorem index3 : ∀ t : Fin cfg0.N, win0_3.index t = ![0, 0, 0] :=
  (by decide +kernel : ∀ t : Fin grid0.N, _)
theorem index4 : ∀ t : Fin cfg0.N, win0_4.index t = ![0, 0, 0] :=
  (by decide +kernel : ∀ t : Fin grid0.N, _)
theorem index5 : ∀ t : Fin cfg0.N, win0_5.index t = ![t.val, 0] :=
  (by decide +kernel : ∀ t : Fin grid0.N, _)

theorem read0 (c : Dev nD) (t : Fin cfg0.N) (r : Fin 512) (k : Fin 1024) (b : Fin 4) (s : Fin 8192)
    (h : 512 * t.val + r.val = 8192 * b.val + s.val) :
    iblk m c 0 t (ix2 r k) = xs m c (ix3 b s k) := by
  blk_simp [iblk]
  entry_read
  pointwise
  congr 1
  blk_ext [index0 t]

theorem read1 (c : Dev nD) (t : Fin cfg0.N) (k : Fin 1024) :
    iblk m c 1 t (ix2 0 k) = nws m c (ix2 0 k) := by
  blk_simp [iblk]
  entry_read
  pointwise
  congr 1
  blk_ext [index1 t]

theorem read2 (c : Dev nD) (t : Fin cfg0.N) (k : Fin 1024) (j : Fin 2816) :
    iblk m c 2 t (ix3 0 k j) = wgs m c (ix3 0 k j) := by
  blk_simp [iblk]
  entry_read
  congr 1
  blk_ext [index2 t]

theorem read3 (c : Dev nD) (t : Fin cfg0.N) (k : Fin 1024) (j : Fin 2816) :
    iblk m c 3 t (ix3 0 k j) = wus m c (ix3 0 k j) := by
  blk_simp [iblk]
  entry_read
  congr 1
  blk_ext [index3 t]

theorem read4 (c : Dev nD) (t : Fin cfg0.N) (j : Fin 2816) (d : Fin 1024) :
    iblk m c 4 t (ix3 0 j d) = wds m c (ix3 0 j d) := by
  blk_simp [iblk]
  entry_read
  congr 1
  blk_ext [index4 t]

/-- What point `t` leaves in the output block: the half step of the rows of tile `t`, where the norm weights and the
    gate weights are finite. -/
theorem out_row (c : Dev nD) (hw : ∀ k, nws m c (ix2 0 k) ≠ ⊤ ∧ nws m c (ix2 0 k) ≠ ⊥)
    (hv : ∀ k j, wgs m c (ix3 0 k j) ≠ ⊤ ∧ wgs m c (ix3 0 k j) ≠ ⊥)
    (t : Fin cfg0.N) (r : Fin 512) (d : Fin 1024) (b : Fin 4) (s : Fin 8192)
    (h : 512 * t.val + r.val = 8192 * b.val + s.val) :
    out0_5 (iblk m c 0 t) (iblk m c 1 t) (iblk m c 2 t) (iblk m c 3 t) (iblk m c 4 t) (ix2 r d)
      = ffn (xs m c) (nws m c) (wgs m c) (wus m c) (wds m c) 0 b s d := by
  rw [Pay.tile]
  simp only [read0 m c t r _ b s h, read1 m c t, read2 m c t, read3 m c t, read4 m c t]
  unfold ffn half
  refine congrArg₂ (· + ·) rfl (congrArg₂ (· * ·) rfl (Finset.sum_congr rfl fun j _ => congrArg₂ (· * ·) ?_ rfl))
  exact kact_eq _ _ _ _ hw fun k => hv k j

/-- The result array after the run. -/
theorem final (c : Dev nD) (hw : ∀ k, nws m c (ix2 0 k) ≠ ⊤ ∧ nws m c (ix2 0 k) ≠ ⊥)
    (hv : ∀ k j, wgs m c (ix3 0 k j) ≠ ⊤ ∧ wgs m c (ix3 0 k j) ≠ ⊥) : (dats m 0 c).arrAt 5 cfg0.N
    = fun i : S32768x1024.Idx => ffn (xs m c) (nws m c) (wgs m c) (wus m c) (wds m c) 0
        ⟨(i 0).val / 8192, by have h : (i 0).val < 32768 := (i 0).isLt; omega⟩ ⟨(i 0).val % 8192, Nat.mod_lt _ (by decide)⟩ (i 1) := by
  refine (dats m 0 c).arrAt_eq_of_covers 5 _ (by decide +kernel) fun t hf y => ?_
  blk_simp
  rw [after0_5]
  have ey : ix2 (n0 := 512) (n1 := 1024) (y 0) (y 1) = y := funext fun a => match a with | ⟨0, _⟩ => rfl | ⟨1, _⟩ => rfl
  have ei : win0_5.index t 0 = t.val := by rw [index5 t]; rfl
  have ec : (win0_5.blk t).view.emb y 1 = (y 1 : Fin 1024) := by
    apply Fin.ext; blk_simp [index5 t]
  rw [ec]
  conv_lhs => rw [← ey]
  refine out_row m c hw hv t (y 0) (y 1) _ _ ?_
  show 512 * t.val + (y 0).val = 8192 * ((win0_5.index t 0 * 512 + (y 0).val) / 8192)
    + (win0_5.index t 0 * 512 + (y 0).val) % 8192
  rw [ei]; omega

end Cert.FfnIdeal.Whole
-- ==== Proof.FfnSpec.lean ====
/-
  The feed-forward reference program leaves the half step of every row; and what its precondition says.
-/
module

public import proofs.«01_k».proof.Proof.Gen.FfnRefIdeal.Read
public import proofs.«01_k».proof.Proof.Gen.Pre_ffn_gate_finite
public import Idealize.ShloMosaic.Lib.Pipeline.ValueKit
public import Idealize.ShloMosaic.Lib.Claim
public import proofs.«01_k».proof.Proof.FfnMath

@[expose] public section

noncomputable section

open Idealize.ShloMosaic Idealize.ShloMosaic.TcCoe Idealize.SL.Sem

namespace Cert.FfnSpec

open Cert.FfnRefIdeal Cert.FfnRefIdeal.Read Cert.FfnMath

variable (x : Vec Ideal S4x8192x1024 .f32) (nw : Vec Ideal S4x1024 .f32) (wg wu : Vec Ideal S4x1024x2816 .f32)
  (wd : Vec Ideal S4x2816x1024 .f32)

/-! ## The reference, stage by stage -/

theorem ref_norm (b : Fin 4) (s : Fin 8192) (k : Fin 1024) :
    val_main_v14 (F := Ideal) x nw (ix3 b s k)
      = x (ix3 b s k) * rinv (fun l => x (ix3 b s l)) * nw (ix2 0 k) := by
  unfold val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1
  pointwise
  rfl

theorem ref_gate (b : Fin 4) (s : Fin 8192) (j : Fin 2816) :
    val_main_v21 (F := Ideal) x nw wg (ix3 b s j)
      = lin (fun k => x (ix3 b s k)) (fun k => nw (ix2 0 k)) (fun k => wg (ix3 0 k j)) := by
  unfold val_main_v21 val_main_v16 val_main_v15
  pointwise
  simp only [ref_norm]
  rfl

theorem ref_up (b : Fin 4) (s : Fin 8192) (j : Fin 2816) :
    val_main_v23 (F := Ideal) x nw wu (ix3 b s j)
      = lin (fun k => x (ix3 b s k)) (fun k => nw (ix2 0 k)) (fun k => wu (ix3 0 k j)) := by
  unfold val_main_v23 val_main_v18 val_main_v17
  pointwise
  simp only [ref_norm]
  rfl

theorem ref_hidden (b : Fin 4) (s : Fin 8192) (j : Fin 2816) :
    val_main_v24 (F := Ideal) x nw wg wu (ix3 b s j)
      = act (fun k => x (ix3 b s k)) (fun k => nw (ix2 0 k)) (fun k => wg (ix3 0 k j)) (fun k => wu (ix3 0 k j)) := by
  unfold val_main_v24 val_main_v22 val_main_call0_v5 val_main_call0_v4 val_main_call0_v3 val_main_call0_v2
    val_main_call0_v1 val_main_call0_v0 val_main_call0_cst_0 val_main_call0_cst
  pointwise
  simp only [ref_gate, ref_up]
  rfl

/-- The reference's result, at a row of the flattened stream. -/
theorem ref_half (g : Fin 32768) (d : Fin 1024) :
    val_main_v29 (F := Ideal) x nw wg wu wd (ix2 g d)
      = ffn x nw wg wu wd 0 ⟨g.val / 8192, by omega⟩ ⟨g.val % 8192, by omega⟩ d := by
  unfold val_main_v29 val_main_v28 val_main_v27 val_main_v26 val_main_v25 val_main_v20 val_main_v19 val_main_cst_2
  pointwise
  simp only [ref_hidden]
  rfl

/-- The precondition: the layer's norm weights and gate weights are finite. -/
theorem finite (h : Cert.Pre_ffn_gate_finite.fn (F := Ideal) x nw wg wu wd = fun _ => 1#1) (k : Fin 1024)
    (j : Fin 2816) : (nw (ix2 0 k) ≠ ⊤ ∧ nw (ix2 0 k) ≠ ⊥) ∧ (wg (ix3 0 k j) ≠ ⊤ ∧ wg (ix3 0 k j) ≠ ⊥) := by
  have e := congrFun h (ix2 k j)
  refine finite_of_and _ _ (Eq.trans (Eq.symm ?_) e)
  unfold Cert.Pre_ffn_gate_finite.fn
  pointwise
  rfl

end Cert.FfnSpec
-- ==== Proof.FfnClaim.lean ====
/-
  The feed-forward kernel and its reference leave the same array: both hold the half step of every row.
-/
module

public import proofs.«01_k».proof.Defs
public import proofs.«01_k».proof.Proof.Gen.FfnIdeal.Value
public import proofs.«01_k».proof.Proof.Gen.FfnRefIdeal.Run
public import proofs.«01_k».proof.Proof.FfnValue
public import proofs.«01_k».proof.Proof.FfnSpec

@[expose] public section

open Idealize.ShloMosaic Idealize.ShloMosaic.TcCoe Idealize.SL.Sem

namespace Cert.FfnClaim

/-- The reference's array, on the same arguments, is the kernel's. -/
theorem same (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (hp : Cert.Pre_ffn_gate_finite.fn (F := Ideal) (Cert.FfnIdeal.Whole.xs m c) (Cert.FfnIdeal.Whole.nws m c)
      (Cert.FfnIdeal.Whole.wgs m c) (Cert.FfnIdeal.Whole.wus m c) (Cert.FfnIdeal.Whole.wds m c) = fun _ => 1#1) :
    Cert.FfnRefIdeal.Read.val_main_v29 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4))
      = (Cert.FfnIdeal.Gen.dats m 0 c).arrAt 5 Cert.FfnIdeal.cfg0.N := by
  rw [Cert.FfnIdeal.Whole.final m c (fun k => (FfnSpec.finite _ _ _ _ _ hp k 0).1)
      (fun k j => (FfnSpec.finite _ _ _ _ _ hp k j).2), h0, h1, h2, h3, h4]
  funext i
  have ei : ix2 (n0 := 32768) (n1 := 1024) (i 0) (i 1) = i := funext fun a => match a with | ⟨0, _⟩ => rfl | ⟨1, _⟩ => rfl
  conv_lhs => rw [← ei]
  exact FfnSpec.ref_half _ _ _ _ _ (i 0) (i 1)

/-- The reference runs to its end, leaves its arguments alone, and has no semaphore to leave set. -/
theorem frame_ref [Cert.FfnRefIdeal.Facts] : quiescent_FfnRefIdeal := fun m g _ =>
  (θ_run Cert.FfnRefIdeal.defs _ _).mono
    (fun r h => ⟨fun c => (h c).2, sem_eq_zero_of_no_sems (by decide) r.2⟩)
    (Cert.FfnRefIdeal.Value.run m g)

/-- Both run, from the same arguments, to the same array. -/
theorem algebraic :
    algebraic_FfnIdeal_FfnRefIdeal_pre_ffn_gate_finite := by
  intro m g m' g' hp e
  refine ⟨fun c => (Cert.FfnIdeal.Gen.dats m 0 c).arrAt 5 Cert.FfnIdeal.cfg0.N,
    Cert.FfnIdeal.Value.run_blocks m g, ?_⟩
  refine (θ_run Cert.FfnRefIdeal.defs _ _).mono (fun r h c => ?_) (Cert.FfnRefIdeal.Value.run m' g')
  obtain ⟨e0, e1, e2, e3, e4⟩ := e c
  exact ⟨((h c).1.trans (Cert.FfnRefIdeal.Read.val_main_v29_eq _ _ _ _ _)).trans (same m m' c e0 e1 e2 e3 e4 (hp c)), (h c).2⟩

end Cert.FfnClaim
-- ==== Proof.FfnLastPay.lean ====
/-
  What the last feed-forward call stores for a tile of 512 rows, at an index, over arbitrary block contents.
  The hidden units come in eleven chunks of 256 columns, laid side by side before the last product.
-/
module

public import proofs.«01_k».proof.Proof.Gen.FfnLastIdeal.Value
public import Idealize.ShloMosaic.Lib.Pipeline.ValueKit
public import proofs.«01_k».proof.Proof.FfnMath

@[expose] public section

noncomputable section

open Idealize.ShloMosaic Idealize.ShloMosaic.TcCoe Idealize.SL.Sem

namespace Cert.FfnLastIdeal.Pay

open Cert.FfnLastIdeal Cert.FfnLastIdeal.Gen Cert.FfnMath

variable (x0 : Vec Ideal S512x1024 .f32) (x1 : Vec Ideal S1x1024 .f32) (x2 x3 : Vec Ideal S1x1024x2816 .f32)
  (x4 : Vec Ideal S1x2816x1024 .f32) (x5 : Vec Ideal S1x1024 .f32)
variable (h : FVec Ideal S512x1024 .bf16) (s : FVec Ideal S512x1 .f32)

/-- Column `d` of chunk `c` of the hidden units; a chunk is 256 wide. -/
def at_ (c : Fin 11) (d : Fin 256) : Fin 2816 := ⟨256 * c.val + d.val, by omega⟩

/-! ## The eleven chunks of hidden units, one by one

    `h` is the row times the norm weights and `s` its scale factor. The first ones compute both from the tile again. -/

theorem chunk0 (r : Fin 512) (d : Fin 256) :
    k0_pay5 x0 x1 (View.ld x2 r0_2) (View.ld x3 r0_2) (ix2 r d)
      = kact (fun k => (k0_pay3 x0 x1) (ix2 r k)) ((k0_pay4 x0) (ix2 r 0)) (fun k => x2 (ix3 0 k (at_ 0 d))) (fun k => x3 (ix3 0 k (at_ 0 d))) := by
  unfold k0_pay5
  pointwise
  rw [show at_ 0 d = ⟨d.val, by omega⟩ from Fin.ext (by simp [at_])]
  rfl

theorem chunk1 (r : Fin 512) (d : Fin 256) :
    k0_pay8 (k0_pay3 x0 x1) (k0_pay4 x0) (k0_pay6 x0 x1 (View.ld x2 r0_3)) (k0_pay7 x0) (View.ld x3 r0_3) (ix2 r d)
      = kact (fun k => (k0_pay3 x0 x1) (ix2 r k)) ((k0_pay4 x0) (ix2 r 0)) (fun k => x2 (ix3 0 k (at_ 1 d))) (fun k => x3 (ix3 0 k (at_ 1 d))) := by
  unfold k0_pay8 k0_pay6 k0_pay7
  pointwise
  simp only [at_]
  rfl

theorem chunk2 (r : Fin 512) (d : Fin 256) :
    k0_pay9 h s (View.ld x2 r0_4) (View.ld x3 r0_4) (ix2 r d)
      = kact (fun k => h (ix2 r k)) (s (ix2 r 0)) (fun k => x2 (ix3 0 k (at_ 2 d))) (fun k => x3 (ix3 0 k (at_ 2 d))) := by
  unfold k0_pay9
  pointwise
  simp only [at_]
  rfl

theorem chunk3 (r : Fin 512) (d : Fin 256) :
    k0_pay11 h s (k0_pay10 h s (View.ld x2 r0_5)) (View.ld x3 r0_5) (ix2 r d)
      = kact (fun k => h (ix2 r k)) (s (ix2 r 0)) (fun k => x2 (ix3 0 k (at_ 3 d))) (fun k => x3 (ix3 0 k (at_ 3 d))) := by
  unfold k0_pay11 k0_pay10
  pointwise
  simp only [at_]
  rfl

theorem chunk4 (r : Fin 512) (d : Fin 256) :
    k0_pay12 h s (View.ld x2 r0_6) (View.ld x3 r0_6) (ix2 r d)
      = kact (fun k => h (ix2 r k)) (s (ix2 r 0)) (fun k => x2 (ix3 0 k (at_ 4 d))) (fun k => x3 (ix3 0 k (at_ 4 d))) := by
  unfold k0_pay12
  pointwise
  simp only [at_]
  rfl

theorem chunk5 (r : Fin 512) (d : Fin 256) :
    k0_pay15 h s (k0_pay13 h s (View.ld x2 r0_7)) (k0_pay14 (View.ld x3 r0_7)) (constant S512x256 .f32 0x00000000#32) (ix2 r d)
      = kact (fun k => h (ix2 r k)) (s (ix2 r 0)) (fun k => x2 (ix3 0 k (at_ 5 d))) (fun k => x3 (ix3 0 k (at_ 5 d))) := by
  unfold k0_pay15 k0_pay13 k0_pay14
  pointwise
  simp only [at_]
  rfl

theorem chunk6 (r : Fin 512) (d : Fin 256) :
    k0_pay16 h s (View.ld x2 r0_8) (View.ld x3 r0_8) (ix2 r d)
      = kact (fun k => h (ix2 r k)) (s (ix2 r 0)) (fun k => x2 (ix3 0 k (at_ 6 d))) (fun k => x3 (ix3 0 k (at_ 6 d))) := by
  unfold k0_pay16
  pointwise
  simp only [at_]
  rfl

theorem chunk7 (r : Fin 512) (d : Fin 256) :
    k0_pay19 (k0_pay17 h s (View.ld x2 r0_9)) (k0_pay18 h s (View.ld x3 r0_9)) (FloatOps.ofBits .f32 0x3F000000#32) (ix2 r d)
      = kact (fun k => h (ix2 r k)) (s (ix2 r 0)) (fun k => x2 (ix3 0 k (at_ 7 d))) (fun k => x3 (ix3 0 k (at_ 7 d))) := by
  unfold k0_pay19 k0_pay17 k0_pay18
  pointwise
  simp only [at_]
  rfl

theorem chunk8 (r : Fin 512) (d : Fin 256) :
    k0_pay20 h s (View.ld x2 r0_10) (View.ld x3 r0_10) (ix2 r d)
      = kact (fun k => h (ix2 r k)) (s (ix2 r 0)) (fun k => x2 (ix3 0 k (at_ 8 d))) (fun k => x3 (ix3 0 k (at_ 8 d))) := by
  unfold k0_pay20
  pointwise
  simp only [at_]
  rfl

theorem chunk9 (r : Fin 512) (d : Fin 256) :
    (k0_pay22 h s (View.ld x2 r0_11) (ix2 r d) + k0_pay23 h s (View.ld x2 r0_11) (ix2 r d)) * k0_pay21 h s (View.ld x3 r0_11) (ix2 r d)
      = kact (fun k => h (ix2 r k)) (s (ix2 r 0)) (fun k => x2 (ix3 0 k (at_ 9 d))) (fun k => x3 (ix3 0 k (at_ 9 d))) := by
  unfold k0_pay23 k0_pay22 k0_pay21
  pointwise
  simp only [at_]
  rfl

theorem chunk10 (r : Fin 512) (d : Fin 256) :
    kact (fun k => h (ix2 r k)) (s (ix2 r 0)) (fun k => (View.ld x2 r0_12) (ix3 0 k d)) (fun k => (View.ld x3 r0_12) (ix3 0 k d))
      = kact (fun k => h (ix2 r k)) (s (ix2 r 0)) (fun k => x2 (ix3 0 k (at_ 10 d))) (fun k => x3 (ix3 0 k (at_ 10 d))) := by
  pointwise
  simp only [at_]
  rfl

/-! ## The tile -/

/-- The row times the norm weights, before it is scaled. -/
theorem row_eq (r : Fin 512) (k : Fin 1024) : k0_pay3 x0 x1 (ix2 r k) = x0 (ix2 r k) * x1 (ix2 0 k) := by
  unfold k0_pay3 k0_pay2
  pointwise

/-- The factor the row is scaled by. -/
theorem scale_eq (r : Fin 512) : k0_pay4 x0 (ix2 r 0) = rinv fun k => x0 (ix2 r k) := by
  unfold k0_pay4 k0_pay2
  pointwise
  rfl

variable (v1 : FVec Ideal S512x1024 .f32) (v6 : FVec Ideal S512x1024 .bf16) (v14 : FVec Ideal S512x1 .f32)
    (v33 v52 v71 v90 v109 v128 v147 v166 v185 : FVec Ideal S512x256 .bf16)
    (v197 v199 v201 : FVec Ideal S512x256 .f32) (v205 v211 : Vec Ideal S1x1024x256 .f32)

/-- The eleven chunks laid side by side and multiplied by the down weights: one sum over all hidden units. -/
theorem joined (f : Fin 2816 → EReal) (r : Fin 512) (d : Fin 1024)
    (h0 : ∀ e, v33 (ix2 r e) = f (at_ 0 e))
    (h1 : ∀ e, v52 (ix2 r e) = f (at_ 1 e))
    (h2 : ∀ e, v71 (ix2 r e) = f (at_ 2 e))
    (h3 : ∀ e, v90 (ix2 r e) = f (at_ 3 e))
    (h4 : ∀ e, v109 (ix2 r e) = f (at_ 4 e))
    (h5 : ∀ e, v128 (ix2 r e) = f (at_ 5 e))
    (h6 : ∀ e, v147 (ix2 r e) = f (at_ 6 e))
    (h7 : ∀ e, v166 (ix2 r e) = f (at_ 7 e))
    (h8 : ∀ e, v185 (ix2 r e) = f (at_ 8 e))
    (h9 : ∀ e, (v199 (ix2 r e) + v201 (ix2 r e)) * v197 (ix2 r e) = f (at_ 9 e))
    (h10 : ∀ e, kact (fun k => v6 (ix2 r k)) (v14 (ix2 r 0)) (fun k => v205 (ix3 0 k e)) (fun k => v211 (ix3 0 k e))
      = f (at_ 10 e)) :
    k0_pay24 v1 v6 v14 v33 v52 v71 v90 v109 v128 v147 v166 v185 v197 v199 v201 v205 v211 x4 (ix2 r d)
      = v1 (ix2 r d) + cHalf * ∑ j : Fin 2816, f j * x4 (ix3 0 j d) := by
  unfold k0_pay24
  have key : ∀ c9 c10 : FVec Ideal S512x256 .bf16, (∀ e, c9 (ix2 r e) = f (at_ 9 e)) → (∀ e, c10 (ix2 r e) = f (at_ 10 e)) →
      (addf v1 (mulf (broadcast S512x1024 (Scalar.ofBits (F := Ideal) .f32 0x3F000000#32)) (matmul dot_S512x2816_S2816x1024_S512x1024_1_0_0_1_n_n none
        (concatenate S512x2816 1 [⟨S512x256, v33⟩, ⟨S512x256, v52⟩, ⟨S512x256, v71⟩, ⟨S512x256, v90⟩, ⟨S512x256, v109⟩, ⟨S512x256, v128⟩, ⟨S512x256, v147⟩, ⟨S512x256, v166⟩, ⟨S512x256, v185⟩, ⟨S512x256, c9⟩, ⟨S512x256, c10⟩]
          concatenates_S512x256_S512x256_S512x256_S512x256_S512x256_S512x256_S512x256_S512x256_S512x256_S512x256_S512x256_S512x2816_d1)
        (truncf .bf16 (shapeCast S2816x1024 x4 shapeCasts_S1x2816x1024_S2816x1024) bitsLt_bf16_f32)
        (constant S512x1024 .f32 0x00000000#32)))) (ix2 r d)
      = v1 (ix2 r d) + cHalf * ∑ j : Fin 2816, f j * x4 (ix3 0 j d) := by
    intro c9 c10 h9 h10
    pointwise
    refine congrArg₂ (· + ·) rfl (congrArg₂ (· * ·) rfl (Finset.sum_congr rfl fun j _ => congrArg₂ (· * ·) ?_ rfl))
    have hj := j.isLt
    by_cases c0 : j.val < 256
    · exact (dif_pos c0).trans ((h0 _).trans (congrArg f (Fin.ext (by show 256 * 0 + (j.val) = j.val; omega))))
    refine (dif_neg c0).trans ?_
    by_cases c1 : j.val - 256 < 256
    · exact (dif_pos c1).trans ((h1 _).trans (congrArg f (Fin.ext (by show 256 * 1 + (j.val - 256) = j.val; omega))))
    refine (dif_neg c1).trans ?_
    by_cases c2 : j.val - 256 - 256 < 256
    · exact (dif_pos c2).trans ((h2 _).trans (congrArg f (Fin.ext (by show 256 * 2 + (j.val - 256 - 256) = j.val; omega))))
    refine (dif_neg c2).trans ?_
    by_cases c3 : j.val - 256 - 256 - 256 < 256
    · exact (dif_pos c3).trans ((h3 _).trans (congrArg f (Fin.ext (by show 256 * 3 + (j.val - 256 - 256 - 256) = j.val; omega))))
    refine (dif_neg c3).trans ?_
    by_cases c4 : j.val - 256 - 256 - 256 - 256 < 256
    · exact (dif_pos c4).trans ((h4 _).trans (congrArg f (Fin.ext (by show 256 * 4 + (j.val - 256 - 256 - 256 - 256) = j.val; omega))))
    refine (dif_neg c4).trans ?_
    by_cases c5 : j.val - 256 - 256 - 256 - 256 - 256 < 256
    · exact (dif_pos c5).trans ((h5 _).trans (congrArg f (Fin.ext (by show 256 * 5 + (j.val - 256 - 256 - 256 - 256 - 256) = j.val; omega))))
    refine (dif_neg c5).trans ?_
    by_cases c6 : j.val - 256 - 256 - 256 - 256 - 256 - 256 < 256
    · exact (dif_pos c6).trans ((h6 _).trans (congrArg f (Fin.ext (by show 256 * 6 + (j.val - 256 - 256 - 256 - 256 - 256 - 256) = j.val; omega))))
    refine (dif_neg c6).trans ?_
    by_cases c7 : j.val - 256 - 256 - 256 - 256 - 256 - 256 - 256 < 256
    · exact (dif_pos c7).trans ((h7 _).trans (congrArg f (Fin.ext (by show 256 * 7 + (j.val - 256 - 256 - 256 - 256 - 256 - 256 - 256) = j.val; omega))))
    refine (dif_neg c7).trans ?_
    by_cases c8 : j.val - 256 - 256 - 256 - 256 - 256 - 256 - 256 - 256 < 256
    · exact (dif_pos c8).trans ((h8 _).trans (congrArg f (Fin.ext (by show 256 * 8 + (j.val - 256 - 256 - 256 - 256 - 256 - 256 - 256 - 256) = j.val; omega))))
    refine (dif_neg c8).trans ?_
    by_cases c9 : j.val - 256 - 256 - 256 - 256 - 256 - 256 - 256 - 256 - 256 < 256
    · exact (dif_pos c9).trans ((h9 _).trans (congrArg f (Fin.ext (by show 256 * 9 + (j.val - 256 - 256 - 256 - 256 - 256 - 256 - 256 - 256 - 256) = j.val; omega))))
    refine (dif_neg c9).trans ?_
    exact (h10 _).trans (congrArg f (Fin.ext (by show 256 * 10 + (j.val - 256 - 256 - 256 - 256 - 256 - 256 - 256 - 256 - 256 - 256) = j.val; omega)))
  refine key _ _ (fun e => Eq.trans ?_ (h9 e)) (fun e => Eq.trans ?_ (h10 e))
  · pointwise
  · pointwise; rfl
/-- The factor of the last norm. -/
theorem last_scale (r : Fin 512) (d : Fin 1024) :
    k0_pay26 v1 v6 v14 v33 v52 v71 v90 v109 v128 v147 v166 v185 v197 v199 v201 v205 v211 x4 (ix2 r d)
      = rinv fun k => k0_pay24 v1 v6 v14 v33 v52 v71 v90 v109 v128 v147 v166 v185 v197 v199 v201 v205 v211 x4 (ix2 r k) := by
  unfold k0_pay26
  generalize k0_pay24 v1 v6 v14 v33 v52 v71 v90 v109 v128 v147 v166 v185 v197 v199 v201 v205 v211 x4 = y
  pointwise
  rfl

/-- The half step of row `r` of the tile, entry `d`. -/
def step (r : Fin 512) (d : Fin 1024) : EReal :=
  x0 (ix2 r d) + cHalf * ∑ j : Fin 2816,
      kact (fun k => x0 (ix2 r k) * x1 (ix2 0 k)) (rinv fun k => x0 (ix2 r k))
        (fun k => x2 (ix3 0 k j)) (fun k => x3 (ix3 0 k j)) * x4 (ix3 0 j d)

/-- The stream after the half step, before the last norm. -/
abbrev stream : FVec Ideal S512x1024 .f32 :=
  k0_pay24 (k0_pay2 x0) (k0_pay3 x0 x1) (k0_pay4 x0)
    (k0_pay5 x0 x1 (View.ld x2 r0_2) (View.ld x3 r0_2))
    (k0_pay8 (k0_pay3 x0 x1) (k0_pay4 x0) (k0_pay6 x0 x1 (View.ld x2 r0_3)) (k0_pay7 x0) (View.ld x3 r0_3))
    (k0_pay9 (k0_pay3 x0 x1) (k0_pay4 x0) (View.ld x2 r0_4) (View.ld x3 r0_4))
    (k0_pay11 (k0_pay3 x0 x1) (k0_pay4 x0) (k0_pay10 (k0_pay3 x0 x1) (k0_pay4 x0) (View.ld x2 r0_5)) (View.ld x3 r0_5))
    (k0_pay12 (k0_pay3 x0 x1) (k0_pay4 x0) (View.ld x2 r0_6) (View.ld x3 r0_6))
    (k0_pay15 (k0_pay3 x0 x1) (k0_pay4 x0) (k0_pay13 (k0_pay3 x0 x1) (k0_pay4 x0) (View.ld x2 r0_7)) (k0_pay14 (View.ld x3 r0_7)) (constant S512x256 .f32 0x00000000#32))
    (k0_pay16 (k0_pay3 x0 x1) (k0_pay4 x0) (View.ld x2 r0_8) (View.ld x3 r0_8))
    (k0_pay19 (k0_pay17 (k0_pay3 x0 x1) (k0_pay4 x0) (View.ld x2 r0_9)) (k0_pay18 (k0_pay3 x0 x1) (k0_pay4 x0) (View.ld x3 r0_9)) (FloatOps.ofBits .f32 0x3F000000#32))
    (k0_pay20 (k0_pay3 x0 x1) (k0_pay4 x0) (View.ld x2 r0_10) (View.ld x3 r0_10))
    (k0_pay21 (k0_pay3 x0 x1) (k0_pay4 x0) (View.ld x3 r0_11)) (k0_pay22 (k0_pay3 x0 x1) (k0_pay4 x0) (View.ld x2 r0_11)) (k0_pay23 (k0_pay3 x0 x1) (k0_pay4 x0) (View.ld x2 r0_11)) (View.ld x2 r0_12) (View.ld x3 r0_12) x4

theorem stream_eq (r : Fin 512) (d : Fin 1024) : stream x0 x1 x2 x3 x4 (ix2 r d) = step x0 x1 x2 x3 x4 r d := by
  have own : ∀ vg vu, kact (fun k => k0_pay3 x0 x1 (ix2 r k))
      (k0_pay4 x0 (ix2 r 0)) vg vu
      = kact (fun k => x0 (ix2 r k) * x1 (ix2 0 k)) (rinv fun k => x0 (ix2 r k)) vg vu := fun vg vu => by
    rw [scale_eq]; simp only [row_eq]
  unfold stream
  rw [joined x4 _ _ _ _ _ _ _ _ _ _ _ _ _ _ _ _ _ (fun j => kact (fun k => x0 (ix2 r k) * x1 (ix2 0 k)) (rinv fun k => x0 (ix2 r k))
      (fun k => x2 (ix3 0 k j)) (fun k => x3 (ix3 0 k j))) r d
    (fun e => (chunk0 x0 x1 x2 x3 r e).trans (own _ _))
    (fun e => (chunk1 x0 x1 x2 x3 r e).trans (own _ _))
    (fun e => (chunk2 x2 x3 _ _ r e).trans (own _ _))
    (fun e => (chunk3 x2 x3 _ _ r e).trans (own _ _))
    (fun e => (chunk4 x2 x3 _ _ r e).trans (own _ _))
    (fun e => (chunk5 x2 x3 _ _ r e).trans (own _ _))
    (fun e => (chunk6 x2 x3 _ _ r e).trans (own _ _))
    (fun e => (chunk7 x2 x3 _ _ r e).trans (own _ _))
    (fun e => (chunk8 x2 x3 _ _ r e).trans (own _ _))
    (fun e => (chunk9 x2 x3 _ _ r e).trans (own _ _))
    (fun e => (chunk10 x2 x3 _ _ r e).trans (own _ _))]
  unfold step
  congr 1
  unfold k0_pay2
  pointwise

/-- The tile after the call: the stream after the half step, normed once more. -/
theorem tile (r : Fin 512) (d : Fin 1024) :
    out0_6 x0 x1 x2 x3 x4 x5 (ix2 r d)
      = normed (fun k => step x0 x1 x2 x3 x4 r k) (fun k => x5 (ix2 0 k)) d := by
  unfold out0_6 k0_pay41 k0_pay40 k0_pay39 k0_pay38 k0_pay37 k0_pay36 k0_pay35 k0_pay34 k0_pay33 k0_pay32 k0_pay31
    k0_pay30 k0_pay29 k0_pay28 k0_pay27
  frame_out
  have e : ∀ y z : FVec Ideal S512x1024 .f32, k0_pay1 y (k0_pay25 x5) z (ix2 r d)
      = y (ix2 r d) * z (ix2 r d) * x5 (ix2 0 d) := fun y z => by
    unfold k0_pay1 k0_pay25
    pointwise
  rw [e, last_scale]
  unfold normed
  simp only [← stream_eq]

end Cert.FfnLastIdeal.Pay
-- ==== Proof.FfnLastValue.lean ====
/-
  The last feed-forward kernel's result array, whole: every row of it is the half step of that row,
  normed once more.
-/
module

public import proofs.«01_k».proof.Proof.FfnLastPay

@[expose] public section

noncomputable section

open Idealize.ShloMosaic Idealize.ShloMosaic.TcCoe Idealize.SL.Sem

namespace Cert.FfnLastIdeal.Whole

open Cert.FfnLastIdeal.Gen Cert.FfnMath

variable (m : (ℓ : Loc nD τ sig) → Buf (Elt Ideal) ℓ)

/-- The six arguments, as the host hands them in. -/
abbrev xs (c : Dev nD) : Vec Ideal S4x8192x1024 .f32 := m ((c : Thread nD τ).loc main_arg0)
abbrev nws (c : Dev nD) : Vec Ideal S4x1024 .f32 := m ((c : Thread nD τ).loc main_arg1)
abbrev wgs (c : Dev nD) : Vec Ideal S4x1024x2816 .f32 := m ((c : Thread nD τ).loc main_arg2)
abbrev wus (c : Dev nD) : Vec Ideal S4x1024x2816 .f32 := m ((c : Thread nD τ).loc main_arg3)
abbrev wds (c : Dev nD) : Vec Ideal S4x2816x1024 .f32 := m ((c : Thread nD τ).loc main_arg4)

abbrev wfs (c : Dev nD) : Vec Ideal S1024 .f32 := m ((c : Thread nD τ).loc main_arg5)

/-! ## Where each window's block lies -/

theorem index0 : ∀ t : Fin cfg0.N, win0_0.index t = ![t.val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![3, 0, 0] :=
  (by decide +kernel : ∀ t : Fin grid0.N, _)
theorem index3 : ∀ t : Fin cfg0.N, win0_3.index t = ![3, 0, 0] :=
  (by decide +kernel : ∀ t : Fin grid0.N, _)
theorem index4 : ∀ t : Fin cfg0.N, win0_4.index t = ![3, 0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![t.val, 0] :=
  (by decide +kernel : ∀ t : Fin grid0.N, _)

theorem read0 (c : Dev nD) (t : Fin cfg0.N) (r : Fin 512) (k : Fin 1024) (b : Fin 4) (s : Fin 8192)
    (h : 512 * t.val + r.val = 8192 * b.val + s.val) :
    iblk m c 0 t (ix2 r k) = xs m c (ix3 b s k) := by
  blk_simp [iblk]
  entry_read
  pointwise
  congr 1
  blk_ext [index0 t]

theorem read1 (c : Dev nD) (t : Fin cfg0.N) (k : Fin 1024) :
    iblk m c 1 t (ix2 0 k) = nws m c (ix2 3 k) := by
  blk_simp [iblk]
  entry_read
  pointwise
  congr 1
  blk_ext [index1 t]

theorem read2 (c : Dev nD) (t : Fin cfg0.N) (k : Fin 1024) (j : Fin 2816) :
    iblk m c 2 t (ix3 0 k j) = wgs m c (ix3 3 k j) := by
  blk_simp [iblk]
  entry_read
  congr 1
  blk_ext [index2 t]

theorem read3 (c : Dev nD) (t : Fin cfg0.N) (k : Fin 1024) (j : Fin 2816) :
    iblk m c 3 t (ix3 0 k j) = wus m c (ix3 3 k j) := by
  blk_simp [iblk]
  entry_read
  congr 1
  blk_ext [index3 t]

theorem read4 (c : Dev nD) (t : Fin cfg0.N) (j : Fin 2816) (d : Fin 1024) :
    iblk m c 4 t (ix3 0 j d) = wds m c (ix3 3 j d) := by
  blk_simp [iblk]
  entry_read
  congr 1
  blk_ext [index4 t]

theorem read5 (c : Dev nD) (t : Fin cfg0.N) (k : Fin 1024) :
    iblk m c 5 t (ix2 0 k) = wfs m c (ix1 k) := by
  blk_simp [iblk]
  entry_read
  pointwise
  congr 1
  blk_ext [index5 t]

/-- The half step of the rows of tile `t`, from the blocks point `t` reads, where the norm weights and the
    gate weights are finite. -/
theorem step_row (c : Dev nD) (hw : ∀ k, nws m c (ix2 3 k) ≠ ⊤ ∧ nws m c (ix2 3 k) ≠ ⊥)
    (hv : ∀ k j, wgs m c (ix3 3 k j) ≠ ⊤ ∧ wgs m c (ix3 3 k j) ≠ ⊥)
    (t : Fin cfg0.N) (r : Fin 512) (d : Fin 1024) (b : Fin 4) (s : Fin 8192)
    (h : 512 * t.val + r.val = 8192 * b.val + s.val) :
    Pay.step (iblk m c 0 t) (iblk m c 1 t) (iblk m c 2 t) (iblk m c 3 t) (iblk m c 4 t) r d
      = ffn (xs m c) (nws m c) (wgs m c) (wus m c) (wds m c) 3 b s d := by
  unfold Pay.step
  simp only [read0 m c t r _ b s h, read1 m c t, read2 m c t, read3 m c t, read4 m c t]
  unfold ffn half
  refine congrArg₂ (· + ·) rfl (congrArg₂ (· * ·) rfl (Finset.sum_congr rfl fun j _ => congrArg₂ (· * ·) ?_ rfl))
  exact kact_eq _ _ _ _ hw fun k => hv k j

/-- What point `t` leaves in the output block: those rows, normed once more. -/
theorem out_row (c : Dev nD) (hw : ∀ k, nws m c (ix2 3 k) ≠ ⊤ ∧ nws m c (ix2 3 k) ≠ ⊥)
    (hv : ∀ k j, wgs m c (ix3 3 k j) ≠ ⊤ ∧ wgs m c (ix3 3 k j) ≠ ⊥)
    (t : Fin cfg0.N) (r : Fin 512) (d : Fin 1024) (b : Fin 4) (s : Fin 8192)
    (h : 512 * t.val + r.val = 8192 * b.val + s.val) :
    out0_6 (iblk m c 0 t) (iblk m c 1 t) (iblk m c 2 t) (iblk m c 3 t) (iblk m c 4 t) (iblk m c 5 t) (ix2 r d)
      = normed (fun k => ffn (xs m c) (nws m c) (wgs m c) (wus m c) (wds m c) 3 b s k) (fun k => wfs m c (ix1 k)) d := by
  rw [Pay.tile]
  simp only [read5 m c t, step_row m c hw hv t r _ b s h]

/-- The result array after the run. -/
theorem final (c : Dev nD) (hw : ∀ k, nws m c (ix2 3 k) ≠ ⊤ ∧ nws m c (ix2 3 k) ≠ ⊥)
    (hv : ∀ k j, wgs m c (ix3 3 k j) ≠ ⊤ ∧ wgs m c (ix3 3 k j) ≠ ⊥) : (dats m 0 c).arrAt 6 cfg0.N
    = fun i : S32768x1024.Idx => normed (fun k => ffn (xs m c) (nws m c) (wgs m c) (wus m c) (wds m c) 3
        ⟨(i 0).val / 8192, by have h : (i 0).val < 32768 := (i 0).isLt; omega⟩ ⟨(i 0).val % 8192, Nat.mod_lt _ (by decide)⟩ k)
        (fun k => wfs m c (ix1 k)) (i 1) := by
  refine (dats m 0 c).arrAt_eq_of_covers 6 _ (by decide +kernel) fun t hf y => ?_
  blk_simp
  rw [after0_6]
  have ey : ix2 (n0 := 512) (n1 := 1024) (y 0) (y 1) = y := funext fun a => match a with | ⟨0, _⟩ => rfl | ⟨1, _⟩ => rfl
  have ei : win0_6.index t 0 = t.val := by rw [index6 t]; rfl
  have ec : (win0_6.blk t).view.emb y 1 = (y 1 : Fin 1024) := by
    apply Fin.ext; blk_simp [index6 t]
  rw [ec]
  conv_lhs => rw [← ey]
  refine out_row m c hw hv t (y 0) (y 1) _ _ ?_
  show 512 * t.val + (y 0).val = 8192 * ((win0_6.index t 0 * 512 + (y 0).val) / 8192)
    + (win0_6.index t 0 * 512 + (y 0).val) % 8192
  rw [ei]; omega

end Cert.FfnLastIdeal.Whole
-- ==== Proof.FfnLastSpec.lean ====
/-
  The last feed-forward reference program leaves the half step of every row, normed once more; and what its precondition says.
-/
module

public import proofs.«01_k».proof.Proof.Gen.FfnLastRefIdeal.Read
public import proofs.«01_k».proof.Proof.Gen.Pre_ffn_last_gate_finite
public import Idealize.ShloMosaic.Lib.Pipeline.ValueKit
public import Idealize.ShloMosaic.Lib.Claim
public import proofs.«01_k».proof.Proof.FfnMath

@[expose] public section

noncomputable section

open Idealize.ShloMosaic Idealize.ShloMosaic.TcCoe Idealize.SL.Sem

namespace Cert.FfnLastSpec

open Cert.FfnLastRefIdeal Cert.FfnLastRefIdeal.Read Cert.FfnMath

variable (x : Vec Ideal S4x8192x1024 .f32) (nw : Vec Ideal S4x1024 .f32) (wg wu : Vec Ideal S4x1024x2816 .f32)
  (wd : Vec Ideal S4x2816x1024 .f32) (wf : Vec Ideal S1024 .f32)

/-! ## The reference, stage by stage -/

theorem ref_norm (b : Fin 4) (s : Fin 8192) (k : Fin 1024) :
    val_main_v14 (F := Ideal) x nw (ix3 b s k)
      = x (ix3 b s k) * rinv (fun l => x (ix3 b s l)) * nw (ix2 3 k) := by
  unfold val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1
  pointwise
  rfl

theorem ref_gate (b : Fin 4) (s : Fin 8192) (j : Fin 2816) :
    val_main_v21 (F := Ideal) x nw wg (ix3 b s j)
      = lin (fun k => x (ix3 b s k)) (fun k => nw (ix2 3 k)) (fun k => wg (ix3 3 k j)) := by
  unfold val_main_v21 val_main_v16 val_main_v15
  pointwise
  simp only [ref_norm]
  rfl

theorem ref_up (b : Fin 4) (s : Fin 8192) (j : Fin 2816) :
    val_main_v23 (F := Ideal) x nw wu (ix3 b s j)
      = lin (fun k => x (ix3 b s k)) (fun k => nw (ix2 3 k)) (fun k => wu (ix3 3 k j)) := by
  unfold val_main_v23 val_main_v18 val_main_v17
  pointwise
  simp only [ref_norm]
  rfl

theorem ref_hidden (b : Fin 4) (s : Fin 8192) (j : Fin 2816) :
    val_main_v24 (F := Ideal) x nw wg wu (ix3 b s j)
      = act (fun k => x (ix3 b s k)) (fun k => nw (ix2 3 k)) (fun k => wg (ix3 3 k j)) (fun k => wu (ix3 3 k j)) := by
  unfold val_main_v24 val_main_v22 val_main_call0_v5 val_main_call0_v4 val_main_call0_v3 val_main_call0_v2
    val_main_call0_v1 val_main_call0_v0 val_main_call0_cst_0 val_main_call0_cst
  pointwise
  simp only [ref_gate, ref_up]
  rfl

/-- The stream after the half step. -/
theorem ref_half (b : Fin 4) (s : Fin 8192) (d : Fin 1024) :
    val_main_v28 (F := Ideal) x nw wg wu wd (ix3 b s d) = ffn x nw wg wu wd 3 b s d := by
  unfold val_main_v28 val_main_v27 val_main_v26 val_main_v25 val_main_v20 val_main_v19 val_main_cst_2
  pointwise
  simp only [ref_hidden]
  rfl

/-- The reference's result, at a row of the flattened stream. -/
theorem ref_last (g : Fin 32768) (d : Fin 1024) :
    val_main_v42 (F := Ideal) x nw wg wu wd wf (ix2 g d)
      = normed (fun k => ffn x nw wg wu wd 3 ⟨g.val / 8192, by omega⟩ ⟨g.val % 8192, by omega⟩ k)
          (fun k => wf (ix1 k)) d := by
  unfold val_main_v42 val_main_v41 val_main_v40 val_main_v39 val_main_v38 val_main_v37 val_main_v36 val_main_v35
    val_main_v34 val_main_v33 val_main_v32 val_main_v31 val_main_v30 val_main_v29 val_main_cst_3 val_main_cst_4
    val_main_cst_5
  pointwise
  simp only [ref_half]
  rfl

/-- The precondition: the layer's norm weights and gate weights are finite. -/
theorem finite (h : Cert.Pre_ffn_last_gate_finite.fn (F := Ideal) x nw wg wu wd wf = fun _ => 1#1) (k : Fin 1024)
    (j : Fin 2816) : (nw (ix2 3 k) ≠ ⊤ ∧ nw (ix2 3 k) ≠ ⊥) ∧ (wg (ix3 3 k j) ≠ ⊤ ∧ wg (ix3 3 k j) ≠ ⊥) := by
  have e := congrFun h (ix2 k j)
  refine finite_of_and _ _ (Eq.trans (Eq.symm ?_) e)
  unfold Cert.Pre_ffn_last_gate_finite.fn
  pointwise
  rfl

end Cert.FfnLastSpec
-- ==== Proof.FfnLastClaim.lean ====
/-
  The last feed-forward kernel and its reference leave the same array: both hold the half step of every row,
  normed once more.
-/
module

public import proofs.«01_k».proof.Defs
public import proofs.«01_k».proof.Proof.Gen.FfnLastIdeal.Value
public import proofs.«01_k».proof.Proof.Gen.FfnLastRefIdeal.Run
public import proofs.«01_k».proof.Proof.FfnLastValue
public import proofs.«01_k».proof.Proof.FfnLastSpec

@[expose] public section

open Idealize.ShloMosaic Idealize.ShloMosaic.TcCoe Idealize.SL.Sem

namespace Cert.FfnLastClaim

/-- The reference's array, on the same arguments, is the kernel's. -/
theorem same (m : (ℓ : Loc Cert.FfnLastIdeal.nD Cert.FfnLastIdeal.τ Cert.FfnLastIdeal.sig) → Buf (Elt Ideal) ℓ)
    (m' : (ℓ : Loc Cert.FfnLastRefIdeal.nD Cert.FfnLastRefIdeal.τ Cert.FfnLastRefIdeal.sig) → Buf (Elt Ideal) ℓ)
    (c : Dev Cert.FfnLastIdeal.nD)
    (h0 : m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0))
    (h1 : m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1))
    (h2 : m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2))
    (h3 : m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3))
    (h4 : m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4))
    (h5 : m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5))
    (hp : Cert.Pre_ffn_last_gate_finite.fn (F := Ideal) (Cert.FfnLastIdeal.Whole.xs m c) (Cert.FfnLastIdeal.Whole.nws m c)
      (Cert.FfnLastIdeal.Whole.wgs m c) (Cert.FfnLastIdeal.Whole.wus m c) (Cert.FfnLastIdeal.Whole.wds m c) (Cert.FfnLastIdeal.Whole.wfs m c) = fun _ => 1#1) :
    Cert.FfnLastRefIdeal.Read.val_main_v42 (F := Ideal) (m' ((c.tc : Thread Cert.FfnLastRefIdeal.nD Cert.FfnLastRefIdeal.τ).loc Cert.FfnLastRefIdeal.main_arg0)) (m' ((c.tc : Thread Cert.FfnLastRefIdeal.nD Cert.FfnLastRefIdeal.τ).loc Cert.FfnLastRefIdeal.main_arg1)) (m' ((c.tc : Thread Cert.FfnLastRefIdeal.nD Cert.FfnLastRefIdeal.τ).loc Cert.FfnLastRefIdeal.main_arg2)) (m' ((c.tc : Thread Cert.FfnLastRefIdeal.nD Cert.FfnLastRefIdeal.τ).loc Cert.FfnLastRefIdeal.main_arg3)) (m' ((c.tc : Thread Cert.FfnLastRefIdeal.nD Cert.FfnLastRefIdeal.τ).loc Cert.FfnLastRefIdeal.main_arg4)) (m' ((c.tc : Thread Cert.FfnLastRefIdeal.nD Cert.FfnLastRefIdeal.τ).loc Cert.FfnLastRefIdeal.main_arg5))
      = (Cert.FfnLastIdeal.Gen.dats m 0 c).arrAt 6 Cert.FfnLastIdeal.cfg0.N := by
  rw [Cert.FfnLastIdeal.Whole.final m c (fun k => (FfnLastSpec.finite _ _ _ _ _ _ hp k 0).1)
      (fun k j => (FfnLastSpec.finite _ _ _ _ _ _ hp k j).2), h0, h1, h2, h3, h4, h5]
  funext i
  have ei : ix2 (n0 := 32768) (n1 := 1024) (i 0) (i 1) = i := funext fun a => match a with | ⟨0, _⟩ => rfl | ⟨1, _⟩ => rfl
  conv_lhs => rw [← ei]
  exact FfnLastSpec.ref_last _ _ _ _ _ _ (i 0) (i 1)

/-- The reference runs to its end, leaves its arguments alone, and has no semaphore to leave set. -/
theorem frame_ref [Cert.FfnLastRefIdeal.Facts] : quiescent_FfnLastRefIdeal := fun m g _ =>
  (θ_run Cert.FfnLastRefIdeal.defs _ _).mono
    (fun r h => ⟨fun c => (h c).2, sem_eq_zero_of_no_sems (by decide) r.2⟩)
    (Cert.FfnLastRefIdeal.Value.run m g)

/-- Both run, from the same arguments, to the same array. -/
theorem algebraic :
    algebraic_FfnLastIdeal_FfnLastRefIdeal_pre_ffn_last_gate_finite := by
  intro m g m' g' hp e
  refine ⟨fun c => (Cert.FfnLastIdeal.Gen.dats m 0 c).arrAt 6 Cert.FfnLastIdeal.cfg0.N,
    Cert.FfnLastIdeal.Value.run_blocks m g, ?_⟩
  refine (θ_run Cert.FfnLastRefIdeal.defs _ _).mono (fun r h c => ?_) (Cert.FfnLastRefIdeal.Value.run m' g')
  obtain ⟨e0, e1, e2, e3, e4, e5⟩ := e c
  exact ⟨((h c).1.trans (Cert.FfnLastRefIdeal.Read.val_main_v42_eq m' c)).trans (same m m' c e0 e1 e2 e3 e4 e5 (hp c)), (h c).2⟩

end Cert.FfnLastClaim
-- ==== Proof.FfnMixPay.lean ====
/-
  What the feed-forward call behind a hybrid mixer stores for a tile of 512 rows, at an index, over arbitrary block
  contents. The mixer's two half rows are projected and added first; the hidden units then come in eleven chunks of
  256 columns, laid side by side before the last product.
-/
module

public import proofs.«01_k».proof.Proof.Gen.FfnMixIdeal.Value
public import Idealize.ShloMosaic.Lib.Pipeline.ValueKit
public import proofs.«01_k».proof.Proof.FfnMath

@[expose] public section

noncomputable section

open Idealize.ShloMosaic Idealize.ShloMosaic.TcCoe Idealize.SL.Sem

namespace Cert.FfnMixIdeal.Pay

open Cert.FfnMixIdeal Cert.FfnMixIdeal.Gen Cert.FfnMath

variable (x0 : Vec Ideal S512x1024 .f32) (x1 x2 : Vec Ideal S512x512 .bf16) (x3 : Vec Ideal S1x1024x1024 .f32)
  (x4 : Vec Ideal S1x1024 .f32) (x5 x6 : Vec Ideal S1x1024x2816 .f32) (x7 : Vec Ideal S1x2816x1024 .f32)
variable (h : FVec Ideal S512x1024 .bf16) (s : FVec Ideal S512x1 .f32)

/-- Column `d` of chunk `c` of the hidden units; a chunk is 256 wide. -/
def at_ (c : Fin 11) (d : Fin 256) : Fin 2816 := ⟨256 * c.val + d.val, by omega⟩

/-! ## The eleven chunks of hidden units, one by one

    `h` is the row times the norm weights and `s` its scale factor. The first ones compute both from the tile again. -/

theorem chunk0 (r : Fin 512) (d : Fin 256) :
    k0_pay8 (k0_pay5 x0 x1 x2 x3 x4 (View.ld x5 r0_4)) (k0_pay6 x0 x1 x2 x3 x4 (View.ld x6 r0_4)) (k0_pay7 x0 x1 x2 x3) (ix2 r d)
      = kact (fun k => (k0_pay3 x0 x1 x2 x3 x4) (ix2 r k)) ((k0_pay4 x0 x1 x2 x3) (ix2 r 0)) (fun k => x5 (ix3 0 k (at_ 0 d))) (fun k => x6 (ix3 0 k (at_ 0 d))) := by
  unfold k0_pay8 k0_pay5 k0_pay6 k0_pay7
  pointwise
  rw [show at_ 0 d = ⟨d.val, by omega⟩ from Fin.ext (by simp [at_])]
  rfl

theorem chunk1 (r : Fin 512) (d : Fin 256) :
    k0_pay9 h s (View.ld x5 r0_5) (View.ld x6 r0_5) (ix2 r d)
      = kact (fun k => h (ix2 r k)) (s (ix2 r 0)) (fun k => x5 (ix3 0 k (at_ 1 d))) (fun k => x6 (ix3 0 k (at_ 1 d))) := by
  unfold k0_pay9
  pointwise
  simp only [at_]
  rfl

theorem chunk2 (r : Fin 512) (d : Fin 256) :
    k0_pay12 (k0_pay10 h s (View.ld x6 r0_6)) (k0_pay11 h s (View.ld x5 r0_6)) (ix2 r d)
      = kact (fun k => h (ix2 r k)) (s (ix2 r 0)) (fun k => x5 (ix3 0 k (at_ 2 d))) (fun k => x6 (ix3 0 k (at_ 2 d))) := by
  unfold k0_pay12 k0_pay10 k0_pay11
  pointwise
  simp only [at_]
  rfl

theorem chunk3 (r : Fin 512) (d : Fin 256) :
    k0_pay13 h s (View.ld x5 r0_7) (View.ld x6 r0_7) (ix2 r d)
      = kact (fun k => h (ix2 r k)) (s (ix2 r 0)) (fun k => x5 (ix3 0 k (at_ 3 d))) (fun k => x6 (ix3 0 k (at_ 3 d))) := by
  unfold k0_pay13
  pointwise
  simp only [at_]
  rfl

theorem chunk4 (r : Fin 512) (d : Fin 256) :
    k0_pay15 (k0_pay14 h s (View.ld x5 r0_8) (View.ld x6 r0_8)) (ix2 r d)
      = kact (fun k => h (ix2 r k)) (s (ix2 r 0)) (fun k => x5 (ix3 0 k (at_ 4 d))) (fun k => x6 (ix3 0 k (at_ 4 d))) := by
  unfold k0_pay15 k0_pay14
  pointwise
  simp only [at_]
  rfl

theorem chunk5 (r : Fin 512) (d : Fin 256) :
    k0_pay16 h s (View.ld x5 r0_9) (View.ld x6 r0_9) (ix2 r d)
      = kact (fun k => h (ix2 r k)) (s (ix2 r 0)) (fun k => x5 (ix3 0 k (at_ 5 d))) (fun k => x6 (ix3 0 k (at_ 5 d))) := by
  unfold k0_pay16
  pointwise
  simp only [at_]
  rfl

theorem chunk6 (r : Fin 512) (d : Fin 256) :
    k0_pay17 h s (View.ld x5 r0_10) (View.ld x6 r0_10) (ix2 r d)
      = kact (fun k => h (ix2 r k)) (s (ix2 r 0)) (fun k => x5 (ix3 0 k (at_ 6 d))) (fun k => x6 (ix3 0 k (at_ 6 d))) := by
  unfold k0_pay17
  pointwise
  simp only [at_]
  rfl

theorem chunk7 (r : Fin 512) (d : Fin 256) :
    k0_pay18 h s (View.ld x5 r0_11) (View.ld x6 r0_11) (ix2 r d)
      = kact (fun k => h (ix2 r k)) (s (ix2 r 0)) (fun k => x5 (ix3 0 k (at_ 7 d))) (fun k => x6 (ix3 0 k (at_ 7 d))) := by
  unfold k0_pay18
  pointwise
  simp only [at_]
  rfl

theorem chunk8 (r : Fin 512) (d : Fin 256) :
    k0_pay19 h s (View.ld x5 r0_12) (View.ld x6 r0_12) (ix2 r d)
      = kact (fun k => h (ix2 r k)) (s (ix2 r 0)) (fun k => x5 (ix3 0 k (at_ 8 d))) (fun k => x6 (ix3 0 k (at_ 8 d))) := by
  unfold k0_pay19
  pointwise
  simp only [at_]
  rfl

theorem chunk9 (r : Fin 512) (d : Fin 256) :
    kact (fun k => h (ix2 r k)) (s (ix2 r 0)) (fun k => k0_pay20 (View.ld x5 r0_13) (ix2 k d)) (fun k => (View.ld x6 r0_13) (ix3 0 k d))
      = kact (fun k => h (ix2 r k)) (s (ix2 r 0)) (fun k => x5 (ix3 0 k (at_ 9 d))) (fun k => x6 (ix3 0 k (at_ 9 d))) := by
  unfold k0_pay20
  pointwise
  simp only [at_]
  rfl

theorem chunk10 (r : Fin 512) (d : Fin 256) :
    kact (fun k => h (ix2 r k)) (s (ix2 r 0)) (fun k => (View.ld x5 r0_14) (ix3 0 k d)) (fun k => (View.ld x6 r0_14) (ix3 0 k d))
      = kact (fun k => h (ix2 r k)) (s (ix2 r 0)) (fun k => x5 (ix3 0 k (at_ 10 d))) (fun k => x6 (ix3 0 k (at_ 10 d))) := by
  pointwise
  simp only [at_]
  rfl

/-! ## The tile -/

/-- Row `r` of the stream with the two half rows' projection added to it. -/
def row (r : Fin 512) (k : Fin 1024) : EReal :=
  mixed (x0 (ix2 r k)) (fun i => x1 (ix2 r i)) (fun i => x2 (ix2 r i)) (fun i => x3 (ix3 0 i k))

theorem mix_eq (r : Fin 512) (k : Fin 1024) : k0_pay2 x0 x1 x2 x3 (ix2 r k) = row x0 x1 x2 x3 r k := by
  unfold k0_pay2
  pointwise
  rfl

/-- The row times the norm weights, before it is scaled. -/
theorem row_eq (r : Fin 512) (k : Fin 1024) :
    k0_pay3 x0 x1 x2 x3 x4 (ix2 r k) = row x0 x1 x2 x3 r k * x4 (ix2 0 k) := by
  unfold k0_pay3
  pointwise
  rw [mix_eq]

/-- The factor the row is scaled by. -/
theorem scale_eq (r : Fin 512) : k0_pay4 x0 x1 x2 x3 (ix2 r 0) = rinv fun k => row x0 x1 x2 x3 r k := by
  unfold k0_pay4
  pointwise
  simp only [mix_eq]
  rfl

/-- The eleven chunks laid side by side and multiplied by the down weights: one sum over all hidden units. -/
theorem joined (v16 : FVec Ideal S512x1024 .bf16) (v24 : FVec Ideal S512x1 .f32)
    (v43 v62 v81 v100 v119 v138 v157 v176 v195 : FVec Ideal S512x256 .bf16) (v198 : FVec Ideal S1024x256 .bf16)
    (v202 v215 v221 : Vec Ideal S1x1024x256 .f32) (f : Fin 2816 → EReal) (r : Fin 512) (d : Fin 1024)
    (h0 : ∀ e, v43 (ix2 r e) = f (at_ 0 e))
    (h1 : ∀ e, v62 (ix2 r e) = f (at_ 1 e))
    (h2 : ∀ e, v81 (ix2 r e) = f (at_ 2 e))
    (h3 : ∀ e, v100 (ix2 r e) = f (at_ 3 e))
    (h4 : ∀ e, v119 (ix2 r e) = f (at_ 4 e))
    (h5 : ∀ e, v138 (ix2 r e) = f (at_ 5 e))
    (h6 : ∀ e, v157 (ix2 r e) = f (at_ 6 e))
    (h7 : ∀ e, v176 (ix2 r e) = f (at_ 7 e))
    (h8 : ∀ e, v195 (ix2 r e) = f (at_ 8 e))
    (h9 : ∀ e, kact (fun k => v16 (ix2 r k)) (v24 (ix2 r 0)) (fun k => v198 (ix2 k e)) (fun k => v202 (ix3 0 k e))
      = f (at_ 9 e))
    (h10 : ∀ e, kact (fun k => v16 (ix2 r k)) (v24 (ix2 r 0)) (fun k => v215 (ix3 0 k e)) (fun k => v221 (ix3 0 k e))
      = f (at_ 10 e)) :
    k0_pay21 v16 v24 v43 v62 v81 v100 v119 v138 v157 v176 v195 v198 (constant S512x256 .f32 0x00000000#32) v202 v215 v221 x7 (ix2 r d)
      = ∑ j : Fin 2816, f j * x7 (ix3 0 j d) := by
  unfold k0_pay21
  have key : ∀ c9 c10 : FVec Ideal S512x256 .bf16, (∀ e, c9 (ix2 r e) = f (at_ 9 e)) → (∀ e, c10 (ix2 r e) = f (at_ 10 e)) →
      (matmul dot_S512x2816_S2816x1024_S512x1024_1_0_0_1_n_n none
        (concatenate S512x2816 1 [⟨S512x256, v43⟩, ⟨S512x256, v62⟩, ⟨S512x256, v81⟩, ⟨S512x256, v100⟩, ⟨S512x256, v119⟩, ⟨S512x256, v138⟩, ⟨S512x256, v157⟩, ⟨S512x256, v176⟩, ⟨S512x256, v195⟩, ⟨S512x256, c9⟩, ⟨S512x256, c10⟩]
          concatenates_S512x256_S512x256_S512x256_S512x256_S512x256_S512x256_S512x256_S512x256_S512x256_S512x256_S512x256_S512x2816_d1)
        (truncf .bf16 (shapeCast S2816x1024 x7 shapeCasts_S1x2816x1024_S2816x1024) bitsLt_bf16_f32)
        (constant S512x1024 .f32 0x00000000#32)) (ix2 r d)
      = ∑ j : Fin 2816, f j * x7 (ix3 0 j d) := by
    intro c9 c10 h9 h10
    pointwise
    refine Finset.sum_congr rfl fun j _ => congrArg₂ (· * ·) ?_ rfl
    have hj := j.isLt
    by_cases c0 : j.val < 256
    · exact (dif_pos c0).trans ((h0 _).trans (congrArg f (Fin.ext (by show 256 * 0 + (j.val) = j.val; omega))))
    refine (dif_neg c0).trans ?_
    by_cases c1 : j.val - 256 < 256
    · exact (dif_pos c1).trans ((h1 _).trans (congrArg f (Fin.ext (by show 256 * 1 + (j.val - 256) = j.val; omega))))
    refine (dif_neg c1).trans ?_
    by_cases c2 : j.val - 256 - 256 < 256
    · exact (dif_pos c2).trans ((h2 _).trans (congrArg f (Fin.ext (by show 256 * 2 + (j.val - 256 - 256) = j.val; omega))))
    refine (dif_neg c2).trans ?_
    by_cases c3 : j.val - 256 - 256 - 256 < 256
    · exact (dif_pos c3).trans ((h3 _).trans (congrArg f (Fin.ext (by show 256 * 3 + (j.val - 256 - 256 - 256) = j.val; omega))))
    refine (dif_neg c3).trans ?_
    by_cases c4 : j.val - 256 - 256 - 256 - 256 < 256
    · exact (dif_pos c4).trans ((h4 _).trans (congrArg f (Fin.ext (by show 256 * 4 + (j.val - 256 - 256 - 256 - 256) = j.val; omega))))
    refine (dif_neg c4).trans ?_
    by_cases c5 : j.val - 256 - 256 - 256 - 256 - 256 < 256
    · exact (dif_pos c5).trans ((h5 _).trans (congrArg f (Fin.ext (by show 256 * 5 + (j.val - 256 - 256 - 256 - 256 - 256) = j.val; omega))))
    refine (dif_neg c5).trans ?_
    by_cases c6 : j.val - 256 - 256 - 256 - 256 - 256 - 256 < 256
    · exact (dif_pos c6).trans ((h6 _).trans (congrArg f (Fin.ext (by show 256 * 6 + (j.val - 256 - 256 - 256 - 256 - 256 - 256) = j.val; omega))))
    refine (dif_neg c6).trans ?_
    by_cases c7 : j.val - 256 - 256 - 256 - 256 - 256 - 256 - 256 < 256
    · exact (dif_pos c7).trans ((h7 _).trans (congrArg f (Fin.ext (by show 256 * 7 + (j.val - 256 - 256 - 256 - 256 - 256 - 256 - 256) = j.val; omega))))
    refine (dif_neg c7).trans ?_
    by_cases c8 : j.val - 256 - 256 - 256 - 256 - 256 - 256 - 256 - 256 < 256
    · exact (dif_pos c8).trans ((h8 _).trans (congrArg f (Fin.ext (by show 256 * 8 + (j.val - 256 - 256 - 256 - 256 - 256 - 256 - 256 - 256) = j.val; omega))))
    refine (dif_neg c8).trans ?_
    by_cases c9 : j.val - 256 - 256 - 256 - 256 - 256 - 256 - 256 - 256 - 256 < 256
    · exact (dif_pos c9).trans ((h9 _).trans (congrArg f (Fin.ext (by show 256 * 9 + (j.val - 256 - 256 - 256 - 256 - 256 - 256 - 256 - 256 - 256) = j.val; omega))))
    refine (dif_neg c9).trans ?_
    exact (h10 _).trans (congrArg f (Fin.ext (by show 256 * 10 + (j.val - 256 - 256 - 256 - 256 - 256 - 256 - 256 - 256 - 256 - 256) = j.val; omega)))
  refine key _ _ (fun e => Eq.trans ?_ (h9 e)) (fun e => Eq.trans ?_ (h10 e)) <;> (pointwise; rfl)
/-- The tile after the call. -/
theorem tile (r : Fin 512) (d : Fin 1024) :
    out0_8 x0 x1 x2 x3 x4 x5 x6 x7 (ix2 r d)
      = row x0 x1 x2 x3 r d + cHalf * ∑ j : Fin 2816,
          kact (fun k => row x0 x1 x2 x3 r k * x4 (ix2 0 k)) (rinv fun k => row x0 x1 x2 x3 r k)
            (fun k => x5 (ix3 0 k j)) (fun k => x6 (ix3 0 k j)) * x7 (ix3 0 j d) := by
  unfold out0_8 k0_pay23 k0_pay24
  frame_out
  have own : ∀ vg vu, kact (fun k => k0_pay3 x0 x1 x2 x3 x4 (ix2 r k))
      (k0_pay4 x0 x1 x2 x3 (ix2 r 0)) vg vu
      = kact (fun k => row x0 x1 x2 x3 r k * x4 (ix2 0 k)) (rinv fun k => row x0 x1 x2 x3 r k) vg vu := fun vg vu => by
    rw [scale_eq]; simp only [row_eq]
  have e : ∀ y z : FVec Ideal S512x1024 .f32, k0_pay1 y z (k0_pay22 (F := Ideal)) (ix2 r d)
      = y (ix2 r d) + cHalf * z (ix2 r d) := fun y z => by
    unfold k0_pay1 k0_pay22
    pointwise
  rw [e, mix_eq, joined x7 _ _ _ _ _ _ _ _ _ _ _ _ _ _ _ (fun j => kact (fun k => row x0 x1 x2 x3 r k * x4 (ix2 0 k)) (rinv fun k => row x0 x1 x2 x3 r k)
      (fun k => x5 (ix3 0 k j)) (fun k => x6 (ix3 0 k j))) r d
    (fun e => (chunk0 x0 x1 x2 x3 x4 x5 x6 r e).trans (own _ _))
    (fun e => (chunk1 x5 x6 _ _ r e).trans (own _ _))
    (fun e => (chunk2 x5 x6 _ _ r e).trans (own _ _))
    (fun e => (chunk3 x5 x6 _ _ r e).trans (own _ _))
    (fun e => (chunk4 x5 x6 _ _ r e).trans (own _ _))
    (fun e => (chunk5 x5 x6 _ _ r e).trans (own _ _))
    (fun e => (chunk6 x5 x6 _ _ r e).trans (own _ _))
    (fun e => (chunk7 x5 x6 _ _ r e).trans (own _ _))
    (fun e => (chunk8 x5 x6 _ _ r e).trans (own _ _))
    (fun e => (chunk9 x5 x6 _ _ r e).trans (own _ _))
    (fun e => (chunk10 x5 x6 _ _ r e).trans (own _ _))]

end Cert.FfnMixIdeal.Pay
-- ==== Proof.FfnMixValue.lean ====
/-
  The result array of the feed-forward kernel behind a hybrid mixer, whole: every row of it is the half step of the row
  with the mixer's projected output added.
-/
module

public import proofs.«01_k».proof.Proof.FfnMixPay

@[expose] public section

noncomputable section

open Idealize.ShloMosaic Idealize.ShloMosaic.TcCoe Idealize.SL.Sem

namespace Cert.FfnMixIdeal.Whole

open Cert.FfnMixIdeal.Gen Cert.FfnMath

variable (m : (ℓ : Loc nD τ sig) → Buf (Elt Ideal) ℓ)

/-- The eight arguments, as the host hands them in. -/
abbrev xs (c : Dev nD) : Vec Ideal S4x8192x1024 .f32 := m ((c : Thread nD τ).loc main_arg0)
abbrev os (c : Dev nD) : Vec Ideal S4x8192x512 .bf16 := m ((c : Thread nD τ).loc main_arg1)
abbrev ys (c : Dev nD) : Vec Ideal S4x8192x512 .bf16 := m ((c : Thread nD τ).loc main_arg2)
abbrev wos (c : Dev nD) : Vec Ideal S2x1024x1024 .f32 := m ((c : Thread nD τ).loc main_arg3)
abbrev nws (c : Dev nD) : Vec Ideal S4x1024 .f32 := m ((c : Thread nD τ).loc main_arg4)
abbrev wgs (c : Dev nD) : Vec Ideal S4x1024x2816 .f32 := m ((c : Thread nD τ).loc main_arg5)
abbrev wus (c : Dev nD) : Vec Ideal S4x1024x2816 .f32 := m ((c : Thread nD τ).loc main_arg6)
abbrev wds (c : Dev nD) : Vec Ideal S4x2816x1024 .f32 := m ((c : Thread nD τ).loc main_arg7)

/-! ## Where each window's block lies -/

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)
theorem index2 : ∀ t : Fin cfg0.N, win0_2.index t = ![t.val, 0] :=
  (by decide +kernel : ∀ t : Fin grid0.N, _)
theorem index3 : ∀ t : Fin cfg0.N, win0_3.index t = ![0, 0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0, 0] :=
  (by decide +kernel : ∀ t : Fin grid0.N, _)
theorem index6 : ∀ t : Fin cfg0.N, win0_6.index t = ![0, 0, 0] :=
  (by decide +kernel : ∀ t : Fin grid0.N, _)
theorem index7 : ∀ t : Fin cfg0.N, win0_7.index t = ![0, 0, 0] :=
  (by decide +kernel : ∀ t : Fin grid0.N, _)
theorem index8 : ∀ t : Fin cfg0.N, win0_8.index t = ![t.val, 0] :=
  (by decide +kernel : ∀ t : Fin grid0.N, _)

theorem read0 (c : Dev nD) (t : Fin cfg0.N) (r : Fin 512) (k : Fin 1024) (b : Fin 4) (s : Fin 8192)
    (h : 512 * t.val + r.val = 8192 * b.val + s.val) :
    iblk m c 0 t (ix2 r k) = xs m c (ix3 b s k) := by
  blk_simp [iblk]
  entry_read
  pointwise
  congr 1
  blk_ext [index0 t]

theorem read1 (c : Dev nD) (t : Fin cfg0.N) (r : Fin 512) (k : Fin 512) (b : Fin 4) (s : Fin 8192)
    (h : 512 * t.val + r.val = 8192 * b.val + s.val) :
    iblk m c 1 t (ix2 r k) = os m c (ix3 b s k) := by
  blk_simp [iblk]
  entry_read
  pointwise
  congr 1
  blk_ext [index1 t]

theorem read2 (c : Dev nD) (t : Fin cfg0.N) (r : Fin 512) (k : Fin 512) (b : Fin 4) (s : Fin 8192)
    (h : 512 * t.val + r.val = 8192 * b.val + s.val) :
    iblk m c 2 t (ix2 r k) = ys m c (ix3 b s k) := by
  blk_simp [iblk]
  entry_read
  pointwise
  congr 1
  blk_ext [index2 t]

theorem read3 (c : Dev nD) (t : Fin cfg0.N) (k : Fin 1024) (j : Fin 1024) :
    iblk m c 3 t (ix3 0 k j) = wos m c (ix3 0 k j) := by
  blk_simp [iblk]
  entry_read
  congr 1
  blk_ext [index3 t]

theorem read4 (c : Dev nD) (t : Fin cfg0.N) (k : Fin 1024) :
    iblk m c 4 t (ix2 0 k) = nws m c (ix2 0 k) := by
  blk_simp [iblk]
  entry_read
  pointwise
  congr 1
  blk_ext [index4 t]

theorem read5 (c : Dev nD) (t : Fin cfg0.N) (k : Fin 1024) (j : Fin 2816) :
    iblk m c 5 t (ix3 0 k j) = wgs m c (ix3 0 k j) := by
  blk_simp [iblk]
  entry_read
  congr 1
  blk_ext [index5 t]

theorem read6 (c : Dev nD) (t : Fin cfg0.N) (k : Fin 1024) (j : Fin 2816) :
    iblk m c 6 t (ix3 0 k j) = wus m c (ix3 0 k j) := by
  blk_simp [iblk]
  entry_read
  congr 1
  blk_ext [index6 t]

theorem read7 (c : Dev nD) (t : Fin cfg0.N) (k : Fin 2816) (j : Fin 1024) :
    iblk m c 7 t (ix3 0 k j) = wds m c (ix3 0 k j) := by
  blk_simp [iblk]
  entry_read
  congr 1
  blk_ext [index7 t]

/-- The row the half step is taken of. -/
theorem row_mix (c : Dev nD) (t : Fin cfg0.N) (r : Fin 512) (k : Fin 1024) (b : Fin 4) (s : Fin 8192)
    (h : 512 * t.val + r.val = 8192 * b.val + s.val) :
    Pay.row (iblk m c 0 t) (iblk m c 1 t) (iblk m c 2 t) (iblk m c 3 t) r k
      = mixRow (xs m c) (os m c) (ys m c) (wos m c) b s k := by
  unfold Pay.row
  simp only [read0 m c t r _ b s h, read1 m c t r _ b s h, read2 m c t r _ b s h, read3 m c t]
  rfl

/-- What point `t` leaves in the output block: the half step of the rows of tile `t`, where the norm weights and the
    gate weights are finite. -/
theorem out_row (c : Dev nD) (hw : ∀ k, nws m c (ix2 0 k) ≠ ⊤ ∧ nws m c (ix2 0 k) ≠ ⊥)
    (hv : ∀ k j, wgs m c (ix3 0 k j) ≠ ⊤ ∧ wgs m c (ix3 0 k j) ≠ ⊥)
    (t : Fin cfg0.N) (r : Fin 512) (d : Fin 1024) (b : Fin 4) (s : Fin 8192)
    (h : 512 * t.val + r.val = 8192 * b.val + s.val) :
    out0_8 (iblk m c 0 t) (iblk m c 1 t) (iblk m c 2 t) (iblk m c 3 t) (iblk m c 4 t) (iblk m c 5 t) (iblk m c 6 t) (iblk m c 7 t) (ix2 r d)
      = ffnMix (xs m c) (os m c) (ys m c) (wos m c) (nws m c) (wgs m c) (wus m c) (wds m c) b s d := by
  rw [Pay.tile]
  simp only [row_mix m c t r _ b s h, read4 m c t, read5 m c t, read6 m c t, read7 m c t]
  unfold ffnMix half
  refine congrArg₂ (· + ·) rfl (congrArg₂ (· * ·) rfl (Finset.sum_congr rfl fun j _ => congrArg₂ (· * ·) ?_ rfl))
  exact kact_eq _ _ _ _ hw fun k => hv k j

/-- The result array after the run. -/
theorem final (c : Dev nD) (hw : ∀ k, nws m c (ix2 0 k) ≠ ⊤ ∧ nws m c (ix2 0 k) ≠ ⊥)
    (hv : ∀ k j, wgs m c (ix3 0 k j) ≠ ⊤ ∧ wgs m c (ix3 0 k j) ≠ ⊥) : (dats m 0 c).arrAt 8 cfg0.N
    = fun i : S32768x1024.Idx => ffnMix (xs m c) (os m c) (ys m c) (wos m c) (nws m c) (wgs m c) (wus m c) (wds m c)
        ⟨(i 0).val / 8192, by have h : (i 0).val < 32768 := (i 0).isLt; omega⟩ ⟨(i 0).val % 8192, Nat.mod_lt _ (by decide)⟩ (i 1) := by
  refine (dats m 0 c).arrAt_eq_of_covers 8 _ (by decide +kernel) fun t hf y => ?_
  blk_simp
  rw [after0_8]
  have ey : ix2 (n0 := 512) (n1 := 1024) (y 0) (y 1) = y := funext fun a => match a with | ⟨0, _⟩ => rfl | ⟨1, _⟩ => rfl
  have ei : win0_8.index t 0 = t.val := by rw [index8 t]; rfl
  have ec : (win0_8.blk t).view.emb y 1 = (y 1 : Fin 1024) := by
    apply Fin.ext; blk_simp [index8 t]
  rw [ec]
  conv_lhs => rw [← ey]
  refine out_row m c hw hv t (y 0) (y 1) _ _ ?_
  show 512 * t.val + (y 0).val = 8192 * ((win0_8.index t 0 * 512 + (y 0).val) / 8192)
    + (win0_8.index t 0 * 512 + (y 0).val) % 8192
  rw [ei]; omega

end Cert.FfnMixIdeal.Whole
-- ==== Proof.FfnMixSpec.lean ====
/-
  The reference of the feed-forward step behind a hybrid mixer: the mixer's output is projected and added, then the half
  step is taken. And what its precondition says.
-/
module

public import proofs.«01_k».proof.Proof.Gen.FfnMixRefIdeal.Read
public import proofs.«01_k».proof.Proof.Gen.Pre_ffn_mix_gate_finite
public import Idealize.ShloMosaic.Lib.Pipeline.ValueKit
public import Idealize.ShloMosaic.Lib.Claim
public import proofs.«01_k».proof.Proof.FfnMath

@[expose] public section

noncomputable section

open Idealize.ShloMosaic Idealize.ShloMosaic.TcCoe Idealize.SL.Sem

namespace Cert.FfnMixSpec

open Cert.FfnMixRefIdeal Cert.FfnMixRefIdeal.Read Cert.FfnMath

variable (x : Vec Ideal S4x8192x1024 .f32) (o y : Vec Ideal S4x8192x512 .bf16) (wo : Vec Ideal S2x1024x1024 .f32)
  (nw : Vec Ideal S4x1024 .f32) (wg wu : Vec Ideal S4x1024x2816 .f32) (wd : Vec Ideal S4x2816x1024 .f32)

/-! ## The reference, stage by stage -/

theorem ref_mixed (b : Fin 4) (s : Fin 8192) (d : Fin 1024) :
    val_main_v6 (F := Ideal) x o y wo (ix3 b s d) = mixRow x o y wo b s d := by
  unfold val_main_v6 val_main_v5 val_main_v4 val_main_v3 val_main_v2 val_main_v1 val_main_v0
  pointwise
  rfl

theorem ref_norm (b : Fin 4) (s : Fin 8192) (k : Fin 1024) :
    val_main_v21 (F := Ideal) x o y wo nw (ix3 b s k)
      = mixRow x o y wo b s k * rinv (fun l => mixRow x o y wo b s l) * nw (ix2 0 k) := by
  unfold val_main_v21 val_main_v20 val_main_v19 val_main_v18 val_main_v17 val_main_v16 val_main_v15 val_main_v14
    val_main_v13 val_main_v12 val_main_v11 val_main_v10 val_main_v9 val_main_v8 val_main_v7 val_main_cst val_main_cst_0
    val_main_cst_1
  pointwise
  simp only [ref_mixed]
  rfl

theorem ref_gate (b : Fin 4) (s : Fin 8192) (j : Fin 2816) :
    val_main_v28 (F := Ideal) x o y wo nw wg (ix3 b s j)
      = lin (fun k => mixRow x o y wo b s k) (fun k => nw (ix2 0 k)) (fun k => wg (ix3 0 k j)) := by
  unfold val_main_v28 val_main_v23 val_main_v22
  pointwise
  simp only [ref_norm]
  rfl

theorem ref_up (b : Fin 4) (s : Fin 8192) (j : Fin 2816) :
    val_main_v30 (F := Ideal) x o y wo nw wu (ix3 b s j)
      = lin (fun k => mixRow x o y wo b s k) (fun k => nw (ix2 0 k)) (fun k => wu (ix3 0 k j)) := by
  unfold val_main_v30 val_main_v25 val_main_v24
  pointwise
  simp only [ref_norm]
  rfl

theorem ref_hidden (b : Fin 4) (s : Fin 8192) (j : Fin 2816) :
    val_main_v31 (F := Ideal) x o y wo nw wg wu (ix3 b s j)
      = act (fun k => mixRow x o y wo b s k) (fun k => nw (ix2 0 k)) (fun k => wg (ix3 0 k j))
          (fun k => wu (ix3 0 k j)) := by
  unfold val_main_v31 val_main_v29 val_main_call0_v5 val_main_call0_v4 val_main_call0_v3 val_main_call0_v2
    val_main_call0_v1 val_main_call0_v0 val_main_call0_cst_0 val_main_call0_cst
  pointwise
  simp only [ref_gate, ref_up]
  rfl

/-- The reference's result, at a row of the flattened stream. -/
theorem ref_half (g : Fin 32768) (d : Fin 1024) :
    val_main_v36 (F := Ideal) x o y wo nw wg wu wd (ix2 g d)
      = ffnMix x o y wo nw wg wu wd ⟨g.val / 8192, by omega⟩ ⟨g.val % 8192, by omega⟩ d := by
  unfold val_main_v36 val_main_v35 val_main_v34 val_main_v33 val_main_v32 val_main_v27 val_main_v26 val_main_cst_2
  pointwise
  simp only [ref_hidden, ref_mixed]
  rfl

/-- The precondition: the layer's norm weights and gate weights are finite. -/
theorem finite (h : Cert.Pre_ffn_mix_gate_finite.fn (F := Ideal) x o y wo nw wg wu wd = fun _ => 1#1) (k : Fin 1024)
    (j : Fin 2816) : (nw (ix2 0 k) ≠ ⊤ ∧ nw (ix2 0 k) ≠ ⊥) ∧ (wg (ix3 0 k j) ≠ ⊤ ∧ wg (ix3 0 k j) ≠ ⊥) := by
  have e := congrFun h (ix2 k j)
  refine finite_of_and _ _ (Eq.trans (Eq.symm ?_) e)
  unfold Cert.Pre_ffn_mix_gate_finite.fn
  pointwise
  rfl

end Cert.FfnMixSpec
-- ==== Proof.FfnMixClaim.lean ====
/-
  The feed-forward kernel behind a hybrid mixer and its reference leave the same array: both hold the half step of every row.
-/
module

public import proofs.«01_k».proof.Defs
public import proofs.«01_k».proof.Proof.Gen.FfnMixIdeal.Value
public import proofs.«01_k».proof.Proof.Gen.FfnMixRefIdeal.Run
public import proofs.«01_k».proof.Proof.FfnMixValue
public import proofs.«01_k».proof.Proof.FfnMixSpec

@[expose] public section

open Idealize.ShloMosaic Idealize.ShloMosaic.TcCoe Idealize.SL.Sem

namespace Cert.FfnMixClaim

/-- The reference's array, on the same arguments, is the kernel's. -/
theorem same (m : (ℓ : Loc Cert.FfnMixIdeal.nD Cert.FfnMixIdeal.τ Cert.FfnMixIdeal.sig) → Buf (Elt Ideal) ℓ)
    (m' : (ℓ : Loc Cert.FfnMixRefIdeal.nD Cert.FfnMixRefIdeal.τ Cert.FfnMixRefIdeal.sig) → Buf (Elt Ideal) ℓ)
    (c : Dev Cert.FfnMixIdeal.nD)
    (h0 : m' ((c.tc : Thread Cert.FfnMixRefIdeal.nD Cert.FfnMixRefIdeal.τ).loc Cert.FfnMixRefIdeal.main_arg0) = m ((c.tc : Thread Cert.FfnMixIdeal.nD Cert.FfnMixIdeal.τ).loc Cert.FfnMixIdeal.main_arg0))
    (h1 : m' ((c.tc : Thread Cert.FfnMixRefIdeal.nD Cert.FfnMixRefIdeal.τ).loc Cert.FfnMixRefIdeal.main_arg1) = m ((c.tc : Thread Cert.FfnMixIdeal.nD Cert.FfnMixIdeal.τ).loc Cert.FfnMixIdeal.main_arg1))
    (h2 : m' ((c.tc : Thread Cert.FfnMixRefIdeal.nD Cert.FfnMixRefIdeal.τ).loc Cert.FfnMixRefIdeal.main_arg2) = m ((c.tc : Thread Cert.FfnMixIdeal.nD Cert.FfnMixIdeal.τ).loc Cert.FfnMixIdeal.main_arg2))
    (h3 : m' ((c.tc : Thread Cert.FfnMixRefIdeal.nD Cert.FfnMixRefIdeal.τ).loc Cert.FfnMixRefIdeal.main_arg3) = m ((c.tc : Thread Cert.FfnMixIdeal.nD Cert.FfnMixIdeal.τ).loc Cert.FfnMixIdeal.main_arg3))
    (h4 : m' ((c.tc : Thread Cert.FfnMixRefIdeal.nD Cert.FfnMixRefIdeal.τ).loc Cert.FfnMixRefIdeal.main_arg4) = m ((c.tc : Thread Cert.FfnMixIdeal.nD Cert.FfnMixIdeal.τ).loc Cert.FfnMixIdeal.main_arg4))
    (h5 : m' ((c.tc : Thread Cert.FfnMixRefIdeal.nD Cert.FfnMixRefIdeal.τ).loc Cert.FfnMixRefIdeal.main_arg5) = m ((c.tc : Thread Cert.FfnMixIdeal.nD Cert.FfnMixIdeal.τ).loc Cert.FfnMixIdeal.main_arg5))
    (h6 : m' ((c.tc : Thread Cert.FfnMixRefIdeal.nD Cert.FfnMixRefIdeal.τ).loc Cert.FfnMixRefIdeal.main_arg6) = m ((c.tc : Thread Cert.FfnMixIdeal.nD Cert.FfnMixIdeal.τ).loc Cert.FfnMixIdeal.main_arg6))
    (h7 : m' ((c.tc : Thread Cert.FfnMixRefIdeal.nD Cert.FfnMixRefIdeal.τ).loc Cert.FfnMixRefIdeal.main_arg7) = m ((c.tc : Thread Cert.FfnMixIdeal.nD Cert.FfnMixIdeal.τ).loc Cert.FfnMixIdeal.main_arg7))
    (hp : Cert.Pre_ffn_mix_gate_finite.fn (F := Ideal) (Cert.FfnMixIdeal.Whole.xs m c) (Cert.FfnMixIdeal.Whole.os m c) (Cert.FfnMixIdeal.Whole.ys m c) (Cert.FfnMixIdeal.Whole.wos m c) (Cert.FfnMixIdeal.Whole.nws m c) (Cert.FfnMixIdeal.Whole.wgs m c) (Cert.FfnMixIdeal.Whole.wus m c) (Cert.FfnMixIdeal.Whole.wds m c) = fun _ => 1#1) :
    Cert.FfnMixRefIdeal.Read.val_main_v36 (F := Ideal) (m' ((c.tc : Thread Cert.FfnMixRefIdeal.nD Cert.FfnMixRefIdeal.τ).loc Cert.FfnMixRefIdeal.main_arg0)) (m' ((c.tc : Thread Cert.FfnMixRefIdeal.nD Cert.FfnMixRefIdeal.τ).loc Cert.FfnMixRefIdeal.main_arg1)) (m' ((c.tc : Thread Cert.FfnMixRefIdeal.nD Cert.FfnMixRefIdeal.τ).loc Cert.FfnMixRefIdeal.main_arg2)) (m' ((c.tc : Thread Cert.FfnMixRefIdeal.nD Cert.FfnMixRefIdeal.τ).loc Cert.FfnMixRefIdeal.main_arg3)) (m' ((c.tc : Thread Cert.FfnMixRefIdeal.nD Cert.FfnMixRefIdeal.τ).loc Cert.FfnMixRefIdeal.main_arg4)) (m' ((c.tc : Thread Cert.FfnMixRefIdeal.nD Cert.FfnMixRefIdeal.τ).loc Cert.FfnMixRefIdeal.main_arg5)) (m' ((c.tc : Thread Cert.FfnMixRefIdeal.nD Cert.FfnMixRefIdeal.τ).loc Cert.FfnMixRefIdeal.main_arg6)) (m' ((c.tc : Thread Cert.FfnMixRefIdeal.nD Cert.FfnMixRefIdeal.τ).loc Cert.FfnMixRefIdeal.main_arg7))
      = (Cert.FfnMixIdeal.Gen.dats m 0 c).arrAt 8 Cert.FfnMixIdeal.cfg0.N := by
  rw [Cert.FfnMixIdeal.Whole.final m c (fun k => (FfnMixSpec.finite _ _ _ _ _ _ _ _ hp k 0).1)
      (fun k j => (FfnMixSpec.finite _ _ _ _ _ _ _ _ hp k j).2), h0, h1, h2, h3, h4, h5, h6, h7]
  funext i
  have ei : ix2 (n0 := 32768) (n1 := 1024) (i 0) (i 1) = i := funext fun a => match a with | ⟨0, _⟩ => rfl | ⟨1, _⟩ => rfl
  conv_lhs => rw [← ei]
  exact FfnMixSpec.ref_half _ _ _ _ _ _ _ _ (i 0) (i 1)

/-- The reference runs to its end, leaves its arguments alone, and has no semaphore to leave set. -/
theorem frame_ref [Cert.FfnMixRefIdeal.Facts] : quiescent_FfnMixRefIdeal := fun m g _ =>
  (θ_run Cert.FfnMixRefIdeal.defs _ _).mono
    (fun r h => ⟨fun c => (h c).2, sem_eq_zero_of_no_sems (by decide) r.2⟩)
    (Cert.FfnMixRefIdeal.Value.run m g)

/-- Both run, from the same arguments, to the same array. -/
theorem algebraic :
    algebraic_FfnMixIdeal_FfnMixRefIdeal_pre_ffn_mix_gate_finite := by
  intro m g m' g' hp e
  refine ⟨fun c => (Cert.FfnMixIdeal.Gen.dats m 0 c).arrAt 8 Cert.FfnMixIdeal.cfg0.N,
    Cert.FfnMixIdeal.Value.run_blocks m g, ?_⟩
  refine (θ_run Cert.FfnMixRefIdeal.defs _ _).mono (fun r h c => ?_) (Cert.FfnMixRefIdeal.Value.run m' g')
  obtain ⟨e0, e1, e2, e3, e4, e5, e6, e7⟩ := e c
  exact ⟨((h c).1.trans (Cert.FfnMixRefIdeal.Read.val_main_v36_eq m' c)).trans (same m m' c e0 e1 e2 e3 e4 e5 e6 e7 (hp c)), (h c).2⟩

end Cert.FfnMixClaim
-- ==== Proof.HybPay.lean ====
/-
  What the hybrid mixer's call stores of the projections of a tile of 512 rows, at an index, over arbitrary block contents.
-/
module

public import proofs.«01_k».proof.Proof.Gen.HybIdeal.Value
public import Idealize.ShloMosaic.Lib.Pipeline.ValueKit
public import Idealize.ShloMosaic.Lib.Pipeline.ReadBack
public import Idealize.ShloMosaic.Lib.WritesUnit
public import proofs.«01_k».proof.Proof.FfnMath

@[expose] public section

noncomputable section

open Idealize.ShloMosaic Idealize.ShloMosaic.TcCoe Idealize.SL.Sem

namespace Cert.HybIdeal.Pay

open Cert.HybIdeal Cert.HybIdeal.Gen Cert.FfnMath

variable (x : Vec Ideal S512x1024 .f32) (nw : Vec Ideal S1x1024 .f32)

/-- The scale the queries carry: the inverse root of the head size, in base two. -/
def cQ : EReal := Ideal.ofBits FTy.f32 0x3E38AA3B#32

/-- The normed tile. -/
theorem normed_apply (r : Fin 512) (k : Fin 1024) :
    k0_pay16 x nw (ix2 r k) = x (ix2 r k) * rinv (fun l => x (ix2 r l)) * nw (ix2 0 k) := by
  unfold k0_pay16
  pointwise
  rfl

variable (h : FVec Ideal S512x1024 .bf16)

theorem queries_apply (w : Vec Ideal S256x1024 .bf16) (r : Fin 256) (d : Fin 512) :
    k0_pay34 h w (ix2 r d) = (∑ k : Fin 1024, w (ix2 r k) * h (ix2 d k)) * cQ := by
  unfold k0_pay34
  pointwise
  rfl

theorem values_apply (w : Vec Ideal S256x1024 .bf16) (r : Fin 256) (d : Fin 512) :
    k0_pay558 h w (ix2 r d) = ∑ k : Fin 1024, w (ix2 r k) * h (ix2 d k) := by
  unfold k0_pay558
  pointwise

theorem keys_apply (w : Vec Ideal S1024x256 .bf16) (r : Fin 512) (d : Fin 256) :
    k0_pay77 h w (ix2 r d) = ∑ k : Fin 1024, h (ix2 r k) * w (ix2 k d) := by
  unfold k0_pay77
  pointwise

/-- The gate is stored through `silu`. -/
theorem gate_apply (w : Vec Ideal S1024x256 .bf16) (r : Fin 512) (d : Fin 256) :
    k0_pay658 h w (ix3 0 r d) = tsilu (∑ k : Fin 1024, h (ix2 r k) * w (ix2 k d)) := by
  unfold k0_pay658
  pointwise
  rfl

theorem cols_apply (w : Vec Ideal S1024x256 .bf16) (r : Fin 512) (d : Fin 256) :
    k0_pay8 h w (ix3 0 r d) = ∑ k : Fin 1024, h (ix2 r k) * w (ix2 k d) := by
  unfold k0_pay8
  pointwise

/-! ## Two halves laid one under the other, or side by side -/

theorem halves_rows (p1 p0 : FVec Ideal S256x512 .bf16) (h1 h0) (r d : Fin 512) :
    View.canon (s := S512x512) (e := .bf16) (Val := Elt Ideal)
      [⟨Rect.unit (s := S512x512) ![256, 0] ![256, 512] h1, p1⟩, ⟨Rect.unit (s := S512x512) ![0, 0] ![256, 512] h0, p0⟩] (ix2 r d)
      = if hr : r.val < 256 then p0 (ix2 ⟨r.val, hr⟩ d) else p1 (ix2 ⟨r.val - 256, by omega⟩ d) := by
  split_ifs with hr
  · rw [View.canon_cons_of_not_mem _ _ (by
      rw [Rect.mem_set_unit]; intro hall; have := (hall 0).1; exact absurd this (by show ¬(256 ≤ r.val); omega))]
    rw [show (ix2 r d : S512x512.Idx) = (Rect.unit (s := S512x512) ![0, 0] ![256, 512] h0).emb (ix2 ⟨r.val, hr⟩ d) from
      funext fun a => Fin.ext (by
        rw [ValueKit.rect_emb_unit_val]
        match a with | ⟨0, _⟩ => exact (Nat.zero_add _).symm | ⟨1, _⟩ => exact (Nat.zero_add _).symm)]
    exact View.canon_cons_emb _ _ _ _
  · rw [show (ix2 r d : S512x512.Idx) = (Rect.unit (s := S512x512) ![256, 0] ![256, 512] h1).emb (ix2 ⟨r.val - 256, by omega⟩ d) from
      funext fun a => Fin.ext (by
        rw [ValueKit.rect_emb_unit_val]
        match a with | ⟨0, _⟩ => exact (show r.val = 256 + (r.val - 256) by omega) | ⟨1, _⟩ => exact (Nat.zero_add _).symm)]
    exact View.canon_cons_emb _ _ _ _

theorem halves_cols (p1 p0 : FVec Ideal S512x256 .bf16) (h1 h0) (r d : Fin 512) :
    View.canon (s := S512x512) (e := .bf16) (Val := Elt Ideal)
      [⟨Rect.unit (s := S512x512) ![0, 256] ![512, 256] h1, p1⟩, ⟨Rect.unit (s := S512x512) ![0, 0] ![512, 256] h0, p0⟩] (ix2 r d)
      = if hd : d.val < 256 then p0 (ix2 r ⟨d.val, hd⟩) else p1 (ix2 r ⟨d.val - 256, by omega⟩) := by
  split_ifs with hd
  · rw [View.canon_cons_of_not_mem _ _ (by
      rw [Rect.mem_set_unit]; intro hall; have := (hall 1).1; exact absurd this (by show ¬(256 ≤ d.val); omega))]
    rw [show (ix2 r d : S512x512.Idx) = (Rect.unit (s := S512x512) ![0, 0] ![512, 256] h0).emb (ix2 r ⟨d.val, hd⟩) from
      funext fun a => Fin.ext (by
        rw [ValueKit.rect_emb_unit_val]
        match a with | ⟨0, _⟩ => exact (Nat.zero_add _).symm | ⟨1, _⟩ => exact (Nat.zero_add _).symm)]
    exact View.canon_cons_emb _ _ _ _
  · rw [show (ix2 r d : S512x512.Idx) = (Rect.unit (s := S512x512) ![0, 256] ![512, 256] h1).emb (ix2 r ⟨d.val - 256, by omega⟩) from
      funext fun a => Fin.ext (by
        rw [ValueKit.rect_emb_unit_val]
        match a with | ⟨0, _⟩ => exact (Nat.zero_add _).symm | ⟨1, _⟩ => exact (show d.val = 256 + (d.val - 256) by omega))]
    exact View.canon_cons_emb _ _ _ _

end Cert.HybIdeal.Pay
-- ==== Proof.HybPoint.lean ====
/- What one grid point of the hybrid mixer's call stores of its tile's projections. Point `t` projects tile `t` (the last
   point the tile before it once more) and runs the SSD heads of tile `t − 1`. -/
module

public import proofs.«01_k».proof.Proof.HybPay

@[expose] public section

noncomputable section

open Idealize.ShloMosaic Idealize.ShloMosaic.TcCoe Idealize.SL.Sem

namespace Cert.HybIdeal.Point

open Cert.HybIdeal Cert.HybIdeal.Gen Cert.HybIdeal.Pay Cert.FfnMath

variable (m : (ℓ : Loc nD τ sig) → Buf (Elt Ideal) ℓ)

theorem lt65 (t : Fin cfg0.N) : t.val < 65 := lt_of_lt_of_eq t.isLt (show cfg0.N = 65 from N_0)

/-- The grid has one axis, so a point's coordinate is its number. -/
theorem coord : ∀ t : Fin cfg0.N, (grid0.coords t 0).val = t.val := by decide +kernel

/-- The slot point `n` writes. -/
def slot (n : ℕ) : Fin 2 := ⟨n % 2, Nat.mod_lt _ (by decide)⟩

theorem slot_even {n : ℕ} (h : n % 2 = 0) : slot n = 0 := Fin.ext h
theorem slot_odd {n : ℕ} (h : n % 2 = 1) : slot n = 1 := Fin.ext h

/-- A point is the first, or odd, or even and not the first. -/
theorem cases3 (t : Fin cfg0.N) {P : Prop} (hA : t.val % 65 = 0 → t.val % 2 = 0 → ¬t.val % 2 = 1 → P)
    (hB : ¬t.val % 65 = 0 → ¬t.val % 2 = 0 → t.val % 2 = 1 → P)
    (hC : ¬t.val % 65 = 0 → t.val % 2 = 0 → ¬t.val % 2 = 1 → P) : P := by
  have ht := lt65 t
  by_cases h0 : t.val % 65 = 0
  · exact hA h0 (by omega) (by omega)
  · rcases Nat.mod_two_eq_zero_or_one t.val with h | h
    · exact hC h0 h (by omega)
    · exact hB h0 (by omega) h

/-- The normed tile. -/
abbrev tile (c : Dev nD) (t : Fin cfg0.N) : FVec Ideal S512x1024 .bf16 := k0_pay16 (iblk m c 0 t) (iblk m c 1 t)

section Forms

variable (h : FVec Ideal S512x1024 .bf16) (w : Vec Ideal S1024x1024 .bf16) (w' : Vec Ideal S1024x3200 .bf16)

/-- A row of the transposed weight taken with a row of the tile. -/
def across (i : Fin 1024) (d : Fin 512) : EReal := ∑ k : Fin 1024, w (ix2 i k) * h (ix2 d k)

/-- A row of the tile taken with a column of the padded weight. -/
def along (d : Fin 512) (j : Fin 3200) : EReal := ∑ k : Fin 1024, h (ix2 d k) * w' (ix2 k j)

theorem ld_rows (o : ℕ) (ib) (r : Fin 256) (k : Fin 1024) :
    View.ld w (Rect.unit (s := S1024x1024) ![o, 0] ![256, 1024] ib) (ix2 r k) = w (ix2 ⟨o + r.val, lt_of_lt_of_le (Nat.add_lt_add_left r.isLt o) (ib 0)⟩ k) :=
  View.ld_unit_apply_of _ _ _ _ _ _ fun a =>
    match a with | ⟨0, _⟩ => rfl | ⟨1, _⟩ => (Nat.zero_add _).symm

theorem ld_cols (o : ℕ) (ib) (k : Fin 1024) (d : Fin 256) :
    View.ld w' (Rect.unit (s := S1024x3200) ![0, o] ![1024, 256] ib) (ix2 k d) = w' (ix2 k ⟨o + d.val, lt_of_lt_of_le (Nat.add_lt_add_left d.isLt o) (ib 1)⟩) :=
  View.ld_unit_apply_of _ _ _ _ _ _ fun a =>
    match a with | ⟨0, _⟩ => (Nat.zero_add _).symm | ⟨1, _⟩ => rfl

theorem queries_form (b1 b0 h1 h0) (r d : Fin 512) :
    View.canon (s := S512x512) (e := .bf16) (Val := Elt Ideal)
      [⟨Rect.unit (s := S512x512) ![256, 0] ![256, 512] h1, k0_pay34 h (View.ld w (Rect.unit (s := S1024x1024) ![256, 0] ![256, 1024] b1))⟩,
       ⟨Rect.unit (s := S512x512) ![0, 0] ![256, 512] h0, k0_pay34 h (View.ld w (Rect.unit (s := S1024x1024) ![0, 0] ![256, 1024] b0))⟩] (ix2 r d)
      = across h w ⟨r.val, by omega⟩ d * cQ := by
  refine (halves_rows _ _ _ _ _ _).trans ?_
  split_ifs with hr
  · refine (queries_apply _ _ _ _).trans ?_
    exact congrArg (· * cQ) (Finset.sum_congr rfl fun k _ => congrArg (· * h (ix2 d k)) ((ld_rows w 0 _ _ _).trans
      (congrArg (fun i => w (ix2 i k)) (Fin.ext (show 0 + r.val = r.val by omega)))))
  · refine (queries_apply _ _ _ _).trans ?_
    exact congrArg (· * cQ) (Finset.sum_congr rfl fun k _ => congrArg (· * h (ix2 d k)) ((ld_rows w 256 _ _ _).trans
      (congrArg (fun i => w (ix2 i k)) (Fin.ext (show 256 + (r.val - 256) = r.val by omega)))))

theorem values_form (b1 b0 h1 h0) (r d : Fin 512) :
    View.canon (s := S512x512) (e := .bf16) (Val := Elt Ideal)
      [⟨Rect.unit (s := S512x512) ![256, 0] ![256, 512] h1, k0_pay558 h (View.ld w (Rect.unit (s := S1024x1024) ![768, 0] ![256, 1024] b1))⟩,
       ⟨Rect.unit (s := S512x512) ![0, 0] ![256, 512] h0, k0_pay558 h (View.ld w (Rect.unit (s := S1024x1024) ![512, 0] ![256, 1024] b0))⟩] (ix2 r d)
      = across h w ⟨512 + r.val, by omega⟩ d := by
  refine (halves_rows _ _ _ _ _ _).trans ?_
  split_ifs with hr
  · refine (values_apply _ _ _ _).trans ?_
    exact (Finset.sum_congr rfl fun k _ => congrArg (· * h (ix2 d k)) ((ld_rows w 512 _ _ _).trans
      (congrArg (fun i => w (ix2 i k)) (Fin.ext (show 512 + r.val = 512 + r.val by omega)))))
  · refine (values_apply _ _ _ _).trans ?_
    exact (Finset.sum_congr rfl fun k _ => congrArg (· * h (ix2 d k)) ((ld_rows w 768 _ _ _).trans
      (congrArg (fun i => w (ix2 i k)) (Fin.ext (show 768 + (r.val - 256) = 512 + r.val by omega)))))

theorem keys_form (b1 b0 h1 h0) (r d : Fin 512) :
    View.canon (s := S512x512) (e := .bf16) (Val := Elt Ideal)
      [⟨Rect.unit (s := S512x512) ![0, 256] ![512, 256] h1, k0_pay77 h (View.ld w' (Rect.unit (s := S1024x3200) ![0, 768] ![1024, 256] b1))⟩,
       ⟨Rect.unit (s := S512x512) ![0, 0] ![512, 256] h0, k0_pay77 h (View.ld w' (Rect.unit (s := S1024x3200) ![0, 512] ![1024, 256] b0))⟩] (ix2 r d)
      = along h w' r ⟨512 + d.val, by omega⟩ := by
  refine (halves_cols _ _ _ _ _ _).trans ?_
  split_ifs with hr
  · refine (keys_apply _ _ _ _).trans ?_
    exact Finset.sum_congr rfl fun k _ => congrArg (h (ix2 r k) * ·) ((ld_cols w' 512 _ _ _).trans
      (congrArg (fun i => w' (ix2 k i)) (Fin.ext (show 512 + d.val = 512 + d.val by omega))))
  · refine (keys_apply _ _ _ _).trans ?_
    exact Finset.sum_congr rfl fun k _ => congrArg (h (ix2 r k) * ·) ((ld_cols w' 768 _ _ _).trans
      (congrArg (fun i => w' (ix2 k i)) (Fin.ext (show 768 + (d.val - 256) = 512 + d.val by omega))))

end Forms

/-- The queries of the tile, transposed and scaled. -/
theorem q_at (c : Dev nD) (t : Fin cfg0.N) (r d : Fin 512) :
    (outsAt0 m c t.val t.isLt).1 (ix2 r d) = across (tile m c t) (iblk m c 3 t) ⟨r.val, by omega⟩ d * cQ := by
  refine cases3 t (fun h0 h1 h2 => ?_) (fun h0 h1 h2 => ?_) (fun h0 h1 h2 => ?_)
  · rw [outsAt0_A m c t h0 h1 h2]
    frame_open
    simp (disch := decide) only [↓ View.readCov_skip, ↓ View.readCov_cons_toLoadRect, ↓ View.readCov_fill]
    frame_out
    exact queries_form (tile m c t) _ _ _ _ _ r d
  · rw [outsAt0_B m c t h0 h1 h2]
    frame_open
    simp (disch := decide) only [↓ View.readCov_skip, ↓ View.readCov_cons_toLoadRect, ↓ View.readCov_fill]
    frame_out
    exact queries_form (tile m c t) _ _ _ _ _ r d
  · rw [outsAt0_C m c t h0 h1 h2]
    frame_open
    simp (disch := decide) only [↓ View.readCov_skip, ↓ View.readCov_cons_toLoadRect, ↓ View.readCov_fill]
    frame_out
    exact queries_form (tile m c t) _ _ _ _ _ r d
/-- The keys of the tile. -/
theorem k_at (c : Dev nD) (t : Fin cfg0.N) (r d : Fin 512) :
    (outsAt0 m c t.val t.isLt).2.1 (ix2 r d) = along (tile m c t) (iblk m c 2 t) r ⟨512 + d.val, by omega⟩ := by
  refine cases3 t (fun h0 h1 h2 => ?_) (fun h0 h1 h2 => ?_) (fun h0 h1 h2 => ?_)
  · rw [outsAt0_A m c t h0 h1 h2]
    frame_open
    simp (disch := decide) only [↓ View.readCov_skip, ↓ View.readCov_cons_toLoadRect, ↓ View.readCov_fill]
    frame_out
    exact keys_form (tile m c t) _ _ _ _ _ r d
  · rw [outsAt0_B m c t h0 h1 h2]
    frame_open
    simp (disch := decide) only [↓ View.readCov_skip, ↓ View.readCov_cons_toLoadRect, ↓ View.readCov_fill]
    frame_out
    exact keys_form (tile m c t) _ _ _ _ _ r d
  · rw [outsAt0_C m c t h0 h1 h2]
    frame_open
    simp (disch := decide) only [↓ View.readCov_skip, ↓ View.readCov_cons_toLoadRect, ↓ View.readCov_fill]
    frame_out
    exact keys_form (tile m c t) _ _ _ _ _ r d
/-- The values of the tile, transposed. -/
theorem v_at (c : Dev nD) (t : Fin cfg0.N) (r d : Fin 512) :
    (outsAt0 m c t.val t.isLt).2.2.1 (ix2 r d) = across (tile m c t) (iblk m c 3 t) ⟨512 + r.val, by omega⟩ d := by
  refine cases3 t (fun h0 h1 h2 => ?_) (fun h0 h1 h2 => ?_) (fun h0 h1 h2 => ?_)
  · rw [outsAt0_A m c t h0 h1 h2]
    frame_open
    simp (disch := decide) only [↓ View.readCov_skip, ↓ View.readCov_cons_toLoadRect, ↓ View.readCov_fill]
    frame_out
    exact values_form (tile m c t) _ _ _ _ _ r d
  · rw [outsAt0_B m c t h0 h1 h2]
    frame_open
    simp (disch := decide) only [↓ View.readCov_skip, ↓ View.readCov_cons_toLoadRect, ↓ View.readCov_fill]
    frame_out
    exact values_form (tile m c t) _ _ _ _ _ r d
  · rw [outsAt0_C m c t h0 h1 h2]
    frame_open
    simp (disch := decide) only [↓ View.readCov_skip, ↓ View.readCov_cons_toLoadRect, ↓ View.readCov_fill]
    frame_out
    exact values_form (tile m c t) _ _ _ _ _ r d

end Cert.HybIdeal.Point
-- ==== Proof.HybSpec.lean ====
/-
  What the hybrid mixer's projections are, on the arrays the model hands it, and the proof that the reference program
  leaves exactly that for the queries, keys and values. Every function takes a sequence number `b` and a position `s`.
-/
module

public import proofs.«01_k».proof.Proof.Gen.HybRefIdeal.Read
public import Idealize.ShloMosaic.Lib.Pipeline.ValueKit
public import Idealize.ShloMosaic.Lib.Claim

@[expose] public section

noncomputable section

open Idealize.ShloMosaic Idealize.ShloMosaic.TcCoe Idealize.SL.Sem

namespace Cert.HybSpec

open Cert.HybRefIdeal Cert.HybRefIdeal.Read

variable (x : Vec Ideal S4x8192x1024 .f32) (nw : Vec Ideal S4x1024 .f32) (win : Vec Ideal S2x1024x3080 .f32)

/-- The rms norm of the residual stream, with the layer's own weights (row 0). -/
def norm (b : Fin 4) (s : Fin 8192) (k : Fin 1024) : EReal :=
  x (ix3 b s k)
      * Ideal.rsqrt (Ideal.div (∑ j : Fin 1024, x (ix3 b s j) * x (ix3 b s j)) (Ideal.ofBits FTy.f32 1149239296#32)
        + Ideal.ofBits FTy.f32 897988541#32)
    * nw (ix2 0 k)

/-- The input projection of the normed row. -/
def lin (b : Fin 4) (s : Fin 8192) (j : Fin 3080) : EReal :=
  ∑ k : Fin 1024, norm x nw b s k * win (ix3 0 k j)

theorem ref_norm (b : Fin 4) (s : Fin 8192) (k : Fin 1024) :
    val_main_v14 (F := Ideal) x nw (ix3 b s k) = norm x nw b s k := by
  unfold val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1
  pointwise
  rfl

theorem ref_lin (b : Fin 4) (s : Fin 8192) (j : Fin 3080) :
    val_main_v17 (F := Ideal) x nw win (ix3 b s j) = lin x nw win b s j := by
  unfold val_main_v17 val_main_v16 val_main_v15
  pointwise
  simp only [ref_norm]
  rfl

/-- The reference's queries, at a row of the flattened stream: transposed and scaled. -/
theorem ref_queries (d : Fin 512) (g : Fin 32768) :
    val_main_v175 (F := Ideal) x nw win (ix2 d g)
      = lin x nw win ⟨g.val / 8192, by omega⟩ ⟨g.val % 8192, by omega⟩ ⟨d.val, by omega⟩
        * Ideal.ofBits FTy.f32 0x3E38AA3B#32 := by
  unfold val_main_v175 val_main_v174 val_main_v173 val_main_v172 val_main_cst_11 val_main_v171 val_main_v18
  pointwise
  exact congrArg (· * _) (ref_lin x nw win _ _ _)

theorem ref_keys (g : Fin 32768) (d : Fin 512) :
    val_main_v177 (F := Ideal) x nw win (ix2 g d)
      = lin x nw win ⟨g.val / 8192, by omega⟩ ⟨g.val % 8192, by omega⟩ ⟨512 + d.val, by omega⟩ := by
  unfold val_main_v177 val_main_v176 val_main_v19
  pointwise
  exact ref_lin x nw win _ _ _

theorem ref_values (d : Fin 512) (g : Fin 32768) :
    val_main_v180 (F := Ideal) x nw win (ix2 d g)
      = lin x nw win ⟨g.val / 8192, by omega⟩ ⟨g.val % 8192, by omega⟩ ⟨1024 + d.val, by omega⟩ := by
  unfold val_main_v180 val_main_v179 val_main_v178 val_main_v20
  pointwise
  exact ref_lin x nw win _ _ _

end Cert.HybSpec
-- ==== Proof.HybValue.lean ====
/-
  The hybrid mixer's blocks, read out of the arrays the model hands it, and its queries, keys and values whole.
-/
module

public import proofs.«01_k».proof.Proof.HybPoint
public import proofs.«01_k».proof.Proof.HybSpec

@[expose] public section

noncomputable section

open Idealize.ShloMosaic Idealize.ShloMosaic.TcCoe Idealize.SL.Sem

namespace Cert.HybIdeal.Whole

open Cert.HybIdeal Cert.HybIdeal.Gen Cert.HybIdeal.Point Cert.HybIdeal.Pay

variable (m : (ℓ : Loc nD τ sig) → Buf (Elt Ideal) ℓ)

/-- The nine arguments, as the host hands them in. -/
abbrev xs (c : Dev nD) : Vec Ideal S4x8192x1024 .f32 := m ((c : Thread nD τ).loc main_arg0)
abbrev nws (c : Dev nD) : Vec Ideal S4x1024 .f32 := m ((c : Thread nD τ).loc main_arg1)
abbrev wins (c : Dev nD) : Vec Ideal S2x1024x3080 .f32 := m ((c : Thread nD τ).loc main_arg2)
abbrev wcs (c : Dev nD) : Vec Ideal S2x4x1024 .f32 := m ((c : Thread nD τ).loc main_arg3)
abbrev bcs (c : Dev nD) : Vec Ideal S2x1024 .f32 := m ((c : Thread nD τ).loc main_arg4)
abbrev dtbs (c : Dev nD) : Vec Ideal S2x8 .f32 := m ((c : Thread nD τ).loc main_arg5)
abbrev alogs (c : Dev nD) : Vec Ideal S2x8 .f32 := m ((c : Thread nD τ).loc main_arg6)
abbrev dsks (c : Dev nD) : Vec Ideal S2x8 .f32 := m ((c : Thread nD τ).loc main_arg7)
abbrev ynws (c : Dev nD) : Vec Ideal S2x512 .f32 := m ((c : Thread nD τ).loc main_arg8)

/-! ## Where each window's block lies -/

theorem index0 : ∀ t : Fin cfg0.N, win0_0.index t = ![min t.val 63, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, min t.val 63] :=
  (by decide +kernel : ∀ t : Fin grid0.N, _)
theorem index11 : ∀ t : Fin cfg0.N, win0_11.index t = ![min t.val 63, 0] :=
  (by decide +kernel : ∀ t : Fin grid0.N, _)
theorem index12 : ∀ t : Fin cfg0.N, win0_12.index t = ![0, min t.val 63] :=
  (by decide +kernel : ∀ t : Fin grid0.N, _)
theorem index13 : ∀ t : Fin cfg0.N, win0_13.index t = ![t.val - 1, 0] :=
  (by decide +kernel : ∀ t : Fin grid0.N, _)

/-! ## What the host hands the call -/

/-- The stream, flattened. -/
theorem entry0 (c : Dev nD) : V m c main_v9 = shapeCast S32768x1024 (xs m c) shapeCasts_S4x8192x1024_S32768x1024 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The norm weights of the layer. -/
theorem entry1 (c : Dev nD) : V m c main_v27 = shapeCast S1x1024 (shapeCast S1024 (extractStridedSlice S1x1024 ![0, 0] (nws m c) slices_S4x1024_S1x1024_0_0) shapeCasts_S1x1024_S1024) shapeCasts_S1024_S1x1024 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The input weight, padded to whole lanes. -/
theorem entry2 (c : Dev nD) : V m c main_v3 = truncf (F := Ideal) .bf16 (pad S1024x3200 ![0, 0] ![0, 120] ![0, 0]
      (shapeCast S1024x3080 (extractStridedSlice S1x1024x3080 ![0, 0, 0] (wins m c) slices_S2x1024x3080_S1x1024x3080_0_0_0)
      shapeCasts_S1x1024x3080_S1024x3080) (sitofp (F := Ideal) .f32 (constantI S_ 32 0#32)) pads_S1024x3080_S1024x3200_000_01200 h_S_) bitsLt_bf16_f32 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The columns of the queries and of the values, transposed. -/
theorem entry3 (c : Dev nD) : V m c main_v8 = truncf (F := Ideal) .bf16 (transpose S1024x1024 [1, 0]
      (concatenate S1024x1024 1
        [⟨S1024x512, extractStridedSlice S1024x512 ![0, 0] (shapeCast S1024x3080 (extractStridedSlice S1x1024x3080 ![0, 0, 0] (wins m c) slices_S2x1024x3080_S1x1024x3080_0_0_0)
      shapeCasts_S1x1024x3080_S1024x3080) slices_S1024x3080_S1024x512_0_0⟩,
         ⟨S1024x512, extractStridedSlice S1024x512 ![0, 1024] (shapeCast S1024x3080 (extractStridedSlice S1x1024x3080 ![0, 0, 0] (wins m c) slices_S2x1024x3080_S1x1024x3080_0_0_0)
      shapeCasts_S1x1024x3080_S1024x3080) slices_S1024x3080_S1024x512_0_1024⟩]
        concatenates_S1024x512_S1024x512_S1024x1024_d1) transposes_S1024x1024_S1024x1024_1_0) bitsLt_bf16_f32 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The four taps. -/
theorem entry4 (c : Dev nD) : V m c main_v13 = shapeCast S4x1024 (extractStridedSlice S1x4x1024 ![0, 0, 0] (wcs m c) slices_S2x4x1024_S1x4x1024_0_0_0) shapeCasts_S1x4x1024_S4x1024 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The convolution bias. -/
theorem entry5 (c : Dev nD) : V m c main_v28 = shapeCast S1x1024 (shapeCast S1024 (extractStridedSlice S1x1024 ![0, 0] (bcs m c) slices_S2x1024_S1x1024_0_0) shapeCasts_S1x1024_S1024) shapeCasts_S1024_S1x1024 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The step bias, padded. -/
theorem entry6 (c : Dev nD) : V m c main_v30 = shapeCast S1x128 (pad S128 ![0] ![120] ![0]
      (shapeCast S8 (extractStridedSlice S1x8 ![0, 0] (dtbs m c) slices_S2x8_S1x8_0_0) shapeCasts_S1x8_S8)
      (sitofp (F := Ideal) .f32 (constantI S_ 32 0#32)) pads_S8_S128_01200 h_S_) shapeCasts_S128_S1x128 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The decay rates, padded. -/
theorem entry7 (c : Dev nD) : V m c main_v32 = shapeCast S1x128 (pad S128 ![0] ![120] ![0]
      (shapeCast S8 (extractStridedSlice S1x8 ![0, 0] (alogs m c) slices_S2x8_S1x8_0_0) shapeCasts_S1x8_S8)
      (sitofp (F := Ideal) .f32 (constantI S_ 32 0#32)) pads_S8_S128_01200 h_S_) shapeCasts_S128_S1x128 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The skip weight of each head, repeated along its channels. -/
theorem entry8 (c : Dev nD) : V m c main_v26 = shapeCast S1x512 (shapeCast S512 (broadcastInDim S8x64 ![0] bcast_S8_S8x64_0
      (shapeCast S8 (extractStridedSlice S1x8 ![0, 0] (dsks m c) slices_S2x8_S1x8_0_0) shapeCasts_S1x8_S8)) shapeCasts_S8x64_S512) shapeCasts_S512_S1x512 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-- The weights of the gated norm. -/
theorem entry9 (c : Dev nD) : V m c main_v33 = shapeCast S1x512 (shapeCast S512 (extractStridedSlice S1x512 ![0, 0] (ynws m c) slices_S2x512_S1x512_0_0) shapeCasts_S1x512_S512) shapeCasts_S512_S1x512 := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  try after_results_simp
  after_results_loop
  try rfl

/-! ## The blocks -/

theorem read0 (c : Dev nD) (t : Fin cfg0.N) (r : Fin 512) (k : Fin 1024) (b : Fin 4) (s : Fin 8192)
    (h : 512 * min t.val 63 + r.val = 8192 * b.val + s.val) :
    iblk m c 0 t (ix2 r k) = xs m c (ix3 b s k) := by
  blk_simp [iblk]
  rw [entry0]
  pointwise
  congr 1
  blk_ext [index0 t]

theorem read1 (c : Dev nD) (t : Fin cfg0.N) (k : Fin 1024) :
    iblk m c 1 t (ix2 0 k) = nws m c (ix2 0 k) := by
  blk_simp [iblk]
  rw [entry1]
  pointwise
  congr 1
  blk_ext [index1 t]

theorem read2 (c : Dev nD) (t : Fin cfg0.N) (k : Fin 1024) (j : Fin 3200) (hj : j.val < 3080) :
    iblk m c 2 t (ix2 k j) = wins m c (ix3 0 k ⟨j.val, hj⟩) := by
  blk_simp [iblk]
  rw [entry2]
  have e : ((View.whole main_v3).slice (win0_2.rect t)).emb (ix2 k j) = ix2 k j := by blk_ext [index2 t]
  refine (congrArg _ e).trans ?_
  pointwise
  exact dif_pos hj

theorem read3 (c : Dev nD) (t : Fin cfg0.N) (i : Fin 1024) (k : Fin 1024) :
    iblk m c 3 t (ix2 i k) = wins m c (ix3 0 k ⟨if i.val < 512 then i.val else 512 + i.val, by split_ifs <;> omega⟩) := by
  blk_simp [iblk]
  rw [entry3]
  have e : ((View.whole main_v8).slice (win0_3.rect t)).emb (ix2 i k) = ix2 i k := by blk_ext [index3 t]
  refine (congrArg _ e).trans ?_
  pointwise
  by_cases hi : i.val < 512
  · refine (dif_pos hi).trans (congrArg (fun j => wins m c (ix3 0 k j)) (Fin.ext ?_))
    exact (if_pos hi).symm
  · refine (dif_neg hi).trans (congrArg (fun j => wins m c (ix3 0 k j)) (Fin.ext ?_))
    exact (show 1024 + (i.val - 512) = 512 + i.val by omega).trans (if_neg hi).symm

theorem read4 (c : Dev nD) (t : Fin cfg0.N) (k : Fin 4) (j : Fin 1024) :
    iblk m c 4 t (ix2 k j) = wcs m c (ix3 0 k j) := by
  blk_simp [iblk]
  rw [entry4]
  pointwise
  congr 1
  blk_ext [index4 t]

theorem read5 (c : Dev nD) (t : Fin cfg0.N) (j : Fin 1024) :
    iblk m c 5 t (ix2 0 j) = bcs m c (ix2 0 j) := by
  blk_simp [iblk]
  rw [entry5]
  pointwise
  congr 1
  blk_ext [index5 t]

theorem read6 (c : Dev nD) (t : Fin cfg0.N) (h : Fin 128) (hh : h.val < 8) :
    iblk m c 6 t (ix2 0 h) = dtbs m c (ix2 0 ⟨h.val, hh⟩) := by
  blk_simp [iblk]
  rw [entry6]
  have e : ((View.whole main_v30).slice (win0_6.rect t)).emb (ix2 0 h) = ix2 0 h := by blk_ext [index6 t]
  refine (congrArg _ e).trans ?_
  pointwise
  exact dif_pos hh

theorem read7 (c : Dev nD) (t : Fin cfg0.N) (h : Fin 128) (hh : h.val < 8) :
    iblk m c 7 t (ix2 0 h) = alogs m c (ix2 0 ⟨h.val, hh⟩) := by
  blk_simp [iblk]
  rw [entry7]
  have e : ((View.whole main_v32).slice (win0_7.rect t)).emb (ix2 0 h) = ix2 0 h := by blk_ext [index7 t]
  refine (congrArg _ e).trans ?_
  pointwise
  exact dif_pos hh

theorem read8 (c : Dev nD) (t : Fin cfg0.N) (d : Fin 512) :
    iblk m c 8 t (ix2 0 d) = dsks m c (ix2 0 ⟨d.val / 64, by omega⟩) := by
  blk_simp [iblk]
  rw [entry8]
  have e : ((View.whole main_v26).slice (win0_8.rect t)).emb (ix2 0 d) = ix2 0 d := by blk_ext [index8 t]
  refine (congrArg _ e).trans ?_
  pointwise

theorem read9 (c : Dev nD) (t : Fin cfg0.N) (d : Fin 512) :
    iblk m c 9 t (ix2 0 d) = ynws m c (ix2 0 d) := by
  blk_simp [iblk]
  rw [entry9]
  pointwise
  congr 1
  blk_ext [index9 t]

/-! ## A tile's projections are the layer's, at the tile's rows -/

section Rows

variable (c : Dev nD) (t : Fin cfg0.N) (r : Fin 512) (b : Fin 4) (s : Fin 8192)
  (h : 512 * min t.val 63 + r.val = 8192 * b.val + s.val)

include h

theorem tile_eq (k : Fin 1024) : tile m c t (ix2 r k) = HybSpec.norm (xs m c) (nws m c) b s k := by
  refine (normed_apply _ _ r k).trans ?_
  unfold FfnMath.rinv HybSpec.norm
  simp only [read0 m c t r _ b s h, read1 m c t]

theorem along_eq (j : Fin 3200) (hj : j.val < 3080) :
    along (tile m c t) (iblk m c 2 t) r j = HybSpec.lin (xs m c) (nws m c) (wins m c) b s ⟨j.val, hj⟩ :=
  Finset.sum_congr rfl fun k _ => congrArg₂ (· * ·) (tile_eq m c t r b s h k) (read2 m c t k j hj)

theorem across_eq (i : Fin 1024) :
    across (tile m c t) (iblk m c 3 t) i r = HybSpec.lin (xs m c) (nws m c) (wins m c) b s
      ⟨if i.val < 512 then i.val else 512 + i.val, by split_ifs <;> omega⟩ :=
  Finset.sum_congr rfl fun k _ => by
    rw [tile_eq m c t r b s h k, read3 m c t i k, mul_comm]

end Rows

end Cert.HybIdeal.Whole
-- ==== Proof.HybArrays.lean ====
/-
  The hybrid mixer's queries, keys and values, whole: the layer's projections at every row of the stream.
-/
module

public import proofs.«01_k».proof.Proof.HybValue

@[expose] public section

noncomputable section

open Idealize.ShloMosaic Idealize.ShloMosaic.TcCoe Idealize.SL.Sem

namespace Cert.HybIdeal.Whole

open Cert.HybIdeal Cert.HybIdeal.Gen Cert.HybIdeal.Point Cert.HybIdeal.Pay

variable (m : (ℓ : Loc nD τ sig) → Buf (Elt Ideal) ℓ)

theorem final10 (c : Dev nD) : (dats m 0 c).arrAt 10 cfg0.N
    = fun i : S512x32768.Idx => HybSpec.lin (xs m c) (nws m c) (wins m c)
        ⟨(i 1).val / 8192, by have h : (i 1).val < 32768 := (i 1).isLt; omega⟩ ⟨(i 1).val % 8192, Nat.mod_lt _ (by decide)⟩
        ⟨(i 0).val, by have h : (i 0).val < 512 := (i 0).isLt; omega⟩ * cQ := by
  refine (dats m 0 c).arrAt_eq_of_covers 10 _ (by decide +kernel) fun t hf y => ?_
  blk_simp
  rw [after0_10]
  have ey : ix2 (n0 := 512) (n1 := 512) (y 0) (y 1) = y := funext fun a => match a with | ⟨0, _⟩ => rfl | ⟨1, _⟩ => rfl
  have ei : win0_10.index t 1 = min t.val 63 := by rw [index10 t]; rfl
  have eo : win0_10.index t 0 = 0 := by rw [index10 t]; rfl
  have hr : (y 1).val < 512 := (y 1).isLt
  have hy : (y 0).val < 512 := (y 0).isLt
  conv_lhs => rw [← ey]
  refine (q_at m c t (y 0) (y 1)).trans (congrArg (· * cQ) ((across_eq m c t (y 1) _ _ ?_ _).trans (congrArg (HybSpec.lin _ _ _ _ _) (Fin.ext ?_))))
  · show 512 * min t.val 63 + (y 1).val = 8192 * ((win0_10.index t 1 * 512 + (y 1).val) / 8192)
      + (win0_10.index t 1 * 512 + (y 1).val) % 8192
    rw [ei]; omega
  · show _ = win0_10.index t 0 * 512 + (y 0).val
    rw [eo]
    exact (if_pos hy).trans (by show (y 0).val = _; omega)

theorem final11 (c : Dev nD) : (dats m 0 c).arrAt 11 cfg0.N
    = fun i : S32768x512.Idx => HybSpec.lin (xs m c) (nws m c) (wins m c)
        ⟨(i 0).val / 8192, by have h : (i 0).val < 32768 := (i 0).isLt; omega⟩ ⟨(i 0).val % 8192, Nat.mod_lt _ (by decide)⟩
        ⟨512 + (i 1).val, by have h : (i 1).val < 512 := (i 1).isLt; omega⟩ := by
  refine (dats m 0 c).arrAt_eq_of_covers 11 _ (by decide +kernel) fun t hf y => ?_
  blk_simp
  rw [after0_11]
  have ey : ix2 (n0 := 512) (n1 := 512) (y 0) (y 1) = y := funext fun a => match a with | ⟨0, _⟩ => rfl | ⟨1, _⟩ => rfl
  have ei : win0_11.index t 0 = min t.val 63 := by rw [index11 t]; rfl
  have eo : win0_11.index t 1 = 0 := by rw [index11 t]; rfl
  have hr : (y 0).val < 512 := (y 0).isLt
  have hy : (y 1).val < 512 := (y 1).isLt
  conv_lhs => rw [← ey]
  refine (k_at m c t (y 0) (y 1)).trans (((along_eq m c t (y 0) _ _ ?_ _ (by show 512 + (y 1).val < 3080; omega)).trans (congrArg (HybSpec.lin _ _ _ _ _) (Fin.ext ?_))))
  · show 512 * min t.val 63 + (y 0).val = 8192 * ((win0_11.index t 0 * 512 + (y 0).val) / 8192)
      + (win0_11.index t 0 * 512 + (y 0).val) % 8192
    rw [ei]; omega
  · show _ = 512 + (win0_11.index t 1 * 512 + (y 1).val)
    rw [eo]
    show 512 + (y 1).val = _
    omega

theorem final12 (c : Dev nD) : (dats m 0 c).arrAt 12 cfg0.N
    = fun i : S512x32768.Idx => HybSpec.lin (xs m c) (nws m c) (wins m c)
        ⟨(i 1).val / 8192, by have h : (i 1).val < 32768 := (i 1).isLt; omega⟩ ⟨(i 1).val % 8192, Nat.mod_lt _ (by decide)⟩
        ⟨1024 + (i 0).val, by have h : (i 0).val < 512 := (i 0).isLt; omega⟩ := by
  refine (dats m 0 c).arrAt_eq_of_covers 12 _ (by decide +kernel) fun t hf y => ?_
  blk_simp
  rw [after0_12]
  have ey : ix2 (n0 := 512) (n1 := 512) (y 0) (y 1) = y := funext fun a => match a with | ⟨0, _⟩ => rfl | ⟨1, _⟩ => rfl
  have ei : win0_12.index t 1 = min t.val 63 := by rw [index12 t]; rfl
  have eo : win0_12.index t 0 = 0 := by rw [index12 t]; rfl
  have hr : (y 1).val < 512 := (y 1).isLt
  have hy : (y 0).val < 512 := (y 0).isLt
  conv_lhs => rw [← ey]
  refine (v_at m c t (y 0) (y 1)).trans (((across_eq m c t (y 1) _ _ ?_ _).trans (congrArg (HybSpec.lin _ _ _ _ _) (Fin.ext ?_))))
  · show 512 * min t.val 63 + (y 1).val = 8192 * ((win0_12.index t 1 * 512 + (y 1).val) / 8192)
      + (win0_12.index t 1 * 512 + (y 1).val) % 8192
    rw [ei]; omega
  · show _ = 1024 + (win0_12.index t 0 * 512 + (y 0).val)
    rw [eo]
    exact (if_neg (by show ¬ 512 + (y 0).val < 512; omega)).trans (by show 512 + (512 + (y 0).val) = _; omega)

end Cert.HybIdeal.Whole
-- ==== Proof.HybChunk.lean ====
/-
  One chunk of the SSD heads, as the kernel spells it, over whatever arrays it is given: the running sums of the decay
  exponents, the weights inside the chunk, the state the chunk leaves, and the gated norm on top.
-/
module

public import proofs.«01_k».proof.Proof.HybPay

@[expose] public section

noncomputable section

open Idealize.ShloMosaic Idealize.ShloMosaic.TcCoe Idealize.SL.Sem

namespace Cert.HybIdeal.Chunk

open Cert.HybIdeal Cert.HybIdeal.Gen Cert.FfnMath

/-- Row at or below column. -/
def causal : IVec S128x128 1 :=
  cmpi .sge (iota .tc S128x128 32 [0] iota_S128x128_d0_w32) (iota .tc S128x128 32 [1] iota_S128x128_d1_w32)

/-- The lower triangle of ones. -/
def tri : FVec Ideal S128x128 .bf16 :=
  truncf .bf16 (select causal (broadcast S128x128 (Scalar.ofBits (F := Ideal) .f32 0x3F800000#32))
    (broadcast S128x128 (Scalar.ofBits (F := Ideal) .f32 0x00000000#32))) bitsLt_bf16_f32

abbrev zero128 : FVec Ideal S128x128 .f32 := constant S128x128 .f32 0x00000000#32
abbrev zero256 : FVec Ideal S128x256 .f32 := constant S128x256 .f32 0x00000000#32

/-- The triangle on an array. -/
def under (v : FVec Ideal S128x128 .bf16) : FVec Ideal S128x128 .f32 :=
  matmul dot_S128x128_S128x128_S128x128_1_0_0_1_n_n none tri v zero128

/-- The running sums of the decay exponents, in three parts. -/
def cums (A : FVec Ideal S128x128 .f32) : FVec Ideal S128x128 .f32 :=
  let hi := truncf .bf16 A bitsLt_bf16_f32
  let r := subf A (extf .f32 hi bitsLt_bf16_f32)
  let mid := truncf .bf16 r bitsLt_bf16_f32
  let lo := truncf .bf16 (subf r (extf .f32 mid bitsLt_bf16_f32)) bitsLt_bf16_f32
  addf (addf (under hi) (under mid)) (under lo)

/-- The convolution of four shifted copies, and `silu` of it. -/
def act (cb : FVec Ideal S1x1024 .f32) (w : Fin 4 → FVec Ideal S1x1024 .f32) (x : Fin 4 → FVec Ideal S128x1024 .f32) :
    FVec Ideal S128x1024 .f32 :=
  let tap (k : Fin 4) := mulf (broadcastTo S128x1024 (w k) broadcasts_S1x1024_S128x1024) (x k)
  let v := addf (addf (addf (addf (broadcastTo S128x1024 cb broadcasts_S1x1024_S128x1024) (tap 0)) (tap 1)) (tap 2)) (tap 3)
  let u := mulf (broadcast S128x1024 (Scalar.ofBits (F := Ideal) .f32 0x3F000000#32)) v
  addf u (mulf u (tanh u))

/-- One head's column, repeated along the rows. -/
def colb (cs : FVec Ideal S128x128 .f32) (h : ℕ) (hs : S128x128.Slices ![0, h] S128x1) : FVec Ideal S128x128 .f32 :=
  broadcastTo S128x128 (shapeCast S128x1 (extractStridedSlice S128x1 ![0, h] cs hs) shapeCasts_S128x1_S128x1)
    broadcasts_S128x1_S128x128

/-- One head's column, as a row. -/
def rowb (cs : FVec Ideal S128x128 .f32) (h : ℕ) (hs : S128x128.Slices ![h, 0] S1x128) : FVec Ideal S1x128 .f32 :=
  extractStridedSlice S1x128 ![h, 0] (transpose S128x128 [1, 0] cs transposes_S128x128_p1_0_S128x128) hs

/-- One head's weights inside the chunk. -/
def inner (gm b : FVec Ideal S128x128 .f32) (r d : FVec Ideal S1x128 .f32) : FVec Ideal S128x128 .bf16 :=
  truncf .bf16 (mulf (mulf gm (exp (select causal (subf b (broadcastTo S128x128 r broadcasts_S1x128_S128x128))
    (broadcast S128x128 (Named.named κ "mask" 0xF149F2CA#32))))) (broadcastTo S128x128 d broadcasts_S1x128_S128x128)) bitsLt_bf16_f32

/-- One head's lanes of a group's channels. -/
def lanes (k : BitVec 32) (xg : FVec Ideal S128x256 .f32) : FVec Ideal S128x256 .bf16 :=
  truncf .bf16 (select (cmpi .eq k0_pay11 (broadcast S128x256 k)) xg
    (broadcast S128x256 (Scalar.ofBits (F := Ideal) .f32 0x00000000#32))) bitsLt_bf16_f32

abbrev last (b : FVec Ideal S128x128 .f32) : FVec Ideal S1x128 .f32 :=
  extractStridedSlice S1x128 ![127, 0] b slices_S128x128_o127_0_S1x128

/-- One head's keys, weighted by the decay to the chunk's end. -/
def outer (bt b : FVec Ideal S128x128 .f32) (r d : FVec Ideal S1x128 .f32) : FVec Ideal S128x128 .bf16 :=
  truncf .bf16 (mulf bt (broadcastTo S128x128 (mulf d (exp (subf (last b) r))) broadcasts_S1x128_S128x128)) bitsLt_bf16_f32

/-- A group's four heads together. -/
def four (M : Fin 4 → FVec Ideal S128x128 .bf16) (xg : FVec Ideal S128x256 .f32) : FVec Ideal S128x256 .f32 :=
  addf (addf (addf (matmul dot_S128x128_S128x256_S128x256_1_0_0_1_n_n none (M 0) (lanes 0#32 xg) zero256)
    (matmul dot_S128x128_S128x256_S128x256_1_0_0_1_n_n none (M 1) (lanes 1#32 xg) zero256))
    (matmul dot_S128x128_S128x256_S128x256_1_0_0_1_n_n none (M 2) (lanes 2#32 xg) zero256))
    (matmul dot_S128x128_S128x256_S128x256_1_0_0_1_n_n none (M 3) (lanes 3#32 xg) zero256)

/-- Each lane's own head, from the four heads' columns. -/
def spread (b : Fin 4 → FVec Ideal S128x128 .f32) : FVec Ideal S128x256 .f32 :=
  concatenate S128x256 1 [⟨S128x128, select k0_pay12 (exp (b 0)) (exp (b 1))⟩, ⟨S128x128, select k0_pay12 (exp (b 2)) (exp (b 3))⟩]
    concatenates_S128x128_S128x128_S128x256_d1

def spread1 (b : Fin 4 → FVec Ideal S128x128 .f32) : FVec Ideal S1x256 .f32 :=
  concatenate S1x256 1 [⟨S1x128, select k0_pay13 (exp (last (b 0))) (exp (last (b 1)))⟩,
    ⟨S1x128, select k0_pay13 (exp (last (b 2))) (exp (last (b 3)))⟩] concatenates_S1x128_S1x128_S1x256_d1

/-- A group's part of a chunk: its keys, queries and channels. -/
structure Group where
  bg : FVec Ideal S128x128 .f32
  cg : FVec Ideal S128x128 .f32
  xg : FVec Ideal S128x256 .f32
  b : Fin 4 → FVec Ideal S128x128 .f32
  r : Fin 4 → FVec Ideal S1x128 .f32
  d : Fin 4 → FVec Ideal S1x128 .f32

/-- The rows of a group, before the skip and the norm. -/
def Group.rows (G : Group) (st : FVec Ideal S128x256 .f32) : FVec Ideal S128x256 .f32 :=
  addf (four (fun k => inner (matmul dot_S128x128_S128x128_S128x128_1_1_0_0_n_n none (truncf .bf16 G.cg bitsLt_bf16_f32)
      (truncf .bf16 G.bg bitsLt_bf16_f32) zero128) (G.b k) (G.r k) (G.d k)) G.xg)
    (mulf (matmul dot_S128x128_S128x256_S128x256_1_0_0_1_n_n none (truncf .bf16 G.cg bitsLt_bf16_f32)
      (truncf .bf16 st bitsLt_bf16_f32) zero256) (spread G.b))

/-- The state the group leaves. -/
def Group.next (G : Group) (st : FVec Ideal S128x256 .f32) : FVec Ideal S128x256 .f32 :=
  addf (mulf st (broadcastTo S128x256 (spread1 G.b) broadcasts_S1x256_S128x256))
    (four (fun k => outer (transpose S128x128 [1, 0] G.bg transposes_S128x128_p1_0_S128x128) (G.b k) (G.r k) (G.d k)) G.xg)

/-- The first group of a chunk. -/
def groupA (xc : FVec Ideal S128x1024 .f32) (dt cs : FVec Ideal S128x128 .f32) : Group where
  bg := extractStridedSlice S128x128 ![0, 512] xc slices_S128x1024_o0_512_S128x128
  cg := extractStridedSlice S128x128 ![0, 768] xc slices_S128x1024_o0_768_S128x128
  xg := extractStridedSlice S128x256 ![0, 0] (extractStridedSlice S128x512 ![0, 0] xc slices_S128x1024_o0_0_S128x512) slices_S128x512_o0_0_S128x256
  b := ![colb cs 0 slices_S128x128_o0_0_S128x1, colb cs 1 slices_S128x128_o0_1_S128x1, colb cs 2 slices_S128x128_o0_2_S128x1, colb cs 3 slices_S128x128_o0_3_S128x1]
  r := ![rowb cs 0 slices_S128x128_o0_0_S1x128, rowb cs 1 slices_S128x128_o1_0_S1x128, rowb cs 2 slices_S128x128_o2_0_S1x128, rowb cs 3 slices_S128x128_o3_0_S1x128]
  d := ![rowb dt 0 slices_S128x128_o0_0_S1x128, rowb dt 1 slices_S128x128_o1_0_S1x128, rowb dt 2 slices_S128x128_o2_0_S1x128, rowb dt 3 slices_S128x128_o3_0_S1x128]

/-- The second. -/
def groupB (xc : FVec Ideal S128x1024 .f32) (dt cs : FVec Ideal S128x128 .f32) : Group where
  bg := extractStridedSlice S128x128 ![0, 640] xc slices_S128x1024_o0_640_S128x128
  cg := extractStridedSlice S128x128 ![0, 896] xc slices_S128x1024_o0_896_S128x128
  xg := extractStridedSlice S128x256 ![0, 256] (extractStridedSlice S128x512 ![0, 0] xc slices_S128x1024_o0_0_S128x512) slices_S128x512_o0_256_S128x256
  b := ![colb cs 4 slices_S128x128_o0_4_S128x1, colb cs 5 slices_S128x128_o0_5_S128x1, colb cs 6 slices_S128x128_o0_6_S128x1, colb cs 7 slices_S128x128_o0_7_S128x1]
  r := ![rowb cs 4 slices_S128x128_o4_0_S1x128, rowb cs 5 slices_S128x128_o5_0_S1x128, rowb cs 6 slices_S128x128_o6_0_S1x128, rowb cs 7 slices_S128x128_o7_0_S1x128]
  d := ![rowb dt 4 slices_S128x128_o4_0_S1x128, rowb dt 5 slices_S128x128_o5_0_S1x128, rowb dt 6 slices_S128x128_o6_0_S1x128, rowb dt 7 slices_S128x128_o7_0_S1x128]

/-- A group's half of a row, through its norm. -/
def part (g : FVec Ideal S128x256 .f32) : FVec Ideal S128x256 .f32 :=
  mulf g (broadcastTo S128x256 (rsqrt (addf (divf (shapeCast S128x1 (multiReduction .add [1] S128 (mulf g g) 0x00000000#32
    reduces_S128x256_S128 (.inl rfl) rfl) shapeCasts_S128_S128x1) (broadcast S128x1 (Scalar.ofBits (F := Ideal) .f32 0x43800000#32)))
    (broadcast S128x1 (Scalar.ofBits (F := Ideal) .f32 0x3727C5AC#32)))) broadcasts_S128x1_S128x256)

/-- The two groups' rows, with the skip, the gate and the norm. -/
def rows (ya yb : FVec Ideal S128x256 .f32) (xc : FVec Ideal S128x1024 .f32) (z : FVec Ideal S128x512 .f32)
    (dsk ynw : FVec Ideal S1x512 .f32) : FVec Ideal S128x512 .bf16 :=
  let g := mulf (addf (concatenate S128x512 1 [⟨S128x256, ya⟩, ⟨S128x256, yb⟩] concatenates_S128x256_S128x256_S128x512_d1)
    (mulf (broadcastTo S128x512 dsk broadcasts_S1x512_S128x512)
      (extractStridedSlice S128x512 ![0, 0] xc slices_S128x1024_o0_0_S128x512))) z
  truncf .bf16 (mulf (concatenate S128x512 1
    [⟨S128x256, part (extractStridedSlice S128x256 ![0, 0] g slices_S128x512_o0_0_S128x256)⟩,
     ⟨S128x256, part (extractStridedSlice S128x256 ![0, 256] g slices_S128x512_o0_256_S128x256)⟩] concatenates_S128x256_S128x256_S128x512_d1)
    (broadcastTo S128x512 ynw broadcasts_S1x512_S128x512)) bitsLt_bf16_f32

/-! ## At a point -/

theorem causal_apply (l s : Fin 128) : causal (ix2 l s) = if s ≤ l then 1#1 else 0#1 := by
  unfold causal
  pointwise
  have key : (BitVec.ofNat 32 s.val).sle (BitVec.ofNat 32 l.val) = decide (s ≤ l) := by
    have hs := s.isLt
    have hl := l.isLt
    rw [BitVec.sle_eq_decide, BitVec.toInt_ofNat', BitVec.toInt_ofNat']
    congr 1
    simp only [Fin.le_def]
    rw [Int.bmod_eq_of_le (by omega) (by omega), Int.bmod_eq_of_le (by omega) (by omega)]
    simp
  show BitVec.ofBool ((BitVec.ofNat 32 s.val).sle (BitVec.ofNat 32 l.val)) = _
  rw [key]
  by_cases h : s ≤ l <;> simp [h]

theorem select_causal {α : Type} (l s : Fin 128) (a b : α) : Scalar.select (causal (ix2 l s)) a b = if s ≤ l then a else b := by
  rw [causal_apply]
  by_cases h : s ≤ l
  · rw [if_pos h, if_pos h]; rfl
  · rw [if_neg h, if_neg h]; rfl

theorem under_apply (v : FVec Ideal S128x128 .bf16) (l h : Fin 128) :
    under v (ix2 l h) = ∑ s : Fin 128, (if s ≤ l then v (ix2 s h) else 0) := by
  unfold under tri
  pointwise
  simp only [select_causal]

theorem colb_apply (cs : FVec Ideal S128x128 .f32) (h : ℕ) (hs) (hh : h < 128) (l s : Fin 128) : colb cs h hs (ix2 l s) = cs (ix2 l ⟨h, hh⟩) := by
  unfold colb
  pointwise

theorem rowb_apply (cs : FVec Ideal S128x128 .f32) (h : ℕ) (hs) (hh : h < 128) (s : Fin 128) : rowb cs h hs (ix2 0 s) = cs (ix2 s ⟨h, hh⟩) := by
  unfold rowb
  pointwise

theorem mask_eq : (Named.named (F := Ideal) κ "mask" 0xF149F2CA#32 : Ideal .f32) = (⊥ : EReal) :=
  IdealRules.named_const.ideal_named_scalar _ _ _ _ rfl

theorem inner_apply (gm b : FVec Ideal S128x128 .f32) (r d : FVec Ideal S1x128 .f32) (l s : Fin 128) :
    inner gm b r d (ix2 l s) = gm (ix2 l s) * (if s ≤ l then Ideal.exp (b (ix2 l s) - r (ix2 0 s)) else 0) * d (ix2 0 s) := by
  unfold inner
  pointwise
  rw [select_causal, mask_eq]
  by_cases h : s ≤ l
  · rw [if_pos h, if_pos h]
  · rw [if_neg h, if_neg h]
    rfl

theorem lane_head (k : Fin 4) (s : Fin 128) (d : Fin 256) :
    IntOp.cmpi CmpIPredicate.eq (k0_pay11 (ix2 s d)) (BitVec.ofNat 32 k.val) = if d.val / 64 = k.val then 1#1 else 0#1 := by
  unfold k0_pay11
  pointwise
  revert d k
  decide +kernel

theorem lanes_apply (k : Fin 4) (xg : FVec Ideal S128x256 .f32) (s : Fin 128) (d : Fin 256) :
    lanes (BitVec.ofNat 32 k.val) xg (ix2 s d) = if d.val / 64 = k.val then xg (ix2 s d) else 0 := by
  unfold lanes
  pointwise
  rw [lane_head]
  by_cases h : d.val / 64 = k.val
  · rw [if_pos h, if_pos h]; rfl
  · rw [if_neg h, if_neg h]; rfl

theorem outer_apply (bt b : FVec Ideal S128x128 .f32) (r d : FVec Ideal S1x128 .f32) (n s : Fin 128) :
    outer bt b r d (ix2 n s) = bt (ix2 n s) * (d (ix2 0 s) * Ideal.exp (b (ix2 127 s) - r (ix2 0 s))) := by
  unfold outer last
  pointwise

theorem lane_low (d : Fin 128) : IntOp.cmpi CmpIPredicate.slt (BitVec.ofNat 32 d.val) 64#32 = if d.val < 64 then 1#1 else 0#1 := by
  revert d
  decide +kernel

theorem pick4 {α : Type} (b : Fin 4 → Fin 128 → α) (d : Fin 256) :
    (if h : d.val < 128 then Scalar.select (IntOp.cmpi CmpIPredicate.slt (BitVec.ofNat 32 d.val) 64#32) (b 0 ⟨d.val, h⟩) (b 1 ⟨d.val, h⟩)
      else Scalar.select (IntOp.cmpi CmpIPredicate.slt (BitVec.ofNat 32 (d.val - 128)) 64#32) (b 2 ⟨d.val - 128, by omega⟩)
        (b 3 ⟨d.val - 128, by omega⟩)) = b ⟨d.val / 64, by omega⟩ ⟨d.val % 128, by omega⟩ := by
  have sel : ∀ (e : Fin 128) (u v : α), Scalar.select (IntOp.cmpi CmpIPredicate.slt (BitVec.ofNat 32 e.val) 64#32) u v = if e.val < 64 then u else v := by
    intro e u v
    rw [lane_low]
    by_cases h : e.val < 64
    · rw [if_pos h, if_pos h]; rfl
    · rw [if_neg h, if_neg h]; rfl
  have idx : ∀ (k : Fin 4) (e : Fin 128), d.val / 64 = k.val → d.val % 128 = e.val → b k e = b ⟨d.val / 64, by omega⟩ ⟨d.val % 128, by omega⟩ := by
    intro k e hk he
    congr 1
    · congr 1; exact Fin.ext hk.symm
    · exact Fin.ext he.symm
  by_cases h : d.val < 128
  · rw [dif_pos h, sel ⟨d.val, h⟩]
    by_cases h' : d.val < 64
    · rw [if_pos h']; exact idx _ _ (by show _ = 0; omega) (by show _ = d.val; omega)
    · rw [if_neg h']; exact idx _ _ (by show _ = 1; omega) (by show _ = d.val; omega)
  · rw [dif_neg h, sel ⟨d.val - 128, by omega⟩]
    by_cases h' : d.val - 128 < 64
    · rw [if_pos h']; exact idx _ _ (by show _ = 2; omega) (by show _ = d.val - 128; omega)
    · rw [if_neg h']; exact idx _ _ (by show _ = 3; omega) (by show _ = d.val - 128; omega)

theorem spread_apply (b : Fin 4 → FVec Ideal S128x128 .f32) (l : Fin 128) (d : Fin 256) :
    spread b (ix2 l d) = Ideal.exp (b ⟨d.val / 64, by omega⟩ (ix2 l ⟨d.val % 128, by omega⟩)) := by
  unfold spread k0_pay12
  pointwise
  exact pick4 (fun k e => Ideal.exp (b k (ix2 l e))) d

theorem spread1_apply (b : Fin 4 → FVec Ideal S128x128 .f32) (d : Fin 256) :
    spread1 b (ix2 0 d) = Ideal.exp (b ⟨d.val / 64, by omega⟩ (ix2 127 ⟨d.val % 128, by omega⟩)) := by
  unfold spread1 k0_pay13 last
  pointwise
  exact pick4 (fun k e => Ideal.exp (b k (ix2 127 e))) d

theorem four_apply (M : Fin 4 → FVec Ideal S128x128 .bf16) (xg : FVec Ideal S128x256 .f32) (l : Fin 128) (d : Fin 256) :
    four M xg (ix2 l d) = ∑ s : Fin 128, M ⟨d.val / 64, by omega⟩ (ix2 l s) * xg (ix2 s d) := by
  have one : ∀ k : Fin 4, matmul dot_S128x128_S128x256_S128x256_1_0_0_1_n_n none (M k) (lanes (BitVec.ofNat 32 k.val) xg) zero256 (ix2 l d)
      = if d.val / 64 = k.val then ∑ s : Fin 128, M ⟨d.val / 64, by omega⟩ (ix2 l s) * xg (ix2 s d) else 0 := by
    intro k
    pointwise
    simp only [lanes_apply]
    by_cases h : d.val / 64 = k.val
    · simp only [if_pos h]
      have e : k = ⟨d.val / 64, by omega⟩ := Fin.ext h.symm
      rw [e]
    · simp only [if_neg h, mul_zero, Finset.sum_const_zero]
  unfold four
  show (matmul dot_S128x128_S128x256_S128x256_1_0_0_1_n_n none (M 0) (lanes (BitVec.ofNat 32 (0 : Fin 4).val) xg) zero256 (ix2 l d)
    + matmul dot_S128x128_S128x256_S128x256_1_0_0_1_n_n none (M 1) (lanes (BitVec.ofNat 32 (1 : Fin 4).val) xg) zero256 (ix2 l d)
    + matmul dot_S128x128_S128x256_S128x256_1_0_0_1_n_n none (M 2) (lanes (BitVec.ofNat 32 (2 : Fin 4).val) xg) zero256 (ix2 l d)
    + matmul dot_S128x128_S128x256_S128x256_1_0_0_1_n_n none (M 3) (lanes (BitVec.ofNat 32 (3 : Fin 4).val) xg) zero256 (ix2 l d) : EReal) = _
  rw [one, one, one, one]
  have h4 : d.val / 64 = 0 ∨ d.val / 64 = 1 ∨ d.val / 64 = 2 ∨ d.val / 64 = 3 := by omega
  rcases h4 with h | h | h | h <;> simp [h]

theorem act_apply (cb : FVec Ideal S1x1024 .f32) (w : Fin 4 → FVec Ideal S1x1024 .f32) (x : Fin 4 → FVec Ideal S128x1024 .f32) (l : Fin 128) (j : Fin 1024) :
    act cb w x (ix2 l j) = tsilu (cb (ix2 0 j) + w 0 (ix2 0 j) * x 0 (ix2 l j) + w 1 (ix2 0 j) * x 1 (ix2 l j) + w 2 (ix2 0 j) * x 2 (ix2 l j) + w 3 (ix2 0 j) * x 3 (ix2 l j)) := by
  unfold act
  pointwise
  rfl

theorem part_apply (g : FVec Ideal S128x256 .f32) (l : Fin 128) (d : Fin 256) :
    part g (ix2 l d) = g (ix2 l d) * Ideal.rsqrt (Ideal.div (∑ e : Fin 256, g (ix2 l e) * g (ix2 l e)) (Ideal.ofBits FTy.f32 0x43800000#32) + Ideal.ofBits FTy.f32 0x3727C5AC#32) := by
  unfold part
  pointwise

theorem rowsG_apply (G : Group) (st : FVec Ideal S128x256 .f32) (l : Fin 128) (d : Fin 256) :
    G.rows st (ix2 l d) = (∑ s : Fin 128, ((∑ n : Fin 128, G.cg (ix2 l n) * G.bg (ix2 s n))
        * (if s ≤ l then Ideal.exp (G.b ⟨d.val / 64, by omega⟩ (ix2 l s) - G.r ⟨d.val / 64, by omega⟩ (ix2 0 s)) else 0)
        * G.d ⟨d.val / 64, by omega⟩ (ix2 0 s)) * G.xg (ix2 s d))
      + (∑ n : Fin 128, G.cg (ix2 l n) * st (ix2 n d)) * Ideal.exp (G.b ⟨d.val / 64, by omega⟩ (ix2 l ⟨d.val % 128, by omega⟩)) := by
  unfold Group.rows
  pointwise
  rw [four_apply, spread_apply]
  simp only [inner_apply]
  refine congrArg (· + _) (Finset.sum_congr rfl fun s _ => ?_)
  refine congrArg (fun t : EReal => t * _ * _ * _) ?_
  pointwise

theorem nextG_apply (G : Group) (st : FVec Ideal S128x256 .f32) (n : Fin 128) (d : Fin 256) :
    G.next st (ix2 n d) = st (ix2 n d) * Ideal.exp (G.b ⟨d.val / 64, by omega⟩ (ix2 127 ⟨d.val % 128, by omega⟩))
      + ∑ s : Fin 128, (G.bg (ix2 s n) * (G.d ⟨d.val / 64, by omega⟩ (ix2 0 s)
        * Ideal.exp (G.b ⟨d.val / 64, by omega⟩ (ix2 127 s) - G.r ⟨d.val / 64, by omega⟩ (ix2 0 s)))) * G.xg (ix2 s d) := by
  unfold Group.next
  pointwise
  rw [four_apply]
  simp only [outer_apply]
  refine congrArg₂ (· + ·) (congrArg (_ * ·) (spread1_apply _ _)) (Finset.sum_congr rfl fun s _ => ?_)
  refine congrArg (fun t : EReal => t * _ * _) ?_
  pointwise

/-- A row before its norm. -/
def gated (ya yb : FVec Ideal S128x256 .f32) (xc : FVec Ideal S128x1024 .f32) (z : FVec Ideal S128x512 .f32)
    (dsk : FVec Ideal S1x512 .f32) (l : Fin 128) (d : Fin 512) : EReal :=
  ((if h : d.val < 256 then ya (ix2 l ⟨d.val, h⟩) else yb (ix2 l ⟨d.val - 256, by omega⟩))
    + dsk (ix2 0 d) * xc (ix2 l ⟨d.val, by omega⟩)) * z (ix2 l d)

theorem rows_apply (ya yb : FVec Ideal S128x256 .f32) (xc : FVec Ideal S128x1024 .f32) (z : FVec Ideal S128x512 .f32)
    (dsk ynw : FVec Ideal S1x512 .f32) (l : Fin 128) (d : Fin 512) : rows ya yb xc z dsk ynw (ix2 l d)
      = gated ya yb xc z dsk l d * Ideal.rsqrt (Ideal.div
          (∑ e : Fin 256, gated ya yb xc z dsk l ⟨256 * (d.val / 256) + e.val, by omega⟩ * gated ya yb xc z dsk l ⟨256 * (d.val / 256) + e.val, by omega⟩)
          (Ideal.ofBits FTy.f32 0x43800000#32) + Ideal.ofBits FTy.f32 0x3727C5AC#32) * ynw (ix2 0 d) := by
  have lo : ∀ e : Fin 256, extractStridedSlice S128x256 ![0, 0] (mulf (addf (concatenate S128x512 1 [⟨S128x256, ya⟩, ⟨S128x256, yb⟩] concatenates_S128x256_S128x256_S128x512_d1)
      (mulf (broadcastTo S128x512 dsk broadcasts_S1x512_S128x512)
      (extractStridedSlice S128x512 ![0, 0] xc slices_S128x1024_o0_0_S128x512))) z) slices_S128x512_o0_0_S128x256 (ix2 l e)
      = gated ya yb xc z dsk l ⟨e.val, by omega⟩ := by
    intro e
    unfold gated
    pointwise
  have hi : ∀ e : Fin 256, extractStridedSlice S128x256 ![0, 256] (mulf (addf (concatenate S128x512 1 [⟨S128x256, ya⟩, ⟨S128x256, yb⟩] concatenates_S128x256_S128x256_S128x512_d1)
      (mulf (broadcastTo S128x512 dsk broadcasts_S1x512_S128x512)
      (extractStridedSlice S128x512 ![0, 0] xc slices_S128x1024_o0_0_S128x512))) z) slices_S128x512_o0_256_S128x256 (ix2 l e)
      = gated ya yb xc z dsk l ⟨256 + e.val, by omega⟩ := by
    intro e
    unfold gated
    pointwise
  unfold rows
  pointwise
  refine congrArg (· * _) ?_
  by_cases h : d.val < 256
  · rw [dif_pos h]
    refine (part_apply _ _ _).trans ?_
    simp only [lo]
    have e0 : ∀ e : Fin 256, (⟨256 * (d.val / 256) + e.val, by omega⟩ : Fin 512) = ⟨e.val, by omega⟩ := fun e =>
      Fin.ext (by show 256 * (d.val / 256) + e.val = e.val; omega)
    simp only [e0]
  · rw [dif_neg h]
    refine (part_apply _ _ _).trans ?_
    simp only [hi]
    have e0 : ∀ e : Fin 256, (⟨256 * (d.val / 256) + e.val, by omega⟩ : Fin 512) = ⟨256 + e.val, by omega⟩ := fun e =>
      Fin.ext (by show 256 * (d.val / 256) + e.val = 256 + e.val; omega)
    have e1 : (⟨256 + (d.val - 256), by omega⟩ : Fin 512) = d := Fin.ext (by show 256 + (d.val - 256) = d.val; omega)
    simp only [e0]
    rw [show (⟨256 + (⟨d.val - 256, by omega⟩ : Fin 256).val, by omega⟩ : Fin 512) = d from e1]

/-! ## The three parts of the running sums add up where the exponents are finite -/

theorem cums_apply (A : FVec Ideal S128x128 .f32) (l h : Fin 128) (a : Fin 128 → ℝ) (ha : ∀ s, A (ix2 s h) = (a s : EReal)) :
    cums A (ix2 l h) = ((∑ s : Fin 128, if s ≤ l then a s else 0 : ℝ) : EReal) := by
  unfold cums
  show (under _ (ix2 l h) + under _ (ix2 l h) + under _ (ix2 l h) : EReal) = _
  rw [under_apply, under_apply, under_apply]
  have r0 : ∀ s : Fin 128, (A (ix2 s h) - A (ix2 s h) : EReal) = 0 := by
    intro s
    rw [ha, ← EReal.coe_sub, sub_self]
    rfl
  have e1 : ∀ s : Fin 128, (truncf .bf16 A bitsLt_bf16_f32 : FVec Ideal S128x128 .bf16) (ix2 s h) = A (ix2 s h) := fun s => rfl
  have e2 : ∀ s : Fin 128, (truncf .bf16 (subf A (extf .f32 (truncf .bf16 A bitsLt_bf16_f32 : FVec Ideal S128x128 .bf16) bitsLt_bf16_f32)) bitsLt_bf16_f32 : FVec Ideal S128x128 .bf16) (ix2 s h) = (0 : EReal) := fun s => r0 s
  have e3 : ∀ s : Fin 128, (truncf .bf16 (subf (subf A (extf .f32 (truncf .bf16 A bitsLt_bf16_f32 : FVec Ideal S128x128 .bf16) bitsLt_bf16_f32))
      (extf .f32 (truncf .bf16 (subf A (extf .f32 (truncf .bf16 A bitsLt_bf16_f32 : FVec Ideal S128x128 .bf16) bitsLt_bf16_f32)) bitsLt_bf16_f32 : FVec Ideal S128x128 .bf16) bitsLt_bf16_f32)) bitsLt_bf16_f32 : FVec Ideal S128x128 .bf16) (ix2 s h) = (0 : EReal) := fun s => by
    show (A (ix2 s h) - A (ix2 s h) : EReal) - (A (ix2 s h) - A (ix2 s h) : EReal) = 0
    rw [r0, sub_zero]
  simp only [e1, e2, e3, ite_self, Finset.sum_const_zero, add_zero]
  rw [coe_sum]
  refine Finset.sum_congr rfl fun s _ => ?_
  rw [ha]
  by_cases hs : s ≤ l
  · rw [if_pos hs, if_pos hs]
  · rw [if_neg hs, if_neg hs]; rfl

end Cert.HybIdeal.Chunk
-- ==== Proof.HybKept.lean ====
/-
  What one grid point of the hybrid mixer's call keeps of its tile for the point after it: the channels, keys and queries
  before their convolution below eight rows of the tile before, the gate, and the steps.
-/
module

public import proofs.«01_k».proof.Proof.HybPoint

@[expose] public section

noncomputable section

open Idealize.ShloMosaic Idealize.ShloMosaic.TcCoe Idealize.SL.Sem

namespace Cert.HybIdeal.Kept

open Cert.HybIdeal Cert.HybIdeal.Gen Cert.HybIdeal.Pay Cert.HybIdeal.Point Cert.FfnMath

/-! ## A list of stores, read at an index, newest first -/

/-- The newest store is read where it lies, and what is under it elsewhere. -/
structure Reads (S : Shape) (e : EltTy) (G : List (View.Piece (Elt Ideal) S e) → S.Idx → Elt Ideal e) : Prop where
  mem : ∀ (off size : Fin S.rank → ℕ) (ib : ∀ a, off a + size a ≤ S.size a) (w : (Rect.unit off size ib).shape.Idx → Elt Ideal e)
    (L : List (View.Piece (Elt Ideal) S e)) (i : S.Idx) (x : (Rect.unit off size ib).shape.Idx), (∀ a, (i a).val = off a + (x a).val) →
    G (⟨Rect.unit off size ib, w⟩ :: L) i = w x
  off : ∀ (off size : Fin S.rank → ℕ) (ib : ∀ a, off a + size a ≤ S.size a) (w : (Rect.unit off size ib).shape.Idx → Elt Ideal e)
    (L : List (View.Piece (Elt Ideal) S e)) (i : S.Idx) (a : Fin S.rank), ((i a).val < off a ∨ off a + size a ≤ (i a).val) →
    G (⟨Rect.unit off size ib, w⟩ :: L) i = G L i

theorem reads_canon (S : Shape) (e : EltTy) : Reads S e (View.canon (s := S) (e := e) (Val := Elt Ideal)) where
  mem off size ib w L i x h := by
    have hy : (Rect.unit off size ib).emb x = i := funext fun a => Fin.ext (by
      rw [ValueKit.rect_emb_unit_val]
      exact (h a).symm)
    rw [← hy]
    exact View.canon_cons_emb _ _ _ _
  off off size ib w L i a h := View.canon_cons_of_not_mem _ _ (by
    rw [Rect.mem_set_unit]
    intro hall
    have := hall a
    omega)

theorem reads_writes {κ : Kind} {sp : Space} (S : Shape) (e : EltTy) (v : View sig κ sp S e) (f : v.ty.Contents (Elt Ideal)) :
    Reads S e (fun L => View.read (Elt Ideal) v (View.writes v (Elt Ideal) f L)) where
  mem off size ib w L i x h := View.read_writes_cons_unit_of_mem v f ib w L i x rfl h
  off off size ib w L i a h := View.read_writes_cons_unit_of_not_mem v f ib w L i rfl a h

variable (h : FVec Ideal S512x1024 .bf16) (w : Vec Ideal S1024x3200 .bf16)

theorem x_pieces {G : List (View.Piece (Elt Ideal) S2x520x1024 .f32) → S2x520x1024.Idx → Elt Ideal .f32} (hG : Reads S2x520x1024 .f32 G) (sl : ℕ) (hsl : sl < 2) (h3 h2 h1 h0 b3 b2 b1 b0) (L) (r : Fin 512) (j : Fin 1024) :
    G (⟨Rect.unit (s := S2x520x1024) ![sl, 8, 768] ![1, 512, 256] h3, k0_pay8 h (View.ld w (Rect.unit (s := S1024x3200) ![0, 2816] ![1024, 256] b3))⟩ ::
       ⟨Rect.unit (s := S2x520x1024) ![sl, 8, 512] ![1, 512, 256] h2, k0_pay8 h (View.ld w (Rect.unit (s := S1024x3200) ![0, 2560] ![1024, 256] b2))⟩ ::
       ⟨Rect.unit (s := S2x520x1024) ![sl, 8, 256] ![1, 512, 256] h1, k0_pay8 h (View.ld w (Rect.unit (s := S1024x3200) ![0, 2304] ![1024, 256] b1))⟩ ::
       ⟨Rect.unit (s := S2x520x1024) ![sl, 8, 0] ![1, 512, 256] h0, k0_pay8 h (View.ld w (Rect.unit (s := S1024x3200) ![0, 2048] ![1024, 256] b0))⟩ :: L)
      (ix3 ⟨sl, hsl⟩ ⟨8 + r.val, by omega⟩ j) = along h w r ⟨2048 + j.val, by omega⟩ := by
  have val : ∀ (o : ℕ) (b) (e : Fin 256) (he : o + e.val = 2048 + j.val),
      k0_pay8 h (View.ld w (Rect.unit (s := S1024x3200) ![0, o] ![1024, 256] b)) (ix3 0 r e) = along h w r ⟨2048 + j.val, by omega⟩ := by
    intro o b e he
    refine (cols_apply _ _ _ _).trans ?_
    exact Finset.sum_congr rfl fun k _ => congrArg (h (ix2 r k) * ·) ((ld_cols w o _ _ _).trans
      (congrArg (fun i => w (ix2 k i)) (Fin.ext he)))
  by_cases c3 : 768 ≤ j.val
  · exact (hG.mem _ _ _ _ _ _ (ix3 0 r ⟨j.val - 768, by omega⟩) (fun a => match a with
      | ⟨0, _⟩ => rfl | ⟨1, _⟩ => rfl | ⟨2, _⟩ => (show j.val = 768 + (j.val - 768) by omega))).trans
      (val 2816 _ _ (by show 2816 + (j.val - 768) = _; omega))
  rw [hG.off _ _ _ _ _ _ (2 : Fin 3) (Or.inl (by show j.val < 768; omega))]
  by_cases c2 : 512 ≤ j.val
  · exact (hG.mem _ _ _ _ _ _ (ix3 0 r ⟨j.val - 512, by omega⟩) (fun a => match a with
      | ⟨0, _⟩ => rfl | ⟨1, _⟩ => rfl | ⟨2, _⟩ => (show j.val = 512 + (j.val - 512) by omega))).trans
      (val 2560 _ _ (by show 2560 + (j.val - 512) = _; omega))
  rw [hG.off _ _ _ _ _ _ (2 : Fin 3) (Or.inl (by show j.val < 512; omega))]
  by_cases c1 : 256 ≤ j.val
  · exact (hG.mem _ _ _ _ _ _ (ix3 0 r ⟨j.val - 256, by omega⟩) (fun a => match a with
      | ⟨0, _⟩ => rfl | ⟨1, _⟩ => rfl | ⟨2, _⟩ => (show j.val = 256 + (j.val - 256) by omega))).trans
      (val 2304 _ _ (by show 2304 + (j.val - 256) = _; omega))
  rw [hG.off _ _ _ _ _ _ (2 : Fin 3) (Or.inl (by show j.val < 256; omega))]
  exact (hG.mem _ _ _ _ _ _ (ix3 0 r ⟨j.val, by omega⟩) (fun a => match a with
      | ⟨0, _⟩ => rfl | ⟨1, _⟩ => rfl | ⟨2, _⟩ => (show j.val = 0 + j.val by omega))).trans
      (val 2048 _ _ (by show 2048 + j.val = _; omega))

theorem halo_pieces {G : List (View.Piece (Elt Ideal) S2x520x1024 .f32) → S2x520x1024.Idx → Elt Ideal .f32} (hG : Reads S2x520x1024 .f32 G) (sl : ℕ) (hsl : sl < 2) (h3 h2 h1 h0 hh) (p3 p2 p1 p0 : FVec Ideal S1x512x256 .f32)
    (ph : FVec Ideal S1x8x1024 .f32) (L) (r : Fin 8) (j : Fin 1024) :
    G (⟨Rect.unit (s := S2x520x1024) ![sl, 8, 768] ![1, 512, 256] h3, p3⟩ ::
       ⟨Rect.unit (s := S2x520x1024) ![sl, 8, 512] ![1, 512, 256] h2, p2⟩ ::
       ⟨Rect.unit (s := S2x520x1024) ![sl, 8, 256] ![1, 512, 256] h1, p1⟩ ::
       ⟨Rect.unit (s := S2x520x1024) ![sl, 8, 0] ![1, 512, 256] h0, p0⟩ ::
       ⟨Rect.unit (s := S2x520x1024) ![sl, 0, 0] ![1, 8, 1024] hh, ph⟩ :: L)
      (ix3 ⟨sl, hsl⟩ ⟨r.val, by omega⟩ j) = ph (ix3 0 r j) := by
  rw [hG.off _ _ _ _ _ _ (1 : Fin 3) (Or.inl (by show r.val < 8; omega)), hG.off _ _ _ _ _ _ (1 : Fin 3) (Or.inl (by show r.val < 8; omega)),
    hG.off _ _ _ _ _ _ (1 : Fin 3) (Or.inl (by show r.val < 8; omega)), hG.off _ _ _ _ _ _ (1 : Fin 3) (Or.inl (by show r.val < 8; omega))]
  exact hG.mem _ _ _ _ _ _ (ix3 0 r j) (fun a => match a with
      | ⟨0, _⟩ => rfl | ⟨1, _⟩ => (Nat.zero_add _).symm | ⟨2, _⟩ => (Nat.zero_add _).symm)

theorem z_pieces {G : List (View.Piece (Elt Ideal) S2x512x512 .f32) → S2x512x512.Idx → Elt Ideal .f32} (hG : Reads S2x512x512 .f32 G) (sl : ℕ) (hsl : sl < 2) (h1 h0 b1 b0) (L) (r d : Fin 512) :
    G (⟨Rect.unit (s := S2x512x512) ![sl, 0, 256] ![1, 512, 256] h1, k0_pay658 h (View.ld w (Rect.unit (s := S1024x3200) ![0, 1792] ![1024, 256] b1))⟩ ::
       ⟨Rect.unit (s := S2x512x512) ![sl, 0, 0] ![1, 512, 256] h0, k0_pay658 h (View.ld w (Rect.unit (s := S1024x3200) ![0, 1536] ![1024, 256] b0))⟩ :: L)
      (ix3 ⟨sl, hsl⟩ r d) = tsilu (along h w r ⟨1536 + d.val, by omega⟩) := by
  have val : ∀ (o : ℕ) (b) (e : Fin 256) (he : o + e.val = 1536 + d.val),
      k0_pay658 h (View.ld w (Rect.unit (s := S1024x3200) ![0, o] ![1024, 256] b)) (ix3 0 r e) = tsilu (along h w r ⟨1536 + d.val, by omega⟩) := by
    intro o b e he
    refine (gate_apply _ _ _ _).trans (congrArg tsilu ?_)
    exact Finset.sum_congr rfl fun k _ => congrArg (h (ix2 r k) * ·) ((ld_cols w o _ _ _).trans
      (congrArg (fun i => w (ix2 k i)) (Fin.ext he)))
  by_cases c1 : 256 ≤ d.val
  · exact (hG.mem ![sl, 0, 256] ![1, 512, 256] h1 _ _ _ (ix3 0 r ⟨d.val - 256, by omega⟩) (fun a => match a with
      | ⟨0, _⟩ => rfl | ⟨1, _⟩ => (Nat.zero_add _).symm | ⟨2, _⟩ => (show d.val = 256 + (d.val - 256) by omega))).trans
      (val 1792 b1 ⟨d.val - 256, by omega⟩ (by show 1792 + (d.val - 256) = _; omega))
  rw [hG.off _ _ _ _ _ _ (2 : Fin 3) (Or.inl (by show d.val < 256; omega))]
  exact (hG.mem ![sl, 0, 0] ![1, 512, 256] h0 _ _ _ (ix3 0 r ⟨d.val, by omega⟩) (fun a => match a with
      | ⟨0, _⟩ => rfl | ⟨1, _⟩ => (Nat.zero_add _).symm | ⟨2, _⟩ => (show d.val = 0 + d.val by omega))).trans
      (val 1536 b0 ⟨d.val, by omega⟩ (by show 1536 + d.val = _; omega))

/-- A step: `softplus`, written so that it does not overflow. -/
def softp (v : EReal) : EReal := max v 0 + Ideal.log1p (Ideal.exp (0 - max v (-v)))

/-- The steps, as the kernel spells them. -/
def steps (db : Vec Ideal S1x128 .f32) (wd : Vec Ideal S1024x128 .bf16) : FVec Ideal S1x512x128 .f32 :=
  let v := addf (matmul dot_S512x1024_S1024x128_S512x128_1_0_0_1_n_n none h (shapeCast S1024x128 wd shapeCasts_S1024x128_S1024x128 : FVec Ideal S1024x128 .bf16)
    (constant S512x128 .f32 0x00000000#32)) (broadcastTo S512x128 (shapeCast S1x128 db shapeCasts_S1x128_S1x128) broadcasts_S1x128_S512x128)
  let o : FVec Ideal S512x128 .f32 := broadcast S512x128 (Scalar.ofBits (F := Ideal) .f32 0x00000000#32)
  shapeCast S1x512x128 (addf (maximumf v o) (log1p (exp (subf o (absf v))))) shapeCasts_S512x128_S1x512x128

theorem steps_apply (db : Vec Ideal S1x128 .f32) (b) (r : Fin 512) (j : Fin 128) :
    steps h db (View.ld w (Rect.unit (s := S1024x3200) ![0, 3072] ![1024, 128] b)) (ix3 0 r j)
      = softp (along h w r ⟨3072 + j.val, by omega⟩ + db (ix2 0 j)) := by
  have e : ∀ k : Fin 1024, View.ld w (Rect.unit (s := S1024x3200) ![0, 3072] ![1024, 128] b) (ix2 k j) = w (ix2 k ⟨3072 + j.val, by omega⟩) :=
    fun k => View.ld_unit_apply_of _ _ _ _ _ _ fun a => match a with | ⟨0, _⟩ => (Nat.zero_add _).symm | ⟨1, _⟩ => rfl
  have s : (∑ k : Fin 1024, h (ix2 r k) * View.ld w (Rect.unit (s := S1024x3200) ![0, 3072] ![1024, 128] b) (ix2 k j) : EReal)
      = along h w r ⟨3072 + j.val, by omega⟩ := Finset.sum_congr rfl fun k _ => congrArg (h (ix2 r k) * ·) (e k)
  generalize View.ld w (Rect.unit (s := S1024x3200) ![0, 3072] ![1024, 128] b) = wd at s
  unfold steps
  pointwise
  rw [← s]
  rfl

theorem dt_pieces {G : List (View.Piece (Elt Ideal) S2x512x128 .f32) → S2x512x128.Idx → Elt Ideal .f32} (hG : Reads S2x512x128 .f32 G) (sl : ℕ) (hsl : sl < 2) (h0) (p : FVec Ideal S1x512x128 .f32) (L) (r : Fin 512) (j : Fin 128) :
    G (⟨Rect.unit (s := S2x512x128) ![sl, 0, 0] ![1, 512, 128] h0, p⟩ :: L) (ix3 ⟨sl, hsl⟩ r j) = p (ix3 0 r j) :=
  hG.mem _ _ _ _ _ _ (ix3 0 r j) (fun a => match a with
      | ⟨0, _⟩ => rfl | ⟨1, _⟩ => (Nat.zero_add _).symm | ⟨2, _⟩ => (Nat.zero_add _).symm)

/-- Whether a sequence starts at tile `n`. -/
def fresh (n : ℕ) : BitVec 1 :=
  let v := Scalar.remsi (BitVec.ofNat 32 n) 16#32
  Scalar.cmpi .eq (Scalar.select (Scalar.andi (Scalar.xori (Scalar.cmpi .slt v 0#32) 0#1) (Scalar.cmpi .ne v 0#32))
    (Scalar.addi v 16#32) v) 0#32

theorem fresh_bit : ∀ n : Fin 65, fresh n.val = if n.val % 16 = 0 then 1#1 else 0#1 := by decide +kernel

theorem halo_apply (n : ℕ) (hn : n < 65) (v : Vec Ideal S1x8x1024 .f32) (r : Fin 8) (j : Fin 1024) :
    k0_pay760 (shapeCast S8x1024 v shapeCasts_S1x8x1024_S8x1024) (fresh n) (broadcast S8x1024 (Scalar.ofBits (F := Ideal) .f32 0x00000000#32)) (ix3 0 r j)
      = if n % 16 = 0 then 0 else v (ix3 0 r j) := by
  have e1 : ∀ a b : FVec Ideal S8x1024 .f32, k0_pay760 a 1#1 b = shapeCast S1x8x1024 b shapeCasts_S8x1024_S1x8x1024 := fun a b => rfl
  have e0 : ∀ a b : FVec Ideal S8x1024 .f32, k0_pay760 a 0#1 b = shapeCast S1x8x1024 a shapeCasts_S8x1024_S1x8x1024 := fun a b => rfl
  rw [fresh_bit ⟨n, hn⟩]
  by_cases h : n % 16 = 0
  · rw [if_pos h, if_pos h, e1]
    pointwise
  · rw [if_neg h, if_neg h, e0]
    pointwise

variable (m : (ℓ : Loc nD τ sig) → Buf (Elt Ideal) ℓ)

/-- The channels before their convolution, below the eight kept rows. -/
theorem x_at (c : Dev nD) (t : Fin cfg0.N) (r : Fin 512) (j : Fin 1024) :
    (outsAt0 m c t.val t.isLt).2.2.2.2.1 (ix3 (slot t.val) ⟨8 + r.val, by omega⟩ j) = along (tile m c t) (iblk m c 2 t) r ⟨2048 + j.val, by omega⟩ := by
  refine cases3 t (fun h0 h1 h2 => ?_) (fun h0 h1 h2 => ?_) (fun h0 h1 h2 => ?_)
  · rw [slot_even h1, outsAt0_A m c t h0 h1 h2]
    frame_open
    simp (disch := decide) only [↓ View.readCov_skip, ↓ View.readCov_cons_toLoadRect, ↓ View.readCov_fill]
    frame_out
    exact x_pieces (tile m c t) (iblk m c 2 t) (reads_canon _ _) 0 (by decide) _ _ _ _ _ _ _ _ _ r j
  · rw [slot_odd h2, outsAt0_B m c t h0 h1 h2]
    frame_open
    simp (disch := decide) only [↓ View.readCov_skip, ↓ View.readCov_cons_toLoadRect, ↓ View.readCov_fill]
    frame_out
    exact x_pieces (tile m c t) (iblk m c 2 t) (reads_writes _ _ (View.whole cc0_scratch0) _) 1 (by decide) _ _ _ _ _ _ _ _ _ r j
  · rw [slot_even h1, outsAt0_C m c t h0 h1 h2]
    frame_open
    simp (disch := decide) only [↓ View.readCov_skip, ↓ View.readCov_cons_toLoadRect, ↓ View.readCov_fill]
    frame_out
    exact x_pieces (tile m c t) (iblk m c 2 t) (reads_writes _ _ (View.whole cc0_scratch0) _) 0 (by decide) _ _ _ _ _ _ _ _ _ r j

/-- The eight kept rows. -/
theorem halo_at (c : Dev nD) (t : Fin cfg0.N) (r : Fin 8) (j : Fin 1024) :
    (outsAt0 m c t.val t.isLt).2.2.2.2.1 (ix3 (slot t.val) ⟨r.val, by omega⟩ j)
      = if t.val % 16 = 0 then 0 else
        (outsAt0 m c (t.val - 1) (Nat.lt_of_le_of_lt (Nat.sub_le _ _) t.isLt)).2.2.2.2.1 (ix3 (slot (t.val - 1)) ⟨512 + r.val, by omega⟩ j) := by
  have ht := lt65 t
  refine cases3 t (fun h0 h1 h2 => ?_) (fun h0 h1 h2 => ?_) (fun h0 h1 h2 => ?_)
  · rw [slot_even h1, outsAt0_A m c t h0 h1 h2]
    frame_open
    simp (disch := decide) only [↓ View.readCov_skip, ↓ View.readCov_cons_toLoadRect, ↓ View.readCov_fill]
    frame_out
    rw [coord t]
    refine (halo_pieces (reads_canon _ _) 0 (by decide) _ _ _ _ _ _ _ _ _ _ _ r j).trans ?_
    refine (halo_apply t.val ht _ r j).trans ?_
    rw [if_pos (by omega), if_pos (by omega)]
  · rw [slot_odd h2, slot_even (n := t.val - 1) (by omega), outsAt0_B m c t h0 h1 h2]
    frame_open
    simp (disch := decide) only [↓ View.readCov_skip, ↓ View.readCov_cons_toLoadRect, ↓ View.readCov_fill]
    frame_out
    rw [coord t]
    refine (halo_pieces (reads_writes _ _ (View.whole cc0_scratch0) _) 1 (by decide) _ _ _ _ _ _ _ _ _ _ _ r j).trans ?_
    refine (halo_apply t.val ht _ r j).trans (if_congr Iff.rfl rfl ?_)
    simp only [read_unread_whole]
    exact View.ld_unit_apply_of _ _ _ _ _ _ fun a =>
      match a with | ⟨0, _⟩ => rfl | ⟨1, _⟩ => rfl | ⟨2, _⟩ => (Nat.zero_add _).symm
  · rw [slot_even h1, slot_odd (n := t.val - 1) (by omega), outsAt0_C m c t h0 h1 h2]
    frame_open
    simp (disch := decide) only [↓ View.readCov_skip, ↓ View.readCov_cons_toLoadRect, ↓ View.readCov_fill]
    frame_out
    rw [coord t]
    refine (halo_pieces (reads_writes _ _ (View.whole cc0_scratch0) _) 0 (by decide) _ _ _ _ _ _ _ _ _ _ _ r j).trans ?_
    refine (halo_apply t.val ht _ r j).trans (if_congr Iff.rfl rfl ?_)
    simp only [read_unread_whole]
    exact View.ld_unit_apply_of _ _ _ _ _ _ fun a =>
      match a with | ⟨0, _⟩ => rfl | ⟨1, _⟩ => rfl | ⟨2, _⟩ => (Nat.zero_add _).symm

/-- The gate, through `silu`. -/
theorem z_at (c : Dev nD) (t : Fin cfg0.N) (r d : Fin 512) :
    (outsAt0 m c t.val t.isLt).2.2.2.2.2.1 (ix3 (slot t.val) r d) = tsilu (along (tile m c t) (iblk m c 2 t) r ⟨1536 + d.val, by omega⟩) := by
  refine cases3 t (fun h0 h1 h2 => ?_) (fun h0 h1 h2 => ?_) (fun h0 h1 h2 => ?_)
  · rw [slot_even h1, outsAt0_A m c t h0 h1 h2]
    frame_open
    simp (disch := decide) only [↓ View.readCov_skip, ↓ View.readCov_cons_toLoadRect, ↓ View.readCov_fill]
    frame_out
    exact z_pieces (tile m c t) (iblk m c 2 t) (reads_canon _ _) 0 (by decide) _ _ _ _ _ r d
  · rw [slot_odd h2, outsAt0_B m c t h0 h1 h2]
    frame_open
    simp (disch := decide) only [↓ View.readCov_skip, ↓ View.readCov_cons_toLoadRect, ↓ View.readCov_fill]
    frame_out
    exact z_pieces (tile m c t) (iblk m c 2 t) (reads_writes _ _ (View.whole cc0_scratch1) _) 1 (by decide) _ _ _ _ _ r d
  · rw [slot_even h1, outsAt0_C m c t h0 h1 h2]
    frame_open
    simp (disch := decide) only [↓ View.readCov_skip, ↓ View.readCov_cons_toLoadRect, ↓ View.readCov_fill]
    frame_out
    exact z_pieces (tile m c t) (iblk m c 2 t) (reads_writes _ _ (View.whole cc0_scratch1) _) 0 (by decide) _ _ _ _ _ r d

/-- The steps. -/
theorem dt_at (c : Dev nD) (t : Fin cfg0.N) (r : Fin 512) (j : Fin 128) :
    (outsAt0 m c t.val t.isLt).2.2.2.2.2.2.1 (ix3 (slot t.val) r j)
      = softp (along (tile m c t) (iblk m c 2 t) r ⟨3072 + j.val, by omega⟩ + iblk m c 6 t (ix2 0 j)) := by
  refine cases3 t (fun h0 h1 h2 => ?_) (fun h0 h1 h2 => ?_) (fun h0 h1 h2 => ?_)
  · rw [slot_even h1, outsAt0_A m c t h0 h1 h2]
    frame_open
    simp (disch := decide) only [↓ View.readCov_skip, ↓ View.readCov_cons_toLoadRect, ↓ View.readCov_fill]
    frame_out
    refine (dt_pieces (reads_canon _ _) 0 (by decide) _ _ _ r j).trans ?_
    exact steps_apply (tile m c t) (iblk m c 2 t) (iblk m c 6 t) _ r j
  · rw [slot_odd h2, outsAt0_B m c t h0 h1 h2]
    frame_open
    simp (disch := decide) only [↓ View.readCov_skip, ↓ View.readCov_cons_toLoadRect, ↓ View.readCov_fill]
    frame_out
    refine (dt_pieces (reads_writes _ _ (View.whole cc0_scratch2) _) 1 (by decide) _ _ _ r j).trans ?_
    exact steps_apply (tile m c t) (iblk m c 2 t) (iblk m c 6 t) _ r j
  · rw [slot_even h1, outsAt0_C m c t h0 h1 h2]
    frame_open
    simp (disch := decide) only [↓ View.readCov_skip, ↓ View.readCov_cons_toLoadRect, ↓ View.readCov_fill]
    frame_out
    refine (dt_pieces (reads_writes _ _ (View.whole cc0_scratch2) _) 0 (by decide) _ _ _ r j).trans ?_
    exact steps_apply (tile m c t) (iblk m c 2 t) (iblk m c 6 t) _ r j

end Cert.HybIdeal.Kept
-- ==== Proof.HybRun.lean ====
/-
  What one grid point of the hybrid mixer's call makes of the SSD heads of the tile before: four chunks, each from the state
  the one before it left.
-/
module

public import proofs.«01_k».proof.Proof.HybChunk
public import proofs.«01_k».proof.Proof.HybKept

@[expose] public section

noncomputable section

open Idealize.ShloMosaic Idealize.ShloMosaic.TcCoe Idealize.SL.Sem

namespace Cert.HybIdeal.Run

open Cert.HybIdeal Cert.HybIdeal.Gen Cert.HybIdeal.Point Cert.HybIdeal.Chunk Cert.HybIdeal.Kept Cert.FfnMath

theorem in_x (sl : Fin 2) (c k : Fin 4) : ∀ a, ![sl.val, 5 + 128 * c.val + k.val, 0] a + ![1, 128, 1024] a ≤ S2x520x1024.size a
  | ⟨0, _⟩ => by show sl.val + 1 ≤ 2; omega
  | ⟨1, _⟩ => by show 5 + 128 * c.val + k.val + 128 ≤ 520; omega
  | ⟨2, _⟩ => le_rfl

theorem in_z (sl : Fin 2) (c : Fin 4) : ∀ a, ![sl.val, 128 * c.val, 0] a + ![1, 128, 512] a ≤ S2x512x512.size a
  | ⟨0, _⟩ => by show sl.val + 1 ≤ 2; omega
  | ⟨1, _⟩ => by show 128 * c.val + 128 ≤ 512; omega
  | ⟨2, _⟩ => le_rfl

theorem in_dt (sl : Fin 2) (c : Fin 4) : ∀ a, ![sl.val, 128 * c.val, 0] a + ![1, 128, 128] a ≤ S2x512x128.size a
  | ⟨0, _⟩ => by show sl.val + 1 ≤ 2; omega
  | ⟨1, _⟩ => by show 128 * c.val + 128 ≤ 512; omega
  | ⟨2, _⟩ => le_rfl

theorem in_st (g : Fin 2) : ∀ a, ![g.val, 0, 0] a + ![1, 128, 256] a ≤ S2x128x256.size a
  | ⟨0, _⟩ => by show g.val + 1 ≤ 2; omega
  | ⟨1, _⟩ => le_rfl
  | ⟨2, _⟩ => le_rfl

theorem in_w (k : Fin 4) : ∀ a, ![k.val, 0] a + ![1, 1024] a ≤ S4x1024.size a
  | ⟨0, _⟩ => by show k.val + 1 ≤ 4; omega
  | ⟨1, _⟩ => le_rfl

/-- One of a chunk's four shifted copies. -/
def cutx (xp : Vec Ideal S2x520x1024 .f32) (sl : Fin 2) (c k : Fin 4) : FVec Ideal S128x1024 .f32 :=
  shapeCast (s := S1x128x1024) S128x1024 (View.ld xp (Rect.unit (s := S2x520x1024) ![sl.val, 5 + 128 * c.val + k.val, 0] ![1, 128, 1024] (in_x sl c k)))
    shapeCasts_S1x128x1024_S128x1024

/-- A chunk's gate. -/
def cutz (z : Vec Ideal S2x512x512 .f32) (sl : Fin 2) (c : Fin 4) : FVec Ideal S128x512 .f32 :=
  shapeCast (s := S1x128x512) S128x512 (View.ld z (Rect.unit (s := S2x512x512) ![sl.val, 128 * c.val, 0] ![1, 128, 512] (in_z sl c)))
    shapeCasts_S1x128x512_S128x512

/-- A chunk's steps. -/
def cutd (dt : Vec Ideal S2x512x128 .f32) (sl : Fin 2) (c : Fin 4) : FVec Ideal S128x128 .f32 :=
  shapeCast (s := S1x128x128) S128x128 (View.ld dt (Rect.unit (s := S2x512x128) ![sl.val, 128 * c.val, 0] ![1, 128, 128] (in_dt sl c)))
    shapeCasts_S1x128x128_S128x128

/-- A group's state as the point before left it. -/
def cuts (st : Vec Ideal S2x128x256 .f32) (g : Fin 2) : FVec Ideal S128x256 .f32 :=
  shapeCast (s := S1x128x256) S128x256 (View.ld st (Rect.unit (s := S2x128x256) ![g.val, 0, 0] ![1, 128, 256] (in_st g)))
    shapeCasts_S1x128x256_S128x256

/-- One tap of the convolution. -/
def cutw (cw : Vec Ideal S4x1024 .f32) (k : Fin 4) : FVec Ideal S1x1024 .f32 :=
  shapeCast (s := S1x1024) S1x1024 (View.ld cw (Rect.unit (s := S4x1024) ![k.val, 0] ![1, 1024] (in_w k))) shapeCasts_S1x1024_S1x1024

/-- A chunk's channels, keys and queries. -/
def chans (xp : Vec Ideal S2x520x1024 .f32) (cw : Vec Ideal S4x1024 .f32) (cb : Vec Ideal S1x1024 .f32) (sl : Fin 2) (c : Fin 4) :
    FVec Ideal S128x1024 .f32 :=
  act (shapeCast S1x1024 cb shapeCasts_S1x1024_S1x1024) ![cutw cw 0, cutw cw 1, cutw cw 2, cutw cw 3]
    ![cutx xp sl c 0, cutx xp sl c 1, cutx xp sl c 2, cutx xp sl c 3]

/-- A chunk's decay exponents. -/
def expo (alog : Vec Ideal S1x128 .f32) (dc : FVec Ideal S128x128 .f32) : FVec Ideal S128x128 .f32 :=
  mulf (broadcastTo S128x128 (subf (broadcast S1x128 (Scalar.ofBits (F := Ideal) .f32 0x00000000#32))
    (exp (shapeCast S1x128 alog shapeCasts_S1x128_S1x128))) broadcasts_S1x128_S128x128) dc

/-- The first group of a chunk, out of the buffers. -/
def grpA (xp : Vec Ideal S2x520x1024 .f32) (dt : Vec Ideal S2x512x128 .f32) (cw : Vec Ideal S4x1024 .f32) (cb : Vec Ideal S1x1024 .f32)
    (alog : Vec Ideal S1x128 .f32) (sl : Fin 2) (c : Fin 4) : Group :=
  groupA (chans xp cw cb sl c) (cutd dt sl c) (cums (expo alog (cutd dt sl c)))

/-- The second. -/
def grpB (xp : Vec Ideal S2x520x1024 .f32) (dt : Vec Ideal S2x512x128 .f32) (cw : Vec Ideal S4x1024 .f32) (cb : Vec Ideal S1x1024 .f32)
    (alog : Vec Ideal S1x128 .f32) (sl : Fin 2) (c : Fin 4) : Group :=
  groupB (chans xp cw cb sl c) (cutd dt sl c) (cums (expo alog (cutd dt sl c)))

/-- Written to the buffer and read back. -/
def back (x : FVec Ideal S128x256 .f32) : FVec Ideal S128x256 .f32 :=
  shapeCast S128x256 (shapeCast S1x128x256 x shapeCasts_S128x256_S1x128x256) shapeCasts_S1x128x256_S128x256

theorem back_apply (x : FVec Ideal S128x256 .f32) (n : Fin 128) (d : Fin 256) : back x (ix2 n d) = x (ix2 n d) := by
  unfold back
  pointwise

/-- The state each chunk starts from. -/
def enter1 (G : Fin 4 → Group) (s : FVec Ideal S128x256 .f32) : FVec Ideal S128x256 .f32 := back ((G 0).next s)
def enter2 (G : Fin 4 → Group) (s : FVec Ideal S128x256 .f32) : FVec Ideal S128x256 .f32 := back ((G 1).next (enter1 G s))
def enter3 (G : Fin 4 → Group) (s : FVec Ideal S128x256 .f32) : FVec Ideal S128x256 .f32 := back ((G 2).next (enter2 G s))
def leave (G : Fin 4 → Group) (s : FVec Ideal S128x256 .f32) : FVec Ideal S128x256 .f32 := (G 3).next (enter3 G s)

/-- Whether the state goes on from the tile before: not where a sequence starts. -/
def keep (n : ℕ) : Ideal FTy.f32 :=
  let v := Scalar.remsi (Scalar.subi (BitVec.ofNat 32 n) 1#32) 16#32
  Scalar.select (Scalar.cmpi .eq (Scalar.select (Scalar.andi (Scalar.xori (Scalar.cmpi .slt v 0#32) 0#1) (Scalar.cmpi .ne v 0#32))
    (Scalar.addi v 16#32) v) 0#32) (Scalar.ofBits (F := Ideal) .f32 0x00000000#32) (Scalar.ofBits (F := Ideal) .f32 0x3F800000#32)

theorem keep_bit : ∀ n : Fin 65, n.val ≠ 0 → (let v := Scalar.remsi (Scalar.subi (BitVec.ofNat 32 n.val) 1#32) 16#32
    Scalar.cmpi .eq (Scalar.select (Scalar.andi (Scalar.xori (Scalar.cmpi .slt v 0#32) 0#1) (Scalar.cmpi .ne v 0#32))
    (Scalar.addi v 16#32) v) 0#32) = if (n.val - 1) % 16 = 0 then 1#1 else 0#1 := by decide +kernel

theorem keep_eq (n : ℕ) (h0 : n ≠ 0) (hn : n < 65) : keep n = if (n - 1) % 16 = 0 then 0 else 1 := by
  unfold keep
  have e := keep_bit ⟨n, hn⟩ h0
  dsimp only at e ⊢
  rw [e]
  by_cases h : (n - 1) % 16 = 0
  · rw [if_pos h, if_pos h]
    show Ideal.ofBits FTy.f32 0x00000000#32 = 0
    simp [Ideal.ofBits, Ideal.ieee]
  · rw [if_neg h, if_neg h]
    show Ideal.ofBits FTy.f32 0x3F800000#32 = 1
    simp [Ideal.ofBits, Ideal.ieee, -EReal.coe_mul]; norm_num

/-- The state the first chunk starts from. -/
def start (st : Vec Ideal S2x128x256 .f32) (g : Fin 2) (n : ℕ) : FVec Ideal S128x256 .f32 :=
  mulf (cuts st g) (broadcast S128x256 (keep n))

/-- The rows a chunk writes. -/
def outRows (xp : Vec Ideal S2x520x1024 .f32) (z : Vec Ideal S2x512x512 .f32) (cw : Vec Ideal S4x1024 .f32)
    (cb : Vec Ideal S1x1024 .f32) (dsk ynw : Vec Ideal S1x512 .f32) (sl : Fin 2) (c : Fin 4) (A B : Group)
    (sA sB : FVec Ideal S128x256 .f32) : FVec Ideal S128x512 .bf16 :=
  rows (A.rows sA) (B.rows sB) (chans xp cw cb sl c) (cutz z sl c) (shapeCast S1x512 dsk shapeCasts_S1x512_S1x512)
    (shapeCast S1x512 ynw shapeCasts_S1x512_S1x512)

theorem canon_st (h1 h0) (p1 p0 : FVec Ideal S128x256 .f32) (L) (g : Fin 2) (n : Fin 128) (d : Fin 256) :
    View.canon (s := S2x128x256) (e := .f32) (Val := Elt Ideal)
      (⟨Rect.unit (s := S2x128x256) ![1, 0, 0] ![1, 128, 256] h1, shapeCast S1x128x256 p1 shapeCasts_S128x256_S1x128x256⟩ ::
       ⟨Rect.unit (s := S2x128x256) ![0, 0, 0] ![1, 128, 256] h0, shapeCast S1x128x256 p0 shapeCasts_S128x256_S1x128x256⟩ :: L) (ix3 g n d)
      = if g = 0 then p0 (ix2 n d) else p1 (ix2 n d) := by
  have hg : g = 0 ∨ g = 1 := by omega
  rcases hg with rfl | rfl
  · rw [if_pos rfl, View.canon_cons_of_not_mem _ _ (by
      rw [Rect.mem_set_unit]; intro hall; have := (hall 0).1; exact absurd this (by show ¬(1 ≤ 0); omega))]
    rw [show (ix3 (0 : Fin 2) n d : S2x128x256.Idx) = (Rect.unit (s := S2x128x256) ![0, 0, 0] ![1, 128, 256] h0).emb (ix3 0 n d) from
      funext fun a => Fin.ext (by
        rw [ValueKit.rect_emb_unit_val]
        match a with | ⟨0, _⟩ => rfl | ⟨1, _⟩ => exact (Nat.zero_add _).symm | ⟨2, _⟩ => exact (Nat.zero_add _).symm)]
    refine (View.canon_cons_emb _ _ _ _).trans ?_
    pointwise
  · rw [if_neg (by decide)]
    rw [show (ix3 (1 : Fin 2) n d : S2x128x256.Idx) = (Rect.unit (s := S2x128x256) ![1, 0, 0] ![1, 128, 256] h1).emb (ix3 0 n d) from
      funext fun a => Fin.ext (by
        rw [ValueKit.rect_emb_unit_val]
        match a with | ⟨0, _⟩ => rfl | ⟨1, _⟩ => exact (Nat.zero_add _).symm | ⟨2, _⟩ => exact (Nat.zero_add _).symm)]
    refine (View.canon_cons_emb _ _ _ _).trans ?_
    pointwise

theorem y_pieces {G : List (View.Piece (Elt Ideal) S512x512 .bf16) → S512x512.Idx → Elt Ideal .bf16} (hG : Reads S512x512 .bf16 G)
    (h3 h2 h1 h0) (p3 p2 p1 p0 : FVec Ideal S128x512 .bf16) (c : Fin 4) (l : Fin 128) (d : Fin 512) :
    G [(⟨Rect.unit (s := S512x512) ![384, 0] ![128, 512] h3, p3⟩ : View.Piece (Elt Ideal) S512x512 .bf16),
       (⟨Rect.unit (s := S512x512) ![256, 0] ![128, 512] h2, p2⟩ : View.Piece (Elt Ideal) S512x512 .bf16),
       (⟨Rect.unit (s := S512x512) ![128, 0] ![128, 512] h1, p1⟩ : View.Piece (Elt Ideal) S512x512 .bf16),
       (⟨Rect.unit (s := S512x512) ![0, 0] ![128, 512] h0, p0⟩ : View.Piece (Elt Ideal) S512x512 .bf16)]
      (ix2 ⟨128 * c.val + l.val, by omega⟩ d)
      = if c.val = 3 then p3 (ix2 l d) else if c.val = 2 then p2 (ix2 l d) else if c.val = 1 then p1 (ix2 l d) else p0 (ix2 l d) := by
  have at' : ∀ (o : ℕ) (hc : 128 * c.val = o) (a : Fin 2),
      ((ix2 (⟨128 * c.val + l.val, by omega⟩ : Fin 512) d : S512x512.Idx) a).val = ![o, 0] a + ((ix2 l d : S128x512.Idx) a).val := fun o hc a =>
    match a with
    | ⟨0, _⟩ => (show 128 * c.val + l.val = o + l.val by omega)
    | ⟨1, _⟩ => (Nat.zero_add _).symm
  by_cases c3 : c.val = 3
  · rw [if_pos c3]
    exact hG.mem _ _ _ _ _ _ (ix2 l d) (at' 384 (by omega))
  rw [if_neg c3, hG.off _ _ _ _ _ _ (0 : Fin 2) (Or.inl (by show 128 * c.val + l.val < 384; omega))]
  by_cases c2 : c.val = 2
  · rw [if_pos c2]
    exact hG.mem _ _ _ _ _ _ (ix2 l d) (at' 256 (by omega))
  rw [if_neg c2, hG.off _ _ _ _ _ _ (0 : Fin 2) (Or.inl (by show 128 * c.val + l.val < 256; omega))]
  by_cases c1 : c.val = 1
  · rw [if_pos c1]
    exact hG.mem _ _ _ _ _ _ (ix2 l d) (at' 128 (by omega))
  rw [if_neg c1, hG.off _ _ _ _ _ _ (0 : Fin 2) (Or.inl (by show 128 * c.val + l.val < 128; omega))]
  exact hG.mem _ _ _ _ _ _ (ix2 l d) (at' 0 (by omega))

/-- Two blocks laid side by side. -/
def two {α : Type} (t s s' : Shape) (a : Fin t.rank) (x : s.Idx → α) (y : s'.Idx → α) (h : Shape.Concatenates [s, s'] t a) : t.Idx → α :=
  concatenate t a [⟨s, x⟩, ⟨s', y⟩] h

theorem concat_two {α : Type} (t s s' : Shape) (a : Fin t.rank) (x : s.Idx → α) (y : s'.Idx → α) (h) :
    concatenate t a [⟨s, x⟩, ⟨s', y⟩] h = two t s s' a x y h := rfl

theorem val3 : ((3 : Fin 4) : ℕ) = 3 := rfl

theorem sign64 : Scalar.subi (Scalar.extui (Scalar.cmpi .sgt 64#32 0#32)) (Scalar.extui (Scalar.cmpi .slt 64#32 0#32)) = 1#32 := rfl

variable (m : (ℓ : Loc nD τ sig) → Buf (Elt Ideal) ℓ)

/-- The buffers as the point before left them. -/
abbrev prev (c : Dev nD) (t : Fin cfg0.N) := outsAt0 m c (t.val - 1) (Nat.lt_of_le_of_lt (Nat.sub_le _ _) t.isLt)

/-- The four chunks' groups at a point. -/
def gsA (c : Dev nD) (t : Fin cfg0.N) (sl : Fin 2) (k : Fin 4) : Group :=
  grpA (prev m c t).2.2.2.2.1 (prev m c t).2.2.2.2.2.2.1 (iblk m c 4 t) (iblk m c 5 t) (iblk m c 7 t) sl k
def gsB (c : Dev nD) (t : Fin cfg0.N) (sl : Fin 2) (k : Fin 4) : Group :=
  grpB (prev m c t).2.2.2.2.1 (prev m c t).2.2.2.2.2.2.1 (iblk m c 4 t) (iblk m c 5 t) (iblk m c 7 t) sl k

end Cert.HybIdeal.Run
-- ==== Proof.HybMath.lean ====
/-
  The recurrence of the hybrid mixer's SSD heads over the real numbers: a sequence cut into chunks of 128, each with its
  decay, and the two ways to say what state a chunk starts from, as a recurrence and in closed form.
-/
module

public import proofs.«01_k».proof.Proof.FfnMath

@[expose] public section

noncomputable section

open Idealize.ShloMosaic Idealize.ShloMosaic.TcCoe
open scoped BigOperators

namespace Cert.HybMath

/-! ## The recurrence in closed form -/

/-- A state that decays by `exp (last z)` and takes in `S (z + 1)` at each chunk is the sum of what was taken in, each
    decayed by all that came after it. -/
theorem closed (last S R : ℕ → ℝ) (h0 : R 0 = S 0) (hs : ∀ z, R (z + 1) = R z * Real.exp (last z) + S (z + 1)) (z : ℕ) :
    ∑ c ∈ Finset.range (z + 1), S c * Real.exp (∑ j ∈ Finset.range z, last j - ∑ j ∈ Finset.range c, last j) = R z := by
  induction z with
  | zero => simp [h0]
  | succ z ih =>
    rw [Finset.sum_range_succ, hs, ← ih, Finset.sum_mul, sub_self, Real.exp_zero, mul_one]
    congr 1
    refine Finset.sum_congr rfl fun c _ => ?_
    rw [Finset.sum_range_succ (fun j => last j) z, mul_assoc, ← Real.exp_add]
    congr 2
    ring

/-! ## One sequence -/

section Sequence

variable (xc : ℕ → Fin 1024 → ℝ) (dt A : ℕ → Fin 8 → ℝ)

/-- A channel's head, and its keys' and queries' columns. -/
def head (d : Fin 512) : Fin 8 := ⟨d.val / 64, by omega⟩
def colX (d : Fin 512) : Fin 1024 := ⟨d.val, by omega⟩
def colB (d : Fin 512) (n : Fin 128) : Fin 1024 := ⟨512 + 128 * (d.val / 256) + n.val, by omega⟩
def colC (d : Fin 512) (n : Fin 128) : Fin 1024 := ⟨768 + 128 * (d.val / 256) + n.val, by omega⟩

/-- The decay exponents' running sums inside a chunk. -/
def cs (z : ℕ) (h : Fin 8) (l : Fin 128) : ℝ := ∑ s : Fin 128, if s ≤ l then A (128 * z + s.val) h else 0

/-- A chunk's whole decay exponent. -/
def last (z : ℕ) (h : Fin 8) : ℝ := cs A z h 127

/-- What a chunk adds to the state. -/
def fresh (z : ℕ) (n : Fin 128) (d : Fin 512) : ℝ :=
  ∑ s : Fin 128, xc (128 * z + s.val) (colB d n) * (dt (128 * z + s.val) (head d) * Real.exp (last A z (head d) - cs A z (head d) s))
    * xc (128 * z + s.val) (colX d)

/-- The state a chunk starts from. -/
def state : ℕ → Fin 128 → Fin 512 → ℝ
  | 0, _, _ => 0
  | z + 1, n, d => state z n d * Real.exp (last A z (head d)) + fresh xc dt A z n d

/-- A position's output: from its own chunk, and from the state the chunk starts from. -/
def core (z : ℕ) (l : Fin 128) (d : Fin 512) : ℝ :=
  ∑ s : Fin 128, ((∑ n : Fin 128, xc (128 * z + l.val) (colC d n) * xc (128 * z + s.val) (colB d n))
      * (if s ≤ l then Real.exp (cs A z (head d) l - cs A z (head d) s) else 0) * dt (128 * z + s.val) (head d))
      * xc (128 * z + s.val) (colX d)
    + (∑ n : Fin 128, xc (128 * z + l.val) (colC d n) * state xc dt A z n d) * Real.exp (cs A z (head d) l)

/-- The state as the sum over the chunks before. -/
theorem state_closed (z : ℕ) (n : Fin 128) (d : Fin 512) :
    ∑ c ∈ Finset.range (z + 1), (if c = 0 then 0 else fresh xc dt A (c - 1) n d)
      * Real.exp (∑ j ∈ Finset.range z, last A j (head d) - ∑ j ∈ Finset.range c, last A j (head d)) = state xc dt A z n d := by
  refine closed (fun j => last A j (head d)) (fun c => if c = 0 then 0 else fresh xc dt A (c - 1) n d)
    (fun z => state xc dt A z n d) ?_ (fun z => ?_) z
  · rw [if_pos rfl]; rfl
  · simp only [Nat.succ_ne_zero, if_false, Nat.add_sub_cancel]
    rfl

end Sequence

/-- The terms up to `z`, of those numbered below `N`. -/
theorem sum_low (N z : ℕ) (hz : z < N) (f : ℕ → ℝ) :
    ∑ k : Fin N, (if k.val ≤ z then f k.val else 0) = ∑ c ∈ Finset.range (z + 1), f c := by
  rw [Fin.sum_univ_eq_sum_range (fun k => if k ≤ z then f k else 0) N, ← Finset.sum_filter]
  refine Finset.sum_congr (Finset.ext fun k => ?_) fun _ _ => rfl
  simp only [Finset.mem_filter, Finset.mem_range]
  omega

/-! ## Real values -/

theorem exp_coe (r : ℝ) : Ideal.exp (r : EReal) = (Real.exp r : EReal) := rfl

theorem silu_real (g : ℝ) : ∃ r : ℝ, FfnMath.silu (g : EReal) = r := by
  refine ⟨g * (1 / (1 + Real.exp (-g))), ?_⟩
  have hp : (1 : ℝ) + Real.exp (-g) ≠ 0 := by positivity
  unfold FfnMath.silu
  rw [← EReal.coe_neg, exp_coe, ← EReal.coe_one, ← EReal.coe_add, EReal.coe_mul]
  rw [Ideal.div_coe hp, EReal.coe_one, one_mul]

theorem log1p_real (r : ℝ) (h : 0 ≤ r) : Ideal.log1p (r : EReal) = (Real.log (1 + r) : EReal) := by
  unfold Ideal.log1p
  rw [← EReal.coe_one, ← EReal.coe_add]
  show (if 1 + r ≤ 0 then (⊥ : EReal) else _) = _
  rw [if_neg (by linarith)]

theorem toReal_eq (x : EReal) (h : ∃ r : ℝ, x = r) : x = ((x.toReal : ℝ) : EReal) := by
  obtain ⟨r, rfl⟩ := h
  rfl

/-- `log (1 + e^v)`, written so that it never overflows. -/
def softplus (v : EReal) : EReal := max v 0 + Ideal.log1p (Ideal.exp (0 - max v (-v)))

theorem softplus_real (v : ℝ) : ∃ r : ℝ, softplus (v : EReal) = r := by
  refine ⟨max v 0 + Real.log (1 + Real.exp (0 - max v (-v))), ?_⟩
  unfold softplus
  rw [← EReal.coe_neg, ← EReal.coe_zero, ← EReal.coe_strictMono.monotone.map_max, ← EReal.coe_strictMono.monotone.map_max,
    ← EReal.coe_sub, exp_coe, log1p_real _ (Real.exp_pos _).le, ← EReal.coe_add]

/-! ## Running sums as a window sum -/

theorem foldl_sum {N : ℕ} (f : Fin N → EReal) (v : EReal) :
    (List.finRange N).foldl (fun r n => r + f n) v = v + ∑ n, f n := by
  rw [← List.sum_ofFn, List.ofFn_eq_map]
  generalize List.finRange N = L
  induction L generalizing v with
  | nil => simp
  | cons a L ih => rw [List.foldl_cons, ih, List.map_cons, List.sum_cons, add_assoc]

/-- A window of the whole length, padded low by one less, holds the terms up to its own place. -/
theorem window_sum (N : ℕ) (hN : 0 < N) (l : Fin N) (f : Fin N → EReal) :
    (∑ w : Fin N, if h : N - 1 ≤ l.val + w.val ∧ l.val + w.val - (N - 1) < N then f ⟨l.val + w.val - (N - 1), h.2⟩ else 0)
      = ∑ s : Fin N, if s ≤ l then f s else 0 := by
  rw [← Finset.sum_filter]
  symm
  have e : ∀ w : Fin N, (if h : N - 1 ≤ l.val + w.val ∧ l.val + w.val - (N - 1) < N then f ⟨l.val + w.val - (N - 1), h.2⟩ else 0)
      = if N - 1 ≤ l.val + w.val then f ⟨l.val + w.val - (N - 1), by omega⟩ else 0 := fun w => by
    by_cases h : N - 1 ≤ l.val + w.val
    · rw [dif_pos ⟨h, by omega⟩, if_pos h]
    · rw [dif_neg (fun k => h k.1), if_neg h]
  rw [Finset.sum_congr rfl fun w _ => e w, ← Finset.sum_filter]
  refine Finset.sum_bij' (fun s _ => ⟨if s ≤ l then s.val + (N - 1) - l.val else 0, by split <;> omega⟩) (fun w _ => ⟨l.val + w.val - (N - 1), by omega⟩)
    (fun s hs => ?_) (fun w hw => ?_) (fun s hs => ?_) (fun w hw => ?_) (fun s hs => ?_)
  · have h := (Finset.mem_filter.1 hs).2
    refine Finset.mem_filter.2 ⟨Finset.mem_univ _, ?_⟩
    simp only [if_pos h]
    have : s.val ≤ l.val := h
    omega
  · have h := (Finset.mem_filter.1 hw).2
    refine Finset.mem_filter.2 ⟨Finset.mem_univ _, ?_⟩
    show l.val + w.val - (N - 1) ≤ l.val
    omega
  · have h : s ≤ l := (Finset.mem_filter.1 hs).2
    have h' : s.val ≤ l.val := h
    refine Fin.ext ?_
    simp only [if_pos h]
    omega
  · have h := (Finset.mem_filter.1 hw).2
    refine Fin.ext ?_
    have : (⟨l.val + w.val - (N - 1), by omega⟩ : Fin N) ≤ l := by show l.val + w.val - (N - 1) ≤ l.val; omega
    simp only [if_pos this]
    omega
  · have h : s ≤ l := (Finset.mem_filter.1 hs).2
    have h' : s.val ≤ l.val := h
    refine congrArg f (Fin.ext ?_)
    simp only [if_pos h]
    omega

end Cert.HybMath
-- ==== Proof.HybGroup.lean ====
/-
  A group of four heads over one chunk, given that its parts are the chunk's real numbers: the rows it makes and the state
  it leaves are the recurrence's.
-/
module

public import proofs.«01_k».proof.Proof.HybRun
public import proofs.«01_k».proof.Proof.HybMath

@[expose] public section

noncomputable section

open Idealize.ShloMosaic Idealize.ShloMosaic.TcCoe Idealize.SL.Sem

namespace Cert.HybIdeal.Run

open Cert.HybIdeal Cert.HybIdeal.Gen Cert.HybIdeal.Point Cert.HybIdeal.Chunk Cert.HybMath

/-- A group's channel among all. -/
def wide (g : Fin 2) (d : Fin 256) : Fin 512 := ⟨256 * g.val + d.val, by omega⟩

theorem head_wide (g : Fin 2) (d : Fin 256) : head (wide g d) = ⟨4 * g.val + d.val / 64, by omega⟩ :=
  Fin.ext (by show (256 * g.val + d.val) / 64 = 4 * g.val + d.val / 64; omega)

theorem colB_wide (g : Fin 2) (d : Fin 256) (n : Fin 128) : colB (wide g d) n = ⟨512 + 128 * g.val + n.val, by omega⟩ :=
  Fin.ext (by show 512 + 128 * ((256 * g.val + d.val) / 256) + n.val = 512 + 128 * g.val + n.val; omega)

theorem colC_wide (g : Fin 2) (d : Fin 256) (n : Fin 128) : colC (wide g d) n = ⟨768 + 128 * g.val + n.val, by omega⟩ :=
  Fin.ext (by show 768 + 128 * ((256 * g.val + d.val) / 256) + n.val = 768 + 128 * g.val + n.val; omega)

variable (X : ℕ → Fin 1024 → ℝ) (T A : ℕ → Fin 8 → ℝ)

/-- The group's parts are the chunk's numbers. -/
structure Holds (G : Group) (g : Fin 2) (z : ℕ) : Prop where
  bg : ∀ s n : Fin 128, G.bg (ix2 s n) = (X (128 * z + s.val) ⟨512 + 128 * g.val + n.val, by omega⟩ : EReal)
  cg : ∀ s n : Fin 128, G.cg (ix2 s n) = (X (128 * z + s.val) ⟨768 + 128 * g.val + n.val, by omega⟩ : EReal)
  xg : ∀ (s : Fin 128) (d : Fin 256), G.xg (ix2 s d) = (X (128 * z + s.val) (colX (wide g d)) : EReal)
  b : ∀ (k : Fin 4) (l e : Fin 128), G.b k (ix2 l e) = (cs A z ⟨4 * g.val + k.val, by omega⟩ l : EReal)
  r : ∀ (k : Fin 4) (s : Fin 128), G.r k (ix2 0 s) = (cs A z ⟨4 * g.val + k.val, by omega⟩ s : EReal)
  d : ∀ (k : Fin 4) (s : Fin 128), G.d k (ix2 0 s) = (T (128 * z + s.val) ⟨4 * g.val + k.val, by omega⟩ : EReal)

/-- A buffer holds the state a chunk starts from. -/
def IsState (st : FVec Ideal S128x256 .f32) (g : Fin 2) (z : ℕ) : Prop :=
  ∀ (n : Fin 128) (d : Fin 256), st (ix2 n d) = (state X T A z n (wide g d) : EReal)

variable {X T A} {G : Group} {g : Fin 2} {z : ℕ} {st : FVec Ideal S128x256 .f32}

theorem Holds.next (H : Holds X T A G g z) (hs : IsState X T A st g z) : IsState X T A (G.next st) g (z + 1) := by
  intro n d
  rw [nextG_apply, hs n d]
  simp only [H.b, H.bg, H.r, H.d, H.xg, ← EReal.coe_sub, exp_coe, ← EReal.coe_mul, ← FfnMath.coe_sum, ← EReal.coe_add]
  refine congrArg _ ?_
  show _ = state X T A z n (wide g d) * Real.exp (HybMath.last A z (head (wide g d))) + fresh X T A z n (wide g d)
  unfold fresh HybMath.last
  simp only [head_wide, colB_wide]

theorem Holds.rows (H : Holds X T A G g z) (hs : IsState X T A st g z) (l : Fin 128) (d : Fin 256) :
    G.rows st (ix2 l d) = (core X T A z l (wide g d) : EReal) := by
  rw [rowsG_apply]
  simp only [H.b, H.bg, H.cg, H.r, H.d, H.xg, hs _ _, ← EReal.coe_sub, exp_coe, ← EReal.coe_mul, ← FfnMath.coe_sum, ← EReal.coe_add]
  have ci : ∀ (p : Prop) [Decidable p] (r : ℝ), (if p then (r : EReal) else 0) = ((if p then r else 0 : ℝ) : EReal) := by
    intro p _ r
    by_cases h : p
    · rw [if_pos h, if_pos h]
    · rw [if_neg h, if_neg h]; rfl
  simp only [ci, ← EReal.coe_mul, ← FfnMath.coe_sum, ← EReal.coe_add]
  refine congrArg _ ?_
  unfold core
  simp only [head_wide, colB_wide, colC_wide]

theorem isState_back (hs : IsState X T A st g z) : IsState X T A (back st) g z := fun n d => (back_apply st n d).trans (hs n d)

/-- Four chunks in a row. -/
theorem enters {Gs : Fin 4 → Group} (H : ∀ k : Fin 4, Holds X T A (Gs k) g (z + k.val)) (hs : IsState X T A st g z) :
    IsState X T A (enter1 Gs st) g (z + 1) ∧ IsState X T A (enter2 Gs st) g (z + 2) ∧ IsState X T A (enter3 Gs st) g (z + 3)
      ∧ IsState X T A (leave Gs st) g (z + 4) := by
  have h1 : IsState X T A (enter1 Gs st) g (z + 1) := isState_back ((H 0).next hs)
  have h2 : IsState X T A (enter2 Gs st) g (z + 2) := isState_back ((H 1).next h1)
  have h3 : IsState X T A (enter3 Gs st) g (z + 3) := isState_back ((H 2).next h2)
  exact ⟨h1, h2, h3, (H 3).next h3⟩

/-! ## Out of the buffers -/

theorem cutx_apply (xp : Vec Ideal S2x520x1024 .f32) (sl : Fin 2) (c k : Fin 4) (l : Fin 128) (j : Fin 1024) :
    cutx xp sl c k (ix2 l j) = xp (ix3 sl ⟨5 + 128 * c.val + k.val + l.val, by omega⟩ j) := by
  unfold cutx
  pointwise

theorem cutz_apply (zp : Vec Ideal S2x512x512 .f32) (sl : Fin 2) (c : Fin 4) (l : Fin 128) (j : Fin 512) :
    cutz zp sl c (ix2 l j) = zp (ix3 sl ⟨128 * c.val + l.val, by omega⟩ j) := by
  unfold cutz
  pointwise

theorem cutd_apply (dp : Vec Ideal S2x512x128 .f32) (sl : Fin 2) (c : Fin 4) (l : Fin 128) (j : Fin 128) :
    cutd dp sl c (ix2 l j) = dp (ix3 sl ⟨128 * c.val + l.val, by omega⟩ j) := by
  unfold cutd
  pointwise

theorem cuts_apply (sp : Vec Ideal S2x128x256 .f32) (g : Fin 2) (n : Fin 128) (d : Fin 256) : cuts sp g (ix2 n d) = sp (ix3 g n d) := by
  unfold cuts
  pointwise

theorem cutw_apply (cw : Vec Ideal S4x1024 .f32) (k : Fin 4) (j : Fin 1024) : cutw cw k (ix2 0 j) = cw (ix2 k j) := by
  unfold cutw
  pointwise

theorem start_apply (sp : Vec Ideal S2x128x256 .f32) (g : Fin 2) (n : ℕ) (i : Fin 128) (d : Fin 256) :
    start sp g n (ix2 i d) = sp (ix3 g i d) * keep n := by
  show cuts sp g (ix2 i d) * keep n = _
  rw [cuts_apply]

theorem expo_apply (al : Vec Ideal S1x128 .f32) (dc : FVec Ideal S128x128 .f32) (l h : Fin 128) :
    expo al dc (ix2 l h) = (-Ideal.exp (al (ix2 0 h))) * dc (ix2 l h) := by
  unfold expo
  pointwise
  rw [zero_sub]

end Cert.HybIdeal.Run
-- ==== Proof.HybSteps.lean ====
module

public import proofs.«01_k».proof.Proof.HybRun

@[expose] public section

noncomputable section

open Idealize.ShloMosaic Idealize.ShloMosaic.TcCoe Idealize.SL.Sem

namespace Cert.HybIdeal.Run

open Cert.HybIdeal Cert.HybIdeal.Gen Cert.HybIdeal.Point Cert.HybIdeal.Chunk Cert.HybIdeal.Kept Cert.FfnMath

/-! The buffers a point leaves, in the chunks' words: the body's terms and these are the same terms once both are unfolded. -/

variable (m : (ℓ : Loc nD τ sig) → Buf (Elt Ideal) ℓ)

set_option maxHeartbeats 1500000 in
theorem st_B (c : Dev nD) (t : Fin cfg0.N) (h : ¬t.val % 65 = 0) (h1 : ¬t.val % 2 = 0) (h2 : t.val % 2 = 1) (g : Fin 2) (n : Fin 128) (d : Fin 256) :
    (outsAt0 m c t.val t.isLt).2.2.2.2.2.2.2 (ix3 g n d)
      = if g = 0 then leave (gsA m c t 0) (start (prev m c t).2.2.2.2.2.2.2 0 t.val) (ix2 n d)
        else leave (gsB m c t 0) (start (prev m c t).2.2.2.2.2.2.2 1 t.val) (ix2 n d) := by
  rw [outsAt0_B m c t h h1 h2]
  frame_open
  simp (disch := decide) only [↓ View.readCov_skip, ↓ View.readCov_cons_toLoadRect, ↓ View.readCov_fill]
  frame_out
  simp (disch := decide) only [↓ concat_two, ↓ View.readCov_skip, ↓ View.readCov_cons_toLoadRect, ↓ View.readCov_fill, View.ld_unit_lit', Memref.IsWhole.read_unread, read_unread_whole]
  rw [coord t]
  refine (canon_st _ _ _ _ _ g n d).trans ?_
  refine if_congr Iff.rfl (congrFun ?_ (ix2 n d)) (congrFun ?_ (ix2 n d))
  · dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay446, k0_pay447, k0_pay448, k0_pay451, k0_pay456, k0_pay457, k0_pay458, k0_pay459, k0_pay460, k0_pay461, k0_pay462, k0_pay464, k0_pay465, k0_pay467, k0_pay468, k0_pay469, k0_pay470, k0_pay471, k0_pay472, k0_pay474, k0_pay476, k0_pay477, k0_pay478, k0_pay479, k0_pay480, k0_pay481, k0_pay483, k0_pay485, k0_pay486, k0_pay487, k0_pay488, k0_pay490, k0_pay491, k0_pay492, k0_pay494, k0_pay496, k0_pay498, k0_pay499, k0_pay500, k0_pay501, k0_pay502, k0_pay504, k0_pay505, k0_pay506, k0_pay508, k0_pay509, k0_pay510, k0_pay511, k0_pay512, k0_pay513, k0_pay515, k0_pay517, k0_pay518, k0_pay519, k0_pay520, k0_pay523, k0_pay524, k0_pay526, k0_pay527, k0_pay528, k0_pay529, k0_pay530, k0_pay531, k0_pay533, k0_pay549, k0_pay550, k0_pay551, k0_pay554, k0_pay559, k0_pay560, k0_pay561, k0_pay562, k0_pay563, k0_pay564, k0_pay565, k0_pay567, k0_pay568, k0_pay570, k0_pay571, k0_pay572, k0_pay573, k0_pay574, k0_pay575, k0_pay577, k0_pay579, k0_pay580, k0_pay581, k0_pay582, k0_pay583, k0_pay584, k0_pay586, k0_pay588, k0_pay589, k0_pay590, k0_pay591, k0_pay593, k0_pay594, k0_pay595, k0_pay597, k0_pay599, k0_pay601, k0_pay602, k0_pay603, k0_pay604, k0_pay605, k0_pay607, k0_pay608, k0_pay609, k0_pay611, k0_pay612, k0_pay613, k0_pay614, k0_pay615, k0_pay616, k0_pay618, k0_pay620, k0_pay621, k0_pay622, k0_pay623, k0_pay625, k0_pay626, k0_pay627, k0_pay628, k0_pay629, k0_pay630, k0_pay631, k0_pay632, k0_pay633, k0_pay635, k0_pay636, k0_pay638, k0_pay655, k0_pay660, k0_pay661, k0_pay662, k0_pay663, k0_pay664, k0_pay665, k0_pay666, k0_pay668, k0_pay669, k0_pay671, k0_pay673, k0_pay674, k0_pay675, k0_pay676, k0_pay677, k0_pay678, k0_pay680, k0_pay682, k0_pay683, k0_pay684, k0_pay685, k0_pay686, k0_pay687, k0_pay689, k0_pay691, k0_pay692, k0_pay693, k0_pay694, k0_pay696, k0_pay709, k0_pay710, k0_pay712, k0_pay714, k0_pay715, k0_pay716, k0_pay717, k0_pay719, k0_pay720, k0_pay721, k0_pay723, k0_pay724, k0_pay725, k0_pay726, k0_pay727, k0_pay728, k0_pay730, k0_pay732, k0_pay733, k0_pay734, k0_pay735, k0_pay763, k0_pay764, k0_pay765, k0_pay766, k0_pay767, k0_pay768, k0_pay769, k0_pay771, k0_pay772, k0_pay774, k0_pay775, k0_pay776, k0_pay777, k0_pay778, k0_pay779, k0_pay781, k0_pay783, k0_pay784, k0_pay785, k0_pay786, k0_pay788, k0_pay789, k0_pay791, k0_pay793, k0_pay794, k0_pay795, k0_pay796, k0_pay797, k0_pay798, k0_pay800, k0_pay802, k0_pay804, k0_pay806, k0_pay807, k0_pay808, k0_pay809, k0_pay810, k0_pay811, k0_pay812, k0_pay814, k0_pay816, k0_pay817, k0_pay818, k0_pay819, k0_pay820, k0_pay821, k0_pay823, k0_pay825, k0_pay826, k0_pay827, k0_pay828, k0_pay830, k0_pay831, k0_pay832, k0_pay833, k0_pay834, k0_pay835, k0_pay836, k0_pay838, k0_pay840]

  · dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay446, k0_pay447, k0_pay448, k0_pay451, k0_pay456, k0_pay457, k0_pay458, k0_pay459, k0_pay460, k0_pay461, k0_pay462, k0_pay464, k0_pay465, k0_pay467, k0_pay468, k0_pay469, k0_pay470, k0_pay471, k0_pay472, k0_pay474, k0_pay476, k0_pay477, k0_pay478, k0_pay479, k0_pay480, k0_pay481, k0_pay483, k0_pay485, k0_pay486, k0_pay487, k0_pay488, k0_pay490, k0_pay491, k0_pay492, k0_pay494, k0_pay496, k0_pay498, k0_pay499, k0_pay500, k0_pay501, k0_pay502, k0_pay504, k0_pay505, k0_pay506, k0_pay508, k0_pay509, k0_pay510, k0_pay511, k0_pay512, k0_pay513, k0_pay515, k0_pay517, k0_pay518, k0_pay519, k0_pay520, k0_pay523, k0_pay524, k0_pay526, k0_pay527, k0_pay528, k0_pay529, k0_pay530, k0_pay531, k0_pay533, k0_pay549, k0_pay550, k0_pay551, k0_pay554, k0_pay559, k0_pay560, k0_pay561, k0_pay562, k0_pay563, k0_pay564, k0_pay565, k0_pay567, k0_pay568, k0_pay570, k0_pay571, k0_pay572, k0_pay573, k0_pay574, k0_pay575, k0_pay577, k0_pay579, k0_pay580, k0_pay581, k0_pay582, k0_pay583, k0_pay584, k0_pay586, k0_pay588, k0_pay589, k0_pay590, k0_pay591, k0_pay593, k0_pay594, k0_pay595, k0_pay597, k0_pay599, k0_pay601, k0_pay602, k0_pay603, k0_pay604, k0_pay605, k0_pay607, k0_pay608, k0_pay609, k0_pay611, k0_pay612, k0_pay613, k0_pay614, k0_pay615, k0_pay616, k0_pay618, k0_pay620, k0_pay621, k0_pay622, k0_pay623, k0_pay625, k0_pay626, k0_pay627, k0_pay628, k0_pay629, k0_pay630, k0_pay631, k0_pay632, k0_pay633, k0_pay635, k0_pay636, k0_pay638, k0_pay655, k0_pay660, k0_pay661, k0_pay662, k0_pay663, k0_pay664, k0_pay665, k0_pay666, k0_pay668, k0_pay669, k0_pay671, k0_pay673, k0_pay674, k0_pay675, k0_pay676, k0_pay677, k0_pay678, k0_pay680, k0_pay682, k0_pay683, k0_pay684, k0_pay685, k0_pay686, k0_pay687, k0_pay689, k0_pay691, k0_pay692, k0_pay693, k0_pay694, k0_pay696, k0_pay709, k0_pay710, k0_pay712, k0_pay714, k0_pay715, k0_pay716, k0_pay717, k0_pay719, k0_pay720, k0_pay721, k0_pay723, k0_pay724, k0_pay725, k0_pay726, k0_pay727, k0_pay728, k0_pay730, k0_pay732, k0_pay733, k0_pay734, k0_pay735, k0_pay763, k0_pay764, k0_pay765, k0_pay766, k0_pay767, k0_pay768, k0_pay769, k0_pay771, k0_pay772, k0_pay774, k0_pay775, k0_pay776, k0_pay777, k0_pay778, k0_pay779, k0_pay781, k0_pay783, k0_pay784, k0_pay785, k0_pay786, k0_pay788, k0_pay789, k0_pay791, k0_pay793, k0_pay794, k0_pay795, k0_pay796, k0_pay797, k0_pay798, k0_pay800, k0_pay802, k0_pay804, k0_pay806, k0_pay807, k0_pay808, k0_pay809, k0_pay810, k0_pay811, k0_pay812, k0_pay814, k0_pay816, k0_pay817, k0_pay818, k0_pay819, k0_pay820, k0_pay821, k0_pay823, k0_pay825, k0_pay826, k0_pay827, k0_pay828, k0_pay830, k0_pay831, k0_pay832, k0_pay833, k0_pay834, k0_pay835, k0_pay836, k0_pay838, k0_pay840]

set_option maxHeartbeats 1500000 in
theorem st_C (c : Dev nD) (t : Fin cfg0.N) (h : ¬t.val % 65 = 0) (h1 : t.val % 2 = 0) (h2 : ¬t.val % 2 = 1) (g : Fin 2) (n : Fin 128) (d : Fin 256) :
    (outsAt0 m c t.val t.isLt).2.2.2.2.2.2.2 (ix3 g n d)
      = if g = 0 then leave (gsA m c t 1) (start (prev m c t).2.2.2.2.2.2.2 0 t.val) (ix2 n d)
        else leave (gsB m c t 1) (start (prev m c t).2.2.2.2.2.2.2 1 t.val) (ix2 n d) := by
  rw [outsAt0_C m c t h h1 h2]
  frame_open
  simp (disch := decide) only [↓ View.readCov_skip, ↓ View.readCov_cons_toLoadRect, ↓ View.readCov_fill]
  frame_out
  simp (disch := decide) only [↓ concat_two, ↓ View.readCov_skip, ↓ View.readCov_cons_toLoadRect, ↓ View.readCov_fill, View.ld_unit_lit', Memref.IsWhole.read_unread, read_unread_whole]
  rw [coord t]
  refine (canon_st _ _ _ _ _ g n d).trans ?_
  refine if_congr Iff.rfl (congrFun ?_ (ix2 n d)) (congrFun ?_ (ix2 n d))
  · dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay26, k0_pay27, k0_pay28, k0_pay31, k0_pay36, k0_pay37, k0_pay38, k0_pay39, k0_pay40, k0_pay41, k0_pay42, k0_pay44, k0_pay45, k0_pay47, k0_pay48, k0_pay49, k0_pay50, k0_pay51, k0_pay52, k0_pay54, k0_pay56, k0_pay57, k0_pay58, k0_pay59, k0_pay60, k0_pay61, k0_pay63, k0_pay65, k0_pay66, k0_pay67, k0_pay68, k0_pay70, k0_pay71, k0_pay72, k0_pay74, k0_pay76, k0_pay78, k0_pay79, k0_pay80, k0_pay81, k0_pay82, k0_pay84, k0_pay85, k0_pay86, k0_pay88, k0_pay89, k0_pay90, k0_pay91, k0_pay92, k0_pay93, k0_pay95, k0_pay97, k0_pay98, k0_pay99, k0_pay100, k0_pay103, k0_pay104, k0_pay106, k0_pay107, k0_pay108, k0_pay109, k0_pay110, k0_pay111, k0_pay113, k0_pay129, k0_pay130, k0_pay131, k0_pay134, k0_pay139, k0_pay140, k0_pay141, k0_pay142, k0_pay143, k0_pay144, k0_pay145, k0_pay147, k0_pay148, k0_pay150, k0_pay151, k0_pay152, k0_pay153, k0_pay154, k0_pay155, k0_pay157, k0_pay159, k0_pay160, k0_pay161, k0_pay162, k0_pay163, k0_pay164, k0_pay166, k0_pay168, k0_pay169, k0_pay170, k0_pay171, k0_pay173, k0_pay174, k0_pay175, k0_pay177, k0_pay179, k0_pay181, k0_pay182, k0_pay183, k0_pay184, k0_pay185, k0_pay187, k0_pay188, k0_pay189, k0_pay191, k0_pay192, k0_pay193, k0_pay194, k0_pay195, k0_pay196, k0_pay198, k0_pay200, k0_pay201, k0_pay202, k0_pay203, k0_pay205, k0_pay206, k0_pay207, k0_pay208, k0_pay209, k0_pay210, k0_pay211, k0_pay212, k0_pay213, k0_pay215, k0_pay216, k0_pay218, k0_pay235, k0_pay240, k0_pay241, k0_pay242, k0_pay243, k0_pay244, k0_pay245, k0_pay246, k0_pay248, k0_pay249, k0_pay251, k0_pay253, k0_pay254, k0_pay255, k0_pay256, k0_pay257, k0_pay258, k0_pay260, k0_pay262, k0_pay263, k0_pay264, k0_pay265, k0_pay266, k0_pay267, k0_pay269, k0_pay271, k0_pay272, k0_pay273, k0_pay274, k0_pay276, k0_pay289, k0_pay290, k0_pay292, k0_pay294, k0_pay295, k0_pay296, k0_pay297, k0_pay299, k0_pay300, k0_pay301, k0_pay303, k0_pay304, k0_pay305, k0_pay306, k0_pay307, k0_pay308, k0_pay310, k0_pay312, k0_pay313, k0_pay314, k0_pay315, k0_pay343, k0_pay344, k0_pay345, k0_pay346, k0_pay347, k0_pay348, k0_pay349, k0_pay351, k0_pay352, k0_pay354, k0_pay355, k0_pay356, k0_pay357, k0_pay358, k0_pay359, k0_pay361, k0_pay363, k0_pay364, k0_pay365, k0_pay366, k0_pay368, k0_pay369, k0_pay371, k0_pay373, k0_pay374, k0_pay375, k0_pay376, k0_pay377, k0_pay378, k0_pay380, k0_pay382, k0_pay384, k0_pay386, k0_pay387, k0_pay388, k0_pay389, k0_pay390, k0_pay391, k0_pay392, k0_pay394, k0_pay396, k0_pay397, k0_pay398, k0_pay399, k0_pay400, k0_pay401, k0_pay403, k0_pay405, k0_pay406, k0_pay407, k0_pay408, k0_pay410, k0_pay411, k0_pay412, k0_pay413, k0_pay414, k0_pay415, k0_pay416, k0_pay418, k0_pay420]

  · dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay26, k0_pay27, k0_pay28, k0_pay31, k0_pay36, k0_pay37, k0_pay38, k0_pay39, k0_pay40, k0_pay41, k0_pay42, k0_pay44, k0_pay45, k0_pay47, k0_pay48, k0_pay49, k0_pay50, k0_pay51, k0_pay52, k0_pay54, k0_pay56, k0_pay57, k0_pay58, k0_pay59, k0_pay60, k0_pay61, k0_pay63, k0_pay65, k0_pay66, k0_pay67, k0_pay68, k0_pay70, k0_pay71, k0_pay72, k0_pay74, k0_pay76, k0_pay78, k0_pay79, k0_pay80, k0_pay81, k0_pay82, k0_pay84, k0_pay85, k0_pay86, k0_pay88, k0_pay89, k0_pay90, k0_pay91, k0_pay92, k0_pay93, k0_pay95, k0_pay97, k0_pay98, k0_pay99, k0_pay100, k0_pay103, k0_pay104, k0_pay106, k0_pay107, k0_pay108, k0_pay109, k0_pay110, k0_pay111, k0_pay113, k0_pay129, k0_pay130, k0_pay131, k0_pay134, k0_pay139, k0_pay140, k0_pay141, k0_pay142, k0_pay143, k0_pay144, k0_pay145, k0_pay147, k0_pay148, k0_pay150, k0_pay151, k0_pay152, k0_pay153, k0_pay154, k0_pay155, k0_pay157, k0_pay159, k0_pay160, k0_pay161, k0_pay162, k0_pay163, k0_pay164, k0_pay166, k0_pay168, k0_pay169, k0_pay170, k0_pay171, k0_pay173, k0_pay174, k0_pay175, k0_pay177, k0_pay179, k0_pay181, k0_pay182, k0_pay183, k0_pay184, k0_pay185, k0_pay187, k0_pay188, k0_pay189, k0_pay191, k0_pay192, k0_pay193, k0_pay194, k0_pay195, k0_pay196, k0_pay198, k0_pay200, k0_pay201, k0_pay202, k0_pay203, k0_pay205, k0_pay206, k0_pay207, k0_pay208, k0_pay209, k0_pay210, k0_pay211, k0_pay212, k0_pay213, k0_pay215, k0_pay216, k0_pay218, k0_pay235, k0_pay240, k0_pay241, k0_pay242, k0_pay243, k0_pay244, k0_pay245, k0_pay246, k0_pay248, k0_pay249, k0_pay251, k0_pay253, k0_pay254, k0_pay255, k0_pay256, k0_pay257, k0_pay258, k0_pay260, k0_pay262, k0_pay263, k0_pay264, k0_pay265, k0_pay266, k0_pay267, k0_pay269, k0_pay271, k0_pay272, k0_pay273, k0_pay274, k0_pay276, k0_pay289, k0_pay290, k0_pay292, k0_pay294, k0_pay295, k0_pay296, k0_pay297, k0_pay299, k0_pay300, k0_pay301, k0_pay303, k0_pay304, k0_pay305, k0_pay306, k0_pay307, k0_pay308, k0_pay310, k0_pay312, k0_pay313, k0_pay314, k0_pay315, k0_pay343, k0_pay344, k0_pay345, k0_pay346, k0_pay347, k0_pay348, k0_pay349, k0_pay351, k0_pay352, k0_pay354, k0_pay355, k0_pay356, k0_pay357, k0_pay358, k0_pay359, k0_pay361, k0_pay363, k0_pay364, k0_pay365, k0_pay366, k0_pay368, k0_pay369, k0_pay371, k0_pay373, k0_pay374, k0_pay375, k0_pay376, k0_pay377, k0_pay378, k0_pay380, k0_pay382, k0_pay384, k0_pay386, k0_pay387, k0_pay388, k0_pay389, k0_pay390, k0_pay391, k0_pay392, k0_pay394, k0_pay396, k0_pay397, k0_pay398, k0_pay399, k0_pay400, k0_pay401, k0_pay403, k0_pay405, k0_pay406, k0_pay407, k0_pay408, k0_pay410, k0_pay411, k0_pay412, k0_pay413, k0_pay414, k0_pay415, k0_pay416, k0_pay418, k0_pay420]

set_option maxHeartbeats 1500000 in
theorem y_B (c : Dev nD) (t : Fin cfg0.N) (h : ¬t.val % 65 = 0) (h1 : ¬t.val % 2 = 0) (h2 : t.val % 2 = 1) (k : Fin 4) (l : Fin 128) (d : Fin 512) :
    (outsAt0 m c t.val t.isLt).2.2.2.1 (ix2 ⟨128 * k.val + l.val, by omega⟩ d)
      = if k.val = 3 then outRows (prev m c t).2.2.2.2.1 (prev m c t).2.2.2.2.2.1 (iblk m c 4 t) (iblk m c 5 t) (iblk m c 8 t) (iblk m c 9 t) 0 3 (gsA m c t 0 3) (gsB m c t 0 3) (enter3 (gsA m c t 0) (start (prev m c t).2.2.2.2.2.2.2 0 t.val)) (enter3 (gsB m c t 0) (start (prev m c t).2.2.2.2.2.2.2 1 t.val)) (ix2 l d)
        else if k.val = 2 then outRows (prev m c t).2.2.2.2.1 (prev m c t).2.2.2.2.2.1 (iblk m c 4 t) (iblk m c 5 t) (iblk m c 8 t) (iblk m c 9 t) 0 2 (gsA m c t 0 2) (gsB m c t 0 2) (enter2 (gsA m c t 0) (start (prev m c t).2.2.2.2.2.2.2 0 t.val)) (enter2 (gsB m c t 0) (start (prev m c t).2.2.2.2.2.2.2 1 t.val)) (ix2 l d)
        else if k.val = 1 then outRows (prev m c t).2.2.2.2.1 (prev m c t).2.2.2.2.2.1 (iblk m c 4 t) (iblk m c 5 t) (iblk m c 8 t) (iblk m c 9 t) 0 1 (gsA m c t 0 1) (gsB m c t 0 1) (enter1 (gsA m c t 0) (start (prev m c t).2.2.2.2.2.2.2 0 t.val)) (enter1 (gsB m c t 0) (start (prev m c t).2.2.2.2.2.2.2 1 t.val)) (ix2 l d)
        else outRows (prev m c t).2.2.2.2.1 (prev m c t).2.2.2.2.2.1 (iblk m c 4 t) (iblk m c 5 t) (iblk m c 8 t) (iblk m c 9 t) 0 0 (gsA m c t 0 0) (gsB m c t 0 0) (start (prev m c t).2.2.2.2.2.2.2 0 t.val) (start (prev m c t).2.2.2.2.2.2.2 1 t.val) (ix2 l d) := by
  rw [outsAt0_B m c t h h1 h2]
  frame_open
  simp (disch := decide) only [↓ View.readCov_skip, ↓ View.readCov_cons_toLoadRect, ↓ View.readCov_fill]
  frame_out
  refine (y_pieces (reads_canon _ _) _ _ _ _ _ _ _ _ k l d).trans ?_
  refine if_congr Iff.rfl (congrFun ?_ (ix2 l d)) (if_congr Iff.rfl (congrFun ?_ (ix2 l d)) (if_congr Iff.rfl (congrFun ?_ (ix2 l d)) (congrFun ?_ (ix2 l d))))
  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay7, k0_pay446, k0_pay447, k0_pay448, k0_pay449, k0_pay450, k0_pay451, k0_pay452, k0_pay453, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay549, k0_pay550, k0_pay551, k0_pay552, k0_pay553, k0_pay554, k0_pay555, k0_pay556, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay653, k0_pay654, k0_pay655, k0_pay656, k0_pay657, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay807, k0_pay808, k0_pay809, k0_pay810, k0_pay811, k0_pay813, k0_pay815, k0_pay817, k0_pay818, k0_pay819, k0_pay820, k0_pay822, k0_pay824, k0_pay826, k0_pay827, k0_pay828, k0_pay829, k0_pay830, k0_pay832, k0_pay833, k0_pay834, k0_pay835, k0_pay837, k0_pay839, k0_pay848]

  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay7, k0_pay446, k0_pay447, k0_pay448, k0_pay449, k0_pay450, k0_pay451, k0_pay452, k0_pay453, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay549, k0_pay550, k0_pay551, k0_pay552, k0_pay553, k0_pay554, k0_pay555, k0_pay556, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay653, k0_pay654, k0_pay655, k0_pay656, k0_pay657, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay807, k0_pay808, k0_pay809, k0_pay810, k0_pay811, k0_pay813, k0_pay815, k0_pay817, k0_pay818, k0_pay819, k0_pay820, k0_pay822, k0_pay824, k0_pay826, k0_pay827, k0_pay828, k0_pay829, k0_pay830, k0_pay832, k0_pay833, k0_pay834, k0_pay835, k0_pay837, k0_pay839, k0_pay848]

  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay7, k0_pay446, k0_pay447, k0_pay448, k0_pay449, k0_pay450, k0_pay451, k0_pay452, k0_pay453, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay549, k0_pay550, k0_pay551, k0_pay552, k0_pay553, k0_pay554, k0_pay555, k0_pay556, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay653, k0_pay654, k0_pay655, k0_pay656, k0_pay657, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay807, k0_pay808, k0_pay809, k0_pay810, k0_pay811, k0_pay813, k0_pay815, k0_pay817, k0_pay818, k0_pay819, k0_pay820, k0_pay822, k0_pay824, k0_pay826, k0_pay827, k0_pay828, k0_pay829, k0_pay830, k0_pay832, k0_pay833, k0_pay834, k0_pay835, k0_pay837, k0_pay839, k0_pay848]

  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay7, k0_pay446, k0_pay447, k0_pay448, k0_pay449, k0_pay450, k0_pay451, k0_pay452, k0_pay453, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay549, k0_pay550, k0_pay551, k0_pay552, k0_pay553, k0_pay554, k0_pay555, k0_pay556, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay653, k0_pay654, k0_pay655, k0_pay656, k0_pay657, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay807, k0_pay808, k0_pay809, k0_pay810, k0_pay811, k0_pay813, k0_pay815, k0_pay817, k0_pay818, k0_pay819, k0_pay820, k0_pay822, k0_pay824, k0_pay826, k0_pay827, k0_pay828, k0_pay829, k0_pay830, k0_pay832, k0_pay833, k0_pay834, k0_pay835, k0_pay837, k0_pay839, k0_pay848]

set_option maxHeartbeats 1500000 in
theorem y_C (c : Dev nD) (t : Fin cfg0.N) (h : ¬t.val % 65 = 0) (h1 : t.val % 2 = 0) (h2 : ¬t.val % 2 = 1) (k : Fin 4) (l : Fin 128) (d : Fin 512) :
    (outsAt0 m c t.val t.isLt).2.2.2.1 (ix2 ⟨128 * k.val + l.val, by omega⟩ d)
      = if k.val = 3 then outRows (prev m c t).2.2.2.2.1 (prev m c t).2.2.2.2.2.1 (iblk m c 4 t) (iblk m c 5 t) (iblk m c 8 t) (iblk m c 9 t) 1 3 (gsA m c t 1 3) (gsB m c t 1 3) (enter3 (gsA m c t 1) (start (prev m c t).2.2.2.2.2.2.2 0 t.val)) (enter3 (gsB m c t 1) (start (prev m c t).2.2.2.2.2.2.2 1 t.val)) (ix2 l d)
        else if k.val = 2 then outRows (prev m c t).2.2.2.2.1 (prev m c t).2.2.2.2.2.1 (iblk m c 4 t) (iblk m c 5 t) (iblk m c 8 t) (iblk m c 9 t) 1 2 (gsA m c t 1 2) (gsB m c t 1 2) (enter2 (gsA m c t 1) (start (prev m c t).2.2.2.2.2.2.2 0 t.val)) (enter2 (gsB m c t 1) (start (prev m c t).2.2.2.2.2.2.2 1 t.val)) (ix2 l d)
        else if k.val = 1 then outRows (prev m c t).2.2.2.2.1 (prev m c t).2.2.2.2.2.1 (iblk m c 4 t) (iblk m c 5 t) (iblk m c 8 t) (iblk m c 9 t) 1 1 (gsA m c t 1 1) (gsB m c t 1 1) (enter1 (gsA m c t 1) (start (prev m c t).2.2.2.2.2.2.2 0 t.val)) (enter1 (gsB m c t 1) (start (prev m c t).2.2.2.2.2.2.2 1 t.val)) (ix2 l d)
        else outRows (prev m c t).2.2.2.2.1 (prev m c t).2.2.2.2.2.1 (iblk m c 4 t) (iblk m c 5 t) (iblk m c 8 t) (iblk m c 9 t) 1 0 (gsA m c t 1 0) (gsB m c t 1 0) (start (prev m c t).2.2.2.2.2.2.2 0 t.val) (start (prev m c t).2.2.2.2.2.2.2 1 t.val) (ix2 l d) := by
  rw [outsAt0_C m c t h h1 h2]
  frame_open
  simp (disch := decide) only [↓ View.readCov_skip, ↓ View.readCov_cons_toLoadRect, ↓ View.readCov_fill]
  frame_out
  refine (y_pieces (reads_canon _ _) _ _ _ _ _ _ _ _ k l d).trans ?_
  refine if_congr Iff.rfl (congrFun ?_ (ix2 l d)) (if_congr Iff.rfl (congrFun ?_ (ix2 l d)) (if_congr Iff.rfl (congrFun ?_ (ix2 l d)) (congrFun ?_ (ix2 l d))))
  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay5, k0_pay26, k0_pay27, k0_pay28, k0_pay29, k0_pay30, k0_pay31, k0_pay32, k0_pay33, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay129, k0_pay130, k0_pay131, k0_pay132, k0_pay133, k0_pay134, k0_pay135, k0_pay136, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay233, k0_pay234, k0_pay235, k0_pay236, k0_pay237, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay387, k0_pay388, k0_pay389, k0_pay390, k0_pay391, k0_pay393, k0_pay395, k0_pay397, k0_pay398, k0_pay399, k0_pay400, k0_pay402, k0_pay404, k0_pay406, k0_pay407, k0_pay408, k0_pay409, k0_pay410, k0_pay412, k0_pay413, k0_pay414, k0_pay415, k0_pay417, k0_pay419, k0_pay428]

  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay5, k0_pay26, k0_pay27, k0_pay28, k0_pay29, k0_pay30, k0_pay31, k0_pay32, k0_pay33, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay129, k0_pay130, k0_pay131, k0_pay132, k0_pay133, k0_pay134, k0_pay135, k0_pay136, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay233, k0_pay234, k0_pay235, k0_pay236, k0_pay237, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay387, k0_pay388, k0_pay389, k0_pay390, k0_pay391, k0_pay393, k0_pay395, k0_pay397, k0_pay398, k0_pay399, k0_pay400, k0_pay402, k0_pay404, k0_pay406, k0_pay407, k0_pay408, k0_pay409, k0_pay410, k0_pay412, k0_pay413, k0_pay414, k0_pay415, k0_pay417, k0_pay419, k0_pay428]

  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay5, k0_pay26, k0_pay27, k0_pay28, k0_pay29, k0_pay30, k0_pay31, k0_pay32, k0_pay33, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay129, k0_pay130, k0_pay131, k0_pay132, k0_pay133, k0_pay134, k0_pay135, k0_pay136, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay233, k0_pay234, k0_pay235, k0_pay236, k0_pay237, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay387, k0_pay388, k0_pay389, k0_pay390, k0_pay391, k0_pay393, k0_pay395, k0_pay397, k0_pay398, k0_pay399, k0_pay400, k0_pay402, k0_pay404, k0_pay406, k0_pay407, k0_pay408, k0_pay409, k0_pay410, k0_pay412, k0_pay413, k0_pay414, k0_pay415, k0_pay417, k0_pay419, k0_pay428]

  · simp (disch := decide) only [↓ concat_two, ↓ View.readCov_skip, ↓ View.readCov_cons_toLoadRect, ↓ View.readCov_fill, View.ld_unit_lit', Memref.IsWhole.read_unread, read_unread_whole]
    rw [coord t]
    dsimp only [leave, enter1, enter2, enter3, Group.next, Group.rows, back, spread, spread1, start, keep, outRows, part, rows, Chunk.inner, four, outer, last, lanes, colb, rowb, gsA, gsB, grpA, grpB, groupA, groupB, chans, Chunk.act, cums, under, tri, causal, expo, cutw, cutx, cutd, cuts, cutz, prev, zero128, zero256, k0_pay11, k0_pay12, k0_pay13, Matrix.cons_val, Fin.val_zero, Fin.val_one, Fin.val_two, Nat.reduceMul, Nat.reduceAdd, Fin.isValue, Fin.reduceFinMk, Fin.val_ofNat, Nat.reduceMod, two, val3, sign64, k0_pay5, k0_pay26, k0_pay27, k0_pay28, k0_pay29, k0_pay30, k0_pay31, k0_pay32, k0_pay33, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay129, k0_pay130, k0_pay131, k0_pay132, k0_pay133, k0_pay134, k0_pay135, k0_pay136, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay233, k0_pay234, k0_pay235, k0_pay236, k0_pay237, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay387, k0_pay388, k0_pay389, k0_pay390, k0_pay391, k0_pay393, k0_pay395, k0_pay397, k0_pay398, k0_pay399, k0_pay400, k0_pay402, k0_pay404, k0_pay406, k0_pay407, k0_pay408, k0_pay409, k0_pay410, k0_pay412, k0_pay413, k0_pay414, k0_pay415, k0_pay417, k0_pay419, k0_pay428]

end Cert.HybIdeal.Run
-- ==== Proof.HybStage.lean ====
/-
  The inputs of the hybrid mixer's SSD heads, on the arrays the model hands it: the convolved channels, the steps and the
  decay exponents, and the proof that the reference program forms them.
-/
module

public import proofs.«01_k».proof.Proof.HybSpec
public import proofs.«01_k».proof.Proof.HybMath

@[expose] public section

noncomputable section

open Idealize.ShloMosaic Idealize.ShloMosaic.TcCoe Idealize.SL.Sem

namespace Cert.HybSpec

open Cert.HybRefIdeal Cert.HybRefIdeal.Read Cert.HybMath

variable (x : Vec Ideal S4x8192x1024 .f32) (nw : Vec Ideal S4x1024 .f32) (win : Vec Ideal S2x1024x3080 .f32)
  (wc : Vec Ideal S2x4x1024 .f32) (bc : Vec Ideal S2x1024 .f32) (dtb alog dsk : Vec Ideal S2x8 .f32) (ynw : Vec Ideal S2x512 .f32)

/-- What tap `k` of the convolution reads: nothing before a sequence's start. -/
def tap (b : Fin 4) (s : Fin 8192) (k : Fin 4) (j : Fin 1024) : EReal :=
  if h : s.val + k.val < 3 then 0 else lin x nw win b ⟨s.val + k.val - 3, by omega⟩ ⟨2048 + j.val, by omega⟩

/-- The causal convolution. -/
def conv (b : Fin 4) (s : Fin 8192) (j : Fin 1024) : EReal :=
  wc (ix3 0 0 j) * tap x nw win b s 0 j + wc (ix3 0 1 j) * tap x nw win b s 1 j + wc (ix3 0 2 j) * tap x nw win b s 2 j
    + wc (ix3 0 3 j) * tap x nw win b s 3 j + bc (ix2 0 j)

/-- The channels, keys and queries. -/
def chan (b : Fin 4) (s : Fin 8192) (j : Fin 1024) : EReal := FfnMath.silu (conv x nw win wc bc b s j)

/-- The steps. -/
def step (b : Fin 4) (s : Fin 8192) (h : Fin 8) : EReal := softplus (lin x nw win b s ⟨3072 + h.val, by omega⟩ + dtb (ix2 0 h))

/-- The decay exponents. -/
def rate (b : Fin 4) (s : Fin 8192) (h : Fin 8) : EReal := -Ideal.exp (alog (ix2 0 h)) * step x nw win dtb b s h

theorem ref_pad (b : Fin 4) (s : Fin 8195) (j : Fin 1024) : val_main_v27 (F := Ideal) x nw win (ix3 b s j)
    = if h : s.val < 3 then 0 else lin x nw win b ⟨s.val - 3, by omega⟩ ⟨2048 + j.val, by omega⟩ := by
  unfold val_main_v27 val_main_v22 val_main_v26 val_main_cst_2
  pointwise
  by_cases h : s.val < 3
  · rw [dif_pos h, dif_pos h]
  · rw [dif_neg h, dif_neg h]
    exact ref_lin x nw win _ _ _

theorem ref_conv (b : Fin 4) (s : Fin 8192) (j : Fin 1024) : val_main_v59 (F := Ideal) x nw win wc bc (ix3 b s j) = conv x nw win wc bc b s j := by
  unfold val_main_v59 val_main_v58 val_main_v57 val_main_v56 val_main_v55 val_main_v54 val_main_v53 val_main_v50
    val_main_v52 val_main_v51 val_main_v49 val_main_v48 val_main_v47 val_main_v46 val_main_v43 val_main_v45 val_main_v44
    val_main_v42 val_main_v41 val_main_v40 val_main_v39 val_main_v36 val_main_v38 val_main_v37 val_main_v35 val_main_v34
    val_main_v33 val_main_v30 val_main_v32 val_main_v31 val_main_v29 val_main_v28 val_main_v25 val_main_v24
  pointwise
  have t : ∀ (k : Fin 4) (e : Fin 8195), e.val = s.val + k.val → val_main_v27 (F := Ideal) x nw win (ix3 b e j) = tap x nw win b s k j := by
    rintro k ⟨e, he⟩ rfl
    exact ref_pad x nw win b _ j
  rw [t 0 ⟨s.val, by omega⟩ rfl, t 1 ⟨1 + s.val, by omega⟩ (Nat.add_comm _ _), t 2 ⟨2 + s.val, by omega⟩ (Nat.add_comm _ _),
    t 3 ⟨3 + s.val, by omega⟩ (Nat.add_comm _ _)]
  rfl

theorem one_eq : Ideal.ofBits FTy.f32 0x3F800000#32 = 1 := by
  simp [Ideal.ofBits, Ideal.ieee, -EReal.coe_mul]; norm_num

theorem ref_chan (b : Fin 4) (s : Fin 8192) (j : Fin 1024) : val_main_v60 (F := Ideal) x nw win wc bc (ix3 b s j) = chan x nw win wc bc b s j := by
  unfold val_main_v60 val_main_call0_v5 val_main_call0_v3 val_main_call0_v1 val_main_call0_v0 val_main_call0_v2
    val_main_call0_cst val_main_call0_v4 val_main_call0_cst_0
  pointwise
  rw [ref_conv]
  try rw [one_eq]
  rfl

theorem ref_gate (b : Fin 4) (s : Fin 8192) (d : Fin 512) : val_main_v154 (F := Ideal) x nw win (ix3 b s d)
    = FfnMath.silu (lin x nw win b s ⟨1536 + d.val, by omega⟩) := by
  unfold val_main_v154 val_main_call10_v5 val_main_call10_v3 val_main_call10_v1 val_main_call10_v0 val_main_call10_v2
    val_main_call10_cst val_main_call10_v4 val_main_call10_cst_0 val_main_v21
  pointwise
  rw [ref_lin]
  try rw [one_eq]
  rfl

theorem ref_step (b : Fin 4) (s : Fin 8192) (h : Fin 8) : val_main_v76 (F := Ideal) x nw win dtb (ix3 b s h) = step x nw win dtb b s h := by
  unfold val_main_v76 val_main_call1_v11 val_main_call1_v10 val_main_call1_v9 val_main_call1_v8 val_main_call1_v7
    val_main_call1_v1 val_main_call1_v0 val_main_call1_v6 val_main_call1_v5 val_main_call1_v4 val_main_call1_v3
    val_main_call1_v2 val_main_call1_cst val_main_v75 val_main_v74 val_main_v73 val_main_v72 val_main_v71 val_main_v23
  pointwise
  rw [ref_lin]
  unfold step softplus
  simp
  rfl

theorem ref_rate (b : Fin 4) (s : Fin 8192) (h : Fin 8) : val_main_v86 (F := Ideal) x nw win dtb alog (ix3 b s h) = rate x nw win dtb alog b s h := by
  unfold val_main_v86 val_main_v85 val_main_v84 val_main_v80 val_main_v79 val_main_v78 val_main_v77
  pointwise
  rw [ref_step]
  rfl

/-! ## Cut into chunks -/

/-- A chunk's position in its sequence. -/
def pos (z : Fin 64) (l : Fin 128) : Fin 8192 := ⟨128 * z.val + l.val, by omega⟩

theorem ref_xdt (b : Fin 4) (z : Fin 64) (l : Fin 128) (h : Fin 8) (p : Fin 64) : val_main_v87 (F := Ideal) x nw win wc bc dtb (ix5 b z l h p)
    = chan x nw win wc bc b (pos z l) ⟨64 * h.val + p.val, by omega⟩ * step x nw win dtb b (pos z l) h := by
  unfold val_main_v87 val_main_v83 val_main_v82 val_main_v81 val_main_v64 val_main_v61
  pointwise
  rw [ref_chan, ref_step]
  congr 2 <;> first | rfl | (refine Fin.ext ?_; simp [pos]; try omega)

theorem ref_key (b : Fin 4) (z : Fin 64) (l : Fin 128) (h : Fin 8) (n : Fin 128) : val_main_v88 (F := Ideal) x nw win wc bc (ix5 b z l h n)
    = chan x nw win wc bc b (pos z l) ⟨512 + 128 * (h.val / 4) + n.val, by omega⟩ := by
  unfold val_main_v88 val_main_v67 val_main_v66 val_main_v65 val_main_v62
  pointwise
  rw [ref_chan]
  congr 1 <;> first | rfl | (refine Fin.ext ?_; simp [pos]; try omega)

theorem ref_query (b : Fin 4) (z : Fin 64) (l : Fin 128) (h : Fin 8) (n : Fin 128) : val_main_v89 (F := Ideal) x nw win wc bc (ix5 b z l h n)
    = chan x nw win wc bc b (pos z l) ⟨768 + 128 * (h.val / 4) + n.val, by omega⟩ := by
  unfold val_main_v89 val_main_v70 val_main_v69 val_main_v68 val_main_v63
  pointwise
  rw [ref_chan]
  congr 1 <;> first | rfl | (refine Fin.ext ?_; simp [pos]; try omega)

theorem ref_rates (b : Fin 4) (h : Fin 8) (z : Fin 64) (l : Fin 128) : val_main_v91 (F := Ideal) x nw win dtb alog (ix4 b h z l)
    = rate x nw win dtb alog b (pos z l) h := by
  unfold val_main_v91 val_main_v90
  pointwise
  rw [ref_rate]
  congr 1
  refine Fin.ext ?_
  simp [pos]
  omega

/-! ## The whole result -/

section Whole

variable (X : Fin 4 → ℕ → Fin 1024 → ℝ) (T A : Fin 4 → ℕ → Fin 8 → ℝ)

/-- A channel of the heads' output with its skip, gated. -/
def gated (b : Fin 4) (s : Fin 8192) (d : Fin 512) : EReal :=
  ((core (X b) (T b) (A b) (s.val / 128) ⟨s.val % 128, Nat.mod_lt _ (by decide)⟩ d : EReal)
      + dsk (ix2 0 (head d)) * (X b s.val (colX d) : EReal))
    * FfnMath.silu (lin x nw win b s ⟨1536 + d.val, by omega⟩)

/-- The heads' output, rms-normed over its group of 256 channels. -/
def out (b : Fin 4) (s : Fin 8192) (d : Fin 512) : EReal :=
  gated x nw win dsk X T A b s d
      * Ideal.rsqrt (Ideal.div (∑ e : Fin 256, gated x nw win dsk X T A b s ⟨256 * (d.val / 256) + e.val, by omega⟩
          * gated x nw win dsk X T A b s ⟨256 * (d.val / 256) + e.val, by omega⟩) (Ideal.ofBits FTy.f32 0x43800000#32)
        + Ideal.ofBits FTy.f32 0x3727C5AC#32)
    * ynw (ix2 0 d)

end Whole

end Cert.HybSpec
-- ==== Proof.HybRefSsd.lean ====
/-
  The reference program's SSD heads, given that the channels, steps and decay exponents are real numbers: the chunked form
  it computes is the recurrence.
-/
module

public import proofs.«01_k».proof.Proof.HybStage

@[expose] public section

noncomputable section

open Idealize.ShloMosaic Idealize.ShloMosaic.TcCoe Idealize.SL.Sem

namespace Cert.HybSpec

open Cert.HybRefIdeal Cert.HybRefIdeal.Read Cert.HybMath

/-! ## Running sums along the last axis -/

/-- The places of a window that is one long on every axis but the last. -/
def last4 {N : ℕ} : (⟨4, ![1, 1, 1, N]⟩ : Shape).Idx ≃ Fin N where
  toFun i := i 3
  invFun n := ix4 (n0 := 1) (n1 := 1) (n2 := 1) (n3 := N) 0 0 0 n
  left_inv i := funext fun a => match a with
    | ⟨0, _⟩ => Fin.ext (by have h : (i 0).val < 1 := (i 0).isLt; show 0 = (i 0).val; omega)
    | ⟨1, _⟩ => Fin.ext (by have h : (i 1).val < 1 := (i 1).isLt; show 0 = (i 1).val; omega)
    | ⟨2, _⟩ => Fin.ext (by have h : (i 2).val < 1 := (i 2).isLt; show 0 = (i 2).val; omega)
    | ⟨3, _⟩ => rfl
  right_inv n := rfl

def last3 {N : ℕ} : (⟨3, ![1, 1, N]⟩ : Shape).Idx ≃ Fin N where
  toFun i := i 2
  invFun n := ix3 (n0 := 1) (n1 := 1) (n2 := N) 0 0 n
  left_inv i := funext fun a => match a with
    | ⟨0, _⟩ => Fin.ext (by have h : (i 0).val < 1 := (i 0).isLt; show 0 = (i 0).val; omega)
    | ⟨1, _⟩ => Fin.ext (by have h : (i 1).val < 1 := (i 1).isLt; show 0 = (i 1).val; omega)
    | ⟨2, _⟩ => rfl
  right_inv n := rfl

theorem scan4 (v : Vec Ideal S4x8x64x128 .f32) (h) (hu) (init : Vec Ideal S_ .f32) (h0 : ∀ i, init i = (0 : EReal)) (b : Fin 4) (k : Fin 8) (z : Fin 64) (l : Fin 128) :
    Host.reduceWindowAdd (F := Ideal) (φ := .f32) (s := S4x8x64x128) (t := S4x8x64x128) (u := S_) ![1, 1, 1, 128] ![1, 1, 1, 1] ![0, 0, 0, 127] ![0, 0, 0, 0] v init h hu (ix4 b k z l)
      = ∑ s : Fin 128, if s ≤ l then v (ix4 b k z s) else 0 := by
  show Ideal.hostReduceWindowAdd ![1, 1, 1, 128] ![1, 1, 1, 1] ![0, 0, 0, 127] ![0, 0, 0, 0] h v (init (Shape.Idx.first hu)) (ix4 b k z l) = _
  rw [h0]
  unfold Ideal.hostReduceWindowAdd Host.reduceWindow
  refine (foldl_sum _ _).trans ?_
  rw [zero_add, ← window_sum 128 (by decide) l fun s => v (ix4 b k z s)]
  refine Fintype.sum_equiv ((⟨4, ![1, 1, 1, 128]⟩ : Shape).rowMajor.symm.trans last4) _ _ fun n => ?_
  dsimp only
  have w0 : (((⟨4, ![1, 1, 1, 128]⟩ : Shape).rowMajor.symm n) 0).val = 0 := by have h : (((⟨4, ![1, 1, 1, 128]⟩ : Shape).rowMajor.symm n) 0).val < 1 := (((⟨4, ![1, 1, 1, 128]⟩ : Shape).rowMajor.symm n) 0).isLt; omega
  have w1 : (((⟨4, ![1, 1, 1, 128]⟩ : Shape).rowMajor.symm n) 1).val = 0 := by have h : (((⟨4, ![1, 1, 1, 128]⟩ : Shape).rowMajor.symm n) 1).val < 1 := (((⟨4, ![1, 1, 1, 128]⟩ : Shape).rowMajor.symm n) 1).isLt; omega
  have w2 : (((⟨4, ![1, 1, 1, 128]⟩ : Shape).rowMajor.symm n) 2).val = 0 := by have h : (((⟨4, ![1, 1, 1, 128]⟩ : Shape).rowMajor.symm n) 2).val < 1 := (((⟨4, ![1, 1, 1, 128]⟩ : Shape).rowMajor.symm n) 2).isLt; omega
  have ew : (((⟨4, ![1, 1, 1, 128]⟩ : Shape).rowMajor.symm.trans last4) n).val = (((⟨4, ![1, 1, 1, 128]⟩ : Shape).rowMajor.symm n) 3).val := rfl
  simp only [ew]
  split
  · next hin =>
    have h3 := hin 3
    change 127 ≤ l.val * 1 + (((⟨4, ![1, 1, 1, 128]⟩ : Shape).rowMajor.symm n) 3).val ∧ l.val * 1 + (((⟨4, ![1, 1, 1, 128]⟩ : Shape).rowMajor.symm n) 3).val - 127 < 128 at h3
    rw [dif_pos ⟨by omega, by omega⟩]
    refine congrArg v (funext fun a => Fin.ext ?_)
    match a with
    | ⟨0, _⟩ => show b.val * 1 + (((⟨4, ![1, 1, 1, 128]⟩ : Shape).rowMajor.symm n) 0).val - 0 = b.val; omega
    | ⟨1, _⟩ => show k.val * 1 + (((⟨4, ![1, 1, 1, 128]⟩ : Shape).rowMajor.symm n) 1).val - 0 = k.val; omega
    | ⟨2, _⟩ => show z.val * 1 + (((⟨4, ![1, 1, 1, 128]⟩ : Shape).rowMajor.symm n) 2).val - 0 = z.val; omega
    | ⟨3, _⟩ => show l.val * 1 + (((⟨4, ![1, 1, 1, 128]⟩ : Shape).rowMajor.symm n) 3).val - 127 = l.val + (((⟨4, ![1, 1, 1, 128]⟩ : Shape).rowMajor.symm n) 3).val - 127; omega
  · next hin =>
    rw [dif_neg fun hle => hin fun a => ?_]
    match a with
    | ⟨0, _⟩ => show 0 ≤ b.val * 1 + (((⟨4, ![1, 1, 1, 128]⟩ : Shape).rowMajor.symm n) 0).val ∧ b.val * 1 + (((⟨4, ![1, 1, 1, 128]⟩ : Shape).rowMajor.symm n) 0).val - 0 < 4; omega
    | ⟨1, _⟩ => show 0 ≤ k.val * 1 + (((⟨4, ![1, 1, 1, 128]⟩ : Shape).rowMajor.symm n) 1).val ∧ k.val * 1 + (((⟨4, ![1, 1, 1, 128]⟩ : Shape).rowMajor.symm n) 1).val - 0 < 8; omega
    | ⟨2, _⟩ => show 0 ≤ z.val * 1 + (((⟨4, ![1, 1, 1, 128]⟩ : Shape).rowMajor.symm n) 2).val ∧ z.val * 1 + (((⟨4, ![1, 1, 1, 128]⟩ : Shape).rowMajor.symm n) 2).val - 0 < 64; omega
    | ⟨3, _⟩ => show 127 ≤ l.val * 1 + (((⟨4, ![1, 1, 1, 128]⟩ : Shape).rowMajor.symm n) 3).val ∧ l.val * 1 + (((⟨4, ![1, 1, 1, 128]⟩ : Shape).rowMajor.symm n) 3).val - 127 < 128; omega

theorem scan3 (v : Vec Ideal S4x8x65 .f32) (h) (hu) (init : Vec Ideal S_ .f32) (h0 : ∀ i, init i = (0 : EReal)) (b : Fin 4) (k : Fin 8) (l : Fin 65) :
    Host.reduceWindowAdd (F := Ideal) (φ := .f32) (s := S4x8x65) (t := S4x8x65) (u := S_) ![1, 1, 65] ![1, 1, 1] ![0, 0, 64] ![0, 0, 0] v init h hu (ix3 b k l)
      = ∑ s : Fin 65, if s ≤ l then v (ix3 b k s) else 0 := by
  show Ideal.hostReduceWindowAdd ![1, 1, 65] ![1, 1, 1] ![0, 0, 64] ![0, 0, 0] h v (init (Shape.Idx.first hu)) (ix3 b k l) = _
  rw [h0]
  unfold Ideal.hostReduceWindowAdd Host.reduceWindow
  refine (foldl_sum _ _).trans ?_
  rw [zero_add, ← window_sum 65 (by decide) l fun s => v (ix3 b k s)]
  refine Fintype.sum_equiv ((⟨3, ![1, 1, 65]⟩ : Shape).rowMajor.symm.trans last3) _ _ fun n => ?_
  dsimp only
  have w0 : (((⟨3, ![1, 1, 65]⟩ : Shape).rowMajor.symm n) 0).val = 0 := by have h : (((⟨3, ![1, 1, 65]⟩ : Shape).rowMajor.symm n) 0).val < 1 := (((⟨3, ![1, 1, 65]⟩ : Shape).rowMajor.symm n) 0).isLt; omega
  have w1 : (((⟨3, ![1, 1, 65]⟩ : Shape).rowMajor.symm n) 1).val = 0 := by have h : (((⟨3, ![1, 1, 65]⟩ : Shape).rowMajor.symm n) 1).val < 1 := (((⟨3, ![1, 1, 65]⟩ : Shape).rowMajor.symm n) 1).isLt; omega
  have ew : (((⟨3, ![1, 1, 65]⟩ : Shape).rowMajor.symm.trans last3) n).val = (((⟨3, ![1, 1, 65]⟩ : Shape).rowMajor.symm n) 2).val := rfl
  simp only [ew]
  split
  · next hin =>
    have h3 := hin 2
    change 64 ≤ l.val * 1 + (((⟨3, ![1, 1, 65]⟩ : Shape).rowMajor.symm n) 2).val ∧ l.val * 1 + (((⟨3, ![1, 1, 65]⟩ : Shape).rowMajor.symm n) 2).val - 64 < 65 at h3
    rw [dif_pos ⟨by omega, by omega⟩]
    refine congrArg v (funext fun a => Fin.ext ?_)
    match a with
    | ⟨0, _⟩ => show b.val * 1 + (((⟨3, ![1, 1, 65]⟩ : Shape).rowMajor.symm n) 0).val - 0 = b.val; omega
    | ⟨1, _⟩ => show k.val * 1 + (((⟨3, ![1, 1, 65]⟩ : Shape).rowMajor.symm n) 1).val - 0 = k.val; omega
    | ⟨2, _⟩ => show l.val * 1 + (((⟨3, ![1, 1, 65]⟩ : Shape).rowMajor.symm n) 2).val - 64 = l.val + (((⟨3, ![1, 1, 65]⟩ : Shape).rowMajor.symm n) 2).val - 64; omega
  · next hin =>
    rw [dif_neg fun hle => hin fun a => ?_]
    match a with
    | ⟨0, _⟩ => show 0 ≤ b.val * 1 + (((⟨3, ![1, 1, 65]⟩ : Shape).rowMajor.symm n) 0).val ∧ b.val * 1 + (((⟨3, ![1, 1, 65]⟩ : Shape).rowMajor.symm n) 0).val - 0 < 4; omega
    | ⟨1, _⟩ => show 0 ≤ k.val * 1 + (((⟨3, ![1, 1, 65]⟩ : Shape).rowMajor.symm n) 1).val ∧ k.val * 1 + (((⟨3, ![1, 1, 65]⟩ : Shape).rowMajor.symm n) 1).val - 0 < 8; omega
    | ⟨2, _⟩ => show 64 ≤ l.val * 1 + (((⟨3, ![1, 1, 65]⟩ : Shape).rowMajor.symm n) 2).val ∧ l.val * 1 + (((⟨3, ![1, 1, 65]⟩ : Shape).rowMajor.symm n) 2).val - 64 < 65; omega

theorem zero_eq : Ideal.ofBits FTy.f32 0x00000000#32 = 0 := by simp [Ideal.ofBits, Ideal.ieee]

theorem bot_eq : Ideal.ofBits FTy.f32 0xFF800000#32 = ⊥ := by simp [Ideal.ofBits, Ideal.ieee]

theorem coe_if (p : Prop) [Decidable p] (r : ℝ) : (if p then (r : EReal) else 0) = ((if p then r else 0 : ℝ) : EReal) := by
  by_cases h : p
  · rw [if_pos h, if_pos h]
  · rw [if_neg h, if_neg h]; rfl

/-! ## The masks -/

theorem ref_low (l s : Fin 128) : val_main_v100 (F := Ideal) (ix2 l s) = if s ≤ l then 1#1 else 0#1 := by
  unfold val_main_v100 val_main_call4_v5 val_main_call4_c_0 val_main_v99 val_main_c val_main_call4_v4 val_main_call4_v3
    val_main_call4_v2 val_main_call4_v1 val_main_call4_c val_main_call4_v0
  pointwise
  have hs := s.isLt
  have hl := l.isLt
  have key : (BitVec.ofNat 32 s.val).sle (BitVec.ofNat 32 l.val) = decide (s ≤ l) := by
    rw [BitVec.sle_eq_decide, BitVec.toInt_ofNat', BitVec.toInt_ofNat']
    congr 1
    simp only [Fin.le_def]
    rw [Int.bmod_eq_of_le (by omega) (by omega), Int.bmod_eq_of_le (by omega) (by omega)]
    simp
  show Scalar.select (BitVec.ofBool ((BitVec.ofNat 32 s.val).sle (BitVec.ofNat 32 l.val + 0#32))) 1#1 0#1 = _
  rw [BitVec.add_zero, key]
  by_cases h : s ≤ l
  · rw [decide_eq_true h, if_pos h]; rfl
  · rw [decide_eq_false h, if_neg h]; rfl

theorem ref_low65 (l s : Fin 65) : val_main_v129 (F := Ideal) (ix2 l s) = if s ≤ l then 1#1 else 0#1 := by
  unfold val_main_v129 val_main_call8_v5 val_main_call8_c_0 val_main_v128 val_main_c_6 val_main_call8_v4
    val_main_call8_v3 val_main_call8_v2 val_main_call8_v1 val_main_call8_c val_main_call8_v0
  pointwise
  have hs := s.isLt
  have hl := l.isLt
  have key : (BitVec.ofNat 32 s.val).sle (BitVec.ofNat 32 l.val) = decide (s ≤ l) := by
    rw [BitVec.sle_eq_decide, BitVec.toInt_ofNat', BitVec.toInt_ofNat']
    congr 1
    simp only [Fin.le_def]
    rw [Int.bmod_eq_of_le (by omega) (by omega), Int.bmod_eq_of_le (by omega) (by omega)]
    simp
  show Scalar.select (BitVec.ofBool ((BitVec.ofNat 32 s.val).sle (BitVec.ofNat 32 l.val + 0#32))) 1#1 0#1 = _
  rw [BitVec.add_zero, key]
  by_cases h : s ≤ l
  · rw [decide_eq_true h, if_pos h]; rfl
  · rw [decide_eq_false h, if_neg h]; rfl

section Real

variable (x : Vec Ideal S4x8192x1024 .f32) (nw : Vec Ideal S4x1024 .f32) (win : Vec Ideal S2x1024x3080 .f32)
  (wc : Vec Ideal S2x4x1024 .f32) (bc : Vec Ideal S2x1024 .f32) (dtb alog dsk : Vec Ideal S2x8 .f32) (ynw : Vec Ideal S2x512 .f32)
  (X : Fin 4 → ℕ → Fin 1024 → ℝ) (T A : Fin 4 → ℕ → Fin 8 → ℝ)

/-- The channels, the steps and the decay exponents are these real numbers. -/
structure Are : Prop where
  chan : ∀ b (s : Fin 8192) j, chan x nw win wc bc b s j = (X b s.val j : EReal)
  step : ∀ b (s : Fin 8192) h, step x nw win dtb b s h = (T b s.val h : EReal)
  rate : ∀ b (s : Fin 8192) h, rate x nw win dtb alog b s h = (A b s.val h : EReal)

variable {x nw win wc bc dtb alog dsk ynw X T A} (R : Are x nw win wc bc dtb alog X T A)
include R

theorem ref_cs (b : Fin 4) (h : Fin 8) (z : Fin 64) (l : Fin 128) :
    val_main_v92 (F := Ideal) x nw win dtb alog (ix4 b h z l) = (cs (A b) z.val h l : EReal) := by
  unfold val_main_v92
  rw [scan4 _ _ _ _ (fun i => by unfold val_main_call2_call0_v0 val_main_call2_call0_cst; exact zero_eq)]
  unfold cs
  rw [FfnMath.coe_sum]
  refine Finset.sum_congr rfl fun s _ => ?_
  rw [ref_rates, R.rate, coe_if]
  rfl

theorem ref_cs' (b : Fin 4) (h : Fin 8) (z : Fin 64) (l : Fin 128) :
    val_main_v93 (F := Ideal) x nw win dtb alog (ix4 b h z l) = (cs (A b) z.val h l : EReal) := ref_cs R b h z l

theorem ref_decay (b : Fin 4) (h : Fin 8) (z : Fin 64) (l s : Fin 128) : val_main_v102 (F := Ideal) x nw win dtb alog (ix5 b h z l s)
    = ((if s ≤ l then Real.exp (cs (A b) z.val h l - cs (A b) z.val h s) else 0 : ℝ) : EReal) := by
  unfold val_main_v102 val_main_v101 val_main_call5_v2 val_main_call5_v0 val_main_cst_3 val_main_v98 val_main_v97
    val_main_v95 val_main_v96 val_main_v94 val_main_call5_v1
  pointwise
  rw [ref_low, ref_cs' R, ref_cs' R]
  by_cases h : s ≤ l
  · rw [if_pos h, if_pos h]; rfl
  · rw [if_neg h, if_neg h]
    show Ideal.exp (Ideal.ofBits FTy.f32 0xFF800000#32) = _
    rw [bot_eq]; rfl

theorem ref_key' (b : Fin 4) (z : Fin 64) (l : Fin 128) (h : Fin 8) (n : Fin 128) : val_main_v88 (F := Ideal) x nw win wc bc (ix5 b z l h n)
    = (X b (128 * z.val + l.val) ⟨512 + 128 * (h.val / 4) + n.val, by omega⟩ : EReal) := (ref_key x nw win wc bc b z l h n).trans (R.chan _ _ _)

theorem ref_query' (b : Fin 4) (z : Fin 64) (l : Fin 128) (h : Fin 8) (n : Fin 128) : val_main_v89 (F := Ideal) x nw win wc bc (ix5 b z l h n)
    = (X b (128 * z.val + l.val) ⟨768 + 128 * (h.val / 4) + n.val, by omega⟩ : EReal) := (ref_query x nw win wc bc b z l h n).trans (R.chan _ _ _)

theorem ref_xdt' (b : Fin 4) (z : Fin 64) (l : Fin 128) (h : Fin 8) (p : Fin 64) : val_main_v87 (F := Ideal) x nw win wc bc dtb (ix5 b z l h p)
    = ((X b (128 * z.val + l.val) ⟨64 * h.val + p.val, by omega⟩ * T b (128 * z.val + l.val) h : ℝ) : EReal) := by
  rw [ref_xdt, R.chan, R.step, EReal.coe_mul]
  rfl

/-- Inside a chunk. -/
theorem ref_diag (b : Fin 4) (z : Fin 64) (l : Fin 128) (h : Fin 8) (p : Fin 64) : val_main_v106 (F := Ideal) x nw win wc bc dtb alog (ix5 b z l h p)
    = ((∑ s : Fin 128, X b (128 * z.val + s.val) ⟨64 * h.val + p.val, by omega⟩ * T b (128 * z.val + s.val) h
      * ((∑ n : Fin 128, X b (128 * z.val + l.val) ⟨768 + 128 * (h.val / 4) + n.val, by omega⟩ * X b (128 * z.val + s.val) ⟨512 + 128 * (h.val / 4) + n.val, by omega⟩)
        * (if s ≤ l then Real.exp (cs (A b) z.val h l - cs (A b) z.val h s) else 0)) : ℝ) : EReal) := by
  unfold val_main_v106 val_main_v105 val_main_v104 val_main_v103
  pointwise
  simp only [ref_xdt' R, ref_decay R, ref_key' R, ref_query' R, ← EReal.coe_mul, ← FfnMath.coe_sum]

/-- What a chunk adds to the state. -/
theorem ref_fresh (b : Fin 4) (z : Fin 64) (h : Fin 8) (p : Fin 64) (n : Fin 128) : val_main_v115 (F := Ideal) x nw win wc bc dtb alog (ix5 b z h p n)
    = (fresh (X b) (T b) (A b) z.val n ⟨64 * h.val + p.val, by omega⟩ : EReal) := by
  unfold val_main_v115 val_main_v114 val_main_v113 val_main_v112 val_main_v111 val_main_v110 val_main_v109 val_main_v108
    val_main_v107
  pointwise
  simp only [ref_xdt' R, ref_key' R, ref_cs R, ← EReal.coe_sub, exp_coe, ← EReal.coe_mul, ← FfnMath.coe_sum]
  have eh : head ⟨64 * h.val + p.val, by omega⟩ = h := Fin.ext (by show (64 * h.val + p.val) / 64 = h.val; omega)
  have eb : colB ⟨64 * h.val + p.val, by omega⟩ n = ⟨512 + 128 * (h.val / 4) + n.val, by omega⟩ :=
    Fin.ext (by show 512 + 128 * ((64 * h.val + p.val) / 256) + n.val = 512 + 128 * (h.val / 4) + n.val; omega)
  unfold fresh
  rw [eh, eb]
  refine congrArg _ (Finset.sum_congr rfl fun s _ => ?_)
  unfold last colX
  ring

/-- The chunks' whole decays, padded and summed. -/
theorem ref_total (b : Fin 4) (h : Fin 8) (z : Fin 65) : val_main_v122 (F := Ideal) x nw win dtb alog (ix3 b h z)
    = ((∑ j ∈ Finset.range z.val, last (A b) j h : ℝ) : EReal) := by
  have e : ∀ s : Fin 65, val_main_v121 (F := Ideal) x nw win dtb alog (ix3 b h s) = ((if s.val = 0 then 0 else last (A b) (s.val - 1) h : ℝ) : EReal) := by
    intro s
    unfold val_main_v121 val_main_call6_v0 val_main_c_5 val_main_v120 val_main_v119
    pointwise
    by_cases h0 : s.val = 0
    · rw [dif_neg (by omega), if_pos h0]
      show ((((0#32 : BitVec 32).toInt : ℤ) : ℝ) : EReal) = _
      simp
    · rw [dif_pos ⟨by omega, by omega⟩, if_neg h0]
      exact ref_cs R _ _ _ _
  unfold val_main_v122
  rw [scan3 _ _ _ _ (fun i => by unfold val_main_call7_call0_v0 val_main_call7_call0_cst; exact zero_eq)]
  simp only [e, coe_if, ← FfnMath.coe_sum]
  refine congrArg _ ((sum_low 65 z.val z.isLt fun k => if k = 0 then 0 else last (A b) (k - 1) h).trans ?_)
  rw [Finset.sum_range_succ']
  simp

/-- The state a chunk starts from. -/
theorem ref_state (b : Fin 4) (z : Fin 64) (h : Fin 8) (p : Fin 64) (n : Fin 128) : val_main_v134 (F := Ideal) x nw win wc bc dtb alog (ix5 b z h p n)
    = (state (X b) (T b) (A b) z.val n ⟨64 * h.val + p.val, by omega⟩ : EReal) := by
  have e1 : ∀ c : Fin 65, val_main_v118 (F := Ideal) x nw win wc bc dtb alog (ix5 b c h p n)
      = ((if c.val = 0 then 0 else fresh (X b) (T b) (A b) (c.val - 1) n ⟨64 * h.val + p.val, by omega⟩ : ℝ) : EReal) := by
    intro c
    unfold val_main_v118 val_main_v117 val_main_cst_4
    pointwise
    by_cases h0 : c.val = 0
    · rw [dif_pos (by omega), if_pos h0]; rfl
    · rw [dif_neg (by omega), if_neg h0]
      exact ref_fresh R _ _ _ _ _
  have e2 : ∀ c : Fin 65, val_main_v131 (F := Ideal) x nw win dtb alog (ix4 b h ⟨z.val, by omega⟩ c)
      = ((if c.val ≤ z.val then Real.exp (∑ j ∈ Finset.range z.val, last (A b) j h - ∑ j ∈ Finset.range c.val, last (A b) j h) else 0 : ℝ) : EReal) := by
    intro c
    unfold val_main_v131 val_main_v130 val_main_call9_v2 val_main_call9_v0 val_main_cst_7 val_main_v127 val_main_v126
      val_main_v124 val_main_v125 val_main_v123 val_main_call9_v1
    pointwise
    rw [ref_low65, ref_total R, ref_total R]
    by_cases hc : c.val ≤ z.val
    · rw [if_pos (show c ≤ (⟨z.val, by omega⟩ : Fin 65) from hc), if_pos hc]; rfl
    · rw [if_neg (show ¬ c ≤ (⟨z.val, by omega⟩ : Fin 65) from hc), if_neg hc]
      show Ideal.exp (Ideal.ofBits FTy.f32 0xFF800000#32) = _
      rw [bot_eq]; rfl
  unfold val_main_v134 val_main_v133 val_main_v132
  pointwise
  simp only [e1, e2, ← EReal.coe_mul, ← FfnMath.coe_sum]
  refine congrArg _ ?_
  have eh : head ⟨64 * h.val + p.val, by omega⟩ = h := Fin.ext (by show (64 * h.val + p.val) / 64 = h.val; omega)
  rw [← state_closed, eh, ← sum_low 65 z.val (by omega)]
  refine Finset.sum_congr rfl fun k _ => ?_
  by_cases hk : k.val ≤ z.val
  · rw [if_pos hk, if_pos hk]
  · rw [if_neg hk, if_neg hk, mul_zero]

/-- A position's output. -/
theorem ref_core (b : Fin 4) (z : Fin 64) (l : Fin 128) (h : Fin 8) (p : Fin 64) : val_main_v142 (F := Ideal) x nw win wc bc dtb alog (ix5 b z l h p)
    = (core (X b) (T b) (A b) z.val l ⟨64 * h.val + p.val, by omega⟩ : EReal) := by
  unfold val_main_v142 val_main_v141 val_main_v140 val_main_v139 val_main_v138 val_main_v137 val_main_v136 val_main_v135
  pointwise
  simp only [ref_diag R, ref_state R, ref_query' R, ref_cs R, exp_coe, ← EReal.coe_mul, ← FfnMath.coe_sum, ← EReal.coe_add]
  refine congrArg _ ?_
  have eh : head ⟨64 * h.val + p.val, by omega⟩ = h := Fin.ext (by show (64 * h.val + p.val) / 64 = h.val; omega)
  have eb : ∀ n, colB ⟨64 * h.val + p.val, by omega⟩ n = ⟨512 + 128 * (h.val / 4) + n.val, by omega⟩ := fun n =>
    Fin.ext (by show 512 + 128 * ((64 * h.val + p.val) / 256) + n.val = 512 + 128 * (h.val / 4) + n.val; omega)
  have ec : ∀ n, colC ⟨64 * h.val + p.val, by omega⟩ n = ⟨768 + 128 * (h.val / 4) + n.val, by omega⟩ := fun n =>
    Fin.ext (by show 768 + 128 * ((64 * h.val + p.val) / 256) + n.val = 768 + 128 * (h.val / 4) + n.val; omega)
  unfold core
  simp only [eh, eb, ec]
  refine congrArg₂ (· + ·) (Finset.sum_congr rfl fun s _ => ?_) (congrArg (· * _) (Finset.sum_congr rfl fun n _ => mul_comm _ _))
  unfold colX
  ring

theorem ref_gated (b : Fin 4) (s : Fin 8192) (d : Fin 512) : val_main_v155 (F := Ideal) x nw win wc bc dtb alog dsk (ix3 b s d)
    = gated x nw win dsk X T A b s d := by
  unfold val_main_v155 val_main_v151 val_main_v150 val_main_v149 val_main_v64 val_main_v61 val_main_v148 val_main_v147
    val_main_v146 val_main_v145 val_main_v144 val_main_v143
  pointwise
  rw [ref_core R, ref_chan, R.chan, ref_gate]
  unfold gated
  refine congrArg (· * _) (congrArg₂ (· + ·) (congrArg _ (congrArg (core _ _ _ _ _) (Fin.ext ?_))) rfl)
  show 64 * (d.val / 64) + d.val % 64 = d.val
  omega

theorem ref_out (b : Fin 4) (s : Fin 8192) (d : Fin 512) : val_main_v170 (F := Ideal) x nw win wc bc dtb alog dsk ynw (ix3 b s d)
    = out x nw win dsk ynw X T A b s d := by
  unfold val_main_v170 val_main_v169 val_main_v168 val_main_v153 val_main_v152 val_main_v167 val_main_v166 val_main_v165
    val_main_v164 val_main_v163 val_main_v162 val_main_cst_10 val_main_v161 val_main_v160 val_main_cst_9 val_main_v159
    val_main_v158 val_main_cst_8 val_main_v157 val_main_v156
  pointwise
  simp only [ref_gated R]
  unfold out
  have e : d.val / 256 * 256 = 256 * (d.val / 256) := Nat.mul_comm _ _
  simp only [e]

theorem ref_y (g : Fin 32768) (d : Fin 512) : val_main_v182 (F := Ideal) x nw win wc bc dtb alog dsk ynw (ix2 g d)
    = out x nw win dsk ynw X T A ⟨g.val / 8192, by omega⟩ ⟨g.val % 8192, by omega⟩ d := by
  unfold val_main_v182 val_main_v181
  pointwise
  exact ref_out R _ _ _

end Real

end Cert.HybSpec
-- ==== Proof.HybState.lean ====
/-
  The hybrid mixer's call, point by point: the state it carries is the recurrence's, and the rows it writes are the layer's.
-/
module

public import proofs.«01_k».proof.Proof.HybGroup
public import proofs.«01_k».proof.Proof.HybSteps
public import proofs.«01_k».proof.Proof.HybStage
public import proofs.«01_k».proof.Proof.HybRefSsd
public import proofs.«01_k».proof.Proof.HybValue

@[expose] public section

noncomputable section

open Idealize.ShloMosaic Idealize.ShloMosaic.TcCoe Idealize.SL.Sem

namespace Cert.HybIdeal.Run

open Cert.HybIdeal Cert.HybIdeal.Gen Cert.HybIdeal.Point Cert.HybIdeal.Pay Cert.HybIdeal.Chunk Cert.HybMath Cert.HybIdeal.Whole

variable (m : (ℓ : Loc nD τ sig) → Buf (Elt Ideal) ℓ) (c : Dev nD)

/-- The convolutions and the gates are real numbers. -/
structure Tame : Prop where
  conv : ∀ b s j, ∃ r : ℝ, HybSpec.conv (xs m c) (nws m c) (wins m c) (wcs m c) (bcs m c) b s j = r
  gate : ∀ b s (d : Fin 512), ∃ r : ℝ, HybSpec.lin (xs m c) (nws m c) (wins m c) b s ⟨1536 + d.val, by omega⟩ = r

theorem silu_of_real (x : EReal) (h : ∃ r : ℝ, x = r) : FfnMath.tsilu x = FfnMath.silu x := by
  obtain ⟨r, rfl⟩ := h
  exact FfnMath.tsilu_eq r

/-! ## A group's parts -/

theorem groupA_b (xc : FVec Ideal S128x1024 .f32) (dt cs : FVec Ideal S128x128 .f32) (i : Fin 4) (l e : Fin 128) :
    (groupA xc dt cs).b i (ix2 l e) = cs (ix2 l ⟨0 + i.val, by omega⟩) := by
  fin_cases i
  · exact colb_apply cs 0 slices_S128x128_o0_0_S128x1 (by decide) l e
  · exact colb_apply cs 1 slices_S128x128_o0_1_S128x1 (by decide) l e
  · exact colb_apply cs 2 slices_S128x128_o0_2_S128x1 (by decide) l e
  · exact colb_apply cs 3 slices_S128x128_o0_3_S128x1 (by decide) l e

theorem groupA_r (xc : FVec Ideal S128x1024 .f32) (dt cs : FVec Ideal S128x128 .f32) (i : Fin 4) (s : Fin 128) :
    (groupA xc dt cs).r i (ix2 0 s) = cs (ix2 s ⟨0 + i.val, by omega⟩) := by
  fin_cases i
  · exact rowb_apply cs 0 slices_S128x128_o0_0_S1x128 (by decide) s
  · exact rowb_apply cs 1 slices_S128x128_o1_0_S1x128 (by decide) s
  · exact rowb_apply cs 2 slices_S128x128_o2_0_S1x128 (by decide) s
  · exact rowb_apply cs 3 slices_S128x128_o3_0_S1x128 (by decide) s

theorem groupA_d (xc : FVec Ideal S128x1024 .f32) (dt cs : FVec Ideal S128x128 .f32) (i : Fin 4) (s : Fin 128) :
    (groupA xc dt cs).d i (ix2 0 s) = dt (ix2 s ⟨0 + i.val, by omega⟩) := by
  fin_cases i
  · exact rowb_apply dt 0 slices_S128x128_o0_0_S1x128 (by decide) s
  · exact rowb_apply dt 1 slices_S128x128_o1_0_S1x128 (by decide) s
  · exact rowb_apply dt 2 slices_S128x128_o2_0_S1x128 (by decide) s
  · exact rowb_apply dt 3 slices_S128x128_o3_0_S1x128 (by decide) s

theorem groupB_b (xc : FVec Ideal S128x1024 .f32) (dt cs : FVec Ideal S128x128 .f32) (i : Fin 4) (l e : Fin 128) :
    (groupB xc dt cs).b i (ix2 l e) = cs (ix2 l ⟨4 + i.val, by omega⟩) := by
  fin_cases i
  · exact colb_apply cs 4 slices_S128x128_o0_4_S128x1 (by decide) l e
  · exact colb_apply cs 5 slices_S128x128_o0_5_S128x1 (by decide) l e
  · exact colb_apply cs 6 slices_S128x128_o0_6_S128x1 (by decide) l e
  · exact colb_apply cs 7 slices_S128x128_o0_7_S128x1 (by decide) l e

theorem groupB_r (xc : FVec Ideal S128x1024 .f32) (dt cs : FVec Ideal S128x128 .f32) (i : Fin 4) (s : Fin 128) :
    (groupB xc dt cs).r i (ix2 0 s) = cs (ix2 s ⟨4 + i.val, by omega⟩) := by
  fin_cases i
  · exact rowb_apply cs 4 slices_S128x128_o4_0_S1x128 (by decide) s
  · exact rowb_apply cs 5 slices_S128x128_o5_0_S1x128 (by decide) s
  · exact rowb_apply cs 6 slices_S128x128_o6_0_S1x128 (by decide) s
  · exact rowb_apply cs 7 slices_S128x128_o7_0_S1x128 (by decide) s

theorem groupB_d (xc : FVec Ideal S128x1024 .f32) (dt cs : FVec Ideal S128x128 .f32) (i : Fin 4) (s : Fin 128) :
    (groupB xc dt cs).d i (ix2 0 s) = dt (ix2 s ⟨4 + i.val, by omega⟩) := by
  fin_cases i
  · exact rowb_apply dt 4 slices_S128x128_o4_0_S1x128 (by decide) s
  · exact rowb_apply dt 5 slices_S128x128_o5_0_S1x128 (by decide) s
  · exact rowb_apply dt 6 slices_S128x128_o6_0_S1x128 (by decide) s
  · exact rowb_apply dt 7 slices_S128x128_o7_0_S1x128 (by decide) s

/-! ## The kept rows -/

section Rows

variable (u : Fin cfg0.N) (b : Fin 4) (q : ℕ) (hu : u.val = 16 * b.val + q) (hq : q < 16)
include hu hq

theorem xrow (ρ : Fin 520) (h5 : 5 ≤ ρ.val) (j : Fin 1024) :
    (outsAt0 m c u.val u.isLt).2.2.2.2.1 (ix3 (slot u.val) ρ j)
      = if h : 512 * q + ρ.val < 8 then 0 else HybSpec.lin (xs m c) (nws m c) (wins m c) b ⟨512 * q + ρ.val - 8, by omega⟩ ⟨2048 + j.val, by omega⟩ := by
  by_cases h8 : ρ.val < 8
  · have e := Kept.halo_at m c u ⟨ρ.val, h8⟩ j
    refine e.trans ?_
    by_cases h0 : q = 0
    · rw [if_pos (by omega), dif_pos (by omega)]
    · rw [if_neg (by omega), dif_neg (by omega)]
      have hlt : u.val - 1 < cfg0.N := Nat.lt_of_le_of_lt (Nat.sub_le _ _) u.isLt
      have e2 := Kept.x_at m c ⟨u.val - 1, hlt⟩ ⟨504 + ρ.val, by omega⟩ j
      have ei : (⟨8 + (504 + ρ.val), by omega⟩ : Fin 520) = ⟨512 + ρ.val, by omega⟩ := Fin.ext (by show 8 + (504 + ρ.val) = 512 + ρ.val; omega)
      dsimp only at e2
      rw [ei] at e2
      refine e2.trans (along_eq m c ⟨u.val - 1, hlt⟩ _ b ⟨512 * q + ρ.val - 8, by omega⟩ ?_ _ (by show 2048 + j.val < 3080; omega))
      show 512 * min (u.val - 1) 63 + (504 + ρ.val) = 8192 * b.val + (512 * q + ρ.val - 8)
      omega
  · rw [dif_neg (by omega)]
    have e := Kept.x_at m c u ⟨ρ.val - 8, by omega⟩ j
    have ei : (⟨8 + (ρ.val - 8), by omega⟩ : Fin 520) = ρ := Fin.ext (by show 8 + (ρ.val - 8) = ρ.val; omega)
    dsimp only at e
    rw [ei] at e
    refine e.trans (along_eq m c u _ b ⟨512 * q + ρ.val - 8, by omega⟩ ?_ _ (by show 2048 + j.val < 3080; omega))
    show 512 * min u.val 63 + (ρ.val - 8) = 8192 * b.val + (512 * q + ρ.val - 8)
    omega

theorem zrow (r d : Fin 512) : (outsAt0 m c u.val u.isLt).2.2.2.2.2.1 (ix3 (slot u.val) r d)
    = FfnMath.tsilu (HybSpec.lin (xs m c) (nws m c) (wins m c) b ⟨512 * q + r.val, by omega⟩ ⟨1536 + d.val, by omega⟩) := by
  refine (Kept.z_at m c u r d).trans (congrArg FfnMath.tsilu (along_eq m c u r b ⟨512 * q + r.val, by omega⟩ ?_ _ (by show 1536 + d.val < 3080; omega)))
  show 512 * min u.val 63 + r.val = 8192 * b.val + (512 * q + r.val)
  omega

theorem drow (r : Fin 512) (h : Fin 8) : (outsAt0 m c u.val u.isLt).2.2.2.2.2.2.1 (ix3 (slot u.val) r ⟨h.val, by omega⟩)
    = HybSpec.step (xs m c) (nws m c) (wins m c) (dtbs m c) b ⟨512 * q + r.val, by omega⟩ h := by
  refine (Kept.dt_at m c u r ⟨h.val, by omega⟩).trans ?_
  rw [along_eq m c u r b ⟨512 * q + r.val, by omega⟩ (by
    show 512 * min u.val 63 + r.val = 8192 * b.val + (512 * q + r.val)
    omega) _ (by show 3072 + h.val < 3080; omega), read6 m c u _ h.isLt]
  rfl

end Rows

/-! ## A point's chunks -/

section Point

variable {m c} {X : Fin 4 → ℕ → Fin 1024 → ℝ} {T A : Fin 4 → ℕ → Fin 8 → ℝ}
  (R : HybSpec.Are (xs m c) (nws m c) (wins m c) (wcs m c) (bcs m c) (dtbs m c) (alogs m c) X T A) (W : Tame m c)
  (t : Fin cfg0.N) (b : Fin 4) (q : ℕ) (ht : t.val = 16 * b.val + q + 1) (hq : q < 16)
include R W ht hq

theorem chans_at (k : Fin 4) (l : Fin 128) (j : Fin 1024) :
    chans (prev m c t).2.2.2.2.1 (iblk m c 4 t) (iblk m c 5 t) (slot (t.val - 1)) k (ix2 l j) = (X b (128 * (4 * q + k.val) + l.val) j : EReal) := by
  have hlt : t.val - 1 < cfg0.N := Nat.lt_of_le_of_lt (Nat.sub_le _ _) t.isLt
  have tp : ∀ i : Fin 4, cutx (prev m c t).2.2.2.2.1 (slot (t.val - 1)) k i (ix2 l j)
      = HybSpec.tap (xs m c) (nws m c) (wins m c) b ⟨128 * (4 * q + k.val) + l.val, by omega⟩ i j := by
    intro i
    rw [cutx_apply]
    refine (xrow m c ⟨t.val - 1, hlt⟩ b q (by show t.val - 1 = _; omega) hq ⟨5 + 128 * k.val + i.val + l.val, by omega⟩ (by show 5 ≤ 5 + 128 * k.val + i.val + l.val; omega) j).trans ?_
    unfold HybSpec.tap
    dsimp only
    by_cases h : 512 * q + (5 + 128 * k.val + i.val + l.val) < 8
    · rw [dif_pos h, dif_pos (by omega)]
    · rw [dif_neg h, dif_neg (by omega)]
      refine congrArg (fun s => HybSpec.lin (xs m c) (nws m c) (wins m c) b s _) (Fin.ext ?_)
      show 512 * q + (5 + 128 * k.val + i.val + l.val) - 8 = 128 * (4 * q + k.val) + l.val + i.val - 3
      omega
  unfold chans
  rw [act_apply]
  have e : ∀ v : EReal, v = HybSpec.conv (xs m c) (nws m c) (wins m c) (wcs m c) (bcs m c) b ⟨128 * (4 * q + k.val) + l.val, by omega⟩ j →
      FfnMath.tsilu v = (X b (128 * (4 * q + k.val) + l.val) j : EReal) := by
    rintro v rfl
    rw [silu_of_real _ (W.conv _ _ _)]
    exact R.chan b _ j
  refine e _ ?_
  have eb : (shapeCast S1x1024 (iblk m c 5 t) shapeCasts_S1x1024_S1x1024 : FVec Ideal S1x1024 .f32) (ix2 0 j) = bcs m c (ix2 0 j) := by
    refine Eq.trans ?_ (read5 m c t j)
    pointwise
  show (shapeCast S1x1024 (iblk m c 5 t) shapeCasts_S1x1024_S1x1024 : FVec Ideal S1x1024 .f32) (ix2 0 j)
      + cutw (iblk m c 4 t) 0 (ix2 0 j) * cutx _ _ k 0 (ix2 l j) + cutw (iblk m c 4 t) 1 (ix2 0 j) * cutx _ _ k 1 (ix2 l j)
      + cutw (iblk m c 4 t) 2 (ix2 0 j) * cutx _ _ k 2 (ix2 l j) + cutw (iblk m c 4 t) 3 (ix2 0 j) * cutx _ _ k 3 (ix2 l j) = _
  rw [eb, tp, tp, tp, tp, cutw_apply, cutw_apply, cutw_apply, cutw_apply, read4, read4, read4, read4]
  unfold HybSpec.conv
  ac_rfl

theorem cutd_at (k : Fin 4) (l : Fin 128) (h : Fin 8) :
    cutd (prev m c t).2.2.2.2.2.2.1 (slot (t.val - 1)) k (ix2 l ⟨h.val, by omega⟩) = (T b (128 * (4 * q + k.val) + l.val) h : EReal) := by
  have hlt : t.val - 1 < cfg0.N := Nat.lt_of_le_of_lt (Nat.sub_le _ _) t.isLt
  rw [cutd_apply]
  refine (drow m c ⟨t.val - 1, hlt⟩ b q (by show t.val - 1 = _; omega) hq ⟨128 * k.val + l.val, by omega⟩ h).trans ?_
  refine (R.step b _ h).trans ?_
  show ((T b (512 * q + (128 * k.val + l.val)) h : ℝ) : EReal) = _
  rw [show 512 * q + (128 * k.val + l.val) = 128 * (4 * q + k.val) + l.val by omega]

theorem cums_at (k : Fin 4) (l : Fin 128) (h : Fin 8) :
    cums (expo (iblk m c 7 t) (cutd (prev m c t).2.2.2.2.2.2.1 (slot (t.val - 1)) k)) (ix2 l ⟨h.val, by omega⟩)
      = (cs (A b) (4 * q + k.val) h l : EReal) := by
  refine cums_apply _ l _ (fun s => A b (128 * (4 * q + k.val) + s.val) h) fun s => ?_
  rw [expo_apply, cutd_at R W t b q ht hq k s h, read7 m c t _ h.isLt]
  have e := R.rate b ⟨128 * (4 * q + k.val) + s.val, by omega⟩ h
  unfold HybSpec.rate at e
  rw [R.step] at e
  exact e

theorem holdsA (k : Fin 4) : Holds (X b) (T b) (A b) (gsA m c t (slot (t.val - 1)) k) 0 (4 * q + k.val) := by
  unfold gsA grpA
  constructor
  · intro s n
    refine Eq.trans ?_ (chans_at R W t b q ht hq k s ⟨512 + 128 * (0 : Fin 2).val + n.val, by have : (0 : Fin 2).val = 0 := rfl; omega⟩)
    unfold groupA
    dsimp only
    pointwise
  · intro s n
    refine Eq.trans ?_ (chans_at R W t b q ht hq k s ⟨768 + 128 * (0 : Fin 2).val + n.val, by have : (0 : Fin 2).val = 0 := rfl; omega⟩)
    unfold groupA
    dsimp only
    pointwise
  · intro s d
    refine Eq.trans ?_ (chans_at R W t b q ht hq k s (colX (wide 0 d)))
    unfold groupA
    dsimp only
    pointwise
    exact congrArg (fun h => chans _ _ _ _ _ (ix2 s h)) (Fin.ext (by show d.val = 256 * 0 + d.val; omega))
  · intro i l e
    rw [groupA_b]
    refine Eq.trans ?_ (cums_at R W t b q ht hq k l _)
    exact congrArg (fun h => cums _ (ix2 l h)) (Fin.ext (by show 0 + i.val = 4 * 0 + i.val; omega))
  · intro i s
    rw [groupA_r]
    refine Eq.trans ?_ (cums_at R W t b q ht hq k s _)
    exact congrArg (fun h => cums _ (ix2 s h)) (Fin.ext (by show 0 + i.val = 4 * 0 + i.val; omega))
  · intro i s
    rw [groupA_d]
    refine Eq.trans ?_ (cutd_at R W t b q ht hq k s _)
    exact congrArg (fun h => cutd _ _ _ (ix2 s h)) (Fin.ext (by show 0 + i.val = 4 * 0 + i.val; omega))

theorem holdsB (k : Fin 4) : Holds (X b) (T b) (A b) (gsB m c t (slot (t.val - 1)) k) 1 (4 * q + k.val) := by
  unfold gsB grpB
  constructor
  · intro s n
    refine Eq.trans ?_ (chans_at R W t b q ht hq k s ⟨512 + 128 * (1 : Fin 2).val + n.val, by have : (1 : Fin 2).val = 1 := rfl; omega⟩)
    unfold groupB
    dsimp only
    pointwise
  · intro s n
    refine Eq.trans ?_ (chans_at R W t b q ht hq k s ⟨768 + 128 * (1 : Fin 2).val + n.val, by have : (1 : Fin 2).val = 1 := rfl; omega⟩)
    unfold groupB
    dsimp only
    pointwise
  · intro s d
    refine Eq.trans ?_ (chans_at R W t b q ht hq k s (colX (wide 1 d)))
    unfold groupB
    dsimp only
    pointwise
    exact congrArg (fun h => chans _ _ _ _ _ (ix2 s h)) (Fin.ext (by show 256 + d.val = 256 * 1 + d.val; omega))
  · intro i l e
    rw [groupB_b]
    refine Eq.trans ?_ (cums_at R W t b q ht hq k l _)
    exact congrArg (fun h => cums _ (ix2 l h)) (Fin.ext (by show 4 + i.val = 4 * 1 + i.val; omega))
  · intro i s
    rw [groupB_r]
    refine Eq.trans ?_ (cums_at R W t b q ht hq k s _)
    exact congrArg (fun h => cums _ (ix2 s h)) (Fin.ext (by show 4 + i.val = 4 * 1 + i.val; omega))
  · intro i s
    rw [groupB_d]
    refine Eq.trans ?_ (cutd_at R W t b q ht hq k s _)
    exact congrArg (fun h => cutd _ _ _ (ix2 s h)) (Fin.ext (by show 4 + i.val = 4 * 1 + i.val; omega))

/-- One chunk's rows, from the states its groups start from. -/
theorem rows_at (k : Fin 4) (sA sB : FVec Ideal S128x256 .f32) (hA : IsState (X b) (T b) (A b) sA 0 (4 * q + k.val))
    (hB : IsState (X b) (T b) (A b) sB 1 (4 * q + k.val)) (l : Fin 128) (d : Fin 512) :
    outRows (prev m c t).2.2.2.2.1 (prev m c t).2.2.2.2.2.1 (iblk m c 4 t) (iblk m c 5 t) (iblk m c 8 t) (iblk m c 9 t)
        (slot (t.val - 1)) k (gsA m c t (slot (t.val - 1)) k) (gsB m c t (slot (t.val - 1)) k) sA sB (ix2 l d)
      = HybSpec.out (xs m c) (nws m c) (wins m c) (dsks m c) (ynws m c) X T A b ⟨128 * (4 * q + k.val) + l.val, by omega⟩ d := by
  have hlt : t.val - 1 < cfg0.N := Nat.lt_of_le_of_lt (Nat.sub_le _ _) t.isLt
  have eg : ∀ e : Fin 512, Chunk.gated ((gsA m c t (slot (t.val - 1)) k).rows sA) ((gsB m c t (slot (t.val - 1)) k).rows sB)
      (chans (prev m c t).2.2.2.2.1 (iblk m c 4 t) (iblk m c 5 t) (slot (t.val - 1)) k)
      (cutz (prev m c t).2.2.2.2.2.1 (slot (t.val - 1)) k)
      (shapeCast S1x512 (iblk m c 8 t) shapeCasts_S1x512_S1x512) l e
      = HybSpec.gated (xs m c) (nws m c) (wins m c) (dsks m c) X T A b ⟨128 * (4 * q + k.val) + l.val, by omega⟩ e := by
    intro e
    have e8 : (shapeCast S1x512 (iblk m c 8 t) shapeCasts_S1x512_S1x512 : FVec Ideal S1x512 .f32) (ix2 0 e) = dsks m c (ix2 0 (head e)) := by
      refine Eq.trans ?_ (read8 m c t e)
      pointwise
    have ez : cutz (prev m c t).2.2.2.2.2.1 (slot (t.val - 1)) k (ix2 l e)
        = FfnMath.silu (HybSpec.lin (xs m c) (nws m c) (wins m c) b ⟨128 * (4 * q + k.val) + l.val, by omega⟩ ⟨1536 + e.val, by omega⟩) := by
      rw [cutz_apply]
      refine (zrow m c ⟨t.val - 1, hlt⟩ b q (by show t.val - 1 = _; omega) hq ⟨128 * k.val + l.val, by omega⟩ e).trans ?_
      rw [silu_of_real _ (W.gate _ _ _)]
      refine congrArg (fun s => FfnMath.silu (HybSpec.lin (xs m c) (nws m c) (wins m c) b s _)) (Fin.ext ?_)
      show 512 * q + (128 * k.val + l.val) = 128 * (4 * q + k.val) + l.val
      omega
    have ey : (if h : e.val < 256 then (gsA m c t (slot (t.val - 1)) k).rows sA (ix2 l ⟨e.val, h⟩)
        else (gsB m c t (slot (t.val - 1)) k).rows sB (ix2 l ⟨e.val - 256, by omega⟩))
        = (core (X b) (T b) (A b) (4 * q + k.val) l e : EReal) := by
      by_cases h : e.val < 256
      · rw [dif_pos h, (holdsA R W t b q ht hq k).rows hA,
          show wide 0 ⟨e.val, h⟩ = e from Fin.ext (by show 256 * 0 + e.val = e.val; omega)]
      · rw [dif_neg h, (holdsB R W t b q ht hq k).rows hB,
          show wide 1 ⟨e.val - 256, by omega⟩ = e from Fin.ext (by show 256 * 1 + (e.val - 256) = e.val; omega)]
    unfold Chunk.gated HybSpec.gated
    rw [e8, ez, ey, chans_at R W t b q ht hq k l]
    have e1 : (128 * (4 * q + k.val) + l.val) / 128 = 4 * q + k.val := by omega
    have e2 : (⟨(128 * (4 * q + k.val) + l.val) % 128, Nat.mod_lt _ (by decide)⟩ : Fin 128) = l := Fin.ext (by show (128 * (4 * q + k.val) + l.val) % 128 = l.val; omega)
    dsimp only
    rw [e1, e2]
    rfl
  have e9 : (shapeCast S1x512 (iblk m c 9 t) shapeCasts_S1x512_S1x512 : FVec Ideal S1x512 .f32) (ix2 0 d) = ynws m c (ix2 0 d) := by
    refine Eq.trans ?_ (read9 m c t d)
    pointwise
  unfold outRows
  rw [rows_apply, e9]
  simp only [eg]
  rfl

/-- The state a point starts from, given the one the point before left. -/
theorem start_at (hp : q ≠ 0 → ∀ g n d, (prev m c t).2.2.2.2.2.2.2 (ix3 g n d) = (state (X b) (T b) (A b) (4 * q) n (wide g d) : EReal))
    (g : Fin 2) : IsState (X b) (T b) (A b) (start (prev m c t).2.2.2.2.2.2.2 g t.val) g (4 * q) := by
  intro n d
  rw [start_apply, keep_eq t.val (by omega) t.isLt]
  by_cases h : q = 0
  · rw [if_pos (by omega), mul_zero, h]
    rfl
  · rw [if_neg (by omega), mul_one]
    exact hp h g n d

/-- The state a point leaves, given the one it starts from. -/
theorem state_step (hs : ∀ g, IsState (X b) (T b) (A b) (start (prev m c t).2.2.2.2.2.2.2 g t.val) g (4 * q))
    (g : Fin 2) (n : Fin 128) (d : Fin 256) :
    (outsAt0 m c t.val t.isLt).2.2.2.2.2.2.2 (ix3 g n d) = (state (X b) (T b) (A b) (4 * q + 4) n (wide g d) : EReal) := by
  have hn := t.isLt
  have hn : t.val < 65 := hn
  have hg : g = 0 ∨ g = 1 := by omega
  have a := enters (fun k => holdsA R W t b q ht hq k) (hs 0)
  have a' := enters (fun k => holdsB R W t b q ht hq k) (hs 1)
  rcases Nat.mod_two_eq_zero_or_one t.val with h | h
  · have es : slot (t.val - 1) = 1 := Fin.ext (by show (t.val - 1) % 2 = 1; omega)
    rw [es] at a a'
    rw [st_C m c t (by omega) h (by omega)]
    rcases hg with rfl | rfl
    · rw [if_pos rfl]; exact a.2.2.2 n d
    · rw [if_neg (by decide)]; exact a'.2.2.2 n d
  · have es : slot (t.val - 1) = 0 := Fin.ext (by show (t.val - 1) % 2 = 0; omega)
    rw [es] at a a'
    rw [st_B m c t (by omega) (by omega) h]
    rcases hg with rfl | rfl
    · rw [if_pos rfl]; exact a.2.2.2 n d
    · rw [if_neg (by decide)]; exact a'.2.2.2 n d

/-- The rows a point writes, given the state it starts from. -/
theorem y_step (hs : ∀ g, IsState (X b) (T b) (A b) (start (prev m c t).2.2.2.2.2.2.2 g t.val) g (4 * q))
    (k : Fin 4) (l : Fin 128) (d : Fin 512) :
    (outsAt0 m c t.val t.isLt).2.2.2.1 (ix2 ⟨128 * k.val + l.val, by omega⟩ d)
      = HybSpec.out (xs m c) (nws m c) (wins m c) (dsks m c) (ynws m c) X T A b ⟨128 * (4 * q + k.val) + l.val, by omega⟩ d := by
  have hn : t.val < 65 := t.isLt
  have a := enters (fun k => holdsA R W t b q ht hq k) (hs 0)
  have a' := enters (fun k => holdsB R W t b q ht hq k) (hs 1)
  have ro := fun k sA sB hA hB => rows_at R W t b q ht hq k sA sB hA hB l d
  rcases Nat.mod_two_eq_zero_or_one t.val with h | h
  · have es : slot (t.val - 1) = 1 := Fin.ext (by show (t.val - 1) % 2 = 1; omega)
    rw [es] at a a' ro
    rw [y_C m c t (by omega) h (by omega)]
    fin_cases k
    · exact ro 0 _ _ (hs 0) (hs 1)
    · exact ro 1 _ _ a.1 a'.1
    · exact ro 2 _ _ a.2.1 a'.2.1
    · exact ro 3 _ _ a.2.2.1 a'.2.2.1
  · have es : slot (t.val - 1) = 0 := Fin.ext (by show (t.val - 1) % 2 = 0; omega)
    rw [es] at a a' ro
    rw [y_B m c t (by omega) (by omega) h]
    fin_cases k
    · exact ro 0 _ _ (hs 0) (hs 1)
    · exact ro 1 _ _ a.1 a'.1
    · exact ro 2 _ _ a.2.1 a'.2.1
    · exact ro 3 _ _ a.2.2.1 a'.2.2.1

end Point

section Ends

variable {m c} {X : Fin 4 → ℕ → Fin 1024 → ℝ} {T A : Fin 4 → ℕ → Fin 8 → ℝ}
  (R : HybSpec.Are (xs m c) (nws m c) (wins m c) (wcs m c) (bcs m c) (dtbs m c) (alogs m c) X T A) (W : Tame m c)
include R W

/-- The state each point leaves. -/
theorem state_at (n : ℕ) (h : n < cfg0.N) (b : Fin 4) (q : ℕ) (ht : n = 16 * b.val + q + 1) (hq : q < 16) (g : Fin 2) (i : Fin 128) (d : Fin 256) :
    (outsAt0 m c n h).2.2.2.2.2.2.2 (ix3 g i d) = (state (X b) (T b) (A b) (4 * q + 4) i (wide g d) : EReal) := by
  induction q generalizing n g i d with
  | zero => exact state_step R W ⟨n, h⟩ b 0 ht hq (start_at R W ⟨n, h⟩ b 0 ht hq fun h => absurd rfl h) g i d
  | succ q ih =>
    refine state_step R W ⟨n, h⟩ b (q + 1) ht hq (start_at R W ⟨n, h⟩ b (q + 1) ht hq fun _ g n' d => ?_) g i d
    exact ih (n - 1) _ (by omega) (by omega) g n' d

/-- The rows each point writes. -/
theorem y_at (t : Fin cfg0.N) (b : Fin 4) (q : ℕ) (ht : t.val = 16 * b.val + q + 1) (hq : q < 16) (r d : Fin 512) :
    (outsAt0 m c t.val t.isLt).2.2.2.1 (ix2 r d)
      = HybSpec.out (xs m c) (nws m c) (wins m c) (dsks m c) (ynws m c) X T A b ⟨512 * q + r.val, by omega⟩ d := by
  have hp : q ≠ 0 → ∀ g n d, (prev m c t).2.2.2.2.2.2.2 (ix3 g n d) = (state (X b) (T b) (A b) (4 * q) n (wide g d) : EReal) := by
    intro h0 g n d
    obtain ⟨p, rfl⟩ : ∃ p, q = p + 1 := ⟨q - 1, by omega⟩
    exact state_at R W (t.val - 1) _ b p (by omega) (by omega) g n d
  have e := y_step R W t b q ht hq (start_at R W t b q ht hq hp) ⟨r.val / 128, by omega⟩ ⟨r.val % 128, by omega⟩ d
  have e1 : (⟨128 * (r.val / 128) + r.val % 128, by omega⟩ : Fin 512) = r := Fin.ext (by show 128 * (r.val / 128) + r.val % 128 = r.val; omega)
  dsimp only at e
  rw [e1] at e
  refine e.trans (congrArg (fun s => HybSpec.out (xs m c) (nws m c) (wins m c) (dsks m c) (ynws m c) X T A b s d) (Fin.ext ?_))
  show 128 * (4 * q + r.val / 128) + r.val % 128 = 512 * q + r.val
  omega

end Ends

end Cert.HybIdeal.Run
-- ==== Proof.HybOutput.lean ====
/-
  The hybrid mixer's last result, whole: the layer's gated and normed recurrence at every row of the stream.
-/
module

public import proofs.«01_k».proof.Proof.HybState

@[expose] public section

noncomputable section

open Idealize.ShloMosaic Idealize.ShloMosaic.TcCoe Idealize.SL.Sem

namespace Cert.HybIdeal.Whole

open Cert.HybIdeal Cert.HybIdeal.Gen Cert.HybIdeal.Point Cert.HybIdeal.Pay

/-- A tile is written back after the point that fills it, never at the first point. -/
theorem flush13 : ∀ t : Fin cfg0.N, (cfg0.win 13).flush t = true → t.val ≠ 0 := by decide +kernel

theorem final13 (m : (ℓ : Loc nD τ sig) → Buf (Elt Ideal) ℓ) (c : Dev nD) {X : Fin 4 → ℕ → Fin 1024 → ℝ} {T A : Fin 4 → ℕ → Fin 8 → ℝ}
    (R : HybSpec.Are (xs m c) (nws m c) (wins m c) (wcs m c) (bcs m c) (dtbs m c) (alogs m c) X T A) (W : Run.Tame m c) :
    (dats m 0 c).arrAt 13 cfg0.N
    = fun i : S32768x512.Idx => HybSpec.out (xs m c) (nws m c) (wins m c) (dsks m c) (ynws m c) X T A
        ⟨(i 0).val / 8192, by have h : (i 0).val < 32768 := (i 0).isLt; omega⟩ ⟨(i 0).val % 8192, Nat.mod_lt _ (by decide)⟩ ⟨(i 1).val, (i 1).isLt⟩ := by
  refine (dats m 0 c).arrAt_eq_of_covers 13 _ (by decide +kernel) fun t hf y => ?_
  have h0 := flush13 t hf
  blk_simp
  rw [after0_13]
  have ey : ix2 (n0 := 512) (n1 := 512) (y 0) (y 1) = y := funext fun a => match a with | ⟨0, _⟩ => rfl | ⟨1, _⟩ => rfl
  have ei : win0_13.index t 0 = t.val - 1 := by rw [index13 t]; rfl
  have eo : win0_13.index t 1 = 0 := by rw [index13 t]; rfl
  have hr : (y 0).val < 512 := (y 0).isLt
  have hy : (y 1).val < 512 := (y 1).isLt
  have hn : t.val < 65 := t.isLt
  conv_lhs => rw [← ey]
  have e := Run.y_at R W t ⟨(t.val - 1) / 16, by omega⟩ ((t.val - 1) % 16) (by show t.val = 16 * ((t.val - 1) / 16) + (t.val - 1) % 16 + 1; omega)
    (Nat.mod_lt _ (by decide)) (y 0) (y 1)
  refine e.trans ?_
  have c3 : ∀ {b b' : Fin 4} {s s' : Fin 8192} {d d' : Fin 512}, b = b' → s = s' → d = d' →
      HybSpec.out (xs m c) (nws m c) (wins m c) (dsks m c) (ynws m c) X T A b s d = HybSpec.out (xs m c) (nws m c) (wins m c) (dsks m c) (ynws m c) X T A b' s' d' := by
    rintro b _ s _ d _ rfl rfl rfl; rfl
  refine c3 (Fin.ext ?_) (Fin.ext ?_) (Fin.ext ?_)
  · show (t.val - 1) / 16 = (win0_13.index t 0 * 512 + (y 0).val) / 8192
    rw [ei]; omega
  · show 512 * ((t.val - 1) % 16) + (y 0).val = (win0_13.index t 0 * 512 + (y 0).val) % 8192
    rw [ei]; omega
  · show (y 1).val = win0_13.index t 1 * 512 + (y 1).val
    rw [eo]; omega

end Cert.HybIdeal.Whole
-- ==== Proof.HybFacts.lean ====
/-
  The shapes the hybrid mixer's precondition slices, casts, broadcasts and joins fit together.
-/
module

public import proofs.«01_k».proof.Pre_hyb_finite
public import Idealize.ShloMosaic.Lib.Decide

@[expose] public section

namespace Cert.HybFacts

open Idealize.ShloMosaic Cert.Pre_hyb_finite

theorem slices_S2x1024x3080_S1x1024x3080_0_0_0 : S2x1024x3080.Slices ![0, 0, 0] S1x1024x3080 := by decide
theorem shapeCasts_S1x1024x3080_S1024x3080 : S1x1024x3080.ShapeCasts S1024x3080 := by decide
theorem slices_S1024x3080_S1024x1544_0_1536 : S1024x3080.Slices ![0, 1536] S1024x1544 := by decide
theorem slices_S4x1024_S1x1024_0_0 : S4x1024.Slices ![0, 0] S1x1024 := by decide
theorem shapeCasts_S1x1024_S1024 : S1x1024.ShapeCasts S1024 := by decide
theorem bcast_S1024_S1024x1_0 : S1024.BroadcastsInDim S1024x1 (![0] : Fin 1 → Fin S1024x1.rank) := by decide
theorem slices_S2x4x1024_S1x4x1024_0_0_0 : S2x4x1024.Slices ![0, 0, 0] S1x4x1024 := by decide
theorem shapeCasts_S1x4x1024_S4x1024 : S1x4x1024.ShapeCasts S4x1024 := by decide
theorem transposes_S4x1024_S1024x4_1_0 : S4x1024.Transposes [1, 0] S1024x4 := by decide
theorem slices_S2x1024_S1x1024_0_0 : S2x1024.Slices ![0, 0] S1x1024 := by decide
theorem slices_S2x8_S1x8_0_0 : S2x8.Slices ![0, 0] S1x8 := by decide
theorem shapeCasts_S1x8_S8 : S1x8.ShapeCasts S8 := by decide
theorem bcast_S8_S1x8_1 : S8.BroadcastsInDim S1x8 (![1] : Fin 1 → Fin S1x8.rank) := by decide
theorem bcast_S1x8_S1024x8_0_1 : S1x8.BroadcastsInDim S1024x8 (![0, 1] : Fin 2 → Fin S1024x8.rank) := by decide
theorem concatenates_S1024x1544_S1024x1_S1024x4_S1024x1_S1024x8_S1024x8_S1024x1566_d1 : Shape.Concatenates [S1024x1544, S1024x1, S1024x4, S1024x1, S1024x8, S1024x8] S1024x1566 1 := by decide
theorem bcast_S_S1024x1566 : S_.BroadcastsInDim S1024x1566 (![] : Fin 0 → Fin S1024x1566.rank) := by decide

instance facts : Cert.Pre_hyb_finite.Facts where
  slices_S2x1024x3080_S1x1024x3080_0_0_0 := slices_S2x1024x3080_S1x1024x3080_0_0_0
  shapeCasts_S1x1024x3080_S1024x3080 := shapeCasts_S1x1024x3080_S1024x3080
  slices_S1024x3080_S1024x1544_0_1536 := slices_S1024x3080_S1024x1544_0_1536
  slices_S4x1024_S1x1024_0_0 := slices_S4x1024_S1x1024_0_0
  shapeCasts_S1x1024_S1024 := shapeCasts_S1x1024_S1024
  bcast_S1024_S1024x1_0 := bcast_S1024_S1024x1_0
  slices_S2x4x1024_S1x4x1024_0_0_0 := slices_S2x4x1024_S1x4x1024_0_0_0
  shapeCasts_S1x4x1024_S4x1024 := shapeCasts_S1x4x1024_S4x1024
  transposes_S4x1024_S1024x4_1_0 := transposes_S4x1024_S1024x4_1_0
  slices_S2x1024_S1x1024_0_0 := slices_S2x1024_S1x1024_0_0
  slices_S2x8_S1x8_0_0 := slices_S2x8_S1x8_0_0
  shapeCasts_S1x8_S8 := shapeCasts_S1x8_S8
  bcast_S8_S1x8_1 := bcast_S8_S1x8_1
  bcast_S1x8_S1024x8_0_1 := bcast_S1x8_S1024x8_0_1
  concatenates_S1024x1544_S1024x1_S1024x4_S1024x1_S1024x8_S1024x8_S1024x1566_d1 := concatenates_S1024x1544_S1024x1_S1024x4_S1024x1_S1024x8_S1024x8_S1024x1566_d1
  bcast_S_S1024x1566 := bcast_S_S1024x1566

end Cert.HybFacts
-- ==== Proof.HybFinite.lean ====
/-
  Under the precondition every convolution, step and decay exponent of the layer is a real number.
-/
module

public import proofs.«01_k».proof.Proof.HybFacts
public import proofs.«01_k».proof.Proof.HybRefSsd

@[expose] public section

noncomputable section

open Idealize.ShloMosaic Idealize.ShloMosaic.TcCoe Idealize.SL.Sem

namespace Cert.HybSpec

open Cert.HybRefIdeal Cert.HybRefIdeal.Read Cert.HybMath

/-- A number that compares below `+∞` in size is finite. -/
theorem finite_of_bit (a : EReal) (h : BitVec.ofBool (decide (max a (-a) < Ideal.ofBits FTy.f32 2139095040#32)) = 1#1) :
    a ≠ ⊤ ∧ a ≠ ⊥ := by
  rw [FfnMath.cTop_eq] at h
  by_cases ha : max a (-a) < (⊤ : EReal)
  · exact FfnMath.finite_of_abs_lt a ha
  · exfalso; revert h; rw [decide_eq_false ha]; decide

variable {x : Vec Ideal S4x8192x1024 .f32} {nw : Vec Ideal S4x1024 .f32} {win : Vec Ideal S2x1024x3080 .f32}
  {wc : Vec Ideal S2x4x1024 .f32} {bc : Vec Ideal S2x1024 .f32} {dtb alog dsk : Vec Ideal S2x8 .f32} {ynw : Vec Ideal S2x512 .f32}

section Parts

variable (h : Cert.Pre_hyb_finite.fn (F := Ideal) x nw win wc bc dtb alog dsk ynw = fun _ => 1#1)
include h

theorem finite_win (k : Fin 1024) (j : Fin 1544) : win (ix3 0 k ⟨1536 + j.val, by omega⟩) ≠ ⊤ ∧ win (ix3 0 k ⟨1536 + j.val, by omega⟩) ≠ ⊥ := by
  have e := congrFun h (ix2 k ⟨j.val, by omega⟩)
  refine finite_of_bit _ (Eq.trans (Eq.symm ?_) e)
  unfold Cert.Pre_hyb_finite.fn Cert.Pre_hyb_finite.fn_part1
  pointwise
  rfl

theorem finite_nw (k : Fin 1024) : nw (ix2 0 k) ≠ ⊤ ∧ nw (ix2 0 k) ≠ ⊥ := by
  have e := congrFun h (ix2 k ⟨1544, by omega⟩)
  refine finite_of_bit _ (Eq.trans (Eq.symm ?_) e)
  unfold Cert.Pre_hyb_finite.fn Cert.Pre_hyb_finite.fn_part1
  pointwise
  rfl

theorem finite_wc (k : Fin 1024) (i : Fin 4) : wc (ix3 0 i k) ≠ ⊤ ∧ wc (ix3 0 i k) ≠ ⊥ := by
  have e := congrFun h (ix2 k ⟨1545 + i.val, by omega⟩)
  refine finite_of_bit _ (Eq.trans (Eq.symm ?_) e)
  unfold Cert.Pre_hyb_finite.fn Cert.Pre_hyb_finite.fn_part1
  fin_cases i <;> pointwise <;> rfl

theorem finite_bc (k : Fin 1024) : bc (ix2 0 k) ≠ ⊤ ∧ bc (ix2 0 k) ≠ ⊥ := by
  have e := congrFun h (ix2 k ⟨1549, by omega⟩)
  refine finite_of_bit _ (Eq.trans (Eq.symm ?_) e)
  unfold Cert.Pre_hyb_finite.fn Cert.Pre_hyb_finite.fn_part1
  pointwise
  rfl

theorem finite_dtb (i : Fin 8) : dtb (ix2 0 i) ≠ ⊤ ∧ dtb (ix2 0 i) ≠ ⊥ := by
  have e := congrFun h (ix2 0 ⟨1550 + i.val, by omega⟩)
  refine finite_of_bit _ (Eq.trans (Eq.symm ?_) e)
  unfold Cert.Pre_hyb_finite.fn Cert.Pre_hyb_finite.fn_part1
  fin_cases i <;> pointwise <;> rfl

theorem finite_alog (i : Fin 8) : alog (ix2 0 i) ≠ ⊤ ∧ alog (ix2 0 i) ≠ ⊥ := by
  have e := congrFun h (ix2 0 ⟨1558 + i.val, by omega⟩)
  refine finite_of_bit _ (Eq.trans (Eq.symm ?_) e)
  unfold Cert.Pre_hyb_finite.fn Cert.Pre_hyb_finite.fn_part1
  fin_cases i <;> pointwise <;> rfl

end Parts

/-! ## Real numbers -/

/-- A finite number is a real one. -/
theorem real_of (a : EReal) (h : a ≠ ⊤ ∧ a ≠ ⊥) : ∃ r : ℝ, a = r := ⟨a.toReal, (EReal.coe_toReal h.1 h.2).symm⟩

theorem add_real {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

section Real

variable (h : Cert.Pre_hyb_finite.fn (F := Ideal) x nw win wc bc dtb alog dsk ynw = fun _ => 1#1)
include h

/-- The projections the recurrence reads. -/
theorem real_lin (b : Fin 4) (s : Fin 8192) (j : Fin 3080) (hj : 1536 ≤ j.val) : ∃ r : ℝ, lin x nw win b s j = r := by
  refine FfnMath.lin_real (fun k => x (ix3 b s k)) (fun k => nw (ix2 0 k)) (fun k => win (ix3 0 k j)) (fun k => finite_nw h k) fun k => ?_
  have e := finite_win h k ⟨j.val - 1536, by omega⟩
  have ej : (⟨1536 + (j.val - 1536), by omega⟩ : Fin 3080) = j := Fin.ext (by show 1536 + (j.val - 1536) = j.val; omega)
  dsimp only at e
  rw [ej] at e
  exact e

theorem real_tap (b : Fin 4) (s : Fin 8192) (k : Fin 4) (j : Fin 1024) : ∃ r : ℝ, tap x nw win b s k j = r := by
  unfold tap
  split
  · exact ⟨0, rfl⟩
  · exact real_lin h _ _ _ (by show 1536 ≤ 2048 + j.val; omega)

theorem real_conv (b : Fin 4) (s : Fin 8192) (j : Fin 1024) : ∃ r : ℝ, conv x nw win wc bc b s j = r := by
  unfold conv
  have t := fun k => mul_real (real_of _ (finite_wc h j k)) (real_tap h b s k j)
  exact add_real (add_real (add_real (add_real (t 0) (t 1)) (t 2)) (t 3)) (real_of _ (finite_bc h j))

theorem real_chan (b : Fin 4) (s : Fin 8192) (j : Fin 1024) : ∃ r : ℝ, chan x nw win wc bc b s j = r := by
  unfold chan
  obtain ⟨r, e⟩ := real_conv h b s j
  rw [e]
  exact silu_real r

theorem real_step (b : Fin 4) (s : Fin 8192) (i : Fin 8) : ∃ r : ℝ, step x nw win dtb b s i = r := by
  unfold step
  obtain ⟨r, e⟩ := add_real (real_lin h b s ⟨3072 + i.val, by omega⟩ (by show 1536 ≤ 3072 + i.val; omega)) (real_of _ (finite_dtb h i))
  rw [e]
  exact softplus_real r

theorem real_rate (b : Fin 4) (s : Fin 8192) (i : Fin 8) : ∃ r : ℝ, rate x nw win dtb alog b s i = r := by
  unfold rate
  obtain ⟨r, e⟩ := real_of _ (finite_alog h i)
  refine mul_real ⟨-Real.exp r, ?_⟩ (real_step h b s i)
  rw [e, exp_coe, EReal.coe_neg]

/-- The layer's numbers, as reals. -/
theorem are : ∃ (X : Fin 4 → ℕ → Fin 1024 → ℝ) (T A : Fin 4 → ℕ → Fin 8 → ℝ), Are x nw win wc bc dtb alog X T A := by
  refine ⟨fun b s j => if e : s < 8192 then (chan x nw win wc bc b ⟨s, e⟩ j).toReal else 0,
    fun b s i => if e : s < 8192 then (step x nw win dtb b ⟨s, e⟩ i).toReal else 0,
    fun b s i => if e : s < 8192 then (rate x nw win dtb alog b ⟨s, e⟩ i).toReal else 0, ⟨fun b s j => ?_, fun b s i => ?_, fun b s i => ?_⟩⟩
  · rw [dif_pos s.isLt]; exact toReal_eq _ (real_chan h b s j)
  · rw [dif_pos s.isLt]; exact toReal_eq _ (real_step h b s i)
  · rw [dif_pos s.isLt]; exact toReal_eq _ (real_rate h b s i)

end Real

end Cert.HybSpec
-- ==== Proof.HybClaim.lean ====
/-
  The hybrid mixer's kernel and its reference leave the same queries, keys, values and output of the SSD heads.
-/
module

public import proofs.«01_k».proof.Defs
public import proofs.«01_k».proof.Proof.Gen.HybIdeal.Value
public import proofs.«01_k».proof.Proof.Gen.HybRefIdeal.Run
public import proofs.«01_k».proof.Proof.HybArrays
public import proofs.«01_k».proof.Proof.HybOutput
public import proofs.«01_k».proof.Proof.HybFinite

@[expose] public section

open Idealize.ShloMosaic Idealize.ShloMosaic.TcCoe Idealize.SL.Sem

namespace Cert.HybClaim

/-- The queries, transposed and scaled. -/
theorem same_queries (m : (ℓ : Loc Cert.HybIdeal.nD Cert.HybIdeal.τ Cert.HybIdeal.sig) → Buf (Elt Ideal) ℓ)
    (m' : (ℓ : Loc Cert.HybRefIdeal.nD Cert.HybRefIdeal.τ Cert.HybRefIdeal.sig) → Buf (Elt Ideal) ℓ)
    (c : Dev Cert.HybIdeal.nD)
    (h0 : m' ((c.tc : Thread Cert.HybRefIdeal.nD Cert.HybRefIdeal.τ).loc Cert.HybRefIdeal.main_arg0) = m ((c.tc : Thread Cert.HybIdeal.nD Cert.HybIdeal.τ).loc Cert.HybIdeal.main_arg0))
    (h1 : m' ((c.tc : Thread Cert.HybRefIdeal.nD Cert.HybRefIdeal.τ).loc Cert.HybRefIdeal.main_arg1) = m ((c.tc : Thread Cert.HybIdeal.nD Cert.HybIdeal.τ).loc Cert.HybIdeal.main_arg1))
    (h2 : m' ((c.tc : Thread Cert.HybRefIdeal.nD Cert.HybRefIdeal.τ).loc Cert.HybRefIdeal.main_arg2) = m ((c.tc : Thread Cert.HybIdeal.nD Cert.HybIdeal.τ).loc Cert.HybIdeal.main_arg2)) :
    Cert.HybRefIdeal.Read.val_main_v175 (F := Ideal) (m' ((c.tc : Thread Cert.HybRefIdeal.nD Cert.HybRefIdeal.τ).loc Cert.HybRefIdeal.main_arg0))
        (m' ((c.tc : Thread Cert.HybRefIdeal.nD Cert.HybRefIdeal.τ).loc Cert.HybRefIdeal.main_arg1)) (m' ((c.tc : Thread Cert.HybRefIdeal.nD Cert.HybRefIdeal.τ).loc Cert.HybRefIdeal.main_arg2))
      = (Cert.HybIdeal.Gen.dats m 0 c).arrAt 10 Cert.HybIdeal.cfg0.N := by
  rw [Cert.HybIdeal.Whole.final10 m c, h0, h1, h2]
  funext i
  have ei : ix2 (n0 := 512) (n1 := 32768) (i 0) (i 1) = i := funext fun a => match a with | ⟨0, _⟩ => rfl | ⟨1, _⟩ => rfl
  conv_lhs => rw [← ei]
  exact HybSpec.ref_queries _ _ _ (i 0) (i 1)

/-- The keys. -/
theorem same_keys (m : (ℓ : Loc Cert.HybIdeal.nD Cert.HybIdeal.τ Cert.HybIdeal.sig) → Buf (Elt Ideal) ℓ)
    (m' : (ℓ : Loc Cert.HybRefIdeal.nD Cert.HybRefIdeal.τ Cert.HybRefIdeal.sig) → Buf (Elt Ideal) ℓ)
    (c : Dev Cert.HybIdeal.nD)
    (h0 : m' ((c.tc : Thread Cert.HybRefIdeal.nD Cert.HybRefIdeal.τ).loc Cert.HybRefIdeal.main_arg0) = m ((c.tc : Thread Cert.HybIdeal.nD Cert.HybIdeal.τ).loc Cert.HybIdeal.main_arg0))
    (h1 : m' ((c.tc : Thread Cert.HybRefIdeal.nD Cert.HybRefIdeal.τ).loc Cert.HybRefIdeal.main_arg1) = m ((c.tc : Thread Cert.HybIdeal.nD Cert.HybIdeal.τ).loc Cert.HybIdeal.main_arg1))
    (h2 : m' ((c.tc : Thread Cert.HybRefIdeal.nD Cert.HybRefIdeal.τ).loc Cert.HybRefIdeal.main_arg2) = m ((c.tc : Thread Cert.HybIdeal.nD Cert.HybIdeal.τ).loc Cert.HybIdeal.main_arg2)) :
    Cert.HybRefIdeal.Read.val_main_v177 (F := Ideal) (m' ((c.tc : Thread Cert.HybRefIdeal.nD Cert.HybRefIdeal.τ).loc Cert.HybRefIdeal.main_arg0))
        (m' ((c.tc : Thread Cert.HybRefIdeal.nD Cert.HybRefIdeal.τ).loc Cert.HybRefIdeal.main_arg1)) (m' ((c.tc : Thread Cert.HybRefIdeal.nD Cert.HybRefIdeal.τ).loc Cert.HybRefIdeal.main_arg2))
      = (Cert.HybIdeal.Gen.dats m 0 c).arrAt 11 Cert.HybIdeal.cfg0.N := by
  rw [Cert.HybIdeal.Whole.final11 m c, h0, h1, h2]
  funext i
  have ei : ix2 (n0 := 32768) (n1 := 512) (i 0) (i 1) = i := funext fun a => match a with | ⟨0, _⟩ => rfl | ⟨1, _⟩ => rfl
  conv_lhs => rw [← ei]
  exact HybSpec.ref_keys _ _ _ (i 0) (i 1)

/-- The values, transposed. -/
theorem same_values (m : (ℓ : Loc Cert.HybIdeal.nD Cert.HybIdeal.τ Cert.HybIdeal.sig) → Buf (Elt Ideal) ℓ)
    (m' : (ℓ : Loc Cert.HybRefIdeal.nD Cert.HybRefIdeal.τ Cert.HybRefIdeal.sig) → Buf (Elt Ideal) ℓ)
    (c : Dev Cert.HybIdeal.nD)
    (h0 : m' ((c.tc : Thread Cert.HybRefIdeal.nD Cert.HybRefIdeal.τ).loc Cert.HybRefIdeal.main_arg0) = m ((c.tc : Thread Cert.HybIdeal.nD Cert.HybIdeal.τ).loc Cert.HybIdeal.main_arg0))
    (h1 : m' ((c.tc : Thread Cert.HybRefIdeal.nD Cert.HybRefIdeal.τ).loc Cert.HybRefIdeal.main_arg1) = m ((c.tc : Thread Cert.HybIdeal.nD Cert.HybIdeal.τ).loc Cert.HybIdeal.main_arg1))
    (h2 : m' ((c.tc : Thread Cert.HybRefIdeal.nD Cert.HybRefIdeal.τ).loc Cert.HybRefIdeal.main_arg2) = m ((c.tc : Thread Cert.HybIdeal.nD Cert.HybIdeal.τ).loc Cert.HybIdeal.main_arg2)) :
    Cert.HybRefIdeal.Read.val_main_v180 (F := Ideal) (m' ((c.tc : Thread Cert.HybRefIdeal.nD Cert.HybRefIdeal.τ).loc Cert.HybRefIdeal.main_arg0))
        (m' ((c.tc : Thread Cert.HybRefIdeal.nD Cert.HybRefIdeal.τ).loc Cert.HybRefIdeal.main_arg1)) (m' ((c.tc : Thread Cert.HybRefIdeal.nD Cert.HybRefIdeal.τ).loc Cert.HybRefIdeal.main_arg2))
      = (Cert.HybIdeal.Gen.dats m 0 c).arrAt 12 Cert.HybIdeal.cfg0.N := by
  rw [Cert.HybIdeal.Whole.final12 m c, h0, h1, h2]
  funext i
  have ei : ix2 (n0 := 512) (n1 := 32768) (i 0) (i 1) = i := funext fun a => match a with | ⟨0, _⟩ => rfl | ⟨1, _⟩ => rfl
  conv_lhs => rw [← ei]
  exact HybSpec.ref_values _ _ _ (i 0) (i 1)

/-- The SSD heads' output, gated and normed. -/
theorem same_output (m : (ℓ : Loc Cert.HybIdeal.nD Cert.HybIdeal.τ Cert.HybIdeal.sig) → Buf (Elt Ideal) ℓ)
    (m' : (ℓ : Loc Cert.HybRefIdeal.nD Cert.HybRefIdeal.τ Cert.HybRefIdeal.sig) → Buf (Elt Ideal) ℓ)
    (c : Dev Cert.HybIdeal.nD)
    (h0 : m' ((c.tc : Thread Cert.HybRefIdeal.nD Cert.HybRefIdeal.τ).loc Cert.HybRefIdeal.main_arg0) = m ((c.tc : Thread Cert.HybIdeal.nD Cert.HybIdeal.τ).loc Cert.HybIdeal.main_arg0))
    (h1 : m' ((c.tc : Thread Cert.HybRefIdeal.nD Cert.HybRefIdeal.τ).loc Cert.HybRefIdeal.main_arg1) = m ((c.tc : Thread Cert.HybIdeal.nD Cert.HybIdeal.τ).loc Cert.HybIdeal.main_arg1))
    (h2 : m' ((c.tc : Thread Cert.HybRefIdeal.nD Cert.HybRefIdeal.τ).loc Cert.HybRefIdeal.main_arg2) = m ((c.tc : Thread Cert.HybIdeal.nD Cert.HybIdeal.τ).loc Cert.HybIdeal.main_arg2))
    (h3 : m' ((c.tc : Thread Cert.HybRefIdeal.nD Cert.HybRefIdeal.τ).loc Cert.HybRefIdeal.main_arg3) = m ((c.tc : Thread Cert.HybIdeal.nD Cert.HybIdeal.τ).loc Cert.HybIdeal.main_arg3))
    (h4 : m' ((c.tc : Thread Cert.HybRefIdeal.nD Cert.HybRefIdeal.τ).loc Cert.HybRefIdeal.main_arg4) = m ((c.tc : Thread Cert.HybIdeal.nD Cert.HybIdeal.τ).loc Cert.HybIdeal.main_arg4))
    (h5 : m' ((c.tc : Thread Cert.HybRefIdeal.nD Cert.HybRefIdeal.τ).loc Cert.HybRefIdeal.main_arg5) = m ((c.tc : Thread Cert.HybIdeal.nD Cert.HybIdeal.τ).loc Cert.HybIdeal.main_arg5))
    (h6 : m' ((c.tc : Thread Cert.HybRefIdeal.nD Cert.HybRefIdeal.τ).loc Cert.HybRefIdeal.main_arg6) = m ((c.tc : Thread Cert.HybIdeal.nD Cert.HybIdeal.τ).loc Cert.HybIdeal.main_arg6))
    (h7 : m' ((c.tc : Thread Cert.HybRefIdeal.nD Cert.HybRefIdeal.τ).loc Cert.HybRefIdeal.main_arg7) = m ((c.tc : Thread Cert.HybIdeal.nD Cert.HybIdeal.τ).loc Cert.HybIdeal.main_arg7))
    (h8 : m' ((c.tc : Thread Cert.HybRefIdeal.nD Cert.HybRefIdeal.τ).loc Cert.HybRefIdeal.main_arg8) = m ((c.tc : Thread Cert.HybIdeal.nD Cert.HybIdeal.τ).loc Cert.HybIdeal.main_arg8))
    (hp : Cert.Pre_hyb_finite.fn (F := Ideal) (m ((c.tc : Thread Cert.HybIdeal.nD Cert.HybIdeal.τ).loc Cert.HybIdeal.main_arg0)) (m ((c.tc : Thread Cert.HybIdeal.nD Cert.HybIdeal.τ).loc Cert.HybIdeal.main_arg1)) (m ((c.tc : Thread Cert.HybIdeal.nD Cert.HybIdeal.τ).loc Cert.HybIdeal.main_arg2)) (m ((c.tc : Thread Cert.HybIdeal.nD Cert.HybIdeal.τ).loc Cert.HybIdeal.main_arg3)) (m ((c.tc : Thread Cert.HybIdeal.nD Cert.HybIdeal.τ).loc Cert.HybIdeal.main_arg4)) (m ((c.tc : Thread Cert.HybIdeal.nD Cert.HybIdeal.τ).loc Cert.HybIdeal.main_arg5)) (m ((c.tc : Thread Cert.HybIdeal.nD Cert.HybIdeal.τ).loc Cert.HybIdeal.main_arg6)) (m ((c.tc : Thread Cert.HybIdeal.nD Cert.HybIdeal.τ).loc Cert.HybIdeal.main_arg7)) (m ((c.tc : Thread Cert.HybIdeal.nD Cert.HybIdeal.τ).loc Cert.HybIdeal.main_arg8)) = fun _ => 1#1) :
    Cert.HybRefIdeal.Read.val_main_v182 (F := Ideal) (m' ((c.tc : Thread Cert.HybRefIdeal.nD Cert.HybRefIdeal.τ).loc Cert.HybRefIdeal.main_arg0)) (m' ((c.tc : Thread Cert.HybRefIdeal.nD Cert.HybRefIdeal.τ).loc Cert.HybRefIdeal.main_arg1)) (m' ((c.tc : Thread Cert.HybRefIdeal.nD Cert.HybRefIdeal.τ).loc Cert.HybRefIdeal.main_arg2)) (m' ((c.tc : Thread Cert.HybRefIdeal.nD Cert.HybRefIdeal.τ).loc Cert.HybRefIdeal.main_arg3)) (m' ((c.tc : Thread Cert.HybRefIdeal.nD Cert.HybRefIdeal.τ).loc Cert.HybRefIdeal.main_arg4)) (m' ((c.tc : Thread Cert.HybRefIdeal.nD Cert.HybRefIdeal.τ).loc Cert.HybRefIdeal.main_arg5)) (m' ((c.tc : Thread Cert.HybRefIdeal.nD Cert.HybRefIdeal.τ).loc Cert.HybRefIdeal.main_arg6)) (m' ((c.tc : Thread Cert.HybRefIdeal.nD Cert.HybRefIdeal.τ).loc Cert.HybRefIdeal.main_arg7)) (m' ((c.tc : Thread Cert.HybRefIdeal.nD Cert.HybRefIdeal.τ).loc Cert.HybRefIdeal.main_arg8))
      = (Cert.HybIdeal.Gen.dats m 0 c).arrAt 13 Cert.HybIdeal.cfg0.N := by
  obtain ⟨X, T, A, R⟩ := HybSpec.are hp
  rw [Cert.HybIdeal.Whole.final13 m c R ⟨HybSpec.real_conv hp, fun b s d => HybSpec.real_lin hp b s _ (by show 1536 ≤ 1536 + d.val; omega)⟩,
    h0, h1, h2, h3, h4, h5, h6, h7, h8]
  funext i
  have ei : ix2 (n0 := 32768) (n1 := 512) (i 0) (i 1) = i := funext fun a => match a with | ⟨0, _⟩ => rfl | ⟨1, _⟩ => rfl
  conv_lhs => rw [← ei]
  exact HybSpec.ref_y R (i 0) (i 1)

/-- The reference runs to its end, leaves its arguments alone, and has no semaphore to leave set. -/
theorem frame_ref [Cert.HybRefIdeal.Facts] : quiescent_HybRefIdeal := fun m g _ =>
  (θ_run Cert.HybRefIdeal.defs _ _).mono
    (fun r h => ⟨fun c => (h c).2.2.2.2, sem_eq_zero_of_no_sems (by decide) r.2⟩)
    (Cert.HybRefIdeal.Value.run m g)

/-- The finite stand-in for −∞ is named by the idealization. -/
theorem preserves : preserves_Hyb_HybIdeal :=
  IdealRules.named_const.statement Cert.HybIdeal.κ "mask" .f32 0xF149F2CA#32 ⊥ rfl

/-- Both run, from the same arguments, to the same four arrays. -/
theorem algebraic :
    algebraic_HybIdeal_HybRefIdeal_pre_hyb_finite := by
  intro m g m' g' hp e
  refine ⟨fun c => (Cert.HybIdeal.Gen.dats m 0 c).arrAt 10 Cert.HybIdeal.cfg0.N,
    fun c => (Cert.HybIdeal.Gen.dats m 0 c).arrAt 11 Cert.HybIdeal.cfg0.N,
    fun c => (Cert.HybIdeal.Gen.dats m 0 c).arrAt 12 Cert.HybIdeal.cfg0.N,
    fun c => (Cert.HybIdeal.Gen.dats m 0 c).arrAt 13 Cert.HybIdeal.cfg0.N,
    Cert.HybIdeal.Value.run_blocks m g, ?_⟩
  refine (θ_run Cert.HybRefIdeal.defs _ _).mono (fun r h c => ?_) (Cert.HybRefIdeal.Value.run m' g')
  obtain ⟨e0, e1, e2, e3, e4, e5, e6, e7, e8⟩ := e c
  exact ⟨((h c).1.trans (Cert.HybRefIdeal.Read.val_main_v175_eq _)).trans (same_queries m m' c e0 e1 e2),
    ((h c).2.1.trans (Cert.HybRefIdeal.Read.val_main_v177_eq _)).trans (same_keys m m' c e0 e1 e2),
    ((h c).2.2.1.trans (Cert.HybRefIdeal.Read.val_main_v180_eq _)).trans (same_values m m' c e0 e1 e2),
    ((h c).2.2.2.1.trans (Cert.HybRefIdeal.Read.val_main_v182_eq _)).trans (same_output m m' c e0 e1 e2 e3 e4 e5 e6 e7 e8 (hp c)), (h c).2.2.2.2⟩

end Cert.HybClaim
-- ==== Proof.lean ====
/- The claims, put together from the modules under Proof/. -/
module

public import proofs.«01_k».proof.Defs
public import proofs.«01_k».proof.Proof.Gen.Hyb
public import proofs.«01_k».proof.Proof.Gen.Hyb.Skeleton
public import proofs.«01_k».proof.Proof.Gen.Hyb.Launch
public import proofs.«01_k».proof.Proof.Gen.Hyb.Points
public import proofs.«01_k».proof.Proof.Gen.Hyb.Frame
public import proofs.«01_k».proof.Proof.Gen.HybIdeal
public import proofs.«01_k».proof.Proof.Gen.HybIdeal.Skeleton
public import proofs.«01_k».proof.Proof.Gen.HybIdeal.Launch
public import proofs.«01_k».proof.Proof.Gen.HybIdeal.Points
public import proofs.«01_k».proof.Proof.Gen.HybIdeal.Frame
public import proofs.«01_k».proof.Proof.Gen.HybIdeal.Value
public import proofs.«01_k».proof.Proof.Gen.HybRefIdeal
public import proofs.«01_k».proof.Proof.Gen.HybRefIdeal.Run
public import proofs.«01_k».proof.Proof.Gen.HybRefIdeal.Read
public import proofs.«01_k».proof.Proof.Gen.ShortConv
public import proofs.«01_k».proof.Proof.Gen.ShortConv.Skeleton
public import proofs.«01_k».proof.Proof.Gen.ShortConv.Launch
public import proofs.«01_k».proof.Proof.Gen.ShortConv.Points
public import proofs.«01_k».proof.Proof.Gen.ShortConv.Frame
public import proofs.«01_k».proof.Proof.Gen.ShortConvIdeal
public import proofs.«01_k».proof.Proof.Gen.ShortConvIdeal.Skeleton
public import proofs.«01_k».proof.Proof.Gen.ShortConvIdeal.Launch
public import proofs.«01_k».proof.Proof.Gen.ShortConvIdeal.Points
public import proofs.«01_k».proof.Proof.Gen.ShortConvIdeal.Frame
public import proofs.«01_k».proof.Proof.Gen.ShortConvRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnLast
public import proofs.«01_k».proof.Proof.Gen.FfnLast.Skeleton
public import proofs.«01_k».proof.Proof.Gen.FfnLast.Launch
public import proofs.«01_k».proof.Proof.Gen.FfnLast.Points
public import proofs.«01_k».proof.Proof.Gen.FfnLast.Frame
public import proofs.«01_k».proof.Proof.Gen.FfnLastIdeal
public import proofs.«01_k».proof.Proof.Gen.FfnLastIdeal.Skeleton
public import proofs.«01_k».proof.Proof.Gen.FfnLastIdeal.Launch
public import proofs.«01_k».proof.Proof.Gen.FfnLastIdeal.Points
public import proofs.«01_k».proof.Proof.Gen.FfnLastIdeal.Frame
public import proofs.«01_k».proof.Proof.Gen.FfnLastRefIdeal
public import proofs.«01_k».proof.Proof.Gen.FfnMix
public import proofs.«01_k».proof.Proof.Gen.FfnMix.Skeleton
public import proofs.«01_k».proof.Proof.Gen.FfnMix.Launch
public import proofs.«01_k».proof.Proof.Gen.FfnMix.Points
public import proofs.«01_k».proof.Proof.Gen.FfnMix.Frame
public import proofs.«01_k».proof.Proof.Gen.FfnMixIdeal
public import proofs.«01_k».proof.Proof.Gen.FfnMixIdeal.Skeleton
public import proofs.«01_k».proof.Proof.Gen.FfnMixIdeal.Launch
public import proofs.«01_k».proof.Proof.Gen.FfnMixIdeal.Points
public import proofs.«01_k».proof.Proof.Gen.FfnMixIdeal.Frame
public import proofs.«01_k».proof.Proof.Gen.FfnMixRefIdeal
public import proofs.«01_k».proof.Proof.Gen.Pre_ffn_gate_finite
public import proofs.«01_k».proof.Proof.Gen.Pre_ffn_last_gate_finite
public import proofs.«01_k».proof.Proof.Gen.Pre_ffn_mix_gate_finite
public import proofs.«01_k».proof.Proof.Gen.ShortConvIdeal.Value
public import proofs.«01_k».proof.Proof.Gen.ShortConvRefIdeal.Run
public import proofs.«01_k».proof.Proof.Gen.ShortConvRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnLastIdeal.Value
public import proofs.«01_k».proof.Proof.Gen.FfnLastRefIdeal.Run
public import proofs.«01_k».proof.Proof.Gen.FfnLastRefIdeal.Read
public import proofs.«01_k».proof.Proof.Gen.FfnMixIdeal.Value
public import proofs.«01_k».proof.Proof.Gen.FfnMixRefIdeal.Run
public import proofs.«01_k».proof.Proof.Gen.FfnMixRefIdeal.Read
public import proofs.«01_k».proof.Proof.ShortConvClaim
public import proofs.«01_k».proof.Proof.FfnClaim
public import proofs.«01_k».proof.Proof.FfnLastClaim
public import proofs.«01_k».proof.Proof.FfnMixClaim
public import proofs.«01_k».proof.Proof.HybClaim
public import Idealize.ShloMosaic.Adequacy
public import Idealize.ShloMosaic.Init

@[expose] public section

noncomputable section

namespace Cert.Proof

open Idealize.ShloMosaic Idealize.SL.Sem Cert.ShortConv

theorem claim : Cert.Claim := ⟨Cert.ShortConv.Gen.facts, Cert.ShortConvIdeal.Gen.facts, Cert.ShortConvRefIdeal.Gen.facts, Cert.Ffn.Gen.facts, Cert.FfnIdeal.Gen.facts, Cert.FfnRefIdeal.Gen.facts, Cert.FfnLast.Gen.facts, Cert.FfnLastIdeal.Gen.facts, Cert.FfnLastRefIdeal.Gen.facts, Cert.FfnMix.Gen.facts, Cert.FfnMixIdeal.Gen.facts, Cert.FfnMixRefIdeal.Gen.facts, Cert.Hyb.Gen.facts, Cert.HybIdeal.Gen.facts, Cert.HybRefIdeal.Gen.facts, Cert.Pre_ffn_gate_finite.Gen.facts, Cert.Pre_ffn_last_gate_finite.Gen.facts, Cert.Pre_ffn_mix_gate_finite.Gen.facts, Cert.HybFacts.facts,
  fun m ρ _ => Cert.ShortConv.Gen.frame m ρ,
  fun m ρ _ => Cert.ShortConvIdeal.Gen.frame m ρ,
  Cert.ShortConvClaim.frame_ref,
  fun m ρ _ => Cert.Ffn.Gen.frame m ρ,
  fun m ρ _ => Cert.FfnIdeal.Gen.frame m ρ,
  fun m ρ _ => Cert.FfnIdeal.Gen.frame m ρ,
  Cert.FfnClaim.frame_ref,
  fun m ρ _ => Cert.FfnClaim.frame_ref m ρ trivial,
  fun m ρ _ => Cert.FfnLast.Gen.frame m ρ,
  fun m ρ _ => Cert.FfnLastIdeal.Gen.frame m ρ,
  fun m ρ _ => Cert.FfnLastIdeal.Gen.frame m ρ,
  Cert.FfnLastClaim.frame_ref,
  fun m ρ _ => Cert.FfnLastClaim.frame_ref m ρ trivial,
  fun m ρ _ => Cert.FfnMix.Gen.frame m ρ,
  fun m ρ _ => Cert.FfnMixIdeal.Gen.frame m ρ,
  fun m ρ _ => Cert.FfnMixIdeal.Gen.frame m ρ,
  Cert.FfnMixClaim.frame_ref,
  fun m ρ _ => Cert.FfnMixClaim.frame_ref m ρ trivial,
  fun m ρ _ => Cert.Hyb.Gen.frame m ρ,
  fun m ρ _ => Cert.HybIdeal.Gen.frame m ρ,
  fun m ρ _ => Cert.HybIdeal.Gen.frame m ρ,
  Cert.HybClaim.frame_ref,
  fun m ρ _ => Cert.HybClaim.frame_ref m ρ trivial,
  trivial,
  Cert.ShortConvClaim.algebraic,
  trivial,
  Cert.FfnClaim.algebraic,
  trivial,
  Cert.FfnLastClaim.algebraic,
  trivial,
  Cert.FfnMixClaim.algebraic,
  Cert.HybClaim.preserves,
  Cert.HybClaim.algebraic⟩

end Cert.Proof

end
